-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5000x4 : Shape := ⟨2, ![5000, 4]⟩
abbrev S5000 : Shape := ⟨1, ![5000]⟩
abbrev S5000x1 : Shape := ⟨2, ![5000, 1]⟩
abbrev S5000x5 : Shape := ⟨2, ![5000, 5]⟩
abbrev S_ : Shape := ⟨0, ![]⟩
abbrev S5008x5 : Shape := ⟨2, ![5008, 5]⟩
abbrev S5x5008 : Shape := ⟨2, ![5, 5008]⟩
abbrev S5008 : Shape := ⟨1, ![5008]⟩
abbrev S8x304 : Shape := ⟨2, ![8, 304]⟩
abbrev S16 : Shape := ⟨1, ![16]⟩
abbrev S1 : Shape := ⟨1, ![1]⟩
abbrev S1x16 : Shape := ⟨2, ![1, 16]⟩
abbrev S5x300 : Shape := ⟨2, ![5, 300]⟩
abbrev S300x5 : Shape := ⟨2, ![300, 5]⟩

abbrev nBuf : Table → Nat
  | .hbm => 18
  | .local .scVector .smem => 1
  | .local .scVector .vmem => 4
  | _ => 0

abbrev bufTy : (tb : Table) → Fin (nBuf tb) → BufTy
  | .hbm, ⟨0, _⟩ => ⟨S5000x4, .f32⟩
  | .hbm, ⟨1, _⟩ => ⟨S5000, .f32⟩
  | .hbm, ⟨2, _⟩ => ⟨S5000, .f32⟩
  | .hbm, ⟨3, _⟩ => ⟨S5000, .i32⟩
  | .hbm, ⟨4, _⟩ => ⟨S5000, .f32⟩
  | .hbm, ⟨5, _⟩ => ⟨S5000, .i32⟩
  | .hbm, ⟨6, _⟩ => ⟨S5000x1, .f32⟩
  | .hbm, ⟨7, _⟩ => ⟨S5000x5, .f32⟩
  | .hbm, ⟨8, _⟩ => ⟨S_, .i32⟩
  | .hbm, ⟨9, _⟩ => ⟨S_, .f32⟩
  | .hbm, ⟨10, _⟩ => ⟨S5008x5, .f32⟩
  | .hbm, ⟨11, _⟩ => ⟨S5x5008, .f32⟩
  | .hbm, ⟨12, _⟩ => ⟨S_, .i32⟩
  | .hbm, ⟨13, _⟩ => ⟨S_, .i32⟩
  | .hbm, ⟨14, _⟩ => ⟨S5008, .i32⟩
  | .hbm, ⟨15, _⟩ => ⟨S8x304, .f32⟩
  | .hbm, ⟨16, _⟩ => ⟨S5x300, .f32⟩
  | .hbm, ⟨17, _⟩ => ⟨S300x5, .f32⟩
  | .local .scVector .smem, ⟨0, _⟩ => ⟨S1, .i32⟩
  | .local .scVector .vmem, ⟨0, _⟩ => ⟨S5x5008, .f32⟩
  | .local .scVector .vmem, ⟨1, _⟩ => ⟨S5008, .i32⟩
  | .local .scVector .vmem, ⟨2, _⟩ => ⟨S16, .f32⟩
  | .local .scVector .vmem, ⟨3, _⟩ => ⟨S8x304, .f32⟩
  | _, _ => ⟨S5000x4, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call2_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v5_scv : Ref sig .scVector := ⟨.hbm, 11, rfl⟩
abbrev main_v6_scv : Ref sig .scVector := ⟨.hbm, 14, rfl⟩
abbrev main_v7_scv : Ref sig .scVector := ⟨.hbm, 15, rfl⟩
abbrev cc0_scratch4 : Ref sig .scVector := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_3 : BitVec 32 := 0#32
  let c19_i32 : BitVec 32 := 19#32
  let v6 : BitVec 32 := Scalar.addi c0_i32_3 c19_i32
  let c1_i32 : BitVec 32 := 1#32
  ⟨c0_i32_3, v6, c1_i32⟩
def k0_off1 (k0_t1 : Fin k0_t1_loop.trips) : Fin 2 → Nat :=
  let c0_i32_48 : BitVec 32 := 0#32
  let v33 : Index := Scalar.indexCast c0_i32_48
  let c0_i32_3 : BitVec 32 := 0#32
  let c1_i32 : BitVec 32 := 1#32
  let arg10 : BitVec 32 := Scf.iv c0_i32_3 c1_i32 k0_t1
  let c16_i32 : BitVec 32 := 16#32
  let v32 : BitVec 32 := Scalar.muli arg10 c16_i32
  let v34 : Index := Scalar.indexCast v32
  ![0, v34.toNat]
@[reducible] def k0_t2_loop : Scf.Loop 32 :=
  let c0_i32_6 : BitVec 32 := 0#32
  let c19_i32_7 : BitVec 32 := 19#32
  let v8 : BitVec 32 := Scalar.addi c0_i32_6 c19_i32_7
  let c1_i32_8 : BitVec 32 := 1#32
  ⟨c0_i32_6, v8, c1_i32_8⟩
def k0_off2 (k0_t2 : Fin k0_t2_loop.trips) : Fin 2 → Nat :=
  let c1_i32_48 : BitVec 32 := 1#32
  let v33 : Index := Scalar.indexCast c1_i32_48
  let c0_i32_6 : BitVec 32 := 0#32
  let c1_i32_8 : BitVec 32 := 1#32
  let arg10 : BitVec 32 := Scf.iv c0_i32_6 c1_i32_8 k0_t2
  let c16_i32 : BitVec 32 := 16#32
  let v32 : BitVec 32 := Scalar.muli arg10 c16_i32
  let v34 : Index := Scalar.indexCast v32
  ![1, v34.toNat]
@[reducible] def k0_t3_loop : Scf.Loop 32 :=
  let c0_i32_11 : BitVec 32 := 0#32
  let c19_i32_12 : BitVec 32 := 19#32
  let v10 : BitVec 32 := Scalar.addi c0_i32_11 c19_i32_12
  let c1_i32_13 : BitVec 32 := 1#32
  ⟨c0_i32_11, v10, c1_i32_13⟩
def k0_off3 (k0_t3 : Fin k0_t3_loop.trips) : Fin 2 → Nat :=
  let c2_i32_48 : BitVec 32 := 2#32
  let v33 : Index := Scalar.indexCast c2_i32_48
  let c0_i32_11 : BitVec 32 := 0#32
  let c1_i32_13 : BitVec 32 := 1#32
  let arg10 : BitVec 32 := Scf.iv c0_i32_11 c1_i32_13 k0_t3
  let c16_i32 : BitVec 32 := 16#32
  let v32 : BitVec 32 := Scalar.muli arg10 c16_i32
  let v34 : Index := Scalar.indexCast v32
  ![2, v34.toNat]
@[reducible] def k0_t4_loop : Scf.Loop 32 :=
  let c0_i32_16 : BitVec 32 := 0#32
  let c19_i32_17 : BitVec 32 := 19#32
  let v12 : BitVec 32 := Scalar.addi c0_i32_16 c19_i32_17
  let c1_i32_18 : BitVec 32 := 1#32
  ⟨c0_i32_16, v12, c1_i32_18⟩
def k0_off4 (k0_t4 : Fin k0_t4_loop.trips) : Fin 2 → Nat :=
  let c3_i32_48 : BitVec 32 := 3#32
  let v33 : Index := Scalar.indexCast c3_i32_48
  let c0_i32_16 : BitVec 32 := 0#32
  let c1_i32_18 : BitVec 32 := 1#32
  let arg10 : BitVec 32 := Scf.iv c0_i32_16 c1_i32_18 k0_t4
  let c16_i32 : BitVec 32 := 16#32
  let v32 : BitVec 32 := Scalar.muli arg10 c16_i32
  let v34 : Index := Scalar.indexCast v32
  ![3, v34.toNat]
@[reducible] def k0_t5_loop : Scf.Loop 32 :=
  let c0_i32_21 : BitVec 32 := 0#32
  let c19_i32_22 : BitVec 32 := 19#32
  let v14 : BitVec 32 := Scalar.addi c0_i32_21 c19_i32_22
  let c1_i32_23 : BitVec 32 := 1#32
  ⟨c0_i32_21, v14, c1_i32_23⟩
def k0_off5 (k0_t5 : Fin k0_t5_loop.trips) : Fin 2 → Nat :=
  let c4_i32_48 : BitVec 32 := 4#32
  let v33 : Index := Scalar.indexCast c4_i32_48
  let c0_i32_21 : BitVec 32 := 0#32
  let c1_i32_23 : BitVec 32 := 1#32
  let arg10 : BitVec 32 := Scf.iv c0_i32_21 c1_i32_23 k0_t5
  let c16_i32 : BitVec 32 := 16#32
  let v32 : BitVec 32 := Scalar.muli arg10 c16_i32
  let v34 : Index := Scalar.indexCast v32
  ![4, v34.toNat]
@[reducible] def k0_t6_loop : Scf.Loop 32 :=
  let c0_i32_26 : BitVec 32 := 0#32
  let c19_i32_27 : BitVec 32 := 19#32
  let v16 : BitVec 32 := Scalar.addi c0_i32_26 c19_i32_27
  let c1_i32_28 : BitVec 32 := 1#32
  ⟨c0_i32_26, v16, c1_i32_28⟩
def k0_off6 (k0_t6 : Fin k0_t6_loop.trips) : Fin 2 → Nat :=
  let c5_i32_48 : BitVec 32 := 5#32
  let v33 : Index := Scalar.indexCast c5_i32_48
  let c0_i32_26 : BitVec 32 := 0#32
  let c1_i32_28 : BitVec 32 := 1#32
  let arg10 : BitVec 32 := Scf.iv c0_i32_26 c1_i32_28 k0_t6
  let c16_i32 : BitVec 32 := 16#32
  let v32 : BitVec 32 := Scalar.muli arg10 c16_i32
  let v34 : Index := Scalar.indexCast v32
  ![5, v34.toNat]
@[reducible] def k0_t7_loop : Scf.Loop 32 :=
  let c0_i32_31 : BitVec 32 := 0#32
  let c19_i32_32 : BitVec 32 := 19#32
  let v18 : BitVec 32 := Scalar.addi c0_i32_31 c19_i32_32
  let c1_i32_33 : BitVec 32 := 1#32
  ⟨c0_i32_31, v18, c1_i32_33⟩
def k0_off7 (k0_t7 : Fin k0_t7_loop.trips) : Fin 2 → Nat :=
  let c6_i32 : BitVec 32 := 6#32
  let v33 : Index := Scalar.indexCast c6_i32
  let c0_i32_31 : BitVec 32 := 0#32
  let c1_i32_33 : BitVec 32 := 1#32
  let arg10 : BitVec 32 := Scf.iv c0_i32_31 c1_i32_33 k0_t7
  let c16_i32 : BitVec 32 := 16#32
  let v32 : BitVec 32 := Scalar.muli arg10 c16_i32
  let v34 : Index := Scalar.indexCast v32
  ![6, v34.toNat]
@[reducible] def k0_t8_loop : Scf.Loop 32 :=
  let c0_i32_36 : BitVec 32 := 0#32
  let c19_i32_37 : BitVec 32 := 19#32
  let v20 : BitVec 32 := Scalar.addi c0_i32_36 c19_i32_37
  let c1_i32_38 : BitVec 32 := 1#32
  ⟨c0_i32_36, v20, c1_i32_38⟩
def k0_off8 (k0_t8 : Fin k0_t8_loop.trips) : Fin 2 → Nat :=
  let c7_i32 : BitVec 32 := 7#32
  let v33 : Index := Scalar.indexCast c7_i32
  let c0_i32_36 : BitVec 32 := 0#32
  let c1_i32_38 : BitVec 32 := 1#32
  let arg10 : BitVec 32 := Scf.iv c0_i32_36 c1_i32_38 k0_t8
  let c16_i32 : BitVec 32 := 16#32
  let v32 : BitVec 32 := Scalar.muli arg10 c16_i32
  let v34 : Index := Scalar.indexCast v32
  ![7, v34.toNat]
@[reducible] def k0_t9_loop : Scf.Loop 32 :=
  let c0_i32_45 : BitVec 32 := 0#32
  let c313_i32 : BitVec 32 := 313#32
  let v31 : BitVec 32 := Scalar.addi c0_i32_45 c313_i32
  let c1_i32_46 : BitVec 32 := 1#32
  ⟨c0_i32_45, v31, c1_i32_46⟩
def k0_off9 (k0_t9 : Fin k0_t9_loop.trips) : Fin 1 → Nat :=
  let c0_i32_45 : BitVec 32 := 0#32
  let c1_i32_46 : BitVec 32 := 1#32
  let arg10 : BitVec 32 := Scf.iv c0_i32_45 c1_i32_46 k0_t9
  let c16_i32 : BitVec 32 := 16#32
  let v39 : BitVec 32 := Scalar.muli arg10 c16_i32
  let v40 : Index := Scalar.indexCast v39
  ![v40.toNat]
def k0_cond2 (v33 : BitVec 32) : BitVec 1 :=
  let c300_i32 : BitVec 32 := 300#32
  let v34 : BitVec 1 := Scalar.cmpi .slt v33 c300_i32
  let v35 : BitVec 32 := Scalar.extui v34
  let c0_i32_49 : BitVec 32 := 0#32
  let v36 : BitVec 1 := Scalar.cmpi .ne v35 c0_i32_49
  v36

def k0_chk1 (i : grid0.Coords) (v23 : IVec S16 32) (v24 : IVec S16 32) (v25 : IVec S16 32) (v26 : IVec S16 32) (v27 : IVec S16 32) (v33 : BitVec 32) (v41 : IVec S16 32) : Prop :=
  (∀ (k0_h1 : k0_cond1 i = 1#1), ∀ (k0_h2 : k0_cond2 v33 = 1#1), ∀ a x, ((![v23, v41] : Fin 2 → IVec S16 32) a x).toNat < S5x5008.size a) ∧
  (∀ (k0_h1 : k0_cond1 i = 1#1), ∀ (k0_h2 : k0_cond2 v33 = 1#1), ∀ a x, ((![v24, v41] : Fin 2 → IVec S16 32) a x).toNat < S5x5008.size a) ∧
  (∀ (k0_h1 : k0_cond1 i = 1#1), ∀ (k0_h2 : k0_cond2 v33 = 1#1), ∀ a x, ((![v25, v41] : Fin 2 → IVec S16 32) a x).toNat < S5x5008.size a) ∧
  (∀ (k0_h1 : k0_cond1 i = 1#1), ∀ (k0_h2 : k0_cond2 v33 = 1#1), ∀ a x, ((![v26, v41] : Fin 2 → IVec S16 32) a x).toNat < S5x5008.size a) ∧
  (∀ (k0_h1 : k0_cond1 i = 1#1), ∀ (k0_h2 : k0_cond2 v33 = 1#1), ∀ a x, ((![v27, v41] : Fin 2 → IVec S16 32) a x).toNat < S5x5008.size a)
theorem k0_idx1_inb : ∀ (i : grid0.Coords) (v23 : IVec S16 32) (v24 : IVec S16 32) (v25 : IVec S16 32) (v26 : IVec S16 32) (v27 : IVec S16 32) (v33 : BitVec 32) (v41 : IVec S16 32) (k0_hw1 : k0_chk1 i v23 v24 v25 v26 v27 v33 v41), ∀ (k0_h1 : k0_cond1 i = 1#1), ∀ (k0_h2 : k0_cond2 v33 = 1#1), ∀ a x, ((![v23, v41] : Fin 2 → IVec S16 32) a x).toNat < S5x5008.size a := fun i v23 v24 v25 v26 v27 v33 v41 k0_hw1 k0_h1 k0_h2 => k0_hw1.1 k0_h1 k0_h2
theorem k0_idx2_inb : ∀ (i : grid0.Coords) (v23 : IVec S16 32) (v24 : IVec S16 32) (v25 : IVec S16 32) (v26 : IVec S16 32) (v27 : IVec S16 32) (v33 : BitVec 32) (v41 : IVec S16 32) (k0_hw1 : k0_chk1 i v23 v24 v25 v26 v27 v33 v41), ∀ (k0_h1 : k0_cond1 i = 1#1), ∀ (k0_h2 : k0_cond2 v33 = 1#1), ∀ a x, ((![v24, v41] : Fin 2 → IVec S16 32) a x).toNat < S5x5008.size a := fun i v23 v24 v25 v26 v27 v33 v41 k0_hw1 k0_h1 k0_h2 => k0_hw1.2.1 k0_h1 k0_h2
theorem k0_idx3_inb : ∀ (i : grid0.Coords) (v23 : IVec S16 32) (v24 : IVec S16 32) (v25 : IVec S16 32) (v26 : IVec S16 32) (v27 : IVec S16 32) (v33 : BitVec 32) (v41 : IVec S16 32) (k0_hw1 : k0_chk1 i v23 v24 v25 v26 v27 v33 v41), ∀ (k0_h1 : k0_cond1 i = 1#1), ∀ (k0_h2 : k0_cond2 v33 = 1#1), ∀ a x, ((![v25, v41] : Fin 2 → IVec S16 32) a x).toNat < S5x5008.size a := fun i v23 v24 v25 v26 v27 v33 v41 k0_hw1 k0_h1 k0_h2 => k0_hw1.2.2.1 k0_h1 k0_h2
theorem k0_idx4_inb : ∀ (i : grid0.Coords) (v23 : IVec S16 32) (v24 : IVec S16 32) (v25 : IVec S16 32) (v26 : IVec S16 32) (v27 : IVec S16 32) (v33 : BitVec 32) (v41 : IVec S16 32) (k0_hw1 : k0_chk1 i v23 v24 v25 v26 v27 v33 v41), ∀ (k0_h1 : k0_cond1 i = 1#1), ∀ (k0_h2 : k0_cond2 v33 = 1#1), ∀ a x, ((![v26, v41] : Fin 2 → IVec S16 32) a x).toNat < S5x5008.size a := fun i v23 v24 v25 v26 v27 v33 v41 k0_hw1 k0_h1 k0_h2 => k0_hw1.2.2.2.1 k0_h1 k0_h2
theorem k0_idx5_inb : ∀ (i : grid0.Coords) (v23 : IVec S16 32) (v24 : IVec S16 32) (v25 : IVec S16 32) (v26 : IVec S16 32) (v27 : IVec S16 32) (v33 : BitVec 32) (v41 : IVec S16 32) (k0_hw1 : k0_chk1 i v23 v24 v25 v26 v27 v33 v41), ∀ (k0_h1 : k0_cond1 i = 1#1), ∀ (k0_h2 : k0_cond2 v33 = 1#1), ∀ a x, ((![v27, v41] : Fin 2 → IVec S16 32) a x).toNat < S5x5008.size a := fun i v23 v24 v25 v26 v27 v33 v41 k0_hw1 k0_h1 k0_h2 => k0_hw1.2.2.2.2 k0_h1 k0_h2
@[reducible] def k0_t10_loop (v38 : BitVec 32) : Scf.Loop 32 :=
  let c0_i32_54 : BitVec 32 := 0#32
  let v55 : BitVec 32 := Scalar.subi v38 c0_i32_54
  let c1_i32_55 : BitVec 32 := 1#32
  let v57 : BitVec 32 := Scalar.divsi v55 c1_i32_55
  let v58 : BitVec 32 := Scalar.muli v57 c1_i32_55
  let v59 : BitVec 32 := Scalar.addi c0_i32_54 v58
  let c1_i32_56 : BitVec 32 := 1#32
  ⟨c0_i32_54, v59, c1_i32_56⟩

def k0_chk3 (i : grid0.Coords) (v23 : IVec S16 32) (v24 : IVec S16 32) (v25 : IVec S16 32) (v26 : IVec S16 32) (v33 : BitVec 32) (v230 : IVec S16 32) : Prop :=
  (∀ (k0_h1 : k0_cond1 i = 1#1), ∀ (k0_h2 : k0_cond2 v33 = 1#1), ∀ a x, ((![v23, v230] : Fin 2 → IVec S16 32) a x).toNat < S8x304.size a) ∧
  (∀ (k0_h1 : k0_cond1 i = 1#1), ∀ (k0_h2 : k0_cond2 v33 = 1#1), ∀ a x, ((![v24, v230] : Fin 2 → IVec S16 32) a x).toNat < S8x304.size a) ∧
  (∀ (k0_h1 : k0_cond1 i = 1#1), ∀ (k0_h2 : k0_cond2 v33 = 1#1), ∀ a x, ((![v25, v230] : Fin 2 → IVec S16 32) a x).toNat < S8x304.size a) ∧
  (∀ (k0_h1 : k0_cond1 i = 1#1), ∀ (k0_h2 : k0_cond2 v33 = 1#1), ∀ a x, ((![v26, v230] : Fin 2 → IVec S16 32) a x).toNat < S8x304.size a)
theorem k0_idx6_inb : ∀ (i : grid0.Coords) (v23 : IVec S16 32) (v24 : IVec S16 32) (v25 : IVec S16 32) (v26 : IVec S16 32) (v33 : BitVec 32) (v230 : IVec S16 32) (k0_hw3 : k0_chk3 i v23 v24 v25 v26 v33 v230), ∀ (k0_h1 : k0_cond1 i = 1#1), ∀ (k0_h2 : k0_cond2 v33 = 1#1), ∀ a x, ((![v23, v230] : Fin 2 → IVec S16 32) a x).toNat < S8x304.size a := fun i v23 v24 v25 v26 v33 v230 k0_hw3 k0_h1 k0_h2 => k0_hw3.1 k0_h1 k0_h2
theorem k0_idx7_inb : ∀ (i : grid0.Coords) (v23 : IVec S16 32) (v24 : IVec S16 32) (v25 : IVec S16 32) (v26 : IVec S16 32) (v33 : BitVec 32) (v230 : IVec S16 32) (k0_hw3 : k0_chk3 i v23 v24 v25 v26 v33 v230), ∀ (k0_h1 : k0_cond1 i = 1#1), ∀ (k0_h2 : k0_cond2 v33 = 1#1), ∀ a x, ((![v24, v230] : Fin 2 → IVec S16 32) a x).toNat < S8x304.size a := fun i v23 v24 v25 v26 v33 v230 k0_hw3 k0_h1 k0_h2 => k0_hw3.2.1 k0_h1 k0_h2
theorem k0_idx8_inb : ∀ (i : grid0.Coords) (v23 : IVec S16 32) (v24 : IVec S16 32) (v25 : IVec S16 32) (v26 : IVec S16 32) (v33 : BitVec 32) (v230 : IVec S16 32) (k0_hw3 : k0_chk3 i v23 v24 v25 v26 v33 v230), ∀ (k0_h1 : k0_cond1 i = 1#1), ∀ (k0_h2 : k0_cond2 v33 = 1#1), ∀ a x, ((![v25, v230] : Fin 2 → IVec S16 32) a x).toNat < S8x304.size a := fun i v23 v24 v25 v26 v33 v230 k0_hw3 k0_h1 k0_h2 => k0_hw3.2.2.1 k0_h1 k0_h2
theorem k0_idx9_inb : ∀ (i : grid0.Coords) (v23 : IVec S16 32) (v24 : IVec S16 32) (v25 : IVec S16 32) (v26 : IVec S16 32) (v33 : BitVec 32) (v230 : IVec S16 32) (k0_hw3 : k0_chk3 i v23 v24 v25 v26 v33 v230), ∀ (k0_h1 : k0_cond1 i = 1#1), ∀ (k0_h2 : k0_cond2 v33 = 1#1), ∀ a x, ((![v26, v230] : Fin 2 → IVec S16 32) a x).toNat < S8x304.size a := fun i v23 v24 v25 v26 v33 v230 k0_hw3 k0_h1 k0_h2 => k0_hw3.2.2.2 k0_h1 k0_h2
@[reducible] def k0_t11_loop (v38 : BitVec 32) : Scf.Loop 32 :=
  let c0_i32_54 : BitVec 32 := 0#32
  let v55 : BitVec 32 := Scalar.subi v38 c0_i32_54
  let c1_i32_55 : BitVec 32 := 1#32
  let v57 : BitVec 32 := Scalar.divsi v55 c1_i32_55
  let v58 : BitVec 32 := Scalar.muli v57 c1_i32_55
  let v59 : BitVec 32 := Scalar.addi c0_i32_54 v58
  let v56 : BitVec 32 := Scalar.addi c0_i32_54 v55
  let c1_i32_57 : BitVec 32 := 1#32
  ⟨v59, v56, c1_i32_57⟩

def k0_chk2 (i : grid0.Coords) (v33 : BitVec 32) (v38 : BitVec 32) : Prop :=
  (∀ (k0_h1 : k0_cond1 i = 1#1), ∀ (k0_h2 : k0_cond2 v33 = 1#1), (k0_t10_loop v38).OK) ∧
  (∀ (k0_h1 : k0_cond1 i = 1#1), ∀ (k0_h2 : k0_cond2 v33 = 1#1), (k0_t11_loop v38).OK)
theorem k0_t10_ok : ∀ (i : grid0.Coords) (v33 : BitVec 32) (v38 : BitVec 32) (k0_hw2 : k0_chk2 i v33 v38), ∀ (k0_h1 : k0_cond1 i = 1#1), ∀ (k0_h2 : k0_cond2 v33 = 1#1), (k0_t10_loop v38).OK := fun i v33 v38 k0_hw2 k0_h1 k0_h2 => k0_hw2.1 k0_h1 k0_h2
theorem k0_t11_ok : ∀ (i : grid0.Coords) (v33 : BitVec 32) (v38 : BitVec 32) (k0_hw2 : k0_chk2 i v33 v38), ∀ (k0_h1 : k0_cond1 i = 1#1), ∀ (k0_h2 : k0_cond2 v33 = 1#1), (k0_t11_loop v38).OK := fun i v33 v38 k0_hw2 k0_h1 k0_h2 => k0_hw2.2 k0_h1 k0_h2

def k0_chk4 (i : grid0.Coords) (v23 : IVec S16 32) (v24 : IVec S16 32) (v25 : IVec S16 32) (v26 : IVec S16 32) (v33 : BitVec 32) (v230 : IVec S16 32) : Prop :=
  (∀ (k0_h1 : k0_cond1 i = 1#1), ∀ (k0_h2 : k0_cond2 v33 = 1#1), ∀ a x, ((![v23, v230] : Fin 2 → IVec S16 32) a x).toNat < S8x304.size a) ∧
  (∀ (k0_h1 : k0_cond1 i = 1#1), ∀ (k0_h2 : k0_cond2 v33 = 1#1), ∀ a x, ((![v24, v230] : Fin 2 → IVec S16 32) a x).toNat < S8x304.size a) ∧
  (∀ (k0_h1 : k0_cond1 i = 1#1), ∀ (k0_h2 : k0_cond2 v33 = 1#1), ∀ a x, ((![v25, v230] : Fin 2 → IVec S16 32) a x).toNat < S8x304.size a) ∧
  (∀ (k0_h1 : k0_cond1 i = 1#1), ∀ (k0_h2 : k0_cond2 v33 = 1#1), ∀ a x, ((![v26, v230] : Fin 2 → IVec S16 32) a x).toNat < S8x304.size a)
theorem k0_idx10_inb : ∀ (i : grid0.Coords) (v23 : IVec S16 32) (v24 : IVec S16 32) (v25 : IVec S16 32) (v26 : IVec S16 32) (v33 : BitVec 32) (v230 : IVec S16 32) (k0_hw4 : k0_chk4 i v23 v24 v25 v26 v33 v230), ∀ (k0_h1 : k0_cond1 i = 1#1), ∀ (k0_h2 : k0_cond2 v33 = 1#1), ∀ a x, ((![v23, v230] : Fin 2 → IVec S16 32) a x).toNat < S8x304.size a := fun i v23 v24 v25 v26 v33 v230 k0_hw4 k0_h1 k0_h2 => k0_hw4.1 k0_h1 k0_h2
theorem k0_idx11_inb : ∀ (i : grid0.Coords) (v23 : IVec S16 32) (v24 : IVec S16 32) (v25 : IVec S16 32) (v26 : IVec S16 32) (v33 : BitVec 32) (v230 : IVec S16 32) (k0_hw4 : k0_chk4 i v23 v24 v25 v26 v33 v230), ∀ (k0_h1 : k0_cond1 i = 1#1), ∀ (k0_h2 : k0_cond2 v33 = 1#1), ∀ a x, ((![v24, v230] : Fin 2 → IVec S16 32) a x).toNat < S8x304.size a := fun i v23 v24 v25 v26 v33 v230 k0_hw4 k0_h1 k0_h2 => k0_hw4.2.1 k0_h1 k0_h2
theorem k0_idx12_inb : ∀ (i : grid0.Coords) (v23 : IVec S16 32) (v24 : IVec S16 32) (v25 : IVec S16 32) (v26 : IVec S16 32) (v33 : BitVec 32) (v230 : IVec S16 32) (k0_hw4 : k0_chk4 i v23 v24 v25 v26 v33 v230), ∀ (k0_h1 : k0_cond1 i = 1#1), ∀ (k0_h2 : k0_cond2 v33 = 1#1), ∀ a x, ((![v25, v230] : Fin 2 → IVec S16 32) a x).toNat < S8x304.size a := fun i v23 v24 v25 v26 v33 v230 k0_hw4 k0_h1 k0_h2 => k0_hw4.2.2.1 k0_h1 k0_h2
theorem k0_idx13_inb : ∀ (i : grid0.Coords) (v23 : IVec S16 32) (v24 : IVec S16 32) (v25 : IVec S16 32) (v26 : IVec S16 32) (v33 : BitVec 32) (v230 : IVec S16 32) (k0_hw4 : k0_chk4 i v23 v24 v25 v26 v33 v230), ∀ (k0_h1 : k0_cond1 i = 1#1), ∀ (k0_h2 : k0_cond2 v33 = 1#1), ∀ a x, ((![v26, v230] : Fin 2 → IVec S16 32) a x).toNat < S8x304.size a := fun i v23 v24 v25 v26 v33 v230 k0_hw4 k0_h1 k0_h2 => k0_hw4.2.2.2 k0_h1 k0_h2
def k0_cond3 (v38 : BitVec 32) (v66 : BitVec 1) : BitVec 1 :=
  let c300_i32_60 : BitVec 32 := 300#32
  let v67 : BitVec 1 := Scalar.cmpi .slt v38 c300_i32_60
  let v68 : BitVec 1 := Scalar.andi v66 v67
  let v69 : BitVec 32 := Scalar.extui v68
  let c0_i32_61 : BitVec 32 := 0#32
  let v70 : BitVec 1 := Scalar.cmpi .ne v69 c0_i32_61
  v70

def k0_chk5 (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v242 : IVec S16 32) : Prop :=
  (∀ (k0_h1 : k0_cond1 i = 1#1), ∀ (k0_h2 : k0_cond2 v33 = 1#1), ∀ (k0_h3 : k0_cond3 v38 v66 = 1#1), ∀ a x, ((![v23, v242] : Fin 2 → IVec S16 32) a x).toNat < S8x304.size a) ∧
  (∀ (k0_h1 : k0_cond1 i = 1#1), ∀ (k0_h2 : k0_cond2 v33 = 1#1), ∀ (k0_h3 : k0_cond3 v38 v66 = 1#1), ∀ a x, ((![v24, v242] : Fin 2 → IVec S16 32) a x).toNat < S8x304.size a) ∧
  (∀ (k0_h1 : k0_cond1 i = 1#1), ∀ (k0_h2 : k0_cond2 v33 = 1#1), ∀ (k0_h3 : k0_cond3 v38 v66 = 1#1), ∀ a x, ((![v25, v242] : Fin 2 → IVec S16 32) a x).toNat < S8x304.size a) ∧
  (∀ (k0_h1 : k0_cond1 i = 1#1), ∀ (k0_h2 : k0_cond2 v33 = 1#1), ∀ (k0_h3 : k0_cond3 v38 v66 = 1#1), ∀ a x, ((![v26, v242] : Fin 2 → IVec S16 32) a x).toNat < S8x304.size a) ∧
  (∀ (k0_h1 : k0_cond1 i = 1#1), ∀ (k0_h2 : k0_cond2 v33 = 1#1), ∀ (k0_h3 : k0_cond3 v38 v66 = 1#1), ∀ a x, ((![v27, v242] : Fin 2 → IVec S16 32) a x).toNat < S8x304.size a) ∧
  (∀ (k0_h1 : k0_cond1 i = 1#1), ∀ (k0_h2 : k0_cond2 v33 = 1#1), ∀ (k0_h3 : k0_cond3 v38 v66 = 1#1), ∀ a x, ((![v28, v242] : Fin 2 → IVec S16 32) a x).toNat < S8x304.size a)
theorem k0_idx14_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v242 : IVec S16 32) (k0_hw5 : k0_chk5 i v23 v24 v25 v26 v27 v28 v33 v38 v66 v242), ∀ (k0_h1 : k0_cond1 i = 1#1), ∀ (k0_h2 : k0_cond2 v33 = 1#1), ∀ (k0_h3 : k0_cond3 v38 v66 = 1#1), ∀ a x, ((![v23, v242] : Fin 2 → IVec S16 32) a x).toNat < S8x304.size a := fun i v23 v24 v25 v26 v27 v28 v33 v38 v66 v242 k0_hw5 k0_h1 k0_h2 k0_h3 => k0_hw5.1 k0_h1 k0_h2 k0_h3
theorem k0_idx15_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v242 : IVec S16 32) (k0_hw5 : k0_chk5 i v23 v24 v25 v26 v27 v28 v33 v38 v66 v242), ∀ (k0_h1 : k0_cond1 i = 1#1), ∀ (k0_h2 : k0_cond2 v33 = 1#1), ∀ (k0_h3 : k0_cond3 v38 v66 = 1#1), ∀ a x, ((![v24, v242] : Fin 2 → IVec S16 32) a x).toNat < S8x304.size a := fun i v23 v24 v25 v26 v27 v28 v33 v38 v66 v242 k0_hw5 k0_h1 k0_h2 k0_h3 => k0_hw5.2.1 k0_h1 k0_h2 k0_h3
theorem k0_idx16_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v242 : IVec S16 32) (k0_hw5 : k0_chk5 i v23 v24 v25 v26 v27 v28 v33 v38 v66 v242), ∀ (k0_h1 : k0_cond1 i = 1#1), ∀ (k0_h2 : k0_cond2 v33 = 1#1), ∀ (k0_h3 : k0_cond3 v38 v66 = 1#1), ∀ a x, ((![v25, v242] : Fin 2 → IVec S16 32) a x).toNat < S8x304.size a := fun i v23 v24 v25 v26 v27 v28 v33 v38 v66 v242 k0_hw5 k0_h1 k0_h2 k0_h3 => k0_hw5.2.2.1 k0_h1 k0_h2 k0_h3
theorem k0_idx17_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v242 : IVec S16 32) (k0_hw5 : k0_chk5 i v23 v24 v25 v26 v27 v28 v33 v38 v66 v242), ∀ (k0_h1 : k0_cond1 i = 1#1), ∀ (k0_h2 : k0_cond2 v33 = 1#1), ∀ (k0_h3 : k0_cond3 v38 v66 = 1#1), ∀ a x, ((![v26, v242] : Fin 2 → IVec S16 32) a x).toNat < S8x304.size a := fun i v23 v24 v25 v26 v27 v28 v33 v38 v66 v242 k0_hw5 k0_h1 k0_h2 k0_h3 => k0_hw5.2.2.2.1 k0_h1 k0_h2 k0_h3
theorem k0_idx18_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v242 : IVec S16 32) (k0_hw5 : k0_chk5 i v23 v24 v25 v26 v27 v28 v33 v38 v66 v242), ∀ (k0_h1 : k0_cond1 i = 1#1), ∀ (k0_h2 : k0_cond2 v33 = 1#1), ∀ (k0_h3 : k0_cond3 v38 v66 = 1#1), ∀ a x, ((![v27, v242] : Fin 2 → IVec S16 32) a x).toNat < S8x304.size a := fun i v23 v24 v25 v26 v27 v28 v33 v38 v66 v242 k0_hw5 k0_h1 k0_h2 k0_h3 => k0_hw5.2.2.2.2.1 k0_h1 k0_h2 k0_h3
theorem k0_idx19_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v242 : IVec S16 32) (k0_hw5 : k0_chk5 i v23 v24 v25 v26 v27 v28 v33 v38 v66 v242), ∀ (k0_h1 : k0_cond1 i = 1#1), ∀ (k0_h2 : k0_cond2 v33 = 1#1), ∀ (k0_h3 : k0_cond3 v38 v66 = 1#1), ∀ a x, ((![v28, v242] : Fin 2 → IVec S16 32) a x).toNat < S8x304.size a := fun i v23 v24 v25 v26 v27 v28 v33 v38 v66 v242 k0_hw5 k0_h1 k0_h2 k0_h3 => k0_hw5.2.2.2.2.2 k0_h1 k0_h2 k0_h3
def k0_cond4 (v38 : BitVec 32) (v66 : BitVec 1) (v76 : BitVec 1) : BitVec 1 :=
  let c300_i32_60 : BitVec 32 := 300#32
  let v67 : BitVec 1 := Scalar.cmpi .slt v38 c300_i32_60
  let v68 : BitVec 1 := Scalar.andi v66 v67
  let c1_i32_62 : BitVec 32 := 1#32
  let v71 : BitVec 32 := Scalar.addi v38 c1_i32_62
  let v72 : BitVec 32 := Scalar.select v68 v71 v38
  let c300_i32_65 : BitVec 32 := 300#32
  let v77 : BitVec 1 := Scalar.cmpi .slt v72 c300_i32_65
  let v78 : BitVec 1 := Scalar.andi v76 v77
  let v79 : BitVec 32 := Scalar.extui v78
  let c0_i32_66 : BitVec 32 := 0#32
  let v80 : BitVec 1 := Scalar.cmpi .ne v79 c0_i32_66
  v80

def k0_chk6 (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v242 : IVec S16 32) : Prop :=
  (∀ (k0_h1 : k0_cond1 i = 1#1), ∀ (k0_h2 : k0_cond2 v33 = 1#1), ∀ (k0_h4 : k0_cond4 v38 v66 v76 = 1#1), ∀ a x, ((![v23, v242] : Fin 2 → IVec S16 32) a x).toNat < S8x304.size a) ∧
  (∀ (k0_h1 : k0_cond1 i = 1#1), ∀ (k0_h2 : k0_cond2 v33 = 1#1), ∀ (k0_h4 : k0_cond4 v38 v66 v76 = 1#1), ∀ a x, ((![v24, v242] : Fin 2 → IVec S16 32) a x).toNat < S8x304.size a) ∧
  (∀ (k0_h1 : k0_cond1 i = 1#1), ∀ (k0_h2 : k0_cond2 v33 = 1#1), ∀ (k0_h4 : k0_cond4 v38 v66 v76 = 1#1), ∀ a x, ((![v25, v242] : Fin 2 → IVec S16 32) a x).toNat < S8x304.size a) ∧
  (∀ (k0_h1 : k0_cond1 i = 1#1), ∀ (k0_h2 : k0_cond2 v33 = 1#1), ∀ (k0_h4 : k0_cond4 v38 v66 v76 = 1#1), ∀ a x, ((![v26, v242] : Fin 2 → IVec S16 32) a x).toNat < S8x304.size a) ∧
  (∀ (k0_h1 : k0_cond1 i = 1#1), ∀ (k0_h2 : k0_cond2 v33 = 1#1), ∀ (k0_h4 : k0_cond4 v38 v66 v76 = 1#1), ∀ a x, ((![v27, v242] : Fin 2 → IVec S16 32) a x).toNat < S8x304.size a) ∧
  (∀ (k0_h1 : k0_cond1 i = 1#1), ∀ (k0_h2 : k0_cond2 v33 = 1#1), ∀ (k0_h4 : k0_cond4 v38 v66 v76 = 1#1), ∀ a x, ((![v28, v242] : Fin 2 → IVec S16 32) a x).toNat < S8x304.size a)
theorem k0_idx20_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v242 : IVec S16 32) (k0_hw6 : k0_chk6 i v23 v24 v25 v26 v27 v28 v33 v38 v66 v76 v242), ∀ (k0_h1 : k0_cond1 i = 1#1), ∀ (k0_h2 : k0_cond2 v33 = 1#1), ∀ (k0_h4 : k0_cond4 v38 v66 v76 = 1#1), ∀ a x, ((![v23, v242] : Fin 2 → IVec S16 32) a x).toNat < S8x304.size a := fun i v23 v24 v25 v26 v27 v28 v33 v38 v66 v76 v242 k0_hw6 k0_h1 k0_h2 k0_h4 => k0_hw6.1 k0_h1 k0_h2 k0_h4
theorem k0_idx21_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v242 : IVec S16 32) (k0_hw6 : k0_chk6 i v23 v24 v25 v26 v27 v28 v33 v38 v66 v76 v242), ∀ (k0_h1 : k0_cond1 i = 1#1), ∀ (k0_h2 : k0_cond2 v33 = 1#1), ∀ (k0_h4 : k0_cond4 v38 v66 v76 = 1#1), ∀ a x, ((![v24, v242] : Fin 2 → IVec S16 32) a x).toNat < S8x304.size a := fun i v23 v24 v25 v26 v27 v28 v33 v38 v66 v76 v242 k0_hw6 k0_h1 k0_h2 k0_h4 => k0_hw6.2.1 k0_h1 k0_h2 k0_h4
theorem k0_idx22_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v242 : IVec S16 32) (k0_hw6 : k0_chk6 i v23 v24 v25 v26 v27 v28 v33 v38 v66 v76 v242), ∀ (k0_h1 : k0_cond1 i = 1#1), ∀ (k0_h2 : k0_cond2 v33 = 1#1), ∀ (k0_h4 : k0_cond4 v38 v66 v76 = 1#1), ∀ a x, ((![v25, v242] : Fin 2 → IVec S16 32) a x).toNat < S8x304.size a := fun i v23 v24 v25 v26 v27 v28 v33 v38 v66 v76 v242 k0_hw6 k0_h1 k0_h2 k0_h4 => k0_hw6.2.2.1 k0_h1 k0_h2 k0_h4
theorem k0_idx23_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v242 : IVec S16 32) (k0_hw6 : k0_chk6 i v23 v24 v25 v26 v27 v28 v33 v38 v66 v76 v242), ∀ (k0_h1 : k0_cond1 i = 1#1), ∀ (k0_h2 : k0_cond2 v33 = 1#1), ∀ (k0_h4 : k0_cond4 v38 v66 v76 = 1#1), ∀ a x, ((![v26, v242] : Fin 2 → IVec S16 32) a x).toNat < S8x304.size a := fun i v23 v24 v25 v26 v27 v28 v33 v38 v66 v76 v242 k0_hw6 k0_h1 k0_h2 k0_h4 => k0_hw6.2.2.2.1 k0_h1 k0_h2 k0_h4
theorem k0_idx24_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v242 : IVec S16 32) (k0_hw6 : k0_chk6 i v23 v24 v25 v26 v27 v28 v33 v38 v66 v76 v242), ∀ (k0_h1 : k0_cond1 i = 1#1), ∀ (k0_h2 : k0_cond2 v33 = 1#1), ∀ (k0_h4 : k0_cond4 v38 v66 v76 = 1#1), ∀ a x, ((![v27, v242] : Fin 2 → IVec S16 32) a x).toNat < S8x304.size a := fun i v23 v24 v25 v26 v27 v28 v33 v38 v66 v76 v242 k0_hw6 k0_h1 k0_h2 k0_h4 => k0_hw6.2.2.2.2.1 k0_h1 k0_h2 k0_h4
theorem k0_idx25_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v242 : IVec S16 32) (k0_hw6 : k0_chk6 i v23 v24 v25 v26 v27 v28 v33 v38 v66 v76 v242), ∀ (k0_h1 : k0_cond1 i = 1#1), ∀ (k0_h2 : k0_cond2 v33 = 1#1), ∀ (k0_h4 : k0_cond4 v38 v66 v76 = 1#1), ∀ a x, ((![v28, v242] : Fin 2 → IVec S16 32) a x).toNat < S8x304.size a := fun i v23 v24 v25 v26 v27 v28 v33 v38 v66 v76 v242 k0_hw6 k0_h1 k0_h2 k0_h4 => k0_hw6.2.2.2.2.2 k0_h1 k0_h2 k0_h4
def k0_cond5 (v38 : BitVec 32) (v66 : BitVec 1) (v76 : BitVec 1) (v86 : BitVec 1) : BitVec 1 :=
  let c300_i32_60 : BitVec 32 := 300#32
  let v67 : BitVec 1 := Scalar.cmpi .slt v38 c300_i32_60
  let v68 : BitVec 1 := Scalar.andi v66 v67
  let c1_i32_62 : BitVec 32 := 1#32
  let v71 : BitVec 32 := Scalar.addi v38 c1_i32_62
  let v72 : BitVec 32 := Scalar.select v68 v71 v38
  let c300_i32_65 : BitVec 32 := 300#32
  let v77 : BitVec 1 := Scalar.cmpi .slt v72 c300_i32_65
  let v78 : BitVec 1 := Scalar.andi v76 v77
  let c1_i32_67 : BitVec 32 := 1#32
  let v81 : BitVec 32 := Scalar.addi v72 c1_i32_67
  let v82 : BitVec 32 := Scalar.select v78 v81 v72
  let c300_i32_70 : BitVec 32 := 300#32
  let v87 : BitVec 1 := Scalar.cmpi .slt v82 c300_i32_70
  let v88 : BitVec 1 := Scalar.andi v86 v87
  let v89 : BitVec 32 := Scalar.extui v88
  let c0_i32_71 : BitVec 32 := 0#32
  let v90 : BitVec 1 := Scalar.cmpi .ne v89 c0_i32_71
  v90

def k0_chk7 (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v242 : IVec S16 32) : Prop :=
  (∀ (k0_h1 : k0_cond1 i = 1#1), ∀ (k0_h2 : k0_cond2 v33 = 1#1), ∀ (k0_h5 : k0_cond5 v38 v66 v76 v86 = 1#1), ∀ a x, ((![v23, v242] : Fin 2 → IVec S16 32) a x).toNat < S8x304.size a) ∧
  (∀ (k0_h1 : k0_cond1 i = 1#1), ∀ (k0_h2 : k0_cond2 v33 = 1#1), ∀ (k0_h5 : k0_cond5 v38 v66 v76 v86 = 1#1), ∀ a x, ((![v24, v242] : Fin 2 → IVec S16 32) a x).toNat < S8x304.size a) ∧
  (∀ (k0_h1 : k0_cond1 i = 1#1), ∀ (k0_h2 : k0_cond2 v33 = 1#1), ∀ (k0_h5 : k0_cond5 v38 v66 v76 v86 = 1#1), ∀ a x, ((![v25, v242] : Fin 2 → IVec S16 32) a x).toNat < S8x304.size a) ∧
  (∀ (k0_h1 : k0_cond1 i = 1#1), ∀ (k0_h2 : k0_cond2 v33 = 1#1), ∀ (k0_h5 : k0_cond5 v38 v66 v76 v86 = 1#1), ∀ a x, ((![v26, v242] : Fin 2 → IVec S16 32) a x).toNat < S8x304.size a) ∧
  (∀ (k0_h1 : k0_cond1 i = 1#1), ∀ (k0_h2 : k0_cond2 v33 = 1#1), ∀ (k0_h5 : k0_cond5 v38 v66 v76 v86 = 1#1), ∀ a x, ((![v27, v242] : Fin 2 → IVec S16 32) a x).toNat < S8x304.size a) ∧
  (∀ (k0_h1 : k0_cond1 i = 1#1), ∀ (k0_h2 : k0_cond2 v33 = 1#1), ∀ (k0_h5 : k0_cond5 v38 v66 v76 v86 = 1#1), ∀ a x, ((![v28, v242] : Fin 2 → IVec S16 32) a x).toNat < S8x304.size a)
theorem k0_idx26_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v242 : IVec S16 32) (k0_hw7 : k0_chk7 i v23 v24 v25 v26 v27 v28 v33 v38 v66 v76 v86 v242), ∀ (k0_h1 : k0_cond1 i = 1#1), ∀ (k0_h2 : k0_cond2 v33 = 1#1), ∀ (k0_h5 : k0_cond5 v38 v66 v76 v86 = 1#1), ∀ a x, ((![v23, v242] : Fin 2 → IVec S16 32) a x).toNat < S8x304.size a := fun i v23 v24 v25 v26 v27 v28 v33 v38 v66 v76 v86 v242 k0_hw7 k0_h1 k0_h2 k0_h5 => k0_hw7.1 k0_h1 k0_h2 k0_h5
theorem k0_idx27_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v242 : IVec S16 32) (k0_hw7 : k0_chk7 i v23 v24 v25 v26 v27 v28 v33 v38 v66 v76 v86 v242), ∀ (k0_h1 : k0_cond1 i = 1#1), ∀ (k0_h2 : k0_cond2 v33 = 1#1), ∀ (k0_h5 : k0_cond5 v38 v66 v76 v86 = 1#1), ∀ a x, ((![v24, v242] : Fin 2 → IVec S16 32) a x).toNat < S8x304.size a := fun i v23 v24 v25 v26 v27 v28 v33 v38 v66 v76 v86 v242 k0_hw7 k0_h1 k0_h2 k0_h5 => k0_hw7.2.1 k0_h1 k0_h2 k0_h5
theorem k0_idx28_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v242 : IVec S16 32) (k0_hw7 : k0_chk7 i v23 v24 v25 v26 v27 v28 v33 v38 v66 v76 v86 v242), ∀ (k0_h1 : k0_cond1 i = 1#1), ∀ (k0_h2 : k0_cond2 v33 = 1#1), ∀ (k0_h5 : k0_cond5 v38 v66 v76 v86 = 1#1), ∀ a x, ((![v25, v242] : Fin 2 → IVec S16 32) a x).toNat < S8x304.size a := fun i v23 v24 v25 v26 v27 v28 v33 v38 v66 v76 v86 v242 k0_hw7 k0_h1 k0_h2 k0_h5 => k0_hw7.2.2.1 k0_h1 k0_h2 k0_h5
theorem k0_idx29_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v242 : IVec S16 32) (k0_hw7 : k0_chk7 i v23 v24 v25 v26 v27 v28 v33 v38 v66 v76 v86 v242), ∀ (k0_h1 : k0_cond1 i = 1#1), ∀ (k0_h2 : k0_cond2 v33 = 1#1), ∀ (k0_h5 : k0_cond5 v38 v66 v76 v86 = 1#1), ∀ a x, ((![v26, v242] : Fin 2 → IVec S16 32) a x).toNat < S8x304.size a := fun i v23 v24 v25 v26 v27 v28 v33 v38 v66 v76 v86 v242 k0_hw7 k0_h1 k0_h2 k0_h5 => k0_hw7.2.2.2.1 k0_h1 k0_h2 k0_h5
theorem k0_idx30_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v242 : IVec S16 32) (k0_hw7 : k0_chk7 i v23 v24 v25 v26 v27 v28 v33 v38 v66 v76 v86 v242), ∀ (k0_h1 : k0_cond1 i = 1#1), ∀ (k0_h2 : k0_cond2 v33 = 1#1), ∀ (k0_h5 : k0_cond5 v38 v66 v76 v86 = 1#1), ∀ a x, ((![v27, v242] : Fin 2 → IVec S16 32) a x).toNat < S8x304.size a := fun i v23 v24 v25 v26 v27 v28 v33 v38 v66 v76 v86 v242 k0_hw7 k0_h1 k0_h2 k0_h5 => k0_hw7.2.2.2.2.1 k0_h1 k0_h2 k0_h5
theorem k0_idx31_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v242 : IVec S16 32) (k0_hw7 : k0_chk7 i v23 v24 v25 v26 v27 v28 v33 v38 v66 v76 v86 v242), ∀ (k0_h1 : k0_cond1 i = 1#1), ∀ (k0_h2 : k0_cond2 v33 = 1#1), ∀ (k0_h5 : k0_cond5 v38 v66 v76 v86 = 1#1), ∀ a x, ((![v28, v242] : Fin 2 → IVec S16 32) a x).toNat < S8x304.size a := fun i v23 v24 v25 v26 v27 v28 v33 v38 v66 v76 v86 v242 k0_hw7 k0_h1 k0_h2 k0_h5 => k0_hw7.2.2.2.2.2 k0_h1 k0_h2 k0_h5
def k0_cond6 (v38 : BitVec 32) (v66 : BitVec 1) (v76 : BitVec 1) (v86 : BitVec 1) (v96 : BitVec 1) : BitVec 1 :=
  let c300_i32_60 : BitVec 32 := 300#32
  let v67 : BitVec 1 := Scalar.cmpi .slt v38 c300_i32_60
  let v68 : BitVec 1 := Scalar.andi v66 v67
  let c1_i32_62 : BitVec 32 := 1#32
  let v71 : BitVec 32 := Scalar.addi v38 c1_i32_62
  let v72 : BitVec 32 := Scalar.select v68 v71 v38
  let c300_i32_65 : BitVec 32 := 300#32
  let v77 : BitVec 1 := Scalar.cmpi .slt v72 c300_i32_65
  let v78 : BitVec 1 := Scalar.andi v76 v77
  let c1_i32_67 : BitVec 32 := 1#32
  let v81 : BitVec 32 := Scalar.addi v72 c1_i32_67
  let v82 : BitVec 32 := Scalar.select v78 v81 v72
  let c300_i32_70 : BitVec 32 := 300#32
  let v87 : BitVec 1 := Scalar.cmpi .slt v82 c300_i32_70
  let v88 : BitVec 1 := Scalar.andi v86 v87
  let c1_i32_72 : BitVec 32 := 1#32
  let v91 : BitVec 32 := Scalar.addi v82 c1_i32_72
  let v92 : BitVec 32 := Scalar.select v88 v91 v82
  let c300_i32_75 : BitVec 32 := 300#32
  let v97 : BitVec 1 := Scalar.cmpi .slt v92 c300_i32_75
  let v98 : BitVec 1 := Scalar.andi v96 v97
  let v99 : BitVec 32 := Scalar.extui v98
  let c0_i32_76 : BitVec 32 := 0#32
  let v100 : BitVec 1 := Scalar.cmpi .ne v99 c0_i32_76
  v100

def k0_chk8 (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v242 : IVec S16 32) : Prop :=
  (∀ (k0_h1 : k0_cond1 i = 1#1), ∀ (k0_h2 : k0_cond2 v33 = 1#1), ∀ (k0_h6 : k0_cond6 v38 v66 v76 v86 v96 = 1#1), ∀ a x, ((![v23, v242] : Fin 2 → IVec S16 32) a x).toNat < S8x304.size a) ∧
  (∀ (k0_h1 : k0_cond1 i = 1#1), ∀ (k0_h2 : k0_cond2 v33 = 1#1), ∀ (k0_h6 : k0_cond6 v38 v66 v76 v86 v96 = 1#1), ∀ a x, ((![v24, v242] : Fin 2 → IVec S16 32) a x).toNat < S8x304.size a) ∧
  (∀ (k0_h1 : k0_cond1 i = 1#1), ∀ (k0_h2 : k0_cond2 v33 = 1#1), ∀ (k0_h6 : k0_cond6 v38 v66 v76 v86 v96 = 1#1), ∀ a x, ((![v25, v242] : Fin 2 → IVec S16 32) a x).toNat < S8x304.size a) ∧
  (∀ (k0_h1 : k0_cond1 i = 1#1), ∀ (k0_h2 : k0_cond2 v33 = 1#1), ∀ (k0_h6 : k0_cond6 v38 v66 v76 v86 v96 = 1#1), ∀ a x, ((![v26, v242] : Fin 2 → IVec S16 32) a x).toNat < S8x304.size a) ∧
  (∀ (k0_h1 : k0_cond1 i = 1#1), ∀ (k0_h2 : k0_cond2 v33 = 1#1), ∀ (k0_h6 : k0_cond6 v38 v66 v76 v86 v96 = 1#1), ∀ a x, ((![v27, v242] : Fin 2 → IVec S16 32) a x).toNat < S8x304.size a) ∧
  (∀ (k0_h1 : k0_cond1 i = 1#1), ∀ (k0_h2 : k0_cond2 v33 = 1#1), ∀ (k0_h6 : k0_cond6 v38 v66 v76 v86 v96 = 1#1), ∀ a x, ((![v28, v242] : Fin 2 → IVec S16 32) a x).toNat < S8x304.size a)
theorem k0_idx32_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v242 : IVec S16 32) (k0_hw8 : k0_chk8 i v23 v24 v25 v26 v27 v28 v33 v38 v66 v76 v86 v96 v242), ∀ (k0_h1 : k0_cond1 i = 1#1), ∀ (k0_h2 : k0_cond2 v33 = 1#1), ∀ (k0_h6 : k0_cond6 v38 v66 v76 v86 v96 = 1#1), ∀ a x, ((![v23, v242] : Fin 2 → IVec S16 32) a x).toNat < S8x304.size a := fun i v23 v24 v25 v26 v27 v28 v33 v38 v66 v76 v86 v96 v242 k0_hw8 k0_h1 k0_h2 k0_h6 => k0_hw8.1 k0_h1 k0_h2 k0_h6
theorem k0_idx33_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v242 : IVec S16 32) (k0_hw8 : k0_chk8 i v23 v24 v25 v26 v27 v28 v33 v38 v66 v76 v86 v96 v242), ∀ (k0_h1 : k0_cond1 i = 1#1), ∀ (k0_h2 : k0_cond2 v33 = 1#1), ∀ (k0_h6 : k0_cond6 v38 v66 v76 v86 v96 = 1#1), ∀ a x, ((![v24, v242] : Fin 2 → IVec S16 32) a x).toNat < S8x304.size a := fun i v23 v24 v25 v26 v27 v28 v33 v38 v66 v76 v86 v96 v242 k0_hw8 k0_h1 k0_h2 k0_h6 => k0_hw8.2.1 k0_h1 k0_h2 k0_h6
theorem k0_idx34_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v242 : IVec S16 32) (k0_hw8 : k0_chk8 i v23 v24 v25 v26 v27 v28 v33 v38 v66 v76 v86 v96 v242), ∀ (k0_h1 : k0_cond1 i = 1#1), ∀ (k0_h2 : k0_cond2 v33 = 1#1), ∀ (k0_h6 : k0_cond6 v38 v66 v76 v86 v96 = 1#1), ∀ a x, ((![v25, v242] : Fin 2 → IVec S16 32) a x).toNat < S8x304.size a := fun i v23 v24 v25 v26 v27 v28 v33 v38 v66 v76 v86 v96 v242 k0_hw8 k0_h1 k0_h2 k0_h6 => k0_hw8.2.2.1 k0_h1 k0_h2 k0_h6
theorem k0_idx35_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v242 : IVec S16 32) (k0_hw8 : k0_chk8 i v23 v24 v25 v26 v27 v28 v33 v38 v66 v76 v86 v96 v242), ∀ (k0_h1 : k0_cond1 i = 1#1), ∀ (k0_h2 : k0_cond2 v33 = 1#1), ∀ (k0_h6 : k0_cond6 v38 v66 v76 v86 v96 = 1#1), ∀ a x, ((![v26, v242] : Fin 2 → IVec S16 32) a x).toNat < S8x304.size a := fun i v23 v24 v25 v26 v27 v28 v33 v38 v66 v76 v86 v96 v242 k0_hw8 k0_h1 k0_h2 k0_h6 => k0_hw8.2.2.2.1 k0_h1 k0_h2 k0_h6
theorem k0_idx36_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v242 : IVec S16 32) (k0_hw8 : k0_chk8 i v23 v24 v25 v26 v27 v28 v33 v38 v66 v76 v86 v96 v242), ∀ (k0_h1 : k0_cond1 i = 1#1), ∀ (k0_h2 : k0_cond2 v33 = 1#1), ∀ (k0_h6 : k0_cond6 v38 v66 v76 v86 v96 = 1#1), ∀ a x, ((![v27, v242] : Fin 2 → IVec S16 32) a x).toNat < S8x304.size a := fun i v23 v24 v25 v26 v27 v28 v33 v38 v66 v76 v86 v96 v242 k0_hw8 k0_h1 k0_h2 k0_h6 => k0_hw8.2.2.2.2.1 k0_h1 k0_h2 k0_h6
theorem k0_idx37_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v242 : IVec S16 32) (k0_hw8 : k0_chk8 i v23 v24 v25 v26 v27 v28 v33 v38 v66 v76 v86 v96 v242), ∀ (k0_h1 : k0_cond1 i = 1#1), ∀ (k0_h2 : k0_cond2 v33 = 1#1), ∀ (k0_h6 : k0_cond6 v38 v66 v76 v86 v96 = 1#1), ∀ a x, ((![v28, v242] : Fin 2 → IVec S16 32) a x).toNat < S8x304.size a := fun i v23 v24 v25 v26 v27 v28 v33 v38 v66 v76 v86 v96 v242 k0_hw8 k0_h1 k0_h2 k0_h6 => k0_hw8.2.2.2.2.2 k0_h1 k0_h2 k0_h6
def k0_cond7 (v38 : BitVec 32) (v66 : BitVec 1) (v76 : BitVec 1) (v86 : BitVec 1) (v96 : BitVec 1) (v106 : BitVec 1) : BitVec 1 :=
  let c300_i32_60 : BitVec 32 := 300#32
  let v67 : BitVec 1 := Scalar.cmpi .slt v38 c300_i32_60
  let v68 : BitVec 1 := Scalar.andi v66 v67
  let c1_i32_62 : BitVec 32 := 1#32
  let v71 : BitVec 32 := Scalar.addi v38 c1_i32_62
  let v72 : BitVec 32 := Scalar.select v68 v71 v38
  let c300_i32_65 : BitVec 32 := 300#32
  let v77 : BitVec 1 := Scalar.cmpi .slt v72 c300_i32_65
  let v78 : BitVec 1 := Scalar.andi v76 v77
  let c1_i32_67 : BitVec 32 := 1#32
  let v81 : BitVec 32 := Scalar.addi v72 c1_i32_67
  let v82 : BitVec 32 := Scalar.select v78 v81 v72
  let c300_i32_70 : BitVec 32 := 300#32
  let v87 : BitVec 1 := Scalar.cmpi .slt v82 c300_i32_70
  let v88 : BitVec 1 := Scalar.andi v86 v87
  let c1_i32_72 : BitVec 32 := 1#32
  let v91 : BitVec 32 := Scalar.addi v82 c1_i32_72
  let v92 : BitVec 32 := Scalar.select v88 v91 v82
  let c300_i32_75 : BitVec 32 := 300#32
  let v97 : BitVec 1 := Scalar.cmpi .slt v92 c300_i32_75
  let v98 : BitVec 1 := Scalar.andi v96 v97
  let c1_i32_77 : BitVec 32 := 1#32
  let v101 : BitVec 32 := Scalar.addi v92 c1_i32_77
  let v102 : BitVec 32 := Scalar.select v98 v101 v92
  let c300_i32_80 : BitVec 32 := 300#32
  let v107 : BitVec 1 := Scalar.cmpi .slt v102 c300_i32_80
  let v108 : BitVec 1 := Scalar.andi v106 v107
  let v109 : BitVec 32 := Scalar.extui v108
  let c0_i32_81 : BitVec 32 := 0#32
  let v110 : BitVec 1 := Scalar.cmpi .ne v109 c0_i32_81
  v110

def k0_chk9 (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v242 : IVec S16 32) : Prop :=
  (∀ (k0_h1 : k0_cond1 i = 1#1), ∀ (k0_h2 : k0_cond2 v33 = 1#1), ∀ (k0_h7 : k0_cond7 v38 v66 v76 v86 v96 v106 = 1#1), ∀ a x, ((![v23, v242] : Fin 2 → IVec S16 32) a x).toNat < S8x304.size a) ∧
  (∀ (k0_h1 : k0_cond1 i = 1#1), ∀ (k0_h2 : k0_cond2 v33 = 1#1), ∀ (k0_h7 : k0_cond7 v38 v66 v76 v86 v96 v106 = 1#1), ∀ a x, ((![v24, v242] : Fin 2 → IVec S16 32) a x).toNat < S8x304.size a) ∧
  (∀ (k0_h1 : k0_cond1 i = 1#1), ∀ (k0_h2 : k0_cond2 v33 = 1#1), ∀ (k0_h7 : k0_cond7 v38 v66 v76 v86 v96 v106 = 1#1), ∀ a x, ((![v25, v242] : Fin 2 → IVec S16 32) a x).toNat < S8x304.size a) ∧
  (∀ (k0_h1 : k0_cond1 i = 1#1), ∀ (k0_h2 : k0_cond2 v33 = 1#1), ∀ (k0_h7 : k0_cond7 v38 v66 v76 v86 v96 v106 = 1#1), ∀ a x, ((![v26, v242] : Fin 2 → IVec S16 32) a x).toNat < S8x304.size a) ∧
  (∀ (k0_h1 : k0_cond1 i = 1#1), ∀ (k0_h2 : k0_cond2 v33 = 1#1), ∀ (k0_h7 : k0_cond7 v38 v66 v76 v86 v96 v106 = 1#1), ∀ a x, ((![v27, v242] : Fin 2 → IVec S16 32) a x).toNat < S8x304.size a) ∧
  (∀ (k0_h1 : k0_cond1 i = 1#1), ∀ (k0_h2 : k0_cond2 v33 = 1#1), ∀ (k0_h7 : k0_cond7 v38 v66 v76 v86 v96 v106 = 1#1), ∀ a x, ((![v28, v242] : Fin 2 → IVec S16 32) a x).toNat < S8x304.size a)
theorem k0_idx38_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v242 : IVec S16 32) (k0_hw9 : k0_chk9 i v23 v24 v25 v26 v27 v28 v33 v38 v66 v76 v86 v96 v106 v242), ∀ (k0_h1 : k0_cond1 i = 1#1), ∀ (k0_h2 : k0_cond2 v33 = 1#1), ∀ (k0_h7 : k0_cond7 v38 v66 v76 v86 v96 v106 = 1#1), ∀ a x, ((![v23, v242] : Fin 2 → IVec S16 32) a x).toNat < S8x304.size a := fun i v23 v24 v25 v26 v27 v28 v33 v38 v66 v76 v86 v96 v106 v242 k0_hw9 k0_h1 k0_h2 k0_h7 => k0_hw9.1 k0_h1 k0_h2 k0_h7
theorem k0_idx39_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v242 : IVec S16 32) (k0_hw9 : k0_chk9 i v23 v24 v25 v26 v27 v28 v33 v38 v66 v76 v86 v96 v106 v242), ∀ (k0_h1 : k0_cond1 i = 1#1), ∀ (k0_h2 : k0_cond2 v33 = 1#1), ∀ (k0_h7 : k0_cond7 v38 v66 v76 v86 v96 v106 = 1#1), ∀ a x, ((![v24, v242] : Fin 2 → IVec S16 32) a x).toNat < S8x304.size a := fun i v23 v24 v25 v26 v27 v28 v33 v38 v66 v76 v86 v96 v106 v242 k0_hw9 k0_h1 k0_h2 k0_h7 => k0_hw9.2.1 k0_h1 k0_h2 k0_h7
theorem k0_idx40_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v242 : IVec S16 32) (k0_hw9 : k0_chk9 i v23 v24 v25 v26 v27 v28 v33 v38 v66 v76 v86 v96 v106 v242), ∀ (k0_h1 : k0_cond1 i = 1#1), ∀ (k0_h2 : k0_cond2 v33 = 1#1), ∀ (k0_h7 : k0_cond7 v38 v66 v76 v86 v96 v106 = 1#1), ∀ a x, ((![v25, v242] : Fin 2 → IVec S16 32) a x).toNat < S8x304.size a := fun i v23 v24 v25 v26 v27 v28 v33 v38 v66 v76 v86 v96 v106 v242 k0_hw9 k0_h1 k0_h2 k0_h7 => k0_hw9.2.2.1 k0_h1 k0_h2 k0_h7
theorem k0_idx41_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v242 : IVec S16 32) (k0_hw9 : k0_chk9 i v23 v24 v25 v26 v27 v28 v33 v38 v66 v76 v86 v96 v106 v242), ∀ (k0_h1 : k0_cond1 i = 1#1), ∀ (k0_h2 : k0_cond2 v33 = 1#1), ∀ (k0_h7 : k0_cond7 v38 v66 v76 v86 v96 v106 = 1#1), ∀ a x, ((![v26, v242] : Fin 2 → IVec S16 32) a x).toNat < S8x304.size a := fun i v23 v24 v25 v26 v27 v28 v33 v38 v66 v76 v86 v96 v106 v242 k0_hw9 k0_h1 k0_h2 k0_h7 => k0_hw9.2.2.2.1 k0_h1 k0_h2 k0_h7
theorem k0_idx42_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v242 : IVec S16 32) (k0_hw9 : k0_chk9 i v23 v24 v25 v26 v27 v28 v33 v38 v66 v76 v86 v96 v106 v242), ∀ (k0_h1 : k0_cond1 i = 1#1), ∀ (k0_h2 : k0_cond2 v33 = 1#1), ∀ (k0_h7 : k0_cond7 v38 v66 v76 v86 v96 v106 = 1#1), ∀ a x, ((![v27, v242] : Fin 2 → IVec S16 32) a x).toNat < S8x304.size a := fun i v23 v24 v25 v26 v27 v28 v33 v38 v66 v76 v86 v96 v106 v242 k0_hw9 k0_h1 k0_h2 k0_h7 => k0_hw9.2.2.2.2.1 k0_h1 k0_h2 k0_h7
theorem k0_idx43_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v242 : IVec S16 32) (k0_hw9 : k0_chk9 i v23 v24 v25 v26 v27 v28 v33 v38 v66 v76 v86 v96 v106 v242), ∀ (k0_h1 : k0_cond1 i = 1#1), ∀ (k0_h2 : k0_cond2 v33 = 1#1), ∀ (k0_h7 : k0_cond7 v38 v66 v76 v86 v96 v106 = 1#1), ∀ a x, ((![v28, v242] : Fin 2 → IVec S16 32) a x).toNat < S8x304.size a := fun i v23 v24 v25 v26 v27 v28 v33 v38 v66 v76 v86 v96 v106 v242 k0_hw9 k0_h1 k0_h2 k0_h7 => k0_hw9.2.2.2.2.2 k0_h1 k0_h2 k0_h7
def k0_cond8 (v38 : BitVec 32) (v66 : BitVec 1) (v76 : BitVec 1) (v86 : BitVec 1) (v96 : BitVec 1) (v106 : BitVec 1) (v116 : BitVec 1) : BitVec 1 :=
  let c300_i32_60 : BitVec 32 := 300#32
  let v67 : BitVec 1 := Scalar.cmpi .slt v38 c300_i32_60
  let v68 : BitVec 1 := Scalar.andi v66 v67
  let c1_i32_62 : BitVec 32 := 1#32
  let v71 : BitVec 32 := Scalar.addi v38 c1_i32_62
  let v72 : BitVec 32 := Scalar.select v68 v71 v38
  let c300_i32_65 : BitVec 32 := 300#32
  let v77 : BitVec 1 := Scalar.cmpi .slt v72 c300_i32_65
  let v78 : BitVec 1 := Scalar.andi v76 v77
  let c1_i32_67 : BitVec 32 := 1#32
  let v81 : BitVec 32 := Scalar.addi v72 c1_i32_67
  let v82 : BitVec 32 := Scalar.select v78 v81 v72
  let c300_i32_70 : BitVec 32 := 300#32
  let v87 : BitVec 1 := Scalar.cmpi .slt v82 c300_i32_70
  let v88 : BitVec 1 := Scalar.andi v86 v87
  let c1_i32_72 : BitVec 32 := 1#32
  let v91 : BitVec 32 := Scalar.addi v82 c1_i32_72
  let v92 : BitVec 32 := Scalar.select v88 v91 v82
  let c300_i32_75 : BitVec 32 := 300#32
  let v97 : BitVec 1 := Scalar.cmpi .slt v92 c300_i32_75
  let v98 : BitVec 1 := Scalar.andi v96 v97
  let c1_i32_77 : BitVec 32 := 1#32
  let v101 : BitVec 32 := Scalar.addi v92 c1_i32_77
  let v102 : BitVec 32 := Scalar.select v98 v101 v92
  let c300_i32_80 : BitVec 32 := 300#32
  let v107 : BitVec 1 := Scalar.cmpi .slt v102 c300_i32_80
  let v108 : BitVec 1 := Scalar.andi v106 v107
  let c1_i32_82 : BitVec 32 := 1#32
  let v111 : BitVec 32 := Scalar.addi v102 c1_i32_82
  let v112 : BitVec 32 := Scalar.select v108 v111 v102
  let c300_i32_85 : BitVec 32 := 300#32
  let v117 : BitVec 1 := Scalar.cmpi .slt v112 c300_i32_85
  let v118 : BitVec 1 := Scalar.andi v116 v117
  let v119 : BitVec 32 := Scalar.extui v118
  let c0_i32_86 : BitVec 32 := 0#32
  let v120 : BitVec 1 := Scalar.cmpi .ne v119 c0_i32_86
  v120

def k0_chk10 (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v242 : IVec S16 32) : Prop :=
  (∀ (k0_h1 : k0_cond1 i = 1#1), ∀ (k0_h2 : k0_cond2 v33 = 1#1), ∀ (k0_h8 : k0_cond8 v38 v66 v76 v86 v96 v106 v116 = 1#1), ∀ a x, ((![v23, v242] : Fin 2 → IVec S16 32) a x).toNat < S8x304.size a) ∧
  (∀ (k0_h1 : k0_cond1 i = 1#1), ∀ (k0_h2 : k0_cond2 v33 = 1#1), ∀ (k0_h8 : k0_cond8 v38 v66 v76 v86 v96 v106 v116 = 1#1), ∀ a x, ((![v24, v242] : Fin 2 → IVec S16 32) a x).toNat < S8x304.size a) ∧
  (∀ (k0_h1 : k0_cond1 i = 1#1), ∀ (k0_h2 : k0_cond2 v33 = 1#1), ∀ (k0_h8 : k0_cond8 v38 v66 v76 v86 v96 v106 v116 = 1#1), ∀ a x, ((![v25, v242] : Fin 2 → IVec S16 32) a x).toNat < S8x304.size a) ∧
  (∀ (k0_h1 : k0_cond1 i = 1#1), ∀ (k0_h2 : k0_cond2 v33 = 1#1), ∀ (k0_h8 : k0_cond8 v38 v66 v76 v86 v96 v106 v116 = 1#1), ∀ a x, ((![v26, v242] : Fin 2 → IVec S16 32) a x).toNat < S8x304.size a) ∧
  (∀ (k0_h1 : k0_cond1 i = 1#1), ∀ (k0_h2 : k0_cond2 v33 = 1#1), ∀ (k0_h8 : k0_cond8 v38 v66 v76 v86 v96 v106 v116 = 1#1), ∀ a x, ((![v27, v242] : Fin 2 → IVec S16 32) a x).toNat < S8x304.size a) ∧
  (∀ (k0_h1 : k0_cond1 i = 1#1), ∀ (k0_h2 : k0_cond2 v33 = 1#1), ∀ (k0_h8 : k0_cond8 v38 v66 v76 v86 v96 v106 v116 = 1#1), ∀ a x, ((![v28, v242] : Fin 2 → IVec S16 32) a x).toNat < S8x304.size a)
theorem k0_idx44_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v242 : IVec S16 32) (k0_hw10 : k0_chk10 i v23 v24 v25 v26 v27 v28 v33 v38 v66 v76 v86 v96 v106 v116 v242), ∀ (k0_h1 : k0_cond1 i = 1#1), ∀ (k0_h2 : k0_cond2 v33 = 1#1), ∀ (k0_h8 : k0_cond8 v38 v66 v76 v86 v96 v106 v116 = 1#1), ∀ a x, ((![v23, v242] : Fin 2 → IVec S16 32) a x).toNat < S8x304.size a := fun i v23 v24 v25 v26 v27 v28 v33 v38 v66 v76 v86 v96 v106 v116 v242 k0_hw10 k0_h1 k0_h2 k0_h8 => k0_hw10.1 k0_h1 k0_h2 k0_h8
theorem k0_idx45_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v242 : IVec S16 32) (k0_hw10 : k0_chk10 i v23 v24 v25 v26 v27 v28 v33 v38 v66 v76 v86 v96 v106 v116 v242), ∀ (k0_h1 : k0_cond1 i = 1#1), ∀ (k0_h2 : k0_cond2 v33 = 1#1), ∀ (k0_h8 : k0_cond8 v38 v66 v76 v86 v96 v106 v116 = 1#1), ∀ a x, ((![v24, v242] : Fin 2 → IVec S16 32) a x).toNat < S8x304.size a := fun i v23 v24 v25 v26 v27 v28 v33 v38 v66 v76 v86 v96 v106 v116 v242 k0_hw10 k0_h1 k0_h2 k0_h8 => k0_hw10.2.1 k0_h1 k0_h2 k0_h8
theorem k0_idx46_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v242 : IVec S16 32) (k0_hw10 : k0_chk10 i v23 v24 v25 v26 v27 v28 v33 v38 v66 v76 v86 v96 v106 v116 v242), ∀ (k0_h1 : k0_cond1 i = 1#1), ∀ (k0_h2 : k0_cond2 v33 = 1#1), ∀ (k0_h8 : k0_cond8 v38 v66 v76 v86 v96 v106 v116 = 1#1), ∀ a x, ((![v25, v242] : Fin 2 → IVec S16 32) a x).toNat < S8x304.size a := fun i v23 v24 v25 v26 v27 v28 v33 v38 v66 v76 v86 v96 v106 v116 v242 k0_hw10 k0_h1 k0_h2 k0_h8 => k0_hw10.2.2.1 k0_h1 k0_h2 k0_h8
theorem k0_idx47_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v242 : IVec S16 32) (k0_hw10 : k0_chk10 i v23 v24 v25 v26 v27 v28 v33 v38 v66 v76 v86 v96 v106 v116 v242), ∀ (k0_h1 : k0_cond1 i = 1#1), ∀ (k0_h2 : k0_cond2 v33 = 1#1), ∀ (k0_h8 : k0_cond8 v38 v66 v76 v86 v96 v106 v116 = 1#1), ∀ a x, ((![v26, v242] : Fin 2 → IVec S16 32) a x).toNat < S8x304.size a := fun i v23 v24 v25 v26 v27 v28 v33 v38 v66 v76 v86 v96 v106 v116 v242 k0_hw10 k0_h1 k0_h2 k0_h8 => k0_hw10.2.2.2.1 k0_h1 k0_h2 k0_h8
theorem k0_idx48_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v242 : IVec S16 32) (k0_hw10 : k0_chk10 i v23 v24 v25 v26 v27 v28 v33 v38 v66 v76 v86 v96 v106 v116 v242), ∀ (k0_h1 : k0_cond1 i = 1#1), ∀ (k0_h2 : k0_cond2 v33 = 1#1), ∀ (k0_h8 : k0_cond8 v38 v66 v76 v86 v96 v106 v116 = 1#1), ∀ a x, ((![v27, v242] : Fin 2 → IVec S16 32) a x).toNat < S8x304.size a := fun i v23 v24 v25 v26 v27 v28 v33 v38 v66 v76 v86 v96 v106 v116 v242 k0_hw10 k0_h1 k0_h2 k0_h8 => k0_hw10.2.2.2.2.1 k0_h1 k0_h2 k0_h8
theorem k0_idx49_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v242 : IVec S16 32) (k0_hw10 : k0_chk10 i v23 v24 v25 v26 v27 v28 v33 v38 v66 v76 v86 v96 v106 v116 v242), ∀ (k0_h1 : k0_cond1 i = 1#1), ∀ (k0_h2 : k0_cond2 v33 = 1#1), ∀ (k0_h8 : k0_cond8 v38 v66 v76 v86 v96 v106 v116 = 1#1), ∀ a x, ((![v28, v242] : Fin 2 → IVec S16 32) a x).toNat < S8x304.size a := fun i v23 v24 v25 v26 v27 v28 v33 v38 v66 v76 v86 v96 v106 v116 v242 k0_hw10 k0_h1 k0_h2 k0_h8 => k0_hw10.2.2.2.2.2 k0_h1 k0_h2 k0_h8
def k0_cond9 (v38 : BitVec 32) (v66 : BitVec 1) (v76 : BitVec 1) (v86 : BitVec 1) (v96 : BitVec 1) (v106 : BitVec 1) (v116 : BitVec 1) (v126 : BitVec 1) : BitVec 1 :=
  let c300_i32_60 : BitVec 32 := 300#32
  let v67 : BitVec 1 := Scalar.cmpi .slt v38 c300_i32_60
  let v68 : BitVec 1 := Scalar.andi v66 v67
  let c1_i32_62 : BitVec 32 := 1#32
  let v71 : BitVec 32 := Scalar.addi v38 c1_i32_62
  let v72 : BitVec 32 := Scalar.select v68 v71 v38
  let c300_i32_65 : BitVec 32 := 300#32
  let v77 : BitVec 1 := Scalar.cmpi .slt v72 c300_i32_65
  let v78 : BitVec 1 := Scalar.andi v76 v77
  let c1_i32_67 : BitVec 32 := 1#32
  let v81 : BitVec 32 := Scalar.addi v72 c1_i32_67
  let v82 : BitVec 32 := Scalar.select v78 v81 v72
  let c300_i32_70 : BitVec 32 := 300#32
  let v87 : BitVec 1 := Scalar.cmpi .slt v82 c300_i32_70
  let v88 : BitVec 1 := Scalar.andi v86 v87
  let c1_i32_72 : BitVec 32 := 1#32
  let v91 : BitVec 32 := Scalar.addi v82 c1_i32_72
  let v92 : BitVec 32 := Scalar.select v88 v91 v82
  let c300_i32_75 : BitVec 32 := 300#32
  let v97 : BitVec 1 := Scalar.cmpi .slt v92 c300_i32_75
  let v98 : BitVec 1 := Scalar.andi v96 v97
  let c1_i32_77 : BitVec 32 := 1#32
  let v101 : BitVec 32 := Scalar.addi v92 c1_i32_77
  let v102 : BitVec 32 := Scalar.select v98 v101 v92
  let c300_i32_80 : BitVec 32 := 300#32
  let v107 : BitVec 1 := Scalar.cmpi .slt v102 c300_i32_80
  let v108 : BitVec 1 := Scalar.andi v106 v107
  let c1_i32_82 : BitVec 32 := 1#32
  let v111 : BitVec 32 := Scalar.addi v102 c1_i32_82
  let v112 : BitVec 32 := Scalar.select v108 v111 v102
  let c300_i32_85 : BitVec 32 := 300#32
  let v117 : BitVec 1 := Scalar.cmpi .slt v112 c300_i32_85
  let v118 : BitVec 1 := Scalar.andi v116 v117
  let c1_i32_87 : BitVec 32 := 1#32
  let v121 : BitVec 32 := Scalar.addi v112 c1_i32_87
  let v122 : BitVec 32 := Scalar.select v118 v121 v112
  let c300_i32_90 : BitVec 32 := 300#32
  let v127 : BitVec 1 := Scalar.cmpi .slt v122 c300_i32_90
  let v128 : BitVec 1 := Scalar.andi v126 v127
  let v129 : BitVec 32 := Scalar.extui v128
  let c0_i32_91 : BitVec 32 := 0#32
  let v130 : BitVec 1 := Scalar.cmpi .ne v129 c0_i32_91
  v130

def k0_chk11 (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v242 : IVec S16 32) : Prop :=
  (∀ (k0_h1 : k0_cond1 i = 1#1), ∀ (k0_h2 : k0_cond2 v33 = 1#1), ∀ (k0_h9 : k0_cond9 v38 v66 v76 v86 v96 v106 v116 v126 = 1#1), ∀ a x, ((![v23, v242] : Fin 2 → IVec S16 32) a x).toNat < S8x304.size a) ∧
  (∀ (k0_h1 : k0_cond1 i = 1#1), ∀ (k0_h2 : k0_cond2 v33 = 1#1), ∀ (k0_h9 : k0_cond9 v38 v66 v76 v86 v96 v106 v116 v126 = 1#1), ∀ a x, ((![v24, v242] : Fin 2 → IVec S16 32) a x).toNat < S8x304.size a) ∧
  (∀ (k0_h1 : k0_cond1 i = 1#1), ∀ (k0_h2 : k0_cond2 v33 = 1#1), ∀ (k0_h9 : k0_cond9 v38 v66 v76 v86 v96 v106 v116 v126 = 1#1), ∀ a x, ((![v25, v242] : Fin 2 → IVec S16 32) a x).toNat < S8x304.size a) ∧
  (∀ (k0_h1 : k0_cond1 i = 1#1), ∀ (k0_h2 : k0_cond2 v33 = 1#1), ∀ (k0_h9 : k0_cond9 v38 v66 v76 v86 v96 v106 v116 v126 = 1#1), ∀ a x, ((![v26, v242] : Fin 2 → IVec S16 32) a x).toNat < S8x304.size a) ∧
  (∀ (k0_h1 : k0_cond1 i = 1#1), ∀ (k0_h2 : k0_cond2 v33 = 1#1), ∀ (k0_h9 : k0_cond9 v38 v66 v76 v86 v96 v106 v116 v126 = 1#1), ∀ a x, ((![v27, v242] : Fin 2 → IVec S16 32) a x).toNat < S8x304.size a) ∧
  (∀ (k0_h1 : k0_cond1 i = 1#1), ∀ (k0_h2 : k0_cond2 v33 = 1#1), ∀ (k0_h9 : k0_cond9 v38 v66 v76 v86 v96 v106 v116 v126 = 1#1), ∀ a x, ((![v28, v242] : Fin 2 → IVec S16 32) a x).toNat < S8x304.size a)
theorem k0_idx50_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v242 : IVec S16 32) (k0_hw11 : k0_chk11 i v23 v24 v25 v26 v27 v28 v33 v38 v66 v76 v86 v96 v106 v116 v126 v242), ∀ (k0_h1 : k0_cond1 i = 1#1), ∀ (k0_h2 : k0_cond2 v33 = 1#1), ∀ (k0_h9 : k0_cond9 v38 v66 v76 v86 v96 v106 v116 v126 = 1#1), ∀ a x, ((![v23, v242] : Fin 2 → IVec S16 32) a x).toNat < S8x304.size a := fun i v23 v24 v25 v26 v27 v28 v33 v38 v66 v76 v86 v96 v106 v116 v126 v242 k0_hw11 k0_h1 k0_h2 k0_h9 => k0_hw11.1 k0_h1 k0_h2 k0_h9
theorem k0_idx51_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v242 : IVec S16 32) (k0_hw11 : k0_chk11 i v23 v24 v25 v26 v27 v28 v33 v38 v66 v76 v86 v96 v106 v116 v126 v242), ∀ (k0_h1 : k0_cond1 i = 1#1), ∀ (k0_h2 : k0_cond2 v33 = 1#1), ∀ (k0_h9 : k0_cond9 v38 v66 v76 v86 v96 v106 v116 v126 = 1#1), ∀ a x, ((![v24, v242] : Fin 2 → IVec S16 32) a x).toNat < S8x304.size a := fun i v23 v24 v25 v26 v27 v28 v33 v38 v66 v76 v86 v96 v106 v116 v126 v242 k0_hw11 k0_h1 k0_h2 k0_h9 => k0_hw11.2.1 k0_h1 k0_h2 k0_h9
theorem k0_idx52_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v242 : IVec S16 32) (k0_hw11 : k0_chk11 i v23 v24 v25 v26 v27 v28 v33 v38 v66 v76 v86 v96 v106 v116 v126 v242), ∀ (k0_h1 : k0_cond1 i = 1#1), ∀ (k0_h2 : k0_cond2 v33 = 1#1), ∀ (k0_h9 : k0_cond9 v38 v66 v76 v86 v96 v106 v116 v126 = 1#1), ∀ a x, ((![v25, v242] : Fin 2 → IVec S16 32) a x).toNat < S8x304.size a := fun i v23 v24 v25 v26 v27 v28 v33 v38 v66 v76 v86 v96 v106 v116 v126 v242 k0_hw11 k0_h1 k0_h2 k0_h9 => k0_hw11.2.2.1 k0_h1 k0_h2 k0_h9
theorem k0_idx53_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v242 : IVec S16 32) (k0_hw11 : k0_chk11 i v23 v24 v25 v26 v27 v28 v33 v38 v66 v76 v86 v96 v106 v116 v126 v242), ∀ (k0_h1 : k0_cond1 i = 1#1), ∀ (k0_h2 : k0_cond2 v33 = 1#1), ∀ (k0_h9 : k0_cond9 v38 v66 v76 v86 v96 v106 v116 v126 = 1#1), ∀ a x, ((![v26, v242] : Fin 2 → IVec S16 32) a x).toNat < S8x304.size a := fun i v23 v24 v25 v26 v27 v28 v33 v38 v66 v76 v86 v96 v106 v116 v126 v242 k0_hw11 k0_h1 k0_h2 k0_h9 => k0_hw11.2.2.2.1 k0_h1 k0_h2 k0_h9
theorem k0_idx54_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v242 : IVec S16 32) (k0_hw11 : k0_chk11 i v23 v24 v25 v26 v27 v28 v33 v38 v66 v76 v86 v96 v106 v116 v126 v242), ∀ (k0_h1 : k0_cond1 i = 1#1), ∀ (k0_h2 : k0_cond2 v33 = 1#1), ∀ (k0_h9 : k0_cond9 v38 v66 v76 v86 v96 v106 v116 v126 = 1#1), ∀ a x, ((![v27, v242] : Fin 2 → IVec S16 32) a x).toNat < S8x304.size a := fun i v23 v24 v25 v26 v27 v28 v33 v38 v66 v76 v86 v96 v106 v116 v126 v242 k0_hw11 k0_h1 k0_h2 k0_h9 => k0_hw11.2.2.2.2.1 k0_h1 k0_h2 k0_h9
theorem k0_idx55_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v242 : IVec S16 32) (k0_hw11 : k0_chk11 i v23 v24 v25 v26 v27 v28 v33 v38 v66 v76 v86 v96 v106 v116 v126 v242), ∀ (k0_h1 : k0_cond1 i = 1#1), ∀ (k0_h2 : k0_cond2 v33 = 1#1), ∀ (k0_h9 : k0_cond9 v38 v66 v76 v86 v96 v106 v116 v126 = 1#1), ∀ a x, ((![v28, v242] : Fin 2 → IVec S16 32) a x).toNat < S8x304.size a := fun i v23 v24 v25 v26 v27 v28 v33 v38 v66 v76 v86 v96 v106 v116 v126 v242 k0_hw11 k0_h1 k0_h2 k0_h9 => k0_hw11.2.2.2.2.2 k0_h1 k0_h2 k0_h9
def k0_cond10 (v38 : BitVec 32) (v66 : BitVec 1) (v76 : BitVec 1) (v86 : BitVec 1) (v96 : BitVec 1) (v106 : BitVec 1) (v116 : BitVec 1) (v126 : BitVec 1) (v136 : BitVec 1) : BitVec 1 :=
  let c300_i32_60 : BitVec 32 := 300#32
  let v67 : BitVec 1 := Scalar.cmpi .slt v38 c300_i32_60
  let v68 : BitVec 1 := Scalar.andi v66 v67
  let c1_i32_62 : BitVec 32 := 1#32
  let v71 : BitVec 32 := Scalar.addi v38 c1_i32_62
  let v72 : BitVec 32 := Scalar.select v68 v71 v38
  let c300_i32_65 : BitVec 32 := 300#32
  let v77 : BitVec 1 := Scalar.cmpi .slt v72 c300_i32_65
  let v78 : BitVec 1 := Scalar.andi v76 v77
  let c1_i32_67 : BitVec 32 := 1#32
  let v81 : BitVec 32 := Scalar.addi v72 c1_i32_67
  let v82 : BitVec 32 := Scalar.select v78 v81 v72
  let c300_i32_70 : BitVec 32 := 300#32
  let v87 : BitVec 1 := Scalar.cmpi .slt v82 c300_i32_70
  let v88 : BitVec 1 := Scalar.andi v86 v87
  let c1_i32_72 : BitVec 32 := 1#32
  let v91 : BitVec 32 := Scalar.addi v82 c1_i32_72
  let v92 : BitVec 32 := Scalar.select v88 v91 v82
  let c300_i32_75 : BitVec 32 := 300#32
  let v97 : BitVec 1 := Scalar.cmpi .slt v92 c300_i32_75
  let v98 : BitVec 1 := Scalar.andi v96 v97
  let c1_i32_77 : BitVec 32 := 1#32
  let v101 : BitVec 32 := Scalar.addi v92 c1_i32_77
  let v102 : BitVec 32 := Scalar.select v98 v101 v92
  let c300_i32_80 : BitVec 32 := 300#32
  let v107 : BitVec 1 := Scalar.cmpi .slt v102 c300_i32_80
  let v108 : BitVec 1 := Scalar.andi v106 v107
  let c1_i32_82 : BitVec 32 := 1#32
  let v111 : BitVec 32 := Scalar.addi v102 c1_i32_82
  let v112 : BitVec 32 := Scalar.select v108 v111 v102
  let c300_i32_85 : BitVec 32 := 300#32
  let v117 : BitVec 1 := Scalar.cmpi .slt v112 c300_i32_85
  let v118 : BitVec 1 := Scalar.andi v116 v117
  let c1_i32_87 : BitVec 32 := 1#32
  let v121 : BitVec 32 := Scalar.addi v112 c1_i32_87
  let v122 : BitVec 32 := Scalar.select v118 v121 v112
  let c300_i32_90 : BitVec 32 := 300#32
  let v127 : BitVec 1 := Scalar.cmpi .slt v122 c300_i32_90
  let v128 : BitVec 1 := Scalar.andi v126 v127
  let c1_i32_92 : BitVec 32 := 1#32
  let v131 : BitVec 32 := Scalar.addi v122 c1_i32_92
  let v132 : BitVec 32 := Scalar.select v128 v131 v122
  let c300_i32_95 : BitVec 32 := 300#32
  let v137 : BitVec 1 := Scalar.cmpi .slt v132 c300_i32_95
  let v138 : BitVec 1 := Scalar.andi v136 v137
  let v139 : BitVec 32 := Scalar.extui v138
  let c0_i32_96 : BitVec 32 := 0#32
  let v140 : BitVec 1 := Scalar.cmpi .ne v139 c0_i32_96
  v140

def k0_chk12 (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v242 : IVec S16 32) : Prop :=
  (∀ (k0_h1 : k0_cond1 i = 1#1), ∀ (k0_h2 : k0_cond2 v33 = 1#1), ∀ (k0_h10 : k0_cond10 v38 v66 v76 v86 v96 v106 v116 v126 v136 = 1#1), ∀ a x, ((![v23, v242] : Fin 2 → IVec S16 32) a x).toNat < S8x304.size a) ∧
  (∀ (k0_h1 : k0_cond1 i = 1#1), ∀ (k0_h2 : k0_cond2 v33 = 1#1), ∀ (k0_h10 : k0_cond10 v38 v66 v76 v86 v96 v106 v116 v126 v136 = 1#1), ∀ a x, ((![v24, v242] : Fin 2 → IVec S16 32) a x).toNat < S8x304.size a) ∧
  (∀ (k0_h1 : k0_cond1 i = 1#1), ∀ (k0_h2 : k0_cond2 v33 = 1#1), ∀ (k0_h10 : k0_cond10 v38 v66 v76 v86 v96 v106 v116 v126 v136 = 1#1), ∀ a x, ((![v25, v242] : Fin 2 → IVec S16 32) a x).toNat < S8x304.size a) ∧
  (∀ (k0_h1 : k0_cond1 i = 1#1), ∀ (k0_h2 : k0_cond2 v33 = 1#1), ∀ (k0_h10 : k0_cond10 v38 v66 v76 v86 v96 v106 v116 v126 v136 = 1#1), ∀ a x, ((![v26, v242] : Fin 2 → IVec S16 32) a x).toNat < S8x304.size a) ∧
  (∀ (k0_h1 : k0_cond1 i = 1#1), ∀ (k0_h2 : k0_cond2 v33 = 1#1), ∀ (k0_h10 : k0_cond10 v38 v66 v76 v86 v96 v106 v116 v126 v136 = 1#1), ∀ a x, ((![v27, v242] : Fin 2 → IVec S16 32) a x).toNat < S8x304.size a) ∧
  (∀ (k0_h1 : k0_cond1 i = 1#1), ∀ (k0_h2 : k0_cond2 v33 = 1#1), ∀ (k0_h10 : k0_cond10 v38 v66 v76 v86 v96 v106 v116 v126 v136 = 1#1), ∀ a x, ((![v28, v242] : Fin 2 → IVec S16 32) a x).toNat < S8x304.size a)
theorem k0_idx56_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v242 : IVec S16 32) (k0_hw12 : k0_chk12 i v23 v24 v25 v26 v27 v28 v33 v38 v66 v76 v86 v96 v106 v116 v126 v136 v242), ∀ (k0_h1 : k0_cond1 i = 1#1), ∀ (k0_h2 : k0_cond2 v33 = 1#1), ∀ (k0_h10 : k0_cond10 v38 v66 v76 v86 v96 v106 v116 v126 v136 = 1#1), ∀ a x, ((![v23, v242] : Fin 2 → IVec S16 32) a x).toNat < S8x304.size a := fun i v23 v24 v25 v26 v27 v28 v33 v38 v66 v76 v86 v96 v106 v116 v126 v136 v242 k0_hw12 k0_h1 k0_h2 k0_h10 => k0_hw12.1 k0_h1 k0_h2 k0_h10
theorem k0_idx57_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v242 : IVec S16 32) (k0_hw12 : k0_chk12 i v23 v24 v25 v26 v27 v28 v33 v38 v66 v76 v86 v96 v106 v116 v126 v136 v242), ∀ (k0_h1 : k0_cond1 i = 1#1), ∀ (k0_h2 : k0_cond2 v33 = 1#1), ∀ (k0_h10 : k0_cond10 v38 v66 v76 v86 v96 v106 v116 v126 v136 = 1#1), ∀ a x, ((![v24, v242] : Fin 2 → IVec S16 32) a x).toNat < S8x304.size a := fun i v23 v24 v25 v26 v27 v28 v33 v38 v66 v76 v86 v96 v106 v116 v126 v136 v242 k0_hw12 k0_h1 k0_h2 k0_h10 => k0_hw12.2.1 k0_h1 k0_h2 k0_h10
theorem k0_idx58_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v242 : IVec S16 32) (k0_hw12 : k0_chk12 i v23 v24 v25 v26 v27 v28 v33 v38 v66 v76 v86 v96 v106 v116 v126 v136 v242), ∀ (k0_h1 : k0_cond1 i = 1#1), ∀ (k0_h2 : k0_cond2 v33 = 1#1), ∀ (k0_h10 : k0_cond10 v38 v66 v76 v86 v96 v106 v116 v126 v136 = 1#1), ∀ a x, ((![v25, v242] : Fin 2 → IVec S16 32) a x).toNat < S8x304.size a := fun i v23 v24 v25 v26 v27 v28 v33 v38 v66 v76 v86 v96 v106 v116 v126 v136 v242 k0_hw12 k0_h1 k0_h2 k0_h10 => k0_hw12.2.2.1 k0_h1 k0_h2 k0_h10
theorem k0_idx59_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v242 : IVec S16 32) (k0_hw12 : k0_chk12 i v23 v24 v25 v26 v27 v28 v33 v38 v66 v76 v86 v96 v106 v116 v126 v136 v242), ∀ (k0_h1 : k0_cond1 i = 1#1), ∀ (k0_h2 : k0_cond2 v33 = 1#1), ∀ (k0_h10 : k0_cond10 v38 v66 v76 v86 v96 v106 v116 v126 v136 = 1#1), ∀ a x, ((![v26, v242] : Fin 2 → IVec S16 32) a x).toNat < S8x304.size a := fun i v23 v24 v25 v26 v27 v28 v33 v38 v66 v76 v86 v96 v106 v116 v126 v136 v242 k0_hw12 k0_h1 k0_h2 k0_h10 => k0_hw12.2.2.2.1 k0_h1 k0_h2 k0_h10
theorem k0_idx60_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v242 : IVec S16 32) (k0_hw12 : k0_chk12 i v23 v24 v25 v26 v27 v28 v33 v38 v66 v76 v86 v96 v106 v116 v126 v136 v242), ∀ (k0_h1 : k0_cond1 i = 1#1), ∀ (k0_h2 : k0_cond2 v33 = 1#1), ∀ (k0_h10 : k0_cond10 v38 v66 v76 v86 v96 v106 v116 v126 v136 = 1#1), ∀ a x, ((![v27, v242] : Fin 2 → IVec S16 32) a x).toNat < S8x304.size a := fun i v23 v24 v25 v26 v27 v28 v33 v38 v66 v76 v86 v96 v106 v116 v126 v136 v242 k0_hw12 k0_h1 k0_h2 k0_h10 => k0_hw12.2.2.2.2.1 k0_h1 k0_h2 k0_h10
theorem k0_idx61_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v242 : IVec S16 32) (k0_hw12 : k0_chk12 i v23 v24 v25 v26 v27 v28 v33 v38 v66 v76 v86 v96 v106 v116 v126 v136 v242), ∀ (k0_h1 : k0_cond1 i = 1#1), ∀ (k0_h2 : k0_cond2 v33 = 1#1), ∀ (k0_h10 : k0_cond10 v38 v66 v76 v86 v96 v106 v116 v126 v136 = 1#1), ∀ a x, ((![v28, v242] : Fin 2 → IVec S16 32) a x).toNat < S8x304.size a := fun i v23 v24 v25 v26 v27 v28 v33 v38 v66 v76 v86 v96 v106 v116 v126 v136 v242 k0_hw12 k0_h1 k0_h2 k0_h10 => k0_hw12.2.2.2.2.2 k0_h1 k0_h2 k0_h10
def k0_cond11 (v38 : BitVec 32) (v66 : BitVec 1) (v76 : BitVec 1) (v86 : BitVec 1) (v96 : BitVec 1) (v106 : BitVec 1) (v116 : BitVec 1) (v126 : BitVec 1) (v136 : BitVec 1) (v146 : BitVec 1) : BitVec 1 :=
  let c300_i32_60 : BitVec 32 := 300#32
  let v67 : BitVec 1 := Scalar.cmpi .slt v38 c300_i32_60
  let v68 : BitVec 1 := Scalar.andi v66 v67
  let c1_i32_62 : BitVec 32 := 1#32
  let v71 : BitVec 32 := Scalar.addi v38 c1_i32_62
  let v72 : BitVec 32 := Scalar.select v68 v71 v38
  let c300_i32_65 : BitVec 32 := 300#32
  let v77 : BitVec 1 := Scalar.cmpi .slt v72 c300_i32_65
  let v78 : BitVec 1 := Scalar.andi v76 v77
  let c1_i32_67 : BitVec 32 := 1#32
  let v81 : BitVec 32 := Scalar.addi v72 c1_i32_67
  let v82 : BitVec 32 := Scalar.select v78 v81 v72
  let c300_i32_70 : BitVec 32 := 300#32
  let v87 : BitVec 1 := Scalar.cmpi .slt v82 c300_i32_70
  let v88 : BitVec 1 := Scalar.andi v86 v87
  let c1_i32_72 : BitVec 32 := 1#32
  let v91 : BitVec 32 := Scalar.addi v82 c1_i32_72
  let v92 : BitVec 32 := Scalar.select v88 v91 v82
  let c300_i32_75 : BitVec 32 := 300#32
  let v97 : BitVec 1 := Scalar.cmpi .slt v92 c300_i32_75
  let v98 : BitVec 1 := Scalar.andi v96 v97
  let c1_i32_77 : BitVec 32 := 1#32
  let v101 : BitVec 32 := Scalar.addi v92 c1_i32_77
  let v102 : BitVec 32 := Scalar.select v98 v101 v92
  let c300_i32_80 : BitVec 32 := 300#32
  let v107 : BitVec 1 := Scalar.cmpi .slt v102 c300_i32_80
  let v108 : BitVec 1 := Scalar.andi v106 v107
  let c1_i32_82 : BitVec 32 := 1#32
  let v111 : BitVec 32 := Scalar.addi v102 c1_i32_82
  let v112 : BitVec 32 := Scalar.select v108 v111 v102
  let c300_i32_85 : BitVec 32 := 300#32
  let v117 : BitVec 1 := Scalar.cmpi .slt v112 c300_i32_85
  let v118 : BitVec 1 := Scalar.andi v116 v117
  let c1_i32_87 : BitVec 32 := 1#32
  let v121 : BitVec 32 := Scalar.addi v112 c1_i32_87
  let v122 : BitVec 32 := Scalar.select v118 v121 v112
  let c300_i32_90 : BitVec 32 := 300#32
  let v127 : BitVec 1 := Scalar.cmpi .slt v122 c300_i32_90
  let v128 : BitVec 1 := Scalar.andi v126 v127
  let c1_i32_92 : BitVec 32 := 1#32
  let v131 : BitVec 32 := Scalar.addi v122 c1_i32_92
  let v132 : BitVec 32 := Scalar.select v128 v131 v122
  let c300_i32_95 : BitVec 32 := 300#32
  let v137 : BitVec 1 := Scalar.cmpi .slt v132 c300_i32_95
  let v138 : BitVec 1 := Scalar.andi v136 v137
  let c1_i32_97 : BitVec 32 := 1#32
  let v141 : BitVec 32 := Scalar.addi v132 c1_i32_97
  let v142 : BitVec 32 := Scalar.select v138 v141 v132
  let c300_i32_100 : BitVec 32 := 300#32
  let v147 : BitVec 1 := Scalar.cmpi .slt v142 c300_i32_100
  let v148 : BitVec 1 := Scalar.andi v146 v147
  let v149 : BitVec 32 := Scalar.extui v148
  let c0_i32_101 : BitVec 32 := 0#32
  let v150 : BitVec 1 := Scalar.cmpi .ne v149 c0_i32_101
  v150

def k0_chk13 (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v242 : IVec S16 32) : Prop :=
  (∀ (k0_h1 : k0_cond1 i = 1#1), ∀ (k0_h2 : k0_cond2 v33 = 1#1), ∀ (k0_h11 : k0_cond11 v38 v66 v76 v86 v96 v106 v116 v126 v136 v146 = 1#1), ∀ a x, ((![v23, v242] : Fin 2 → IVec S16 32) a x).toNat < S8x304.size a) ∧
  (∀ (k0_h1 : k0_cond1 i = 1#1), ∀ (k0_h2 : k0_cond2 v33 = 1#1), ∀ (k0_h11 : k0_cond11 v38 v66 v76 v86 v96 v106 v116 v126 v136 v146 = 1#1), ∀ a x, ((![v24, v242] : Fin 2 → IVec S16 32) a x).toNat < S8x304.size a) ∧
  (∀ (k0_h1 : k0_cond1 i = 1#1), ∀ (k0_h2 : k0_cond2 v33 = 1#1), ∀ (k0_h11 : k0_cond11 v38 v66 v76 v86 v96 v106 v116 v126 v136 v146 = 1#1), ∀ a x, ((![v25, v242] : Fin 2 → IVec S16 32) a x).toNat < S8x304.size a) ∧
  (∀ (k0_h1 : k0_cond1 i = 1#1), ∀ (k0_h2 : k0_cond2 v33 = 1#1), ∀ (k0_h11 : k0_cond11 v38 v66 v76 v86 v96 v106 v116 v126 v136 v146 = 1#1), ∀ a x, ((![v26, v242] : Fin 2 → IVec S16 32) a x).toNat < S8x304.size a) ∧
  (∀ (k0_h1 : k0_cond1 i = 1#1), ∀ (k0_h2 : k0_cond2 v33 = 1#1), ∀ (k0_h11 : k0_cond11 v38 v66 v76 v86 v96 v106 v116 v126 v136 v146 = 1#1), ∀ a x, ((![v27, v242] : Fin 2 → IVec S16 32) a x).toNat < S8x304.size a) ∧
  (∀ (k0_h1 : k0_cond1 i = 1#1), ∀ (k0_h2 : k0_cond2 v33 = 1#1), ∀ (k0_h11 : k0_cond11 v38 v66 v76 v86 v96 v106 v116 v126 v136 v146 = 1#1), ∀ a x, ((![v28, v242] : Fin 2 → IVec S16 32) a x).toNat < S8x304.size a)
theorem k0_idx62_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v242 : IVec S16 32) (k0_hw13 : k0_chk13 i v23 v24 v25 v26 v27 v28 v33 v38 v66 v76 v86 v96 v106 v116 v126 v136 v146 v242), ∀ (k0_h1 : k0_cond1 i = 1#1), ∀ (k0_h2 : k0_cond2 v33 = 1#1), ∀ (k0_h11 : k0_cond11 v38 v66 v76 v86 v96 v106 v116 v126 v136 v146 = 1#1), ∀ a x, ((![v23, v242] : Fin 2 → IVec S16 32) a x).toNat < S8x304.size a := fun i v23 v24 v25 v26 v27 v28 v33 v38 v66 v76 v86 v96 v106 v116 v126 v136 v146 v242 k0_hw13 k0_h1 k0_h2 k0_h11 => k0_hw13.1 k0_h1 k0_h2 k0_h11
theorem k0_idx63_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v242 : IVec S16 32) (k0_hw13 : k0_chk13 i v23 v24 v25 v26 v27 v28 v33 v38 v66 v76 v86 v96 v106 v116 v126 v136 v146 v242), ∀ (k0_h1 : k0_cond1 i = 1#1), ∀ (k0_h2 : k0_cond2 v33 = 1#1), ∀ (k0_h11 : k0_cond11 v38 v66 v76 v86 v96 v106 v116 v126 v136 v146 = 1#1), ∀ a x, ((![v24, v242] : Fin 2 → IVec S16 32) a x).toNat < S8x304.size a := fun i v23 v24 v25 v26 v27 v28 v33 v38 v66 v76 v86 v96 v106 v116 v126 v136 v146 v242 k0_hw13 k0_h1 k0_h2 k0_h11 => k0_hw13.2.1 k0_h1 k0_h2 k0_h11
theorem k0_idx64_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v242 : IVec S16 32) (k0_hw13 : k0_chk13 i v23 v24 v25 v26 v27 v28 v33 v38 v66 v76 v86 v96 v106 v116 v126 v136 v146 v242), ∀ (k0_h1 : k0_cond1 i = 1#1), ∀ (k0_h2 : k0_cond2 v33 = 1#1), ∀ (k0_h11 : k0_cond11 v38 v66 v76 v86 v96 v106 v116 v126 v136 v146 = 1#1), ∀ a x, ((![v25, v242] : Fin 2 → IVec S16 32) a x).toNat < S8x304.size a := fun i v23 v24 v25 v26 v27 v28 v33 v38 v66 v76 v86 v96 v106 v116 v126 v136 v146 v242 k0_hw13 k0_h1 k0_h2 k0_h11 => k0_hw13.2.2.1 k0_h1 k0_h2 k0_h11
theorem k0_idx65_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v242 : IVec S16 32) (k0_hw13 : k0_chk13 i v23 v24 v25 v26 v27 v28 v33 v38 v66 v76 v86 v96 v106 v116 v126 v136 v146 v242), ∀ (k0_h1 : k0_cond1 i = 1#1), ∀ (k0_h2 : k0_cond2 v33 = 1#1), ∀ (k0_h11 : k0_cond11 v38 v66 v76 v86 v96 v106 v116 v126 v136 v146 = 1#1), ∀ a x, ((![v26, v242] : Fin 2 → IVec S16 32) a x).toNat < S8x304.size a := fun i v23 v24 v25 v26 v27 v28 v33 v38 v66 v76 v86 v96 v106 v116 v126 v136 v146 v242 k0_hw13 k0_h1 k0_h2 k0_h11 => k0_hw13.2.2.2.1 k0_h1 k0_h2 k0_h11
theorem k0_idx66_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v242 : IVec S16 32) (k0_hw13 : k0_chk13 i v23 v24 v25 v26 v27 v28 v33 v38 v66 v76 v86 v96 v106 v116 v126 v136 v146 v242), ∀ (k0_h1 : k0_cond1 i = 1#1), ∀ (k0_h2 : k0_cond2 v33 = 1#1), ∀ (k0_h11 : k0_cond11 v38 v66 v76 v86 v96 v106 v116 v126 v136 v146 = 1#1), ∀ a x, ((![v27, v242] : Fin 2 → IVec S16 32) a x).toNat < S8x304.size a := fun i v23 v24 v25 v26 v27 v28 v33 v38 v66 v76 v86 v96 v106 v116 v126 v136 v146 v242 k0_hw13 k0_h1 k0_h2 k0_h11 => k0_hw13.2.2.2.2.1 k0_h1 k0_h2 k0_h11
theorem k0_idx67_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v242 : IVec S16 32) (k0_hw13 : k0_chk13 i v23 v24 v25 v26 v27 v28 v33 v38 v66 v76 v86 v96 v106 v116 v126 v136 v146 v242), ∀ (k0_h1 : k0_cond1 i = 1#1), ∀ (k0_h2 : k0_cond2 v33 = 1#1), ∀ (k0_h11 : k0_cond11 v38 v66 v76 v86 v96 v106 v116 v126 v136 v146 = 1#1), ∀ a x, ((![v28, v242] : Fin 2 → IVec S16 32) a x).toNat < S8x304.size a := fun i v23 v24 v25 v26 v27 v28 v33 v38 v66 v76 v86 v96 v106 v116 v126 v136 v146 v242 k0_hw13 k0_h1 k0_h2 k0_h11 => k0_hw13.2.2.2.2.2 k0_h1 k0_h2 k0_h11
def k0_cond12 (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) : BitVec 1 :=
  let c300_i32_60 : BitVec 32 := 300#32
  let v67 : BitVec 1 := Scalar.cmpi .slt v38 c300_i32_60
  let v68 : BitVec 1 := Scalar.andi v66 v67
  let c1_i32_62 : BitVec 32 := 1#32
  let v71 : BitVec 32 := Scalar.addi v38 c1_i32_62
  let v72 : BitVec 32 := Scalar.select v68 v71 v38
  let c300_i32_65 : BitVec 32 := 300#32
  let v77 : BitVec 1 := Scalar.cmpi .slt v72 c300_i32_65
  let v78 : BitVec 1 := Scalar.andi v76 v77
  let c1_i32_67 : BitVec 32 := 1#32
  let v81 : BitVec 32 := Scalar.addi v72 c1_i32_67
  let v82 : BitVec 32 := Scalar.select v78 v81 v72
  let c300_i32_70 : BitVec 32 := 300#32
  let v87 : BitVec 1 := Scalar.cmpi .slt v82 c300_i32_70
  let v88 : BitVec 1 := Scalar.andi v86 v87
  let c1_i32_72 : BitVec 32 := 1#32
  let v91 : BitVec 32 := Scalar.addi v82 c1_i32_72
  let v92 : BitVec 32 := Scalar.select v88 v91 v82
  let c300_i32_75 : BitVec 32 := 300#32
  let v97 : BitVec 1 := Scalar.cmpi .slt v92 c300_i32_75
  let v98 : BitVec 1 := Scalar.andi v96 v97
  let c1_i32_77 : BitVec 32 := 1#32
  let v101 : BitVec 32 := Scalar.addi v92 c1_i32_77
  let v102 : BitVec 32 := Scalar.select v98 v101 v92
  let c300_i32_80 : BitVec 32 := 300#32
  let v107 : BitVec 1 := Scalar.cmpi .slt v102 c300_i32_80
  let v108 : BitVec 1 := Scalar.andi v106 v107
  let c1_i32_82 : BitVec 32 := 1#32
  let v111 : BitVec 32 := Scalar.addi v102 c1_i32_82
  let v112 : BitVec 32 := Scalar.select v108 v111 v102
  let c300_i32_85 : BitVec 32 := 300#32
  let v117 : BitVec 1 := Scalar.cmpi .slt v112 c300_i32_85
  let v118 : BitVec 1 := Scalar.andi v116 v117
  let c1_i32_87 : BitVec 32 := 1#32
  let v121 : BitVec 32 := Scalar.addi v112 c1_i32_87
  let v122 : BitVec 32 := Scalar.select v118 v121 v112
  let c300_i32_90 : BitVec 32 := 300#32
  let v127 : BitVec 1 := Scalar.cmpi .slt v122 c300_i32_90
  let v128 : BitVec 1 := Scalar.andi v126 v127
  let c1_i32_92 : BitVec 32 := 1#32
  let v131 : BitVec 32 := Scalar.addi v122 c1_i32_92
  let v132 : BitVec 32 := Scalar.select v128 v131 v122
  let c300_i32_95 : BitVec 32 := 300#32
  let v137 : BitVec 1 := Scalar.cmpi .slt v132 c300_i32_95
  let v138 : BitVec 1 := Scalar.andi v136 v137
  let c1_i32_97 : BitVec 32 := 1#32
  let v141 : BitVec 32 := Scalar.addi v132 c1_i32_97
  let v142 : BitVec 32 := Scalar.select v138 v141 v132
  let c300_i32_100 : BitVec 32 := 300#32
  let v147 : BitVec 1 := Scalar.cmpi .slt v142 c300_i32_100
  let v148 : BitVec 1 := Scalar.andi v146 v147
  let c1_i32_102 : BitVec 32 := 1#32
  let v151 : BitVec 32 := Scalar.addi v142 c1_i32_102
  let v152 : BitVec 32 := Scalar.select v148 v151 v142
  let c300_i32_105 : BitVec 32 := 300#32
  let v157 : BitVec 1 := Scalar.cmpi .slt v152 c300_i32_105
  let v158 : BitVec 1 := Scalar.andi v156 v157
  let v159 : BitVec 32 := Scalar.extui v158
  let c0_i32_106 : BitVec 32 := 0#32
  let v160 : BitVec 1 := Scalar.cmpi .ne v159 c0_i32_106
  v160

def k0_chk14 (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v242 : IVec S16 32) : Prop :=
  (∀ (k0_h1 : k0_cond1 i = 1#1), ∀ (k0_h2 : k0_cond2 v33 = 1#1), ∀ (k0_h12 : k0_cond12 v38 v66 v76 v86 v96 v106 v116 v126 v136 v146 v156 = 1#1), ∀ a x, ((![v23, v242] : Fin 2 → IVec S16 32) a x).toNat < S8x304.size a) ∧
  (∀ (k0_h1 : k0_cond1 i = 1#1), ∀ (k0_h2 : k0_cond2 v33 = 1#1), ∀ (k0_h12 : k0_cond12 v38 v66 v76 v86 v96 v106 v116 v126 v136 v146 v156 = 1#1), ∀ a x, ((![v24, v242] : Fin 2 → IVec S16 32) a x).toNat < S8x304.size a) ∧
  (∀ (k0_h1 : k0_cond1 i = 1#1), ∀ (k0_h2 : k0_cond2 v33 = 1#1), ∀ (k0_h12 : k0_cond12 v38 v66 v76 v86 v96 v106 v116 v126 v136 v146 v156 = 1#1), ∀ a x, ((![v25, v242] : Fin 2 → IVec S16 32) a x).toNat < S8x304.size a) ∧
  (∀ (k0_h1 : k0_cond1 i = 1#1), ∀ (k0_h2 : k0_cond2 v33 = 1#1), ∀ (k0_h12 : k0_cond12 v38 v66 v76 v86 v96 v106 v116 v126 v136 v146 v156 = 1#1), ∀ a x, ((![v26, v242] : Fin 2 → IVec S16 32) a x).toNat < S8x304.size a) ∧
  (∀ (k0_h1 : k0_cond1 i = 1#1), ∀ (k0_h2 : k0_cond2 v33 = 1#1), ∀ (k0_h12 : k0_cond12 v38 v66 v76 v86 v96 v106 v116 v126 v136 v146 v156 = 1#1), ∀ a x, ((![v27, v242] : Fin 2 → IVec S16 32) a x).toNat < S8x304.size a) ∧
  (∀ (k0_h1 : k0_cond1 i = 1#1), ∀ (k0_h2 : k0_cond2 v33 = 1#1), ∀ (k0_h12 : k0_cond12 v38 v66 v76 v86 v96 v106 v116 v126 v136 v146 v156 = 1#1), ∀ a x, ((![v28, v242] : Fin 2 → IVec S16 32) a x).toNat < S8x304.size a)
theorem k0_idx68_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v242 : IVec S16 32) (k0_hw14 : k0_chk14 i v23 v24 v25 v26 v27 v28 v33 v38 v66 v76 v86 v96 v106 v116 v126 v136 v146 v156 v242), ∀ (k0_h1 : k0_cond1 i = 1#1), ∀ (k0_h2 : k0_cond2 v33 = 1#1), ∀ (k0_h12 : k0_cond12 v38 v66 v76 v86 v96 v106 v116 v126 v136 v146 v156 = 1#1), ∀ a x, ((![v23, v242] : Fin 2 → IVec S16 32) a x).toNat < S8x304.size a := fun i v23 v24 v25 v26 v27 v28 v33 v38 v66 v76 v86 v96 v106 v116 v126 v136 v146 v156 v242 k0_hw14 k0_h1 k0_h2 k0_h12 => k0_hw14.1 k0_h1 k0_h2 k0_h12
theorem k0_idx69_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v242 : IVec S16 32) (k0_hw14 : k0_chk14 i v23 v24 v25 v26 v27 v28 v33 v38 v66 v76 v86 v96 v106 v116 v126 v136 v146 v156 v242), ∀ (k0_h1 : k0_cond1 i = 1#1), ∀ (k0_h2 : k0_cond2 v33 = 1#1), ∀ (k0_h12 : k0_cond12 v38 v66 v76 v86 v96 v106 v116 v126 v136 v146 v156 = 1#1), ∀ a x, ((![v24, v242] : Fin 2 → IVec S16 32) a x).toNat < S8x304.size a := fun i v23 v24 v25 v26 v27 v28 v33 v38 v66 v76 v86 v96 v106 v116 v126 v136 v146 v156 v242 k0_hw14 k0_h1 k0_h2 k0_h12 => k0_hw14.2.1 k0_h1 k0_h2 k0_h12
theorem k0_idx70_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v242 : IVec S16 32) (k0_hw14 : k0_chk14 i v23 v24 v25 v26 v27 v28 v33 v38 v66 v76 v86 v96 v106 v116 v126 v136 v146 v156 v242), ∀ (k0_h1 : k0_cond1 i = 1#1), ∀ (k0_h2 : k0_cond2 v33 = 1#1), ∀ (k0_h12 : k0_cond12 v38 v66 v76 v86 v96 v106 v116 v126 v136 v146 v156 = 1#1), ∀ a x, ((![v25, v242] : Fin 2 → IVec S16 32) a x).toNat < S8x304.size a := fun i v23 v24 v25 v26 v27 v28 v33 v38 v66 v76 v86 v96 v106 v116 v126 v136 v146 v156 v242 k0_hw14 k0_h1 k0_h2 k0_h12 => k0_hw14.2.2.1 k0_h1 k0_h2 k0_h12
theorem k0_idx71_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v242 : IVec S16 32) (k0_hw14 : k0_chk14 i v23 v24 v25 v26 v27 v28 v33 v38 v66 v76 v86 v96 v106 v116 v126 v136 v146 v156 v242), ∀ (k0_h1 : k0_cond1 i = 1#1), ∀ (k0_h2 : k0_cond2 v33 = 1#1), ∀ (k0_h12 : k0_cond12 v38 v66 v76 v86 v96 v106 v116 v126 v136 v146 v156 = 1#1), ∀ a x, ((![v26, v242] : Fin 2 → IVec S16 32) a x).toNat < S8x304.size a := fun i v23 v24 v25 v26 v27 v28 v33 v38 v66 v76 v86 v96 v106 v116 v126 v136 v146 v156 v242 k0_hw14 k0_h1 k0_h2 k0_h12 => k0_hw14.2.2.2.1 k0_h1 k0_h2 k0_h12
theorem k0_idx72_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v242 : IVec S16 32) (k0_hw14 : k0_chk14 i v23 v24 v25 v26 v27 v28 v33 v38 v66 v76 v86 v96 v106 v116 v126 v136 v146 v156 v242), ∀ (k0_h1 : k0_cond1 i = 1#1), ∀ (k0_h2 : k0_cond2 v33 = 1#1), ∀ (k0_h12 : k0_cond12 v38 v66 v76 v86 v96 v106 v116 v126 v136 v146 v156 = 1#1), ∀ a x, ((![v27, v242] : Fin 2 → IVec S16 32) a x).toNat < S8x304.size a := fun i v23 v24 v25 v26 v27 v28 v33 v38 v66 v76 v86 v96 v106 v116 v126 v136 v146 v156 v242 k0_hw14 k0_h1 k0_h2 k0_h12 => k0_hw14.2.2.2.2.1 k0_h1 k0_h2 k0_h12
theorem k0_idx73_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v242 : IVec S16 32) (k0_hw14 : k0_chk14 i v23 v24 v25 v26 v27 v28 v33 v38 v66 v76 v86 v96 v106 v116 v126 v136 v146 v156 v242), ∀ (k0_h1 : k0_cond1 i = 1#1), ∀ (k0_h2 : k0_cond2 v33 = 1#1), ∀ (k0_h12 : k0_cond12 v38 v66 v76 v86 v96 v106 v116 v126 v136 v146 v156 = 1#1), ∀ a x, ((![v28, v242] : Fin 2 → IVec S16 32) a x).toNat < S8x304.size a := fun i v23 v24 v25 v26 v27 v28 v33 v38 v66 v76 v86 v96 v106 v116 v126 v136 v146 v156 v242 k0_hw14 k0_h1 k0_h2 k0_h12 => k0_hw14.2.2.2.2.2 k0_h1 k0_h2 k0_h12
def k0_cond13 (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) : BitVec 1 :=
  let c300_i32_60 : BitVec 32 := 300#32
  let v67 : BitVec 1 := Scalar.cmpi .slt v38 c300_i32_60
  let v68 : BitVec 1 := Scalar.andi v66 v67
  let c1_i32_62 : BitVec 32 := 1#32
  let v71 : BitVec 32 := Scalar.addi v38 c1_i32_62
  let v72 : BitVec 32 := Scalar.select v68 v71 v38
  let c300_i32_65 : BitVec 32 := 300#32
  let v77 : BitVec 1 := Scalar.cmpi .slt v72 c300_i32_65
  let v78 : BitVec 1 := Scalar.andi v76 v77
  let c1_i32_67 : BitVec 32 := 1#32
  let v81 : BitVec 32 := Scalar.addi v72 c1_i32_67
  let v82 : BitVec 32 := Scalar.select v78 v81 v72
  let c300_i32_70 : BitVec 32 := 300#32
  let v87 : BitVec 1 := Scalar.cmpi .slt v82 c300_i32_70
  let v88 : BitVec 1 := Scalar.andi v86 v87
  let c1_i32_72 : BitVec 32 := 1#32
  let v91 : BitVec 32 := Scalar.addi v82 c1_i32_72
  let v92 : BitVec 32 := Scalar.select v88 v91 v82
  let c300_i32_75 : BitVec 32 := 300#32
  let v97 : BitVec 1 := Scalar.cmpi .slt v92 c300_i32_75
  let v98 : BitVec 1 := Scalar.andi v96 v97
  let c1_i32_77 : BitVec 32 := 1#32
  let v101 : BitVec 32 := Scalar.addi v92 c1_i32_77
  let v102 : BitVec 32 := Scalar.select v98 v101 v92
  let c300_i32_80 : BitVec 32 := 300#32
  let v107 : BitVec 1 := Scalar.cmpi .slt v102 c300_i32_80
  let v108 : BitVec 1 := Scalar.andi v106 v107
  let c1_i32_82 : BitVec 32 := 1#32
  let v111 : BitVec 32 := Scalar.addi v102 c1_i32_82
  let v112 : BitVec 32 := Scalar.select v108 v111 v102
  let c300_i32_85 : BitVec 32 := 300#32
  let v117 : BitVec 1 := Scalar.cmpi .slt v112 c300_i32_85
  let v118 : BitVec 1 := Scalar.andi v116 v117
  let c1_i32_87 : BitVec 32 := 1#32
  let v121 : BitVec 32 := Scalar.addi v112 c1_i32_87
  let v122 : BitVec 32 := Scalar.select v118 v121 v112
  let c300_i32_90 : BitVec 32 := 300#32
  let v127 : BitVec 1 := Scalar.cmpi .slt v122 c300_i32_90
  let v128 : BitVec 1 := Scalar.andi v126 v127
  let c1_i32_92 : BitVec 32 := 1#32
  let v131 : BitVec 32 := Scalar.addi v122 c1_i32_92
  let v132 : BitVec 32 := Scalar.select v128 v131 v122
  let c300_i32_95 : BitVec 32 := 300#32
  let v137 : BitVec 1 := Scalar.cmpi .slt v132 c300_i32_95
  let v138 : BitVec 1 := Scalar.andi v136 v137
  let c1_i32_97 : BitVec 32 := 1#32
  let v141 : BitVec 32 := Scalar.addi v132 c1_i32_97
  let v142 : BitVec 32 := Scalar.select v138 v141 v132
  let c300_i32_100 : BitVec 32 := 300#32
  let v147 : BitVec 1 := Scalar.cmpi .slt v142 c300_i32_100
  let v148 : BitVec 1 := Scalar.andi v146 v147
  let c1_i32_102 : BitVec 32 := 1#32
  let v151 : BitVec 32 := Scalar.addi v142 c1_i32_102
  let v152 : BitVec 32 := Scalar.select v148 v151 v142
  let c300_i32_105 : BitVec 32 := 300#32
  let v157 : BitVec 1 := Scalar.cmpi .slt v152 c300_i32_105
  let v158 : BitVec 1 := Scalar.andi v156 v157
  let c1_i32_107 : BitVec 32 := 1#32
  let v161 : BitVec 32 := Scalar.addi v152 c1_i32_107
  let v162 : BitVec 32 := Scalar.select v158 v161 v152
  let c300_i32_110 : BitVec 32 := 300#32
  let v167 : BitVec 1 := Scalar.cmpi .slt v162 c300_i32_110
  let v168 : BitVec 1 := Scalar.andi v166 v167
  let v169 : BitVec 32 := Scalar.extui v168
  let c0_i32_111 : BitVec 32 := 0#32
  let v170 : BitVec 1 := Scalar.cmpi .ne v169 c0_i32_111
  v170

def k0_chk15 (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v242 : IVec S16 32) : Prop :=
  (∀ (k0_h1 : k0_cond1 i = 1#1), ∀ (k0_h2 : k0_cond2 v33 = 1#1), ∀ (k0_h13 : k0_cond13 v38 v66 v76 v86 v96 v106 v116 v126 v136 v146 v156 v166 = 1#1), ∀ a x, ((![v23, v242] : Fin 2 → IVec S16 32) a x).toNat < S8x304.size a) ∧
  (∀ (k0_h1 : k0_cond1 i = 1#1), ∀ (k0_h2 : k0_cond2 v33 = 1#1), ∀ (k0_h13 : k0_cond13 v38 v66 v76 v86 v96 v106 v116 v126 v136 v146 v156 v166 = 1#1), ∀ a x, ((![v24, v242] : Fin 2 → IVec S16 32) a x).toNat < S8x304.size a) ∧
  (∀ (k0_h1 : k0_cond1 i = 1#1), ∀ (k0_h2 : k0_cond2 v33 = 1#1), ∀ (k0_h13 : k0_cond13 v38 v66 v76 v86 v96 v106 v116 v126 v136 v146 v156 v166 = 1#1), ∀ a x, ((![v25, v242] : Fin 2 → IVec S16 32) a x).toNat < S8x304.size a) ∧
  (∀ (k0_h1 : k0_cond1 i = 1#1), ∀ (k0_h2 : k0_cond2 v33 = 1#1), ∀ (k0_h13 : k0_cond13 v38 v66 v76 v86 v96 v106 v116 v126 v136 v146 v156 v166 = 1#1), ∀ a x, ((![v26, v242] : Fin 2 → IVec S16 32) a x).toNat < S8x304.size a) ∧
  (∀ (k0_h1 : k0_cond1 i = 1#1), ∀ (k0_h2 : k0_cond2 v33 = 1#1), ∀ (k0_h13 : k0_cond13 v38 v66 v76 v86 v96 v106 v116 v126 v136 v146 v156 v166 = 1#1), ∀ a x, ((![v27, v242] : Fin 2 → IVec S16 32) a x).toNat < S8x304.size a) ∧
  (∀ (k0_h1 : k0_cond1 i = 1#1), ∀ (k0_h2 : k0_cond2 v33 = 1#1), ∀ (k0_h13 : k0_cond13 v38 v66 v76 v86 v96 v106 v116 v126 v136 v146 v156 v166 = 1#1), ∀ a x, ((![v28, v242] : Fin 2 → IVec S16 32) a x).toNat < S8x304.size a)
theorem k0_idx74_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v242 : IVec S16 32) (k0_hw15 : k0_chk15 i v23 v24 v25 v26 v27 v28 v33 v38 v66 v76 v86 v96 v106 v116 v126 v136 v146 v156 v166 v242), ∀ (k0_h1 : k0_cond1 i = 1#1), ∀ (k0_h2 : k0_cond2 v33 = 1#1), ∀ (k0_h13 : k0_cond13 v38 v66 v76 v86 v96 v106 v116 v126 v136 v146 v156 v166 = 1#1), ∀ a x, ((![v23, v242] : Fin 2 → IVec S16 32) a x).toNat < S8x304.size a := fun i v23 v24 v25 v26 v27 v28 v33 v38 v66 v76 v86 v96 v106 v116 v126 v136 v146 v156 v166 v242 k0_hw15 k0_h1 k0_h2 k0_h13 => k0_hw15.1 k0_h1 k0_h2 k0_h13
theorem k0_idx75_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v242 : IVec S16 32) (k0_hw15 : k0_chk15 i v23 v24 v25 v26 v27 v28 v33 v38 v66 v76 v86 v96 v106 v116 v126 v136 v146 v156 v166 v242), ∀ (k0_h1 : k0_cond1 i = 1#1), ∀ (k0_h2 : k0_cond2 v33 = 1#1), ∀ (k0_h13 : k0_cond13 v38 v66 v76 v86 v96 v106 v116 v126 v136 v146 v156 v166 = 1#1), ∀ a x, ((![v24, v242] : Fin 2 → IVec S16 32) a x).toNat < S8x304.size a := fun i v23 v24 v25 v26 v27 v28 v33 v38 v66 v76 v86 v96 v106 v116 v126 v136 v146 v156 v166 v242 k0_hw15 k0_h1 k0_h2 k0_h13 => k0_hw15.2.1 k0_h1 k0_h2 k0_h13
theorem k0_idx76_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v242 : IVec S16 32) (k0_hw15 : k0_chk15 i v23 v24 v25 v26 v27 v28 v33 v38 v66 v76 v86 v96 v106 v116 v126 v136 v146 v156 v166 v242), ∀ (k0_h1 : k0_cond1 i = 1#1), ∀ (k0_h2 : k0_cond2 v33 = 1#1), ∀ (k0_h13 : k0_cond13 v38 v66 v76 v86 v96 v106 v116 v126 v136 v146 v156 v166 = 1#1), ∀ a x, ((![v25, v242] : Fin 2 → IVec S16 32) a x).toNat < S8x304.size a := fun i v23 v24 v25 v26 v27 v28 v33 v38 v66 v76 v86 v96 v106 v116 v126 v136 v146 v156 v166 v242 k0_hw15 k0_h1 k0_h2 k0_h13 => k0_hw15.2.2.1 k0_h1 k0_h2 k0_h13
theorem k0_idx77_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v242 : IVec S16 32) (k0_hw15 : k0_chk15 i v23 v24 v25 v26 v27 v28 v33 v38 v66 v76 v86 v96 v106 v116 v126 v136 v146 v156 v166 v242), ∀ (k0_h1 : k0_cond1 i = 1#1), ∀ (k0_h2 : k0_cond2 v33 = 1#1), ∀ (k0_h13 : k0_cond13 v38 v66 v76 v86 v96 v106 v116 v126 v136 v146 v156 v166 = 1#1), ∀ a x, ((![v26, v242] : Fin 2 → IVec S16 32) a x).toNat < S8x304.size a := fun i v23 v24 v25 v26 v27 v28 v33 v38 v66 v76 v86 v96 v106 v116 v126 v136 v146 v156 v166 v242 k0_hw15 k0_h1 k0_h2 k0_h13 => k0_hw15.2.2.2.1 k0_h1 k0_h2 k0_h13
theorem k0_idx78_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v242 : IVec S16 32) (k0_hw15 : k0_chk15 i v23 v24 v25 v26 v27 v28 v33 v38 v66 v76 v86 v96 v106 v116 v126 v136 v146 v156 v166 v242), ∀ (k0_h1 : k0_cond1 i = 1#1), ∀ (k0_h2 : k0_cond2 v33 = 1#1), ∀ (k0_h13 : k0_cond13 v38 v66 v76 v86 v96 v106 v116 v126 v136 v146 v156 v166 = 1#1), ∀ a x, ((![v27, v242] : Fin 2 → IVec S16 32) a x).toNat < S8x304.size a := fun i v23 v24 v25 v26 v27 v28 v33 v38 v66 v76 v86 v96 v106 v116 v126 v136 v146 v156 v166 v242 k0_hw15 k0_h1 k0_h2 k0_h13 => k0_hw15.2.2.2.2.1 k0_h1 k0_h2 k0_h13
theorem k0_idx79_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v242 : IVec S16 32) (k0_hw15 : k0_chk15 i v23 v24 v25 v26 v27 v28 v33 v38 v66 v76 v86 v96 v106 v116 v126 v136 v146 v156 v166 v242), ∀ (k0_h1 : k0_cond1 i = 1#1), ∀ (k0_h2 : k0_cond2 v33 = 1#1), ∀ (k0_h13 : k0_cond13 v38 v66 v76 v86 v96 v106 v116 v126 v136 v146 v156 v166 = 1#1), ∀ a x, ((![v28, v242] : Fin 2 → IVec S16 32) a x).toNat < S8x304.size a := fun i v23 v24 v25 v26 v27 v28 v33 v38 v66 v76 v86 v96 v106 v116 v126 v136 v146 v156 v166 v242 k0_hw15 k0_h1 k0_h2 k0_h13 => k0_hw15.2.2.2.2.2 k0_h1 k0_h2 k0_h13
def k0_cond14 (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) : BitVec 1 :=
  let c300_i32_60 : BitVec 32 := 300#32
  let v67 : BitVec 1 := Scalar.cmpi .slt v38 c300_i32_60
  let v68 : BitVec 1 := Scalar.andi v66 v67
  let c1_i32_62 : BitVec 32 := 1#32
  let v71 : BitVec 32 := Scalar.addi v38 c1_i32_62
  let v72 : BitVec 32 := Scalar.select v68 v71 v38
  let c300_i32_65 : BitVec 32 := 300#32
  let v77 : BitVec 1 := Scalar.cmpi .slt v72 c300_i32_65
  let v78 : BitVec 1 := Scalar.andi v76 v77
  let c1_i32_67 : BitVec 32 := 1#32
  let v81 : BitVec 32 := Scalar.addi v72 c1_i32_67
  let v82 : BitVec 32 := Scalar.select v78 v81 v72
  let c300_i32_70 : BitVec 32 := 300#32
  let v87 : BitVec 1 := Scalar.cmpi .slt v82 c300_i32_70
  let v88 : BitVec 1 := Scalar.andi v86 v87
  let c1_i32_72 : BitVec 32 := 1#32
  let v91 : BitVec 32 := Scalar.addi v82 c1_i32_72
  let v92 : BitVec 32 := Scalar.select v88 v91 v82
  let c300_i32_75 : BitVec 32 := 300#32
  let v97 : BitVec 1 := Scalar.cmpi .slt v92 c300_i32_75
  let v98 : BitVec 1 := Scalar.andi v96 v97
  let c1_i32_77 : BitVec 32 := 1#32
  let v101 : BitVec 32 := Scalar.addi v92 c1_i32_77
  let v102 : BitVec 32 := Scalar.select v98 v101 v92
  let c300_i32_80 : BitVec 32 := 300#32
  let v107 : BitVec 1 := Scalar.cmpi .slt v102 c300_i32_80
  let v108 : BitVec 1 := Scalar.andi v106 v107
  let c1_i32_82 : BitVec 32 := 1#32
  let v111 : BitVec 32 := Scalar.addi v102 c1_i32_82
  let v112 : BitVec 32 := Scalar.select v108 v111 v102
  let c300_i32_85 : BitVec 32 := 300#32
  let v117 : BitVec 1 := Scalar.cmpi .slt v112 c300_i32_85
  let v118 : BitVec 1 := Scalar.andi v116 v117
  let c1_i32_87 : BitVec 32 := 1#32
  let v121 : BitVec 32 := Scalar.addi v112 c1_i32_87
  let v122 : BitVec 32 := Scalar.select v118 v121 v112
  let c300_i32_90 : BitVec 32 := 300#32
  let v127 : BitVec 1 := Scalar.cmpi .slt v122 c300_i32_90
  let v128 : BitVec 1 := Scalar.andi v126 v127
  let c1_i32_92 : BitVec 32 := 1#32
  let v131 : BitVec 32 := Scalar.addi v122 c1_i32_92
  let v132 : BitVec 32 := Scalar.select v128 v131 v122
  let c300_i32_95 : BitVec 32 := 300#32
  let v137 : BitVec 1 := Scalar.cmpi .slt v132 c300_i32_95
  let v138 : BitVec 1 := Scalar.andi v136 v137
  let c1_i32_97 : BitVec 32 := 1#32
  let v141 : BitVec 32 := Scalar.addi v132 c1_i32_97
  let v142 : BitVec 32 := Scalar.select v138 v141 v132
  let c300_i32_100 : BitVec 32 := 300#32
  let v147 : BitVec 1 := Scalar.cmpi .slt v142 c300_i32_100
  let v148 : BitVec 1 := Scalar.andi v146 v147
  let c1_i32_102 : BitVec 32 := 1#32
  let v151 : BitVec 32 := Scalar.addi v142 c1_i32_102
  let v152 : BitVec 32 := Scalar.select v148 v151 v142
  let c300_i32_105 : BitVec 32 := 300#32
  let v157 : BitVec 1 := Scalar.cmpi .slt v152 c300_i32_105
  let v158 : BitVec 1 := Scalar.andi v156 v157
  let c1_i32_107 : BitVec 32 := 1#32
  let v161 : BitVec 32 := Scalar.addi v152 c1_i32_107
  let v162 : BitVec 32 := Scalar.select v158 v161 v152
  let c300_i32_110 : BitVec 32 := 300#32
  let v167 : BitVec 1 := Scalar.cmpi .slt v162 c300_i32_110
  let v168 : BitVec 1 := Scalar.andi v166 v167
  let c1_i32_112 : BitVec 32 := 1#32
  let v171 : BitVec 32 := Scalar.addi v162 c1_i32_112
  let v172 : BitVec 32 := Scalar.select v168 v171 v162
  let c300_i32_115 : BitVec 32 := 300#32
  let v177 : BitVec 1 := Scalar.cmpi .slt v172 c300_i32_115
  let v178 : BitVec 1 := Scalar.andi v176 v177
  let v179 : BitVec 32 := Scalar.extui v178
  let c0_i32_116 : BitVec 32 := 0#32
  let v180 : BitVec 1 := Scalar.cmpi .ne v179 c0_i32_116
  v180

def k0_chk16 (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v242 : IVec S16 32) : Prop :=
  (∀ (k0_h1 : k0_cond1 i = 1#1), ∀ (k0_h2 : k0_cond2 v33 = 1#1), ∀ (k0_h14 : k0_cond14 v38 v66 v76 v86 v96 v106 v116 v126 v136 v146 v156 v166 v176 = 1#1), ∀ a x, ((![v23, v242] : Fin 2 → IVec S16 32) a x).toNat < S8x304.size a) ∧
  (∀ (k0_h1 : k0_cond1 i = 1#1), ∀ (k0_h2 : k0_cond2 v33 = 1#1), ∀ (k0_h14 : k0_cond14 v38 v66 v76 v86 v96 v106 v116 v126 v136 v146 v156 v166 v176 = 1#1), ∀ a x, ((![v24, v242] : Fin 2 → IVec S16 32) a x).toNat < S8x304.size a) ∧
  (∀ (k0_h1 : k0_cond1 i = 1#1), ∀ (k0_h2 : k0_cond2 v33 = 1#1), ∀ (k0_h14 : k0_cond14 v38 v66 v76 v86 v96 v106 v116 v126 v136 v146 v156 v166 v176 = 1#1), ∀ a x, ((![v25, v242] : Fin 2 → IVec S16 32) a x).toNat < S8x304.size a) ∧
  (∀ (k0_h1 : k0_cond1 i = 1#1), ∀ (k0_h2 : k0_cond2 v33 = 1#1), ∀ (k0_h14 : k0_cond14 v38 v66 v76 v86 v96 v106 v116 v126 v136 v146 v156 v166 v176 = 1#1), ∀ a x, ((![v26, v242] : Fin 2 → IVec S16 32) a x).toNat < S8x304.size a) ∧
  (∀ (k0_h1 : k0_cond1 i = 1#1), ∀ (k0_h2 : k0_cond2 v33 = 1#1), ∀ (k0_h14 : k0_cond14 v38 v66 v76 v86 v96 v106 v116 v126 v136 v146 v156 v166 v176 = 1#1), ∀ a x, ((![v27, v242] : Fin 2 → IVec S16 32) a x).toNat < S8x304.size a) ∧
  (∀ (k0_h1 : k0_cond1 i = 1#1), ∀ (k0_h2 : k0_cond2 v33 = 1#1), ∀ (k0_h14 : k0_cond14 v38 v66 v76 v86 v96 v106 v116 v126 v136 v146 v156 v166 v176 = 1#1), ∀ a x, ((![v28, v242] : Fin 2 → IVec S16 32) a x).toNat < S8x304.size a)
theorem k0_idx80_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v242 : IVec S16 32) (k0_hw16 : k0_chk16 i v23 v24 v25 v26 v27 v28 v33 v38 v66 v76 v86 v96 v106 v116 v126 v136 v146 v156 v166 v176 v242), ∀ (k0_h1 : k0_cond1 i = 1#1), ∀ (k0_h2 : k0_cond2 v33 = 1#1), ∀ (k0_h14 : k0_cond14 v38 v66 v76 v86 v96 v106 v116 v126 v136 v146 v156 v166 v176 = 1#1), ∀ a x, ((![v23, v242] : Fin 2 → IVec S16 32) a x).toNat < S8x304.size a := fun i v23 v24 v25 v26 v27 v28 v33 v38 v66 v76 v86 v96 v106 v116 v126 v136 v146 v156 v166 v176 v242 k0_hw16 k0_h1 k0_h2 k0_h14 => k0_hw16.1 k0_h1 k0_h2 k0_h14
theorem k0_idx81_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v242 : IVec S16 32) (k0_hw16 : k0_chk16 i v23 v24 v25 v26 v27 v28 v33 v38 v66 v76 v86 v96 v106 v116 v126 v136 v146 v156 v166 v176 v242), ∀ (k0_h1 : k0_cond1 i = 1#1), ∀ (k0_h2 : k0_cond2 v33 = 1#1), ∀ (k0_h14 : k0_cond14 v38 v66 v76 v86 v96 v106 v116 v126 v136 v146 v156 v166 v176 = 1#1), ∀ a x, ((![v24, v242] : Fin 2 → IVec S16 32) a x).toNat < S8x304.size a := fun i v23 v24 v25 v26 v27 v28 v33 v38 v66 v76 v86 v96 v106 v116 v126 v136 v146 v156 v166 v176 v242 k0_hw16 k0_h1 k0_h2 k0_h14 => k0_hw16.2.1 k0_h1 k0_h2 k0_h14
theorem k0_idx82_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v242 : IVec S16 32) (k0_hw16 : k0_chk16 i v23 v24 v25 v26 v27 v28 v33 v38 v66 v76 v86 v96 v106 v116 v126 v136 v146 v156 v166 v176 v242), ∀ (k0_h1 : k0_cond1 i = 1#1), ∀ (k0_h2 : k0_cond2 v33 = 1#1), ∀ (k0_h14 : k0_cond14 v38 v66 v76 v86 v96 v106 v116 v126 v136 v146 v156 v166 v176 = 1#1), ∀ a x, ((![v25, v242] : Fin 2 → IVec S16 32) a x).toNat < S8x304.size a := fun i v23 v24 v25 v26 v27 v28 v33 v38 v66 v76 v86 v96 v106 v116 v126 v136 v146 v156 v166 v176 v242 k0_hw16 k0_h1 k0_h2 k0_h14 => k0_hw16.2.2.1 k0_h1 k0_h2 k0_h14
theorem k0_idx83_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v242 : IVec S16 32) (k0_hw16 : k0_chk16 i v23 v24 v25 v26 v27 v28 v33 v38 v66 v76 v86 v96 v106 v116 v126 v136 v146 v156 v166 v176 v242), ∀ (k0_h1 : k0_cond1 i = 1#1), ∀ (k0_h2 : k0_cond2 v33 = 1#1), ∀ (k0_h14 : k0_cond14 v38 v66 v76 v86 v96 v106 v116 v126 v136 v146 v156 v166 v176 = 1#1), ∀ a x, ((![v26, v242] : Fin 2 → IVec S16 32) a x).toNat < S8x304.size a := fun i v23 v24 v25 v26 v27 v28 v33 v38 v66 v76 v86 v96 v106 v116 v126 v136 v146 v156 v166 v176 v242 k0_hw16 k0_h1 k0_h2 k0_h14 => k0_hw16.2.2.2.1 k0_h1 k0_h2 k0_h14
theorem k0_idx84_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v242 : IVec S16 32) (k0_hw16 : k0_chk16 i v23 v24 v25 v26 v27 v28 v33 v38 v66 v76 v86 v96 v106 v116 v126 v136 v146 v156 v166 v176 v242), ∀ (k0_h1 : k0_cond1 i = 1#1), ∀ (k0_h2 : k0_cond2 v33 = 1#1), ∀ (k0_h14 : k0_cond14 v38 v66 v76 v86 v96 v106 v116 v126 v136 v146 v156 v166 v176 = 1#1), ∀ a x, ((![v27, v242] : Fin 2 → IVec S16 32) a x).toNat < S8x304.size a := fun i v23 v24 v25 v26 v27 v28 v33 v38 v66 v76 v86 v96 v106 v116 v126 v136 v146 v156 v166 v176 v242 k0_hw16 k0_h1 k0_h2 k0_h14 => k0_hw16.2.2.2.2.1 k0_h1 k0_h2 k0_h14
theorem k0_idx85_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v242 : IVec S16 32) (k0_hw16 : k0_chk16 i v23 v24 v25 v26 v27 v28 v33 v38 v66 v76 v86 v96 v106 v116 v126 v136 v146 v156 v166 v176 v242), ∀ (k0_h1 : k0_cond1 i = 1#1), ∀ (k0_h2 : k0_cond2 v33 = 1#1), ∀ (k0_h14 : k0_cond14 v38 v66 v76 v86 v96 v106 v116 v126 v136 v146 v156 v166 v176 = 1#1), ∀ a x, ((![v28, v242] : Fin 2 → IVec S16 32) a x).toNat < S8x304.size a := fun i v23 v24 v25 v26 v27 v28 v33 v38 v66 v76 v86 v96 v106 v116 v126 v136 v146 v156 v166 v176 v242 k0_hw16 k0_h1 k0_h2 k0_h14 => k0_hw16.2.2.2.2.2 k0_h1 k0_h2 k0_h14
def k0_cond15 (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v186 : BitVec 1) : BitVec 1 :=
  let c300_i32_60 : BitVec 32 := 300#32
  let v67 : BitVec 1 := Scalar.cmpi .slt v38 c300_i32_60
  let v68 : BitVec 1 := Scalar.andi v66 v67
  let c1_i32_62 : BitVec 32 := 1#32
  let v71 : BitVec 32 := Scalar.addi v38 c1_i32_62
  let v72 : BitVec 32 := Scalar.select v68 v71 v38
  let c300_i32_65 : BitVec 32 := 300#32
  let v77 : BitVec 1 := Scalar.cmpi .slt v72 c300_i32_65
  let v78 : BitVec 1 := Scalar.andi v76 v77
  let c1_i32_67 : BitVec 32 := 1#32
  let v81 : BitVec 32 := Scalar.addi v72 c1_i32_67
  let v82 : BitVec 32 := Scalar.select v78 v81 v72
  let c300_i32_70 : BitVec 32 := 300#32
  let v87 : BitVec 1 := Scalar.cmpi .slt v82 c300_i32_70
  let v88 : BitVec 1 := Scalar.andi v86 v87
  let c1_i32_72 : BitVec 32 := 1#32
  let v91 : BitVec 32 := Scalar.addi v82 c1_i32_72
  let v92 : BitVec 32 := Scalar.select v88 v91 v82
  let c300_i32_75 : BitVec 32 := 300#32
  let v97 : BitVec 1 := Scalar.cmpi .slt v92 c300_i32_75
  let v98 : BitVec 1 := Scalar.andi v96 v97
  let c1_i32_77 : BitVec 32 := 1#32
  let v101 : BitVec 32 := Scalar.addi v92 c1_i32_77
  let v102 : BitVec 32 := Scalar.select v98 v101 v92
  let c300_i32_80 : BitVec 32 := 300#32
  let v107 : BitVec 1 := Scalar.cmpi .slt v102 c300_i32_80
  let v108 : BitVec 1 := Scalar.andi v106 v107
  let c1_i32_82 : BitVec 32 := 1#32
  let v111 : BitVec 32 := Scalar.addi v102 c1_i32_82
  let v112 : BitVec 32 := Scalar.select v108 v111 v102
  let c300_i32_85 : BitVec 32 := 300#32
  let v117 : BitVec 1 := Scalar.cmpi .slt v112 c300_i32_85
  let v118 : BitVec 1 := Scalar.andi v116 v117
  let c1_i32_87 : BitVec 32 := 1#32
  let v121 : BitVec 32 := Scalar.addi v112 c1_i32_87
  let v122 : BitVec 32 := Scalar.select v118 v121 v112
  let c300_i32_90 : BitVec 32 := 300#32
  let v127 : BitVec 1 := Scalar.cmpi .slt v122 c300_i32_90
  let v128 : BitVec 1 := Scalar.andi v126 v127
  let c1_i32_92 : BitVec 32 := 1#32
  let v131 : BitVec 32 := Scalar.addi v122 c1_i32_92
  let v132 : BitVec 32 := Scalar.select v128 v131 v122
  let c300_i32_95 : BitVec 32 := 300#32
  let v137 : BitVec 1 := Scalar.cmpi .slt v132 c300_i32_95
  let v138 : BitVec 1 := Scalar.andi v136 v137
  let c1_i32_97 : BitVec 32 := 1#32
  let v141 : BitVec 32 := Scalar.addi v132 c1_i32_97
  let v142 : BitVec 32 := Scalar.select v138 v141 v132
  let c300_i32_100 : BitVec 32 := 300#32
  let v147 : BitVec 1 := Scalar.cmpi .slt v142 c300_i32_100
  let v148 : BitVec 1 := Scalar.andi v146 v147
  let c1_i32_102 : BitVec 32 := 1#32
  let v151 : BitVec 32 := Scalar.addi v142 c1_i32_102
  let v152 : BitVec 32 := Scalar.select v148 v151 v142
  let c300_i32_105 : BitVec 32 := 300#32
  let v157 : BitVec 1 := Scalar.cmpi .slt v152 c300_i32_105
  let v158 : BitVec 1 := Scalar.andi v156 v157
  let c1_i32_107 : BitVec 32 := 1#32
  let v161 : BitVec 32 := Scalar.addi v152 c1_i32_107
  let v162 : BitVec 32 := Scalar.select v158 v161 v152
  let c300_i32_110 : BitVec 32 := 300#32
  let v167 : BitVec 1 := Scalar.cmpi .slt v162 c300_i32_110
  let v168 : BitVec 1 := Scalar.andi v166 v167
  let c1_i32_112 : BitVec 32 := 1#32
  let v171 : BitVec 32 := Scalar.addi v162 c1_i32_112
  let v172 : BitVec 32 := Scalar.select v168 v171 v162
  let c300_i32_115 : BitVec 32 := 300#32
  let v177 : BitVec 1 := Scalar.cmpi .slt v172 c300_i32_115
  let v178 : BitVec 1 := Scalar.andi v176 v177
  let c1_i32_117 : BitVec 32 := 1#32
  let v181 : BitVec 32 := Scalar.addi v172 c1_i32_117
  let v182 : BitVec 32 := Scalar.select v178 v181 v172
  let c300_i32_120 : BitVec 32 := 300#32
  let v187 : BitVec 1 := Scalar.cmpi .slt v182 c300_i32_120
  let v188 : BitVec 1 := Scalar.andi v186 v187
  let v189 : BitVec 32 := Scalar.extui v188
  let c0_i32_121 : BitVec 32 := 0#32
  let v190 : BitVec 1 := Scalar.cmpi .ne v189 c0_i32_121
  v190

def k0_chk17 (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v186 : BitVec 1) (v242 : IVec S16 32) : Prop :=
  (∀ (k0_h1 : k0_cond1 i = 1#1), ∀ (k0_h2 : k0_cond2 v33 = 1#1), ∀ (k0_h15 : k0_cond15 v38 v66 v76 v86 v96 v106 v116 v126 v136 v146 v156 v166 v176 v186 = 1#1), ∀ a x, ((![v23, v242] : Fin 2 → IVec S16 32) a x).toNat < S8x304.size a) ∧
  (∀ (k0_h1 : k0_cond1 i = 1#1), ∀ (k0_h2 : k0_cond2 v33 = 1#1), ∀ (k0_h15 : k0_cond15 v38 v66 v76 v86 v96 v106 v116 v126 v136 v146 v156 v166 v176 v186 = 1#1), ∀ a x, ((![v24, v242] : Fin 2 → IVec S16 32) a x).toNat < S8x304.size a) ∧
  (∀ (k0_h1 : k0_cond1 i = 1#1), ∀ (k0_h2 : k0_cond2 v33 = 1#1), ∀ (k0_h15 : k0_cond15 v38 v66 v76 v86 v96 v106 v116 v126 v136 v146 v156 v166 v176 v186 = 1#1), ∀ a x, ((![v25, v242] : Fin 2 → IVec S16 32) a x).toNat < S8x304.size a) ∧
  (∀ (k0_h1 : k0_cond1 i = 1#1), ∀ (k0_h2 : k0_cond2 v33 = 1#1), ∀ (k0_h15 : k0_cond15 v38 v66 v76 v86 v96 v106 v116 v126 v136 v146 v156 v166 v176 v186 = 1#1), ∀ a x, ((![v26, v242] : Fin 2 → IVec S16 32) a x).toNat < S8x304.size a) ∧
  (∀ (k0_h1 : k0_cond1 i = 1#1), ∀ (k0_h2 : k0_cond2 v33 = 1#1), ∀ (k0_h15 : k0_cond15 v38 v66 v76 v86 v96 v106 v116 v126 v136 v146 v156 v166 v176 v186 = 1#1), ∀ a x, ((![v27, v242] : Fin 2 → IVec S16 32) a x).toNat < S8x304.size a) ∧
  (∀ (k0_h1 : k0_cond1 i = 1#1), ∀ (k0_h2 : k0_cond2 v33 = 1#1), ∀ (k0_h15 : k0_cond15 v38 v66 v76 v86 v96 v106 v116 v126 v136 v146 v156 v166 v176 v186 = 1#1), ∀ a x, ((![v28, v242] : Fin 2 → IVec S16 32) a x).toNat < S8x304.size a)
theorem k0_idx86_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v186 : BitVec 1) (v242 : IVec S16 32) (k0_hw17 : k0_chk17 i v23 v24 v25 v26 v27 v28 v33 v38 v66 v76 v86 v96 v106 v116 v126 v136 v146 v156 v166 v176 v186 v242), ∀ (k0_h1 : k0_cond1 i = 1#1), ∀ (k0_h2 : k0_cond2 v33 = 1#1), ∀ (k0_h15 : k0_cond15 v38 v66 v76 v86 v96 v106 v116 v126 v136 v146 v156 v166 v176 v186 = 1#1), ∀ a x, ((![v23, v242] : Fin 2 → IVec S16 32) a x).toNat < S8x304.size a := fun i v23 v24 v25 v26 v27 v28 v33 v38 v66 v76 v86 v96 v106 v116 v126 v136 v146 v156 v166 v176 v186 v242 k0_hw17 k0_h1 k0_h2 k0_h15 => k0_hw17.1 k0_h1 k0_h2 k0_h15
theorem k0_idx87_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v186 : BitVec 1) (v242 : IVec S16 32) (k0_hw17 : k0_chk17 i v23 v24 v25 v26 v27 v28 v33 v38 v66 v76 v86 v96 v106 v116 v126 v136 v146 v156 v166 v176 v186 v242), ∀ (k0_h1 : k0_cond1 i = 1#1), ∀ (k0_h2 : k0_cond2 v33 = 1#1), ∀ (k0_h15 : k0_cond15 v38 v66 v76 v86 v96 v106 v116 v126 v136 v146 v156 v166 v176 v186 = 1#1), ∀ a x, ((![v24, v242] : Fin 2 → IVec S16 32) a x).toNat < S8x304.size a := fun i v23 v24 v25 v26 v27 v28 v33 v38 v66 v76 v86 v96 v106 v116 v126 v136 v146 v156 v166 v176 v186 v242 k0_hw17 k0_h1 k0_h2 k0_h15 => k0_hw17.2.1 k0_h1 k0_h2 k0_h15
theorem k0_idx88_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v186 : BitVec 1) (v242 : IVec S16 32) (k0_hw17 : k0_chk17 i v23 v24 v25 v26 v27 v28 v33 v38 v66 v76 v86 v96 v106 v116 v126 v136 v146 v156 v166 v176 v186 v242), ∀ (k0_h1 : k0_cond1 i = 1#1), ∀ (k0_h2 : k0_cond2 v33 = 1#1), ∀ (k0_h15 : k0_cond15 v38 v66 v76 v86 v96 v106 v116 v126 v136 v146 v156 v166 v176 v186 = 1#1), ∀ a x, ((![v25, v242] : Fin 2 → IVec S16 32) a x).toNat < S8x304.size a := fun i v23 v24 v25 v26 v27 v28 v33 v38 v66 v76 v86 v96 v106 v116 v126 v136 v146 v156 v166 v176 v186 v242 k0_hw17 k0_h1 k0_h2 k0_h15 => k0_hw17.2.2.1 k0_h1 k0_h2 k0_h15
theorem k0_idx89_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v186 : BitVec 1) (v242 : IVec S16 32) (k0_hw17 : k0_chk17 i v23 v24 v25 v26 v27 v28 v33 v38 v66 v76 v86 v96 v106 v116 v126 v136 v146 v156 v166 v176 v186 v242), ∀ (k0_h1 : k0_cond1 i = 1#1), ∀ (k0_h2 : k0_cond2 v33 = 1#1), ∀ (k0_h15 : k0_cond15 v38 v66 v76 v86 v96 v106 v116 v126 v136 v146 v156 v166 v176 v186 = 1#1), ∀ a x, ((![v26, v242] : Fin 2 → IVec S16 32) a x).toNat < S8x304.size a := fun i v23 v24 v25 v26 v27 v28 v33 v38 v66 v76 v86 v96 v106 v116 v126 v136 v146 v156 v166 v176 v186 v242 k0_hw17 k0_h1 k0_h2 k0_h15 => k0_hw17.2.2.2.1 k0_h1 k0_h2 k0_h15
theorem k0_idx90_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v186 : BitVec 1) (v242 : IVec S16 32) (k0_hw17 : k0_chk17 i v23 v24 v25 v26 v27 v28 v33 v38 v66 v76 v86 v96 v106 v116 v126 v136 v146 v156 v166 v176 v186 v242), ∀ (k0_h1 : k0_cond1 i = 1#1), ∀ (k0_h2 : k0_cond2 v33 = 1#1), ∀ (k0_h15 : k0_cond15 v38 v66 v76 v86 v96 v106 v116 v126 v136 v146 v156 v166 v176 v186 = 1#1), ∀ a x, ((![v27, v242] : Fin 2 → IVec S16 32) a x).toNat < S8x304.size a := fun i v23 v24 v25 v26 v27 v28 v33 v38 v66 v76 v86 v96 v106 v116 v126 v136 v146 v156 v166 v176 v186 v242 k0_hw17 k0_h1 k0_h2 k0_h15 => k0_hw17.2.2.2.2.1 k0_h1 k0_h2 k0_h15
theorem k0_idx91_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v186 : BitVec 1) (v242 : IVec S16 32) (k0_hw17 : k0_chk17 i v23 v24 v25 v26 v27 v28 v33 v38 v66 v76 v86 v96 v106 v116 v126 v136 v146 v156 v166 v176 v186 v242), ∀ (k0_h1 : k0_cond1 i = 1#1), ∀ (k0_h2 : k0_cond2 v33 = 1#1), ∀ (k0_h15 : k0_cond15 v38 v66 v76 v86 v96 v106 v116 v126 v136 v146 v156 v166 v176 v186 = 1#1), ∀ a x, ((![v28, v242] : Fin 2 → IVec S16 32) a x).toNat < S8x304.size a := fun i v23 v24 v25 v26 v27 v28 v33 v38 v66 v76 v86 v96 v106 v116 v126 v136 v146 v156 v166 v176 v186 v242 k0_hw17 k0_h1 k0_h2 k0_h15 => k0_hw17.2.2.2.2.2 k0_h1 k0_h2 k0_h15
def k0_cond16 (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v186 : BitVec 1) (v196 : BitVec 1) : BitVec 1 :=
  let c300_i32_60 : BitVec 32 := 300#32
  let v67 : BitVec 1 := Scalar.cmpi .slt v38 c300_i32_60
  let v68 : BitVec 1 := Scalar.andi v66 v67
  let c1_i32_62 : BitVec 32 := 1#32
  let v71 : BitVec 32 := Scalar.addi v38 c1_i32_62
  let v72 : BitVec 32 := Scalar.select v68 v71 v38
  let c300_i32_65 : BitVec 32 := 300#32
  let v77 : BitVec 1 := Scalar.cmpi .slt v72 c300_i32_65
  let v78 : BitVec 1 := Scalar.andi v76 v77
  let c1_i32_67 : BitVec 32 := 1#32
  let v81 : BitVec 32 := Scalar.addi v72 c1_i32_67
  let v82 : BitVec 32 := Scalar.select v78 v81 v72
  let c300_i32_70 : BitVec 32 := 300#32
  let v87 : BitVec 1 := Scalar.cmpi .slt v82 c300_i32_70
  let v88 : BitVec 1 := Scalar.andi v86 v87
  let c1_i32_72 : BitVec 32 := 1#32
  let v91 : BitVec 32 := Scalar.addi v82 c1_i32_72
  let v92 : BitVec 32 := Scalar.select v88 v91 v82
  let c300_i32_75 : BitVec 32 := 300#32
  let v97 : BitVec 1 := Scalar.cmpi .slt v92 c300_i32_75
  let v98 : BitVec 1 := Scalar.andi v96 v97
  let c1_i32_77 : BitVec 32 := 1#32
  let v101 : BitVec 32 := Scalar.addi v92 c1_i32_77
  let v102 : BitVec 32 := Scalar.select v98 v101 v92
  let c300_i32_80 : BitVec 32 := 300#32
  let v107 : BitVec 1 := Scalar.cmpi .slt v102 c300_i32_80
  let v108 : BitVec 1 := Scalar.andi v106 v107
  let c1_i32_82 : BitVec 32 := 1#32
  let v111 : BitVec 32 := Scalar.addi v102 c1_i32_82
  let v112 : BitVec 32 := Scalar.select v108 v111 v102
  let c300_i32_85 : BitVec 32 := 300#32
  let v117 : BitVec 1 := Scalar.cmpi .slt v112 c300_i32_85
  let v118 : BitVec 1 := Scalar.andi v116 v117
  let c1_i32_87 : BitVec 32 := 1#32
  let v121 : BitVec 32 := Scalar.addi v112 c1_i32_87
  let v122 : BitVec 32 := Scalar.select v118 v121 v112
  let c300_i32_90 : BitVec 32 := 300#32
  let v127 : BitVec 1 := Scalar.cmpi .slt v122 c300_i32_90
  let v128 : BitVec 1 := Scalar.andi v126 v127
  let c1_i32_92 : BitVec 32 := 1#32
  let v131 : BitVec 32 := Scalar.addi v122 c1_i32_92
  let v132 : BitVec 32 := Scalar.select v128 v131 v122
  let c300_i32_95 : BitVec 32 := 300#32
  let v137 : BitVec 1 := Scalar.cmpi .slt v132 c300_i32_95
  let v138 : BitVec 1 := Scalar.andi v136 v137
  let c1_i32_97 : BitVec 32 := 1#32
  let v141 : BitVec 32 := Scalar.addi v132 c1_i32_97
  let v142 : BitVec 32 := Scalar.select v138 v141 v132
  let c300_i32_100 : BitVec 32 := 300#32
  let v147 : BitVec 1 := Scalar.cmpi .slt v142 c300_i32_100
  let v148 : BitVec 1 := Scalar.andi v146 v147
  let c1_i32_102 : BitVec 32 := 1#32
  let v151 : BitVec 32 := Scalar.addi v142 c1_i32_102
  let v152 : BitVec 32 := Scalar.select v148 v151 v142
  let c300_i32_105 : BitVec 32 := 300#32
  let v157 : BitVec 1 := Scalar.cmpi .slt v152 c300_i32_105
  let v158 : BitVec 1 := Scalar.andi v156 v157
  let c1_i32_107 : BitVec 32 := 1#32
  let v161 : BitVec 32 := Scalar.addi v152 c1_i32_107
  let v162 : BitVec 32 := Scalar.select v158 v161 v152
  let c300_i32_110 : BitVec 32 := 300#32
  let v167 : BitVec 1 := Scalar.cmpi .slt v162 c300_i32_110
  let v168 : BitVec 1 := Scalar.andi v166 v167
  let c1_i32_112 : BitVec 32 := 1#32
  let v171 : BitVec 32 := Scalar.addi v162 c1_i32_112
  let v172 : BitVec 32 := Scalar.select v168 v171 v162
  let c300_i32_115 : BitVec 32 := 300#32
  let v177 : BitVec 1 := Scalar.cmpi .slt v172 c300_i32_115
  let v178 : BitVec 1 := Scalar.andi v176 v177
  let c1_i32_117 : BitVec 32 := 1#32
  let v181 : BitVec 32 := Scalar.addi v172 c1_i32_117
  let v182 : BitVec 32 := Scalar.select v178 v181 v172
  let c300_i32_120 : BitVec 32 := 300#32
  let v187 : BitVec 1 := Scalar.cmpi .slt v182 c300_i32_120
  let v188 : BitVec 1 := Scalar.andi v186 v187
  let c1_i32_122 : BitVec 32 := 1#32
  let v191 : BitVec 32 := Scalar.addi v182 c1_i32_122
  let v192 : BitVec 32 := Scalar.select v188 v191 v182
  let c300_i32_125 : BitVec 32 := 300#32
  let v197 : BitVec 1 := Scalar.cmpi .slt v192 c300_i32_125
  let v198 : BitVec 1 := Scalar.andi v196 v197
  let v199 : BitVec 32 := Scalar.extui v198
  let c0_i32_126 : BitVec 32 := 0#32
  let v200 : BitVec 1 := Scalar.cmpi .ne v199 c0_i32_126
  v200

def k0_chk18 (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v186 : BitVec 1) (v196 : BitVec 1) (v242 : IVec S16 32) : Prop :=
  (∀ (k0_h1 : k0_cond1 i = 1#1), ∀ (k0_h2 : k0_cond2 v33 = 1#1), ∀ (k0_h16 : k0_cond16 v38 v66 v76 v86 v96 v106 v116 v126 v136 v146 v156 v166 v176 v186 v196 = 1#1), ∀ a x, ((![v23, v242] : Fin 2 → IVec S16 32) a x).toNat < S8x304.size a) ∧
  (∀ (k0_h1 : k0_cond1 i = 1#1), ∀ (k0_h2 : k0_cond2 v33 = 1#1), ∀ (k0_h16 : k0_cond16 v38 v66 v76 v86 v96 v106 v116 v126 v136 v146 v156 v166 v176 v186 v196 = 1#1), ∀ a x, ((![v24, v242] : Fin 2 → IVec S16 32) a x).toNat < S8x304.size a) ∧
  (∀ (k0_h1 : k0_cond1 i = 1#1), ∀ (k0_h2 : k0_cond2 v33 = 1#1), ∀ (k0_h16 : k0_cond16 v38 v66 v76 v86 v96 v106 v116 v126 v136 v146 v156 v166 v176 v186 v196 = 1#1), ∀ a x, ((![v25, v242] : Fin 2 → IVec S16 32) a x).toNat < S8x304.size a) ∧
  (∀ (k0_h1 : k0_cond1 i = 1#1), ∀ (k0_h2 : k0_cond2 v33 = 1#1), ∀ (k0_h16 : k0_cond16 v38 v66 v76 v86 v96 v106 v116 v126 v136 v146 v156 v166 v176 v186 v196 = 1#1), ∀ a x, ((![v26, v242] : Fin 2 → IVec S16 32) a x).toNat < S8x304.size a) ∧
  (∀ (k0_h1 : k0_cond1 i = 1#1), ∀ (k0_h2 : k0_cond2 v33 = 1#1), ∀ (k0_h16 : k0_cond16 v38 v66 v76 v86 v96 v106 v116 v126 v136 v146 v156 v166 v176 v186 v196 = 1#1), ∀ a x, ((![v27, v242] : Fin 2 → IVec S16 32) a x).toNat < S8x304.size a) ∧
  (∀ (k0_h1 : k0_cond1 i = 1#1), ∀ (k0_h2 : k0_cond2 v33 = 1#1), ∀ (k0_h16 : k0_cond16 v38 v66 v76 v86 v96 v106 v116 v126 v136 v146 v156 v166 v176 v186 v196 = 1#1), ∀ a x, ((![v28, v242] : Fin 2 → IVec S16 32) a x).toNat < S8x304.size a)
theorem k0_idx92_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v186 : BitVec 1) (v196 : BitVec 1) (v242 : IVec S16 32) (k0_hw18 : k0_chk18 i v23 v24 v25 v26 v27 v28 v33 v38 v66 v76 v86 v96 v106 v116 v126 v136 v146 v156 v166 v176 v186 v196 v242), ∀ (k0_h1 : k0_cond1 i = 1#1), ∀ (k0_h2 : k0_cond2 v33 = 1#1), ∀ (k0_h16 : k0_cond16 v38 v66 v76 v86 v96 v106 v116 v126 v136 v146 v156 v166 v176 v186 v196 = 1#1), ∀ a x, ((![v23, v242] : Fin 2 → IVec S16 32) a x).toNat < S8x304.size a := fun i v23 v24 v25 v26 v27 v28 v33 v38 v66 v76 v86 v96 v106 v116 v126 v136 v146 v156 v166 v176 v186 v196 v242 k0_hw18 k0_h1 k0_h2 k0_h16 => k0_hw18.1 k0_h1 k0_h2 k0_h16
theorem k0_idx93_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v186 : BitVec 1) (v196 : BitVec 1) (v242 : IVec S16 32) (k0_hw18 : k0_chk18 i v23 v24 v25 v26 v27 v28 v33 v38 v66 v76 v86 v96 v106 v116 v126 v136 v146 v156 v166 v176 v186 v196 v242), ∀ (k0_h1 : k0_cond1 i = 1#1), ∀ (k0_h2 : k0_cond2 v33 = 1#1), ∀ (k0_h16 : k0_cond16 v38 v66 v76 v86 v96 v106 v116 v126 v136 v146 v156 v166 v176 v186 v196 = 1#1), ∀ a x, ((![v24, v242] : Fin 2 → IVec S16 32) a x).toNat < S8x304.size a := fun i v23 v24 v25 v26 v27 v28 v33 v38 v66 v76 v86 v96 v106 v116 v126 v136 v146 v156 v166 v176 v186 v196 v242 k0_hw18 k0_h1 k0_h2 k0_h16 => k0_hw18.2.1 k0_h1 k0_h2 k0_h16
theorem k0_idx94_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v186 : BitVec 1) (v196 : BitVec 1) (v242 : IVec S16 32) (k0_hw18 : k0_chk18 i v23 v24 v25 v26 v27 v28 v33 v38 v66 v76 v86 v96 v106 v116 v126 v136 v146 v156 v166 v176 v186 v196 v242), ∀ (k0_h1 : k0_cond1 i = 1#1), ∀ (k0_h2 : k0_cond2 v33 = 1#1), ∀ (k0_h16 : k0_cond16 v38 v66 v76 v86 v96 v106 v116 v126 v136 v146 v156 v166 v176 v186 v196 = 1#1), ∀ a x, ((![v25, v242] : Fin 2 → IVec S16 32) a x).toNat < S8x304.size a := fun i v23 v24 v25 v26 v27 v28 v33 v38 v66 v76 v86 v96 v106 v116 v126 v136 v146 v156 v166 v176 v186 v196 v242 k0_hw18 k0_h1 k0_h2 k0_h16 => k0_hw18.2.2.1 k0_h1 k0_h2 k0_h16
theorem k0_idx95_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v186 : BitVec 1) (v196 : BitVec 1) (v242 : IVec S16 32) (k0_hw18 : k0_chk18 i v23 v24 v25 v26 v27 v28 v33 v38 v66 v76 v86 v96 v106 v116 v126 v136 v146 v156 v166 v176 v186 v196 v242), ∀ (k0_h1 : k0_cond1 i = 1#1), ∀ (k0_h2 : k0_cond2 v33 = 1#1), ∀ (k0_h16 : k0_cond16 v38 v66 v76 v86 v96 v106 v116 v126 v136 v146 v156 v166 v176 v186 v196 = 1#1), ∀ a x, ((![v26, v242] : Fin 2 → IVec S16 32) a x).toNat < S8x304.size a := fun i v23 v24 v25 v26 v27 v28 v33 v38 v66 v76 v86 v96 v106 v116 v126 v136 v146 v156 v166 v176 v186 v196 v242 k0_hw18 k0_h1 k0_h2 k0_h16 => k0_hw18.2.2.2.1 k0_h1 k0_h2 k0_h16
theorem k0_idx96_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v186 : BitVec 1) (v196 : BitVec 1) (v242 : IVec S16 32) (k0_hw18 : k0_chk18 i v23 v24 v25 v26 v27 v28 v33 v38 v66 v76 v86 v96 v106 v116 v126 v136 v146 v156 v166 v176 v186 v196 v242), ∀ (k0_h1 : k0_cond1 i = 1#1), ∀ (k0_h2 : k0_cond2 v33 = 1#1), ∀ (k0_h16 : k0_cond16 v38 v66 v76 v86 v96 v106 v116 v126 v136 v146 v156 v166 v176 v186 v196 = 1#1), ∀ a x, ((![v27, v242] : Fin 2 → IVec S16 32) a x).toNat < S8x304.size a := fun i v23 v24 v25 v26 v27 v28 v33 v38 v66 v76 v86 v96 v106 v116 v126 v136 v146 v156 v166 v176 v186 v196 v242 k0_hw18 k0_h1 k0_h2 k0_h16 => k0_hw18.2.2.2.2.1 k0_h1 k0_h2 k0_h16
theorem k0_idx97_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v186 : BitVec 1) (v196 : BitVec 1) (v242 : IVec S16 32) (k0_hw18 : k0_chk18 i v23 v24 v25 v26 v27 v28 v33 v38 v66 v76 v86 v96 v106 v116 v126 v136 v146 v156 v166 v176 v186 v196 v242), ∀ (k0_h1 : k0_cond1 i = 1#1), ∀ (k0_h2 : k0_cond2 v33 = 1#1), ∀ (k0_h16 : k0_cond16 v38 v66 v76 v86 v96 v106 v116 v126 v136 v146 v156 v166 v176 v186 v196 = 1#1), ∀ a x, ((![v28, v242] : Fin 2 → IVec S16 32) a x).toNat < S8x304.size a := fun i v23 v24 v25 v26 v27 v28 v33 v38 v66 v76 v86 v96 v106 v116 v126 v136 v146 v156 v166 v176 v186 v196 v242 k0_hw18 k0_h1 k0_h2 k0_h16 => k0_hw18.2.2.2.2.2 k0_h1 k0_h2 k0_h16
def k0_cond17 (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v186 : BitVec 1) (v196 : BitVec 1) (v206 : BitVec 1) : BitVec 1 :=
  let c300_i32_60 : BitVec 32 := 300#32
  let v67 : BitVec 1 := Scalar.cmpi .slt v38 c300_i32_60
  let v68 : BitVec 1 := Scalar.andi v66 v67
  let c1_i32_62 : BitVec 32 := 1#32
  let v71 : BitVec 32 := Scalar.addi v38 c1_i32_62
  let v72 : BitVec 32 := Scalar.select v68 v71 v38
  let c300_i32_65 : BitVec 32 := 300#32
  let v77 : BitVec 1 := Scalar.cmpi .slt v72 c300_i32_65
  let v78 : BitVec 1 := Scalar.andi v76 v77
  let c1_i32_67 : BitVec 32 := 1#32
  let v81 : BitVec 32 := Scalar.addi v72 c1_i32_67
  let v82 : BitVec 32 := Scalar.select v78 v81 v72
  let c300_i32_70 : BitVec 32 := 300#32
  let v87 : BitVec 1 := Scalar.cmpi .slt v82 c300_i32_70
  let v88 : BitVec 1 := Scalar.andi v86 v87
  let c1_i32_72 : BitVec 32 := 1#32
  let v91 : BitVec 32 := Scalar.addi v82 c1_i32_72
  let v92 : BitVec 32 := Scalar.select v88 v91 v82
  let c300_i32_75 : BitVec 32 := 300#32
  let v97 : BitVec 1 := Scalar.cmpi .slt v92 c300_i32_75
  let v98 : BitVec 1 := Scalar.andi v96 v97
  let c1_i32_77 : BitVec 32 := 1#32
  let v101 : BitVec 32 := Scalar.addi v92 c1_i32_77
  let v102 : BitVec 32 := Scalar.select v98 v101 v92
  let c300_i32_80 : BitVec 32 := 300#32
  let v107 : BitVec 1 := Scalar.cmpi .slt v102 c300_i32_80
  let v108 : BitVec 1 := Scalar.andi v106 v107
  let c1_i32_82 : BitVec 32 := 1#32
  let v111 : BitVec 32 := Scalar.addi v102 c1_i32_82
  let v112 : BitVec 32 := Scalar.select v108 v111 v102
  let c300_i32_85 : BitVec 32 := 300#32
  let v117 : BitVec 1 := Scalar.cmpi .slt v112 c300_i32_85
  let v118 : BitVec 1 := Scalar.andi v116 v117
  let c1_i32_87 : BitVec 32 := 1#32
  let v121 : BitVec 32 := Scalar.addi v112 c1_i32_87
  let v122 : BitVec 32 := Scalar.select v118 v121 v112
  let c300_i32_90 : BitVec 32 := 300#32
  let v127 : BitVec 1 := Scalar.cmpi .slt v122 c300_i32_90
  let v128 : BitVec 1 := Scalar.andi v126 v127
  let c1_i32_92 : BitVec 32 := 1#32
  let v131 : BitVec 32 := Scalar.addi v122 c1_i32_92
  let v132 : BitVec 32 := Scalar.select v128 v131 v122
  let c300_i32_95 : BitVec 32 := 300#32
  let v137 : BitVec 1 := Scalar.cmpi .slt v132 c300_i32_95
  let v138 : BitVec 1 := Scalar.andi v136 v137
  let c1_i32_97 : BitVec 32 := 1#32
  let v141 : BitVec 32 := Scalar.addi v132 c1_i32_97
  let v142 : BitVec 32 := Scalar.select v138 v141 v132
  let c300_i32_100 : BitVec 32 := 300#32
  let v147 : BitVec 1 := Scalar.cmpi .slt v142 c300_i32_100
  let v148 : BitVec 1 := Scalar.andi v146 v147
  let c1_i32_102 : BitVec 32 := 1#32
  let v151 : BitVec 32 := Scalar.addi v142 c1_i32_102
  let v152 : BitVec 32 := Scalar.select v148 v151 v142
  let c300_i32_105 : BitVec 32 := 300#32
  let v157 : BitVec 1 := Scalar.cmpi .slt v152 c300_i32_105
  let v158 : BitVec 1 := Scalar.andi v156 v157
  let c1_i32_107 : BitVec 32 := 1#32
  let v161 : BitVec 32 := Scalar.addi v152 c1_i32_107
  let v162 : BitVec 32 := Scalar.select v158 v161 v152
  let c300_i32_110 : BitVec 32 := 300#32
  let v167 : BitVec 1 := Scalar.cmpi .slt v162 c300_i32_110
  let v168 : BitVec 1 := Scalar.andi v166 v167
  let c1_i32_112 : BitVec 32 := 1#32
  let v171 : BitVec 32 := Scalar.addi v162 c1_i32_112
  let v172 : BitVec 32 := Scalar.select v168 v171 v162
  let c300_i32_115 : BitVec 32 := 300#32
  let v177 : BitVec 1 := Scalar.cmpi .slt v172 c300_i32_115
  let v178 : BitVec 1 := Scalar.andi v176 v177
  let c1_i32_117 : BitVec 32 := 1#32
  let v181 : BitVec 32 := Scalar.addi v172 c1_i32_117
  let v182 : BitVec 32 := Scalar.select v178 v181 v172
  let c300_i32_120 : BitVec 32 := 300#32
  let v187 : BitVec 1 := Scalar.cmpi .slt v182 c300_i32_120
  let v188 : BitVec 1 := Scalar.andi v186 v187
  let c1_i32_122 : BitVec 32 := 1#32
  let v191 : BitVec 32 := Scalar.addi v182 c1_i32_122
  let v192 : BitVec 32 := Scalar.select v188 v191 v182
  let c300_i32_125 : BitVec 32 := 300#32
  let v197 : BitVec 1 := Scalar.cmpi .slt v192 c300_i32_125
  let v198 : BitVec 1 := Scalar.andi v196 v197
  let c1_i32_127 : BitVec 32 := 1#32
  let v201 : BitVec 32 := Scalar.addi v192 c1_i32_127
  let v202 : BitVec 32 := Scalar.select v198 v201 v192
  let c300_i32_130 : BitVec 32 := 300#32
  let v207 : BitVec 1 := Scalar.cmpi .slt v202 c300_i32_130
  let v208 : BitVec 1 := Scalar.andi v206 v207
  let v209 : BitVec 32 := Scalar.extui v208
  let c0_i32_131 : BitVec 32 := 0#32
  let v210 : BitVec 1 := Scalar.cmpi .ne v209 c0_i32_131
  v210

def k0_chk19 (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v186 : BitVec 1) (v196 : BitVec 1) (v206 : BitVec 1) (v242 : IVec S16 32) : Prop :=
  (∀ (k0_h1 : k0_cond1 i = 1#1), ∀ (k0_h2 : k0_cond2 v33 = 1#1), ∀ (k0_h17 : k0_cond17 v38 v66 v76 v86 v96 v106 v116 v126 v136 v146 v156 v166 v176 v186 v196 v206 = 1#1), ∀ a x, ((![v23, v242] : Fin 2 → IVec S16 32) a x).toNat < S8x304.size a) ∧
  (∀ (k0_h1 : k0_cond1 i = 1#1), ∀ (k0_h2 : k0_cond2 v33 = 1#1), ∀ (k0_h17 : k0_cond17 v38 v66 v76 v86 v96 v106 v116 v126 v136 v146 v156 v166 v176 v186 v196 v206 = 1#1), ∀ a x, ((![v24, v242] : Fin 2 → IVec S16 32) a x).toNat < S8x304.size a) ∧
  (∀ (k0_h1 : k0_cond1 i = 1#1), ∀ (k0_h2 : k0_cond2 v33 = 1#1), ∀ (k0_h17 : k0_cond17 v38 v66 v76 v86 v96 v106 v116 v126 v136 v146 v156 v166 v176 v186 v196 v206 = 1#1), ∀ a x, ((![v25, v242] : Fin 2 → IVec S16 32) a x).toNat < S8x304.size a) ∧
  (∀ (k0_h1 : k0_cond1 i = 1#1), ∀ (k0_h2 : k0_cond2 v33 = 1#1), ∀ (k0_h17 : k0_cond17 v38 v66 v76 v86 v96 v106 v116 v126 v136 v146 v156 v166 v176 v186 v196 v206 = 1#1), ∀ a x, ((![v26, v242] : Fin 2 → IVec S16 32) a x).toNat < S8x304.size a) ∧
  (∀ (k0_h1 : k0_cond1 i = 1#1), ∀ (k0_h2 : k0_cond2 v33 = 1#1), ∀ (k0_h17 : k0_cond17 v38 v66 v76 v86 v96 v106 v116 v126 v136 v146 v156 v166 v176 v186 v196 v206 = 1#1), ∀ a x, ((![v27, v242] : Fin 2 → IVec S16 32) a x).toNat < S8x304.size a) ∧
  (∀ (k0_h1 : k0_cond1 i = 1#1), ∀ (k0_h2 : k0_cond2 v33 = 1#1), ∀ (k0_h17 : k0_cond17 v38 v66 v76 v86 v96 v106 v116 v126 v136 v146 v156 v166 v176 v186 v196 v206 = 1#1), ∀ a x, ((![v28, v242] : Fin 2 → IVec S16 32) a x).toNat < S8x304.size a)
theorem k0_idx98_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v186 : BitVec 1) (v196 : BitVec 1) (v206 : BitVec 1) (v242 : IVec S16 32) (k0_hw19 : k0_chk19 i v23 v24 v25 v26 v27 v28 v33 v38 v66 v76 v86 v96 v106 v116 v126 v136 v146 v156 v166 v176 v186 v196 v206 v242), ∀ (k0_h1 : k0_cond1 i = 1#1), ∀ (k0_h2 : k0_cond2 v33 = 1#1), ∀ (k0_h17 : k0_cond17 v38 v66 v76 v86 v96 v106 v116 v126 v136 v146 v156 v166 v176 v186 v196 v206 = 1#1), ∀ a x, ((![v23, v242] : Fin 2 → IVec S16 32) a x).toNat < S8x304.size a := fun i v23 v24 v25 v26 v27 v28 v33 v38 v66 v76 v86 v96 v106 v116 v126 v136 v146 v156 v166 v176 v186 v196 v206 v242 k0_hw19 k0_h1 k0_h2 k0_h17 => k0_hw19.1 k0_h1 k0_h2 k0_h17
theorem k0_idx99_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v186 : BitVec 1) (v196 : BitVec 1) (v206 : BitVec 1) (v242 : IVec S16 32) (k0_hw19 : k0_chk19 i v23 v24 v25 v26 v27 v28 v33 v38 v66 v76 v86 v96 v106 v116 v126 v136 v146 v156 v166 v176 v186 v196 v206 v242), ∀ (k0_h1 : k0_cond1 i = 1#1), ∀ (k0_h2 : k0_cond2 v33 = 1#1), ∀ (k0_h17 : k0_cond17 v38 v66 v76 v86 v96 v106 v116 v126 v136 v146 v156 v166 v176 v186 v196 v206 = 1#1), ∀ a x, ((![v24, v242] : Fin 2 → IVec S16 32) a x).toNat < S8x304.size a := fun i v23 v24 v25 v26 v27 v28 v33 v38 v66 v76 v86 v96 v106 v116 v126 v136 v146 v156 v166 v176 v186 v196 v206 v242 k0_hw19 k0_h1 k0_h2 k0_h17 => k0_hw19.2.1 k0_h1 k0_h2 k0_h17
theorem k0_idx100_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v186 : BitVec 1) (v196 : BitVec 1) (v206 : BitVec 1) (v242 : IVec S16 32) (k0_hw19 : k0_chk19 i v23 v24 v25 v26 v27 v28 v33 v38 v66 v76 v86 v96 v106 v116 v126 v136 v146 v156 v166 v176 v186 v196 v206 v242), ∀ (k0_h1 : k0_cond1 i = 1#1), ∀ (k0_h2 : k0_cond2 v33 = 1#1), ∀ (k0_h17 : k0_cond17 v38 v66 v76 v86 v96 v106 v116 v126 v136 v146 v156 v166 v176 v186 v196 v206 = 1#1), ∀ a x, ((![v25, v242] : Fin 2 → IVec S16 32) a x).toNat < S8x304.size a := fun i v23 v24 v25 v26 v27 v28 v33 v38 v66 v76 v86 v96 v106 v116 v126 v136 v146 v156 v166 v176 v186 v196 v206 v242 k0_hw19 k0_h1 k0_h2 k0_h17 => k0_hw19.2.2.1 k0_h1 k0_h2 k0_h17
theorem k0_idx101_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v186 : BitVec 1) (v196 : BitVec 1) (v206 : BitVec 1) (v242 : IVec S16 32) (k0_hw19 : k0_chk19 i v23 v24 v25 v26 v27 v28 v33 v38 v66 v76 v86 v96 v106 v116 v126 v136 v146 v156 v166 v176 v186 v196 v206 v242), ∀ (k0_h1 : k0_cond1 i = 1#1), ∀ (k0_h2 : k0_cond2 v33 = 1#1), ∀ (k0_h17 : k0_cond17 v38 v66 v76 v86 v96 v106 v116 v126 v136 v146 v156 v166 v176 v186 v196 v206 = 1#1), ∀ a x, ((![v26, v242] : Fin 2 → IVec S16 32) a x).toNat < S8x304.size a := fun i v23 v24 v25 v26 v27 v28 v33 v38 v66 v76 v86 v96 v106 v116 v126 v136 v146 v156 v166 v176 v186 v196 v206 v242 k0_hw19 k0_h1 k0_h2 k0_h17 => k0_hw19.2.2.2.1 k0_h1 k0_h2 k0_h17
theorem k0_idx102_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v186 : BitVec 1) (v196 : BitVec 1) (v206 : BitVec 1) (v242 : IVec S16 32) (k0_hw19 : k0_chk19 i v23 v24 v25 v26 v27 v28 v33 v38 v66 v76 v86 v96 v106 v116 v126 v136 v146 v156 v166 v176 v186 v196 v206 v242), ∀ (k0_h1 : k0_cond1 i = 1#1), ∀ (k0_h2 : k0_cond2 v33 = 1#1), ∀ (k0_h17 : k0_cond17 v38 v66 v76 v86 v96 v106 v116 v126 v136 v146 v156 v166 v176 v186 v196 v206 = 1#1), ∀ a x, ((![v27, v242] : Fin 2 → IVec S16 32) a x).toNat < S8x304.size a := fun i v23 v24 v25 v26 v27 v28 v33 v38 v66 v76 v86 v96 v106 v116 v126 v136 v146 v156 v166 v176 v186 v196 v206 v242 k0_hw19 k0_h1 k0_h2 k0_h17 => k0_hw19.2.2.2.2.1 k0_h1 k0_h2 k0_h17
theorem k0_idx103_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v186 : BitVec 1) (v196 : BitVec 1) (v206 : BitVec 1) (v242 : IVec S16 32) (k0_hw19 : k0_chk19 i v23 v24 v25 v26 v27 v28 v33 v38 v66 v76 v86 v96 v106 v116 v126 v136 v146 v156 v166 v176 v186 v196 v206 v242), ∀ (k0_h1 : k0_cond1 i = 1#1), ∀ (k0_h2 : k0_cond2 v33 = 1#1), ∀ (k0_h17 : k0_cond17 v38 v66 v76 v86 v96 v106 v116 v126 v136 v146 v156 v166 v176 v186 v196 v206 = 1#1), ∀ a x, ((![v28, v242] : Fin 2 → IVec S16 32) a x).toNat < S8x304.size a := fun i v23 v24 v25 v26 v27 v28 v33 v38 v66 v76 v86 v96 v106 v116 v126 v136 v146 v156 v166 v176 v186 v196 v206 v242 k0_hw19 k0_h1 k0_h2 k0_h17 => k0_hw19.2.2.2.2.2 k0_h1 k0_h2 k0_h17
def k0_cond18 (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v186 : BitVec 1) (v196 : BitVec 1) (v206 : BitVec 1) (v216 : BitVec 1) : BitVec 1 :=
  let c300_i32_60 : BitVec 32 := 300#32
  let v67 : BitVec 1 := Scalar.cmpi .slt v38 c300_i32_60
  let v68 : BitVec 1 := Scalar.andi v66 v67
  let c1_i32_62 : BitVec 32 := 1#32
  let v71 : BitVec 32 := Scalar.addi v38 c1_i32_62
  let v72 : BitVec 32 := Scalar.select v68 v71 v38
  let c300_i32_65 : BitVec 32 := 300#32
  let v77 : BitVec 1 := Scalar.cmpi .slt v72 c300_i32_65
  let v78 : BitVec 1 := Scalar.andi v76 v77
  let c1_i32_67 : BitVec 32 := 1#32
  let v81 : BitVec 32 := Scalar.addi v72 c1_i32_67
  let v82 : BitVec 32 := Scalar.select v78 v81 v72
  let c300_i32_70 : BitVec 32 := 300#32
  let v87 : BitVec 1 := Scalar.cmpi .slt v82 c300_i32_70
  let v88 : BitVec 1 := Scalar.andi v86 v87
  let c1_i32_72 : BitVec 32 := 1#32
  let v91 : BitVec 32 := Scalar.addi v82 c1_i32_72
  let v92 : BitVec 32 := Scalar.select v88 v91 v82
  let c300_i32_75 : BitVec 32 := 300#32
  let v97 : BitVec 1 := Scalar.cmpi .slt v92 c300_i32_75
  let v98 : BitVec 1 := Scalar.andi v96 v97
  let c1_i32_77 : BitVec 32 := 1#32
  let v101 : BitVec 32 := Scalar.addi v92 c1_i32_77
  let v102 : BitVec 32 := Scalar.select v98 v101 v92
  let c300_i32_80 : BitVec 32 := 300#32
  let v107 : BitVec 1 := Scalar.cmpi .slt v102 c300_i32_80
  let v108 : BitVec 1 := Scalar.andi v106 v107
  let c1_i32_82 : BitVec 32 := 1#32
  let v111 : BitVec 32 := Scalar.addi v102 c1_i32_82
  let v112 : BitVec 32 := Scalar.select v108 v111 v102
  let c300_i32_85 : BitVec 32 := 300#32
  let v117 : BitVec 1 := Scalar.cmpi .slt v112 c300_i32_85
  let v118 : BitVec 1 := Scalar.andi v116 v117
  let c1_i32_87 : BitVec 32 := 1#32
  let v121 : BitVec 32 := Scalar.addi v112 c1_i32_87
  let v122 : BitVec 32 := Scalar.select v118 v121 v112
  let c300_i32_90 : BitVec 32 := 300#32
  let v127 : BitVec 1 := Scalar.cmpi .slt v122 c300_i32_90
  let v128 : BitVec 1 := Scalar.andi v126 v127
  let c1_i32_92 : BitVec 32 := 1#32
  let v131 : BitVec 32 := Scalar.addi v122 c1_i32_92
  let v132 : BitVec 32 := Scalar.select v128 v131 v122
  let c300_i32_95 : BitVec 32 := 300#32
  let v137 : BitVec 1 := Scalar.cmpi .slt v132 c300_i32_95
  let v138 : BitVec 1 := Scalar.andi v136 v137
  let c1_i32_97 : BitVec 32 := 1#32
  let v141 : BitVec 32 := Scalar.addi v132 c1_i32_97
  let v142 : BitVec 32 := Scalar.select v138 v141 v132
  let c300_i32_100 : BitVec 32 := 300#32
  let v147 : BitVec 1 := Scalar.cmpi .slt v142 c300_i32_100
  let v148 : BitVec 1 := Scalar.andi v146 v147
  let c1_i32_102 : BitVec 32 := 1#32
  let v151 : BitVec 32 := Scalar.addi v142 c1_i32_102
  let v152 : BitVec 32 := Scalar.select v148 v151 v142
  let c300_i32_105 : BitVec 32 := 300#32
  let v157 : BitVec 1 := Scalar.cmpi .slt v152 c300_i32_105
  let v158 : BitVec 1 := Scalar.andi v156 v157
  let c1_i32_107 : BitVec 32 := 1#32
  let v161 : BitVec 32 := Scalar.addi v152 c1_i32_107
  let v162 : BitVec 32 := Scalar.select v158 v161 v152
  let c300_i32_110 : BitVec 32 := 300#32
  let v167 : BitVec 1 := Scalar.cmpi .slt v162 c300_i32_110
  let v168 : BitVec 1 := Scalar.andi v166 v167
  let c1_i32_112 : BitVec 32 := 1#32
  let v171 : BitVec 32 := Scalar.addi v162 c1_i32_112
  let v172 : BitVec 32 := Scalar.select v168 v171 v162
  let c300_i32_115 : BitVec 32 := 300#32
  let v177 : BitVec 1 := Scalar.cmpi .slt v172 c300_i32_115
  let v178 : BitVec 1 := Scalar.andi v176 v177
  let c1_i32_117 : BitVec 32 := 1#32
  let v181 : BitVec 32 := Scalar.addi v172 c1_i32_117
  let v182 : BitVec 32 := Scalar.select v178 v181 v172
  let c300_i32_120 : BitVec 32 := 300#32
  let v187 : BitVec 1 := Scalar.cmpi .slt v182 c300_i32_120
  let v188 : BitVec 1 := Scalar.andi v186 v187
  let c1_i32_122 : BitVec 32 := 1#32
  let v191 : BitVec 32 := Scalar.addi v182 c1_i32_122
  let v192 : BitVec 32 := Scalar.select v188 v191 v182
  let c300_i32_125 : BitVec 32 := 300#32
  let v197 : BitVec 1 := Scalar.cmpi .slt v192 c300_i32_125
  let v198 : BitVec 1 := Scalar.andi v196 v197
  let c1_i32_127 : BitVec 32 := 1#32
  let v201 : BitVec 32 := Scalar.addi v192 c1_i32_127
  let v202 : BitVec 32 := Scalar.select v198 v201 v192
  let c300_i32_130 : BitVec 32 := 300#32
  let v207 : BitVec 1 := Scalar.cmpi .slt v202 c300_i32_130
  let v208 : BitVec 1 := Scalar.andi v206 v207
  let c1_i32_132 : BitVec 32 := 1#32
  let v211 : BitVec 32 := Scalar.addi v202 c1_i32_132
  let v212 : BitVec 32 := Scalar.select v208 v211 v202
  let c300_i32_135 : BitVec 32 := 300#32
  let v217 : BitVec 1 := Scalar.cmpi .slt v212 c300_i32_135
  let v218 : BitVec 1 := Scalar.andi v216 v217
  let v219 : BitVec 32 := Scalar.extui v218
  let c0_i32_136 : BitVec 32 := 0#32
  let v220 : BitVec 1 := Scalar.cmpi .ne v219 c0_i32_136
  v220

def k0_chk20 (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v186 : BitVec 1) (v196 : BitVec 1) (v206 : BitVec 1) (v216 : BitVec 1) (v242 : IVec S16 32) : Prop :=
  (∀ (k0_h1 : k0_cond1 i = 1#1), ∀ (k0_h2 : k0_cond2 v33 = 1#1), ∀ (k0_h18 : k0_cond18 v38 v66 v76 v86 v96 v106 v116 v126 v136 v146 v156 v166 v176 v186 v196 v206 v216 = 1#1), ∀ a x, ((![v23, v242] : Fin 2 → IVec S16 32) a x).toNat < S8x304.size a) ∧
  (∀ (k0_h1 : k0_cond1 i = 1#1), ∀ (k0_h2 : k0_cond2 v33 = 1#1), ∀ (k0_h18 : k0_cond18 v38 v66 v76 v86 v96 v106 v116 v126 v136 v146 v156 v166 v176 v186 v196 v206 v216 = 1#1), ∀ a x, ((![v24, v242] : Fin 2 → IVec S16 32) a x).toNat < S8x304.size a) ∧
  (∀ (k0_h1 : k0_cond1 i = 1#1), ∀ (k0_h2 : k0_cond2 v33 = 1#1), ∀ (k0_h18 : k0_cond18 v38 v66 v76 v86 v96 v106 v116 v126 v136 v146 v156 v166 v176 v186 v196 v206 v216 = 1#1), ∀ a x, ((![v25, v242] : Fin 2 → IVec S16 32) a x).toNat < S8x304.size a) ∧
  (∀ (k0_h1 : k0_cond1 i = 1#1), ∀ (k0_h2 : k0_cond2 v33 = 1#1), ∀ (k0_h18 : k0_cond18 v38 v66 v76 v86 v96 v106 v116 v126 v136 v146 v156 v166 v176 v186 v196 v206 v216 = 1#1), ∀ a x, ((![v26, v242] : Fin 2 → IVec S16 32) a x).toNat < S8x304.size a) ∧
  (∀ (k0_h1 : k0_cond1 i = 1#1), ∀ (k0_h2 : k0_cond2 v33 = 1#1), ∀ (k0_h18 : k0_cond18 v38 v66 v76 v86 v96 v106 v116 v126 v136 v146 v156 v166 v176 v186 v196 v206 v216 = 1#1), ∀ a x, ((![v27, v242] : Fin 2 → IVec S16 32) a x).toNat < S8x304.size a) ∧
  (∀ (k0_h1 : k0_cond1 i = 1#1), ∀ (k0_h2 : k0_cond2 v33 = 1#1), ∀ (k0_h18 : k0_cond18 v38 v66 v76 v86 v96 v106 v116 v126 v136 v146 v156 v166 v176 v186 v196 v206 v216 = 1#1), ∀ a x, ((![v28, v242] : Fin 2 → IVec S16 32) a x).toNat < S8x304.size a)
theorem k0_idx104_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v186 : BitVec 1) (v196 : BitVec 1) (v206 : BitVec 1) (v216 : BitVec 1) (v242 : IVec S16 32) (k0_hw20 : k0_chk20 i v23 v24 v25 v26 v27 v28 v33 v38 v66 v76 v86 v96 v106 v116 v126 v136 v146 v156 v166 v176 v186 v196 v206 v216 v242), ∀ (k0_h1 : k0_cond1 i = 1#1), ∀ (k0_h2 : k0_cond2 v33 = 1#1), ∀ (k0_h18 : k0_cond18 v38 v66 v76 v86 v96 v106 v116 v126 v136 v146 v156 v166 v176 v186 v196 v206 v216 = 1#1), ∀ a x, ((![v23, v242] : Fin 2 → IVec S16 32) a x).toNat < S8x304.size a := fun i v23 v24 v25 v26 v27 v28 v33 v38 v66 v76 v86 v96 v106 v116 v126 v136 v146 v156 v166 v176 v186 v196 v206 v216 v242 k0_hw20 k0_h1 k0_h2 k0_h18 => k0_hw20.1 k0_h1 k0_h2 k0_h18
theorem k0_idx105_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v186 : BitVec 1) (v196 : BitVec 1) (v206 : BitVec 1) (v216 : BitVec 1) (v242 : IVec S16 32) (k0_hw20 : k0_chk20 i v23 v24 v25 v26 v27 v28 v33 v38 v66 v76 v86 v96 v106 v116 v126 v136 v146 v156 v166 v176 v186 v196 v206 v216 v242), ∀ (k0_h1 : k0_cond1 i = 1#1), ∀ (k0_h2 : k0_cond2 v33 = 1#1), ∀ (k0_h18 : k0_cond18 v38 v66 v76 v86 v96 v106 v116 v126 v136 v146 v156 v166 v176 v186 v196 v206 v216 = 1#1), ∀ a x, ((![v24, v242] : Fin 2 → IVec S16 32) a x).toNat < S8x304.size a := fun i v23 v24 v25 v26 v27 v28 v33 v38 v66 v76 v86 v96 v106 v116 v126 v136 v146 v156 v166 v176 v186 v196 v206 v216 v242 k0_hw20 k0_h1 k0_h2 k0_h18 => k0_hw20.2.1 k0_h1 k0_h2 k0_h18
theorem k0_idx106_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v186 : BitVec 1) (v196 : BitVec 1) (v206 : BitVec 1) (v216 : BitVec 1) (v242 : IVec S16 32) (k0_hw20 : k0_chk20 i v23 v24 v25 v26 v27 v28 v33 v38 v66 v76 v86 v96 v106 v116 v126 v136 v146 v156 v166 v176 v186 v196 v206 v216 v242), ∀ (k0_h1 : k0_cond1 i = 1#1), ∀ (k0_h2 : k0_cond2 v33 = 1#1), ∀ (k0_h18 : k0_cond18 v38 v66 v76 v86 v96 v106 v116 v126 v136 v146 v156 v166 v176 v186 v196 v206 v216 = 1#1), ∀ a x, ((![v25, v242] : Fin 2 → IVec S16 32) a x).toNat < S8x304.size a := fun i v23 v24 v25 v26 v27 v28 v33 v38 v66 v76 v86 v96 v106 v116 v126 v136 v146 v156 v166 v176 v186 v196 v206 v216 v242 k0_hw20 k0_h1 k0_h2 k0_h18 => k0_hw20.2.2.1 k0_h1 k0_h2 k0_h18
theorem k0_idx107_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v186 : BitVec 1) (v196 : BitVec 1) (v206 : BitVec 1) (v216 : BitVec 1) (v242 : IVec S16 32) (k0_hw20 : k0_chk20 i v23 v24 v25 v26 v27 v28 v33 v38 v66 v76 v86 v96 v106 v116 v126 v136 v146 v156 v166 v176 v186 v196 v206 v216 v242), ∀ (k0_h1 : k0_cond1 i = 1#1), ∀ (k0_h2 : k0_cond2 v33 = 1#1), ∀ (k0_h18 : k0_cond18 v38 v66 v76 v86 v96 v106 v116 v126 v136 v146 v156 v166 v176 v186 v196 v206 v216 = 1#1), ∀ a x, ((![v26, v242] : Fin 2 → IVec S16 32) a x).toNat < S8x304.size a := fun i v23 v24 v25 v26 v27 v28 v33 v38 v66 v76 v86 v96 v106 v116 v126 v136 v146 v156 v166 v176 v186 v196 v206 v216 v242 k0_hw20 k0_h1 k0_h2 k0_h18 => k0_hw20.2.2.2.1 k0_h1 k0_h2 k0_h18
theorem k0_idx108_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v186 : BitVec 1) (v196 : BitVec 1) (v206 : BitVec 1) (v216 : BitVec 1) (v242 : IVec S16 32) (k0_hw20 : k0_chk20 i v23 v24 v25 v26 v27 v28 v33 v38 v66 v76 v86 v96 v106 v116 v126 v136 v146 v156 v166 v176 v186 v196 v206 v216 v242), ∀ (k0_h1 : k0_cond1 i = 1#1), ∀ (k0_h2 : k0_cond2 v33 = 1#1), ∀ (k0_h18 : k0_cond18 v38 v66 v76 v86 v96 v106 v116 v126 v136 v146 v156 v166 v176 v186 v196 v206 v216 = 1#1), ∀ a x, ((![v27, v242] : Fin 2 → IVec S16 32) a x).toNat < S8x304.size a := fun i v23 v24 v25 v26 v27 v28 v33 v38 v66 v76 v86 v96 v106 v116 v126 v136 v146 v156 v166 v176 v186 v196 v206 v216 v242 k0_hw20 k0_h1 k0_h2 k0_h18 => k0_hw20.2.2.2.2.1 k0_h1 k0_h2 k0_h18
theorem k0_idx109_inb : ∀ (i : grid0.Coords) (v23 : IVec S16 32) (v24 : IVec S16 32) (v25 : IVec S16 32) (v26 : IVec S16 32) (v27 : IVec S16 32) (v28 : IVec S16 32) (v33 : BitVec 32) (v38 : BitVec 32) (v66 : BitVec 1) (v76 : BitVec 1) (v86 : BitVec 1) (v96 : BitVec 1) (v106 : BitVec 1) (v116 : BitVec 1) (v126 : BitVec 1) (v136 : BitVec 1) (v146 : BitVec 1) (v156 : BitVec 1) (v166 : BitVec 1) (v176 : BitVec 1) (v186 : BitVec 1) (v196 : BitVec 1) (v206 : BitVec 1) (v216 : BitVec 1) (v242 : IVec S16 32) (k0_hw20 : k0_chk20 i v23 v24 v25 v26 v27 v28 v33 v38 v66 v76 v86 v96 v106 v116 v126 v136 v146 v156 v166 v176 v186 v196 v206 v216 v242), ∀ (k0_h1 : k0_cond1 i = 1#1), ∀ (k0_h2 : k0_cond2 v33 = 1#1), ∀ (k0_h18 : k0_cond18 v38 v66 v76 v86 v96 v106 v116 v126 v136 v146 v156 v166 v176 v186 v196 v206 v216 = 1#1), ∀ a x, ((![v28, v242] : Fin 2 → IVec S16 32) a x).toNat < S8x304.size a := fun i v23 v24 v25 v26 v27 v28 v33 v38 v66 v76 v86 v96 v106 v116 v126 v136 v146 v156 v166 v176 v186 v196 v206 v216 v242 k0_hw20 k0_h1 k0_h2 k0_h18 => k0_hw20.2.2.2.2.2 k0_h1 k0_h2 k0_h18
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S5000x4 : Shape := ⟨2, ![5000, 4]⟩
abbrev S5000 : Shape := ⟨1, ![5000]⟩
abbrev S_ : Shape := ⟨0, ![]⟩
abbrev S5000x1 : Shape := ⟨2, ![5000, 1]⟩
abbrev S1 : Shape := ⟨1, ![1]⟩
abbrev S1x1 : Shape := ⟨2, ![1, 1]⟩
abbrev S300 : Shape := ⟨1, ![300]⟩
abbrev S1x4 : Shape := ⟨2, ![1, 4]⟩
abbrev S4 : Shape := ⟨1, ![4]⟩
abbrev S2 : Shape := ⟨1, ![2]⟩
abbrev S5000x2 : Shape := ⟨2, ![5000, 2]⟩
abbrev S1x2 : Shape := ⟨2, ![1, 2]⟩
abbrev S300x1 : Shape := ⟨2, ![300, 1]⟩
abbrev S300x4 : Shape := ⟨2, ![300, 4]⟩
abbrev S300x5 : Shape := ⟨2, ![300, 5]⟩

abbrev nBuf : Space → Nat
  | .hbm => 218
  | .vmem => 0
  | .smem => 0
  | _ => 0

abbrev hbmTy0_0 (i : Nat) : BufTy := match i % 128 with
  | 0 => ⟨S5000x4, .f32⟩
  | 1 => ⟨S5000, .f32⟩
  | 2 => ⟨S5000, .f32⟩
  | 3 => ⟨S5000, .i32⟩
  | 4 => ⟨S5000, .f32⟩
  | 5 => ⟨S5000, .i32⟩
  | 6 => ⟨S_, .i32⟩
  | 7 => ⟨S5000, .i32⟩
  | 8 => ⟨S5000, .i1⟩
  | 9 => ⟨S_, .i32⟩
  | 10 => ⟨S5000, .i32⟩
  | 11 => ⟨S5000, .i32⟩
  | 12 => ⟨S5000, .i32⟩
  | 13 => ⟨S5000x1, .i32⟩
  | 14 => ⟨S1, .i32⟩
  | 15 => ⟨S_, .i32⟩
  | 16 => ⟨S5000x1, .i32⟩
  | 17 => ⟨S5000x1, .i1⟩
  | 18 => ⟨S1x1, .i32⟩
  | 19 => ⟨S5000x1, .i32⟩
  | 20 => ⟨S5000x1, .i1⟩
  | 21 => ⟨S5000x1, .i1⟩
  | 22 => ⟨S_, .i1⟩
  | 23 => ⟨S5000, .i1⟩
  | 24 => ⟨S5000x4, .f32⟩
  | 25 => ⟨S5000x4, .i1⟩
  | 26 => ⟨S_, .f32⟩
  | 27 => ⟨S5000x4, .f32⟩
  | 28 => ⟨S5000x4, .f32⟩
  | 29 => ⟨S_, .i32⟩
  | 30 => ⟨S5000, .i32⟩
  | 31 => ⟨S5000, .i1⟩
  | 32 => ⟨S_, .i32⟩
  | 33 => ⟨S5000, .i32⟩
  | 34 => ⟨S5000, .i32⟩
  | 35 => ⟨S5000, .i32⟩
  | 36 => ⟨S5000x1, .i32⟩
  | 37 => ⟨S1, .i32⟩
  | 38 => ⟨S_, .i32⟩
  | 39 => ⟨S5000x1, .i32⟩
  | 40 => ⟨S5000x1, .i1⟩
  | 41 => ⟨S1x1, .i32⟩
  | 42 => ⟨S5000x1, .i32⟩
  | 43 => ⟨S5000x1, .i1⟩
  | 44 => ⟨S5000x1, .i1⟩
  | 45 => ⟨S_, .i1⟩
  | 46 => ⟨S5000, .i1⟩
  | 47 => ⟨S5000, .f32⟩
  | 48 => ⟨S_, .f32⟩
  | 49 => ⟨S5000, .f32⟩
  | 50 => ⟨S5000, .f32⟩
  | 51 => ⟨S_, .f32⟩
  | 52 => ⟨S5000, .f32⟩
  | 53 => ⟨S5000, .i1⟩
  | 54 => ⟨S5000, .f32⟩
  | 55 => ⟨S_, .i32⟩
  | 56 => ⟨S300, .i32⟩
  | 57 => ⟨S_, .i1⟩
  | 58 => ⟨S300, .i1⟩
  | 59 => ⟨S_, .i32⟩
  | 60 => ⟨S5000, .f32⟩
  | 61 => ⟨S5000x4, .f32⟩
  | 62 => ⟨S_, .i32⟩
  | 63 => ⟨S5000, .i1⟩
  | 64 => ⟨S300, .i32⟩
  | 65 => ⟨S300, .i1⟩
  | 66 => ⟨S_, .i32⟩
  | 67 => ⟨S_, .i1⟩
  | 68 => ⟨S_, .f32⟩
  | 69 => ⟨S5000, .f32⟩
  | 70 => ⟨S5000, .f32⟩
  | 71 => ⟨S5000, .i32⟩
  | 72 => ⟨S_, .f32⟩
  | 73 => ⟨S_, .i32⟩
  | 74 => ⟨S_, .f32⟩
  | 75 => ⟨S_, .i32⟩
  | 76 => ⟨S_, .i32⟩
  | 77 => ⟨S_, .i1⟩
  | 78 => ⟨S_, .i32⟩
  | 79 => ⟨S_, .i32⟩
  | 80 => ⟨S_, .i32⟩
  | 81 => ⟨S1, .i1⟩
  | 82 => ⟨S_, .i1⟩
  | 83 => ⟨S_, .i1⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S_, .i32⟩
  | 97 => ⟨S1x4, .f32⟩
  | 98 => ⟨S4, .f32⟩
  | 99 => ⟨S2, .f32⟩
  | 100 => ⟨S5000x2, .f32⟩
  | 101 => ⟨S1x2, .f32⟩
  | 102 => ⟨S5000x2, .f32⟩
  | 103 => ⟨S5000x2, .f32⟩
  | 104 => ⟨S2, .f32⟩
  | 105 => ⟨S5000x2, .f32⟩
  | 106 => ⟨S1x2, .f32⟩
  | 107 => ⟨S5000x2, .f32⟩
  | 108 => ⟨S5000x2, .f32⟩
  | 109 => ⟨S5000x2, .f32⟩
  | 110 => ⟨S_, .f32⟩
  | 111 => ⟨S_, .f32⟩
  | 112 => ⟨S5000x2, .f32⟩
  | 113 => ⟨S5000x2, .f32⟩
  | 114 => ⟨S5000x1, .f32⟩
  | 115 => ⟨S5000, .f32⟩
  | 116 => ⟨S5000x1, .f32⟩
  | 117 => ⟨S5000, .f32⟩
  | 118 => ⟨S5000, .f32⟩
  | 119 => ⟨S1, .f32⟩
  | 120 => ⟨S_, .f32⟩
  | 121 => ⟨S1, .f32⟩
  | 122 => ⟨S_, .f32⟩
  | 123 => ⟨S_, .f32⟩
  | 124 => ⟨S1, .f32⟩
  | 125 => ⟨S_, .f32⟩
  | 126 => ⟨S1, .f32⟩
  | 127 => ⟨S_, .f32⟩
  | _ => ⟨S5000x4, .f32⟩

abbrev hbmTy0_1 (i : Nat) : BufTy := match i % 128 with
  | 0 => ⟨S_, .f32⟩
  | 1 => ⟨S_, .f32⟩
  | 2 => ⟨S5000x1, .f32⟩
  | 3 => ⟨S5000, .f32⟩
  | 4 => ⟨S5000x1, .f32⟩
  | 5 => ⟨S5000, .f32⟩
  | 6 => ⟨S5000, .f32⟩
  | 7 => ⟨S5000x1, .f32⟩
  | 8 => ⟨S5000, .f32⟩
  | 9 => ⟨S5000x1, .f32⟩
  | 10 => ⟨S5000, .f32⟩
  | 11 => ⟨S5000, .f32⟩
  | 12 => ⟨S5000, .f32⟩
  | 13 => ⟨S5000, .f32⟩
  | 14 => ⟨S5000, .f32⟩
  | 15 => ⟨S5000, .f32⟩
  | 16 => ⟨S_, .f32⟩
  | 17 => ⟨S5000, .f32⟩
  | 18 => ⟨S5000, .f32⟩
  | 19 => ⟨S5000, .f32⟩
  | 20 => ⟨S_, .f32⟩
  | 21 => ⟨S5000, .f32⟩
  | 22 => ⟨S5000, .i1⟩
  | 23 => ⟨S5000, .i1⟩
  | 24 => ⟨S_, .i32⟩
  | 25 => ⟨S_, .i1⟩
  | 26 => ⟨S_, .i32⟩
  | 27 => ⟨S_, .i32⟩
  | 28 => ⟨S_, .i32⟩
  | 29 => ⟨S1, .i32⟩
  | 30 => ⟨S_, .i1⟩
  | 31 => ⟨S5000, .i1⟩
  | 32 => ⟨S1, .i32⟩
  | 33 => ⟨S300, .i32⟩
  | 34 => ⟨S1, .i1⟩
  | 35 => ⟨S300, .i1⟩
  | 36 => ⟨S_, .i32⟩
  | 37 => ⟨S_, .i32⟩
  | 38 => ⟨S300, .f32⟩
  | 39 => ⟨S_, .i32⟩
  | 40 => ⟨S300, .i32⟩
  | 41 => ⟨S300, .i1⟩
  | 42 => ⟨S_, .i32⟩
  | 43 => ⟨S300, .i32⟩
  | 44 => ⟨S300, .i32⟩
  | 45 => ⟨S300, .i32⟩
  | 46 => ⟨S300x1, .i32⟩
  | 47 => ⟨S1, .i32⟩
  | 48 => ⟨S_, .i32⟩
  | 49 => ⟨S300x1, .i32⟩
  | 50 => ⟨S300x1, .i1⟩
  | 51 => ⟨S1x1, .i32⟩
  | 52 => ⟨S300x1, .i32⟩
  | 53 => ⟨S300x1, .i1⟩
  | 54 => ⟨S300x1, .i1⟩
  | 55 => ⟨S_, .i1⟩
  | 56 => ⟨S300, .i1⟩
  | 57 => ⟨S300x4, .f32⟩
  | 58 => ⟨S300x4, .i1⟩
  | 59 => ⟨S_, .f32⟩
  | 60 => ⟨S300x4, .f32⟩
  | 61 => ⟨S300x4, .f32⟩
  | 62 => ⟨S300x1, .f32⟩
  | 63 => ⟨S300x4, .f32⟩
  | 64 => ⟨S300x4, .f32⟩
  | 65 => ⟨S_, .i32⟩
  | 66 => ⟨S300, .i32⟩
  | 67 => ⟨S300, .i1⟩
  | 68 => ⟨S_, .i32⟩
  | 69 => ⟨S300, .i32⟩
  | 70 => ⟨S300, .i32⟩
  | 71 => ⟨S300, .i32⟩
  | 72 => ⟨S300x1, .i32⟩
  | 73 => ⟨S1, .i32⟩
  | 74 => ⟨S_, .i32⟩
  | 75 => ⟨S300x1, .i32⟩
  | 76 => ⟨S300x1, .i1⟩
  | 77 => ⟨S1x1, .i32⟩
  | 78 => ⟨S300x1, .i32⟩
  | 79 => ⟨S300x1, .i1⟩
  | 80 => ⟨S300x1, .i1⟩
  | 81 => ⟨S_, .i1⟩
  | 82 => ⟨S300, .i1⟩
  | 83 => ⟨S300, .f32⟩
  | 84 => ⟨S_, .f32⟩
  | 85 => ⟨S300, .f32⟩
  | 86 => ⟨S300, .f32⟩
  | 87 => ⟨S300, .f32⟩
  | 88 => ⟨S300x1, .f32⟩
  | 89 => ⟨S300x5, .f32⟩
  | _ => ⟨S5000x4, .f32⟩

abbrev hbmTy (i : Nat) : BufTy := match i / 128 with
  | 0 => hbmTy0_0 i
  | 1 => hbmTy0_1 i
  | _ => ⟨S5000x4, .f32⟩

abbrev bufTy : (tb : Table) → Fin (tcTables nBuf tb) → BufTy
  | .hbm, ⟨i, _⟩ => hbmTy i
  | _, _ => ⟨S5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_v14 : Ref sig .tc := ⟨.hbm, 25, rfl⟩
abbrev main_call1_cst : Ref sig .tc := ⟨.hbm, 26, rfl⟩
abbrev main_call1_v15 : Ref sig .tc := ⟨.hbm, 27, rfl⟩
abbrev main_v2 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c_1 : Ref sig .tc := ⟨.hbm, 37, rfl⟩
abbrev main_call2_c_2 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_3 : Ref sig .tc := ⟨.hbm, 45, rfl⟩
abbrev main_call2_v12 : Ref sig .tc := ⟨.hbm, 46, rfl⟩
abbrev main_call2_v13 : Ref sig .tc := ⟨.hbm, 47, rfl⟩
abbrev main_call2_cst : Ref sig .tc := ⟨.hbm, 48, rfl⟩
abbrev main_call2_v14 : Ref sig .tc := ⟨.hbm, 49, rfl⟩
abbrev main_v3 : Ref sig .tc := ⟨.hbm, 50, rfl⟩
abbrev main_cst : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_c : Ref sig .tc := ⟨.hbm, 55, rfl⟩
abbrev main_v7 : Ref sig .tc := ⟨.hbm, 56, rfl⟩
abbrev main_c_0 : Ref sig .tc := ⟨.hbm, 57, rfl⟩
abbrev main_v8 : Ref sig .tc := ⟨.hbm, 58, rfl⟩
abbrev main_c_1 : Ref sig .tc := ⟨.hbm, 59, rfl⟩
abbrev main_v9_0 : Ref sig .tc := ⟨.hbm, 60, rfl⟩
abbrev main_v9_1 : Ref sig .tc := ⟨.hbm, 61, rfl⟩
abbrev main_v9_2 : Ref sig .tc := ⟨.hbm, 62, rfl⟩
abbrev main_v9_3 : Ref sig .tc := ⟨.hbm, 63, rfl⟩
abbrev main_v9_4 : Ref sig .tc := ⟨.hbm, 64, rfl⟩
abbrev main_v9_5 : Ref sig .tc := ⟨.hbm, 65, rfl⟩
abbrev main_while0c_c_7 : Ref sig .tc := ⟨.hbm, 66, rfl⟩
abbrev main_while0c_v19 : Ref sig .tc := ⟨.hbm, 67, rfl⟩
abbrev main_while0b_cst_7 : Ref sig .tc := ⟨.hbm, 68, rfl⟩
abbrev main_while0b_call3_v0 : Ref sig .tc := ⟨.hbm, 69, rfl⟩
abbrev main_while0b_v19 : Ref sig .tc := ⟨.hbm, 70, rfl⟩
abbrev main_while0b_call4_v0 : Ref sig .tc := ⟨.hbm, 71, rfl⟩
abbrev main_while0b_call4_cst : Ref sig .tc := ⟨.hbm, 72, rfl⟩
abbrev main_while0b_call4_c : Ref sig .tc := ⟨.hbm, 73, rfl⟩
abbrev main_while0b_call4_v1_0 : Ref sig .tc := ⟨.hbm, 74, rfl⟩
abbrev main_while0b_v20 : Ref sig .tc := ⟨.hbm, 75, rfl⟩
abbrev main_while0b_c_8 : Ref sig .tc := ⟨.hbm, 76, rfl⟩
abbrev main_while0b_v21 : Ref sig .tc := ⟨.hbm, 77, rfl⟩
abbrev main_while0b_c_9 : Ref sig .tc := ⟨.hbm, 78, rfl⟩
abbrev main_while0b_v22 : Ref sig .tc := ⟨.hbm, 79, rfl⟩
abbrev main_while0b_v23 : Ref sig .tc := ⟨.hbm, 80, rfl⟩
abbrev main_while0b_v24 : Ref sig .tc := ⟨.hbm, 81, rfl⟩
abbrev main_while0b_v25 : Ref sig .tc := ⟨.hbm, 82, rfl⟩
abbrev main_while0b_v26 : Ref sig .tc := ⟨.hbm, 83, rfl⟩
abbrev main_while0b_c_10 : Ref sig .tc := ⟨.hbm, 84, rfl⟩
abbrev main_while0b_v27 : Ref sig .tc := ⟨.hbm, 85, rfl⟩
abbrev main_while0b_c_11 : Ref sig .tc := ⟨.hbm, 86, rfl⟩
abbrev main_while0b_v28 : Ref sig .tc := ⟨.hbm, 87, rfl⟩
abbrev main_while0b_v29 : Ref sig .tc := ⟨.hbm, 88, rfl⟩
abbrev main_while0b_c_12 : Ref sig .tc := ⟨.hbm, 89, rfl⟩
abbrev main_while0b_c_13 : Ref sig .tc := ⟨.hbm, 90, rfl⟩
abbrev main_while0b_v30 : Ref sig .tc := ⟨.hbm, 91, rfl⟩
abbrev main_while0b_c_14 : Ref sig .tc := ⟨.hbm, 92, rfl⟩
abbrev main_while0b_c_15 : Ref sig .tc := ⟨.hbm, 93, rfl⟩
abbrev main_while0b_v31 : Ref sig .tc := ⟨.hbm, 94, rfl⟩
abbrev main_while0b_c_16 : Ref sig .tc := ⟨.hbm, 95, rfl⟩
abbrev main_while0b_v32 : Ref sig .tc := ⟨.hbm, 96, rfl⟩
abbrev main_while0b_v33 : Ref sig .tc := ⟨.hbm, 97, rfl⟩
abbrev main_while0b_v34 : Ref sig .tc := ⟨.hbm, 98, rfl⟩
abbrev main_while0b_v35 : Ref sig .tc := ⟨.hbm, 99, rfl⟩
abbrev main_while0b_v36 : Ref sig .tc := ⟨.hbm, 100, rfl⟩
abbrev main_while0b_v37 : Ref sig .tc := ⟨.hbm, 101, rfl⟩
abbrev main_while0b_v38 : Ref sig .tc := ⟨.hbm, 102, rfl⟩
abbrev main_while0b_v39 : Ref sig .tc := ⟨.hbm, 103, rfl⟩
abbrev main_while0b_v40 : Ref sig .tc := ⟨.hbm, 104, rfl⟩
abbrev main_while0b_v41 : Ref sig .tc := ⟨.hbm, 105, rfl⟩
abbrev main_while0b_v42 : Ref sig .tc := ⟨.hbm, 106, rfl⟩
abbrev main_while0b_v43 : Ref sig .tc := ⟨.hbm, 107, rfl⟩
abbrev main_while0b_v44 : Ref sig .tc := ⟨.hbm, 108, rfl⟩
abbrev main_while0b_v45 : Ref sig .tc := ⟨.hbm, 109, rfl⟩
abbrev main_while0b_cst_17 : Ref sig .tc := ⟨.hbm, 110, rfl⟩
abbrev main_while0b_call5_v0 : Ref sig .tc := ⟨.hbm, 111, rfl⟩
abbrev main_while0b_call5_v1 : Ref sig .tc := ⟨.hbm, 112, rfl⟩
abbrev main_while0b_v46 : Ref sig .tc := ⟨.hbm, 113, rfl⟩
abbrev main_while0b_v47 : Ref sig .tc := ⟨.hbm, 114, rfl⟩
abbrev main_while0b_v48 : Ref sig .tc := ⟨.hbm, 115, rfl⟩
abbrev main_while0b_v49 : Ref sig .tc := ⟨.hbm, 116, rfl⟩
abbrev main_while0b_v50 : Ref sig .tc := ⟨.hbm, 117, rfl⟩
abbrev main_while0b_v51 : Ref sig .tc := ⟨.hbm, 118, rfl⟩
abbrev main_while0b_v52 : Ref sig .tc := ⟨.hbm, 119, rfl⟩
abbrev main_while0b_v53 : Ref sig .tc := ⟨.hbm, 120, rfl⟩
abbrev main_while0b_v54 : Ref sig .tc := ⟨.hbm, 121, rfl⟩
abbrev main_while0b_v55 : Ref sig .tc := ⟨.hbm, 122, rfl⟩
abbrev main_while0b_v56 : Ref sig .tc := ⟨.hbm, 123, rfl⟩
abbrev main_while0b_v57 : Ref sig .tc := ⟨.hbm, 124, rfl⟩
abbrev main_while0b_v58 : Ref sig .tc := ⟨.hbm, 125, rfl⟩
abbrev main_while0b_v59 : Ref sig .tc := ⟨.hbm, 126, rfl⟩
abbrev main_while0b_v60 : Ref sig .tc := ⟨.hbm, 127, rfl⟩
abbrev main_while0b_v61 : Ref sig .tc := ⟨.hbm, 128, rfl⟩
abbrev main_while0b_v62 : Ref sig .tc := ⟨.hbm, 129, rfl⟩
abbrev main_while0b_v63 : Ref sig .tc := ⟨.hbm, 130, rfl⟩
abbrev main_while0b_v64 : Ref sig .tc := ⟨.hbm, 131, rfl⟩
abbrev main_while0b_v65 : Ref sig .tc := ⟨.hbm, 132, rfl⟩
abbrev main_while0b_v66 : Ref sig .tc := ⟨.hbm, 133, rfl⟩
abbrev main_while0b_v67 : Ref sig .tc := ⟨.hbm, 134, rfl⟩
abbrev main_while0b_v68 : Ref sig .tc := ⟨.hbm, 135, rfl⟩
abbrev main_while0b_v69 : Ref sig .tc := ⟨.hbm, 136, rfl⟩
abbrev main_while0b_v70 : Ref sig .tc := ⟨.hbm, 137, rfl⟩
abbrev main_while0b_v71 : Ref sig .tc := ⟨.hbm, 138, rfl⟩
abbrev main_while0b_v72 : Ref sig .tc := ⟨.hbm, 139, rfl⟩
abbrev main_while0b_v73 : Ref sig .tc := ⟨.hbm, 140, rfl⟩
abbrev main_while0b_v74 : Ref sig .tc := ⟨.hbm, 141, rfl⟩
abbrev main_while0b_v75 : Ref sig .tc := ⟨.hbm, 142, rfl⟩
abbrev main_while0b_v76 : Ref sig .tc := ⟨.hbm, 143, rfl⟩
abbrev main_while0b_cst_18 : Ref sig .tc := ⟨.hbm, 144, rfl⟩
abbrev main_while0b_v77 : Ref sig .tc := ⟨.hbm, 145, rfl⟩
abbrev main_while0b_v78 : Ref sig .tc := ⟨.hbm, 146, rfl⟩
abbrev main_while0b_v79 : Ref sig .tc := ⟨.hbm, 147, rfl⟩
abbrev main_while0b_cst_19 : Ref sig .tc := ⟨.hbm, 148, rfl⟩
abbrev main_while0b_v80 : Ref sig .tc := ⟨.hbm, 149, rfl⟩
abbrev main_while0b_v81 : Ref sig .tc := ⟨.hbm, 150, rfl⟩
abbrev main_while0b_v82 : Ref sig .tc := ⟨.hbm, 151, rfl⟩
abbrev main_while0b_c_20 : Ref sig .tc := ⟨.hbm, 152, rfl⟩
abbrev main_while0b_v83 : Ref sig .tc := ⟨.hbm, 153, rfl⟩
abbrev main_while0b_c_21 : Ref sig .tc := ⟨.hbm, 154, rfl⟩
abbrev main_while0b_v84 : Ref sig .tc := ⟨.hbm, 155, rfl⟩
abbrev main_while0b_v85 : Ref sig .tc := ⟨.hbm, 156, rfl⟩
abbrev main_while0b_v86 : Ref sig .tc := ⟨.hbm, 157, rfl⟩
abbrev main_while0b_c_22 : Ref sig .tc := ⟨.hbm, 158, rfl⟩
abbrev main_while0b_v87 : Ref sig .tc := ⟨.hbm, 159, rfl⟩
abbrev main_while0b_call6_v0 : Ref sig .tc := ⟨.hbm, 160, rfl⟩
abbrev main_while0b_v88 : Ref sig .tc := ⟨.hbm, 161, rfl⟩
abbrev main_while0b_call7_v0 : Ref sig .tc := ⟨.hbm, 162, rfl⟩
abbrev main_while0b_v89 : Ref sig .tc := ⟨.hbm, 163, rfl⟩
abbrev main_while0b_c_23 : Ref sig .tc := ⟨.hbm, 164, rfl⟩
abbrev main_while0b_v90 : Ref sig .tc := ⟨.hbm, 165, rfl⟩
abbrev main_v10 : Ref sig .tc := ⟨.hbm, 166, rfl⟩
abbrev main_call8_c : Ref sig .tc := ⟨.hbm, 167, rfl⟩
abbrev main_call8_v0 : Ref sig .tc := ⟨.hbm, 168, rfl⟩
abbrev main_call8_v1 : Ref sig .tc := ⟨.hbm, 169, rfl⟩
abbrev main_call8_c_0 : Ref sig .tc := ⟨.hbm, 170, rfl⟩
abbrev main_call8_v2 : Ref sig .tc := ⟨.hbm, 171, rfl⟩
abbrev main_call8_v3 : Ref sig .tc := ⟨.hbm, 172, rfl⟩
abbrev main_call8_v4 : Ref sig .tc := ⟨.hbm, 173, rfl⟩
abbrev main_call8_v5 : Ref sig .tc := ⟨.hbm, 174, rfl⟩
abbrev main_call8_c_1 : Ref sig .tc := ⟨.hbm, 175, rfl⟩
abbrev main_call8_c_2 : Ref sig .tc := ⟨.hbm, 176, rfl⟩
abbrev main_call8_v6 : Ref sig .tc := ⟨.hbm, 177, rfl⟩
abbrev main_call8_v7 : Ref sig .tc := ⟨.hbm, 178, rfl⟩
abbrev main_call8_v8 : Ref sig .tc := ⟨.hbm, 179, rfl⟩
abbrev main_call8_v9 : Ref sig .tc := ⟨.hbm, 180, rfl⟩
abbrev main_call8_v10 : Ref sig .tc := ⟨.hbm, 181, rfl⟩
abbrev main_call8_v11 : Ref sig .tc := ⟨.hbm, 182, rfl⟩
abbrev main_call8_c_3 : Ref sig .tc := ⟨.hbm, 183, rfl⟩
abbrev main_call8_v12 : Ref sig .tc := ⟨.hbm, 184, rfl⟩
abbrev main_call8_v13 : Ref sig .tc := ⟨.hbm, 185, rfl⟩
abbrev main_call8_v14 : Ref sig .tc := ⟨.hbm, 186, rfl⟩
abbrev main_call8_cst : Ref sig .tc := ⟨.hbm, 187, rfl⟩
abbrev main_call8_v15 : Ref sig .tc := ⟨.hbm, 188, rfl⟩
abbrev main_v11 : Ref sig .tc := ⟨.hbm, 189, rfl⟩
abbrev main_v12 : Ref sig .tc := ⟨.hbm, 190, rfl⟩
abbrev main_v13 : Ref sig .tc := ⟨.hbm, 191, rfl⟩
abbrev main_v14 : Ref sig .tc := ⟨.hbm, 192, rfl⟩
abbrev main_call9_c : Ref sig .tc := ⟨.hbm, 193, rfl⟩
abbrev main_call9_v0 : Ref sig .tc := ⟨.hbm, 194, rfl⟩
abbrev main_call9_v1 : Ref sig .tc := ⟨.hbm, 195, rfl⟩
abbrev main_call9_c_0 : Ref sig .tc := ⟨.hbm, 196, rfl⟩
abbrev main_call9_v2 : Ref sig .tc := ⟨.hbm, 197, rfl⟩
abbrev main_call9_v3 : Ref sig .tc := ⟨.hbm, 198, rfl⟩
abbrev main_call9_v4 : Ref sig .tc := ⟨.hbm, 199, rfl⟩
abbrev main_call9_v5 : Ref sig .tc := ⟨.hbm, 200, rfl⟩
abbrev main_call9_c_1 : Ref sig .tc := ⟨.hbm, 201, rfl⟩
abbrev main_call9_c_2 : Ref sig .tc := ⟨.hbm, 202, rfl⟩
abbrev main_call9_v6 : Ref sig .tc := ⟨.hbm, 203, rfl⟩
abbrev main_call9_v7 : Ref sig .tc := ⟨.hbm, 204, rfl⟩
abbrev main_call9_v8 : Ref sig .tc := ⟨.hbm, 205, rfl⟩
abbrev main_call9_v9 : Ref sig .tc := ⟨.hbm, 206, rfl⟩
abbrev main_call9_v10 : Ref sig .tc := ⟨.hbm, 207, rfl⟩
abbrev main_call9_v11 : Ref sig .tc := ⟨.hbm, 208, rfl⟩
abbrev main_call9_c_3 : Ref sig .tc := ⟨.hbm, 209, rfl⟩
abbrev main_call9_v12 : Ref sig .tc := ⟨.hbm, 210, rfl⟩
abbrev main_call9_v13 : Ref sig .tc := ⟨.hbm, 211, rfl⟩
abbrev main_call9_cst : Ref sig .tc := ⟨.hbm, 212, rfl⟩
abbrev main_call9_v14 : Ref sig .tc := ⟨.hbm, 213, rfl⟩
abbrev main_v15 : Ref sig .tc := ⟨.hbm, 214, rfl⟩
abbrev main_v16 : Ref sig .tc := ⟨.hbm, 215, rfl⟩
abbrev main_v17 : Ref sig .tc := ⟨.hbm, 216, rfl⟩
abbrev main_v18 : Ref sig .tc := ⟨.hbm, 217, rfl⟩

abbrev nD : Nat := 1
abbrev τ : Topo := Topo.v7x

variable {F : FTy → Type} [FloatOps F]

abbrev main_while0_count : Scf.Loop 32 := ⟨0#32, 300#32, 1#32⟩
-- ==== Proof.Spec.lean ====
/-
  What the SparseCore kernel computes, as functions of the table and the order it is handed: the state after each
  lane, each chunk of sixteen candidates and the whole loop, over any float values.
-/
module

public import proofs.«01_k».proof.Proof.Gen.KernelIdeal.Skeleton
public import Idealize.ShloMosaic.Lib.ValueIdxCore

@[expose] public section

noncomputable section

namespace Cert.Proof.Spec

open Cert.KernelIdeal Cert.KernelIdeal.Gen
open Idealize.ShloMosaic
open Idealize.ShloMosaic.ValueIdx (ix1 ix2)

variable {F : FTy → Type} [FloatOps F]

/-- The literal zero, the kernel's "not suppressed". -/
abbrev zero : F .f32 := Scalar.ofBits .f32 0x00000000#32
/-- The literal one, the kernel's "suppressed". -/
abbrev one : F .f32 := Scalar.ofBits .f32 0x3F800000#32
/-- The score threshold, a quarter. -/
abbrev quarter : F .f32 := Scalar.ofBits .f32 0x3E800000#32

/-- Whether a candidate box overlaps a kept one by more than the threshold: the kept box's corners and area first. -/
def overBit (kx1 ky1 kx2 ky2 ka x1 y1 x2 y2 a : F .f32) : BitVec 1 :=
  let inter := FloatOps.mulf (FloatOps.maximumf (FloatOps.subf (FloatOps.minimumf kx2 x2) (FloatOps.maximumf kx1 x1)) zero)
    (FloatOps.maximumf (FloatOps.subf (FloatOps.minimumf ky2 y2) (FloatOps.maximumf ky1 y1)) zero)
  FloatOps.cmpf .ogt (FloatOps.divf inter (FloatOps.addf (FloatOps.subf (FloatOps.addf ka a) inter) (Scalar.ofBits .f32 0x33D6BF95#32)))
    (Scalar.ofBits .f32 0x3EE66666#32)

/-- A box's area from its corners. -/
def area (x1 y1 x2 y2 : F .f32) : F .f32 := FloatOps.mulf (FloatOps.subf x2 x1) (FloatOps.subf y2 y1)

/-- Sixteen candidates: corners, score and area, a vector each. -/
structure Group (F : FTy → Type) where
  x1 : Vec F S16 .f32
  y1 : Vec F S16 .f32
  x2 : Vec F S16 .f32
  y2 : Vec F S16 .f32
  sc : Vec F S16 .f32
  ar : Vec F S16 .f32

/-- The marks after one kept box has been compared with every candidate of the group. -/
def mark (kx1 ky1 kx2 ky2 ka : F .f32) (g : Group F) (s : Vec F S16 .f32) : Vec F S16 .f32 := fun j =>
  Scalar.select (overBit kx1 ky1 kx2 ky2 ka (g.x1 j) (g.y1 j) (g.x2 j) (g.y2 j) (g.ar j)) one (s j)

/-- The marks before any comparison: those of the candidates with a low score. -/
def marks0 (g : Group F) : Vec F S16 .f32 := fun j => Scalar.select (FloatOps.cmpf .ole (g.sc j) quarter) one zero

/-- The element of the kept array at a row and a column, zero off the array. -/
def keptAt (K : Vec F S8x304 .f32) (r : Fin 8) (k : ℕ) : F .f32 := if h : k < 304 then K (ix2 r ⟨k, h⟩) else zero

/-- The marks after comparison with kept column `k`. -/
def markKept (K : Vec F S8x304 .f32) (g : Group F) (k : ℕ) (s : Vec F S16 .f32) : Vec F S16 .f32 :=
  mark (keptAt K 0 k) (keptAt K 1 k) (keptAt K 2 k) (keptAt K 3 k) (area (keptAt K 0 k) (keptAt K 1 k) (keptAt K 2 k) (keptAt K 3 k)) g s

/-- The marks after comparison with the first `n` kept columns. -/
def marksKept (K : Vec F S8x304 .f32) (g : Group F) : ℕ → Vec F S16 .f32
  | 0 => marks0 g
  | n + 1 => markKept K g n (marksKept K g n)

/-- Row `r` of the kept array written at column `c` with the value `v`. -/
def putAt (K : Vec F S8x304 .f32) (r : ℕ) (c : BitVec 32) (v : F .f32) : Vec F S8x304 .f32 := fun j =>
  if (j 0).val = r ∧ (j 1).val = c.toNat then v else K j

/-- Candidate `i` of the group written as column `c`. -/
def putCol (K : Vec F S8x304 .f32) (g : Group F) (i : Fin 16) (c : BitVec 32) : Vec F S8x304 .f32 :=
  putAt (putAt (putAt (putAt (putAt (putAt K 0 c (g.x1 (ix1 i))) 1 c (g.y1 (ix1 i))) 2 c (g.x2 (ix1 i))) 3 c (g.y2 (ix1 i))) 4 c (g.sc (ix1 i))) 5 c (g.ar (ix1 i))

/-- The state a chunk works on: the marks, the kept array and how many boxes it holds. -/
structure St (F : FTy → Type) where
  s : Vec F S16 .f32
  K : Vec F S8x304 .f32
  n : BitVec 32

/-- A lane's slice lies in the vector. -/
theorem slices_lane (i : Fin 16) : S16.Slices ![i.val] S1 := by revert i; decide

/-- Lane `i` of a vector, as the kernel extracts it. -/
def laneOf (i : Fin 16) (v : Vec F S16 .f32) : F .f32 := extractAt ![0] (extractStridedSlice S1 ![i.val] v (slices_lane i)) inpos_S1_p0

/-- Whether candidate `i` is kept. -/
def keepBit (i : Fin 16) (st : St F) : BitVec 1 :=
  Scalar.andi (Scalar.cmpf .oeq (laneOf i st.s) zero) (Scalar.cmpi .slt st.n 300#32)

/-- One lane: the candidate, if it is kept, written and compared with its group. -/
def lane (g : Group F) (i : Fin 16) (st : St F) : St F :=
  { s := if keepBit i st = 1#1 then mark (g.x1 (ix1 i)) (g.y1 (ix1 i)) (g.x2 (ix1 i)) (g.y2 (ix1 i)) (g.ar (ix1 i)) g st.s else st.s
    K := if keepBit i st = 1#1 then putCol st.K g i st.n else st.K
    n := Scalar.select (keepBit i st) (Scalar.addi st.n 1#32) st.n }

/-- The first `j` lanes, in order. -/
def lanes (g : Group F) (st : St F) : ℕ → St F
  | 0 => st
  | j + 1 => if h : j < 16 then lane g ⟨j, h⟩ (lanes g st j) else lanes g st j

/-- The element of the table at a row and a column, zero off the table. -/
def tabAt (tab : Vec F S5x5008 .f32) (r : Fin 5) (k : ℕ) : F .f32 := if h : k < 5008 then tab (ix2 r ⟨k, h⟩) else zero

/-- The word of the order at a place, zero off the array. -/
def ordAt (ord : Vec F S5008 .i32) (k : ℕ) : BitVec 32 := if h : k < 5008 then ord (ix1 ⟨k, h⟩) else 0#32

/-- Row `r` of the candidates chunk `t` looks at. -/
def gath (tab : Vec F S5x5008 .f32) (ord : Vec F S5008 .i32) (t : ℕ) (r : Fin 5) : Vec F S16 .f32 := fun j =>
  tabAt tab r (ordAt (F := F) ord (16 * t + (j 0).val)).toNat

/-- The candidates chunk `t` looks at. -/
def group (tab : Vec F S5x5008 .f32) (ord : Vec F S5008 .i32) (t : ℕ) : Group F where
  x1 := gath tab ord t 0
  y1 := gath tab ord t 1
  x2 := gath tab ord t 2
  y2 := gath tab ord t 3
  sc := gath tab ord t 4
  ar := fun j => area (gath tab ord t 0 j) (gath tab ord t 1 j) (gath tab ord t 2 j) (gath tab ord t 3 j)

/-- What the chunk loop carries: the marks' scratch, the kept array, the count. -/
def inner (tab : Vec F S5x5008 .f32) (ord : Vec F S5008 .i32) (t : ℕ) (st : St F) : St F :=
  lanes (group tab ord t) ⟨marksKept st.K (group tab ord t) st.n.toNat, st.K, st.n⟩ 16

/-- One chunk: nothing once 300 boxes are kept, else the group's comparisons and lanes, then the count closed when the
    group's first score is low. -/
def chunk (tab : Vec F S5x5008 .f32) (ord : Vec F S5008 .i32) (t : ℕ) (st : St F) : St F :=
  if Scalar.cmpi .slt st.n 300#32 = 1#1 then
    let st' := inner tab ord t st
    { s := st'.s, K := st'.K, n := if Scalar.cmpf .ole (laneOf 0 (group tab ord t).sc) quarter = 1#1 then 300#32 else st'.n }
  else st

/-- The first `t` chunks. -/
def chunks (tab : Vec F S5x5008 .f32) (ord : Vec F S5008 .i32) : ℕ → St F
  | 0 => ⟨fun _ => zero, fun _ => zero, 0#32⟩
  | t + 1 => chunk tab ord t (chunks tab ord t)

/-- The kept array the kernel hands back. -/
def out (tab : Vec F S5x5008 .f32) (ord : Vec F S5008 .i32) : Vec F S8x304 .f32 := (chunks tab ord 313).K

end Cert.Proof.Spec

end
-- ==== Proof.Setup.lean ====
/-
  The program as the SparseCore launch theorem sees it, and the six rules the tile's body is run by: each access of a
  scratch memory held whole, told as a function of its contents.
-/
module

public import proofs.«01_k».proof.Defs
public import proofs.«01_k».proof.Proof.Spec
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.Nms

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type}

/-- The labels of the pipelined program under the SparseCore one. -/
abbrev LP : Labels := Pipeline.Sig Λ₀ (Fin 0) fun p => (pcfgs (F := F) p).Adm
/-- The SparseCore calls. -/
abbrev Kc : SparseCore.Cfg τ sig (LP (F := F)) 1 := sc (F := F)
/-- The bodies under the SparseCore calls. -/
abbrev Db [FloatOps F] : Defs nD τ sig (Elt F) (LP (F := F)) := Pipeline.defs pcfgs defs₀
abbrev 𝒱b : Variants := Variants.none
abbrev 𝒱l : Variants := 𝒱b.lift
abbrev vL : 𝒱l.V := Sum.inl none

/-- What the launch asks of the call's semaphores and buffers. -/
theorem callFacts : (Kc (F := F)).Facts where
  start_ne_taskDone := by show sc_start ≠ sc_taskDone; decide
  start_unscoped := by show (SemLoc.reg sc_start : SemLoc sig).isScoped .scScalar = false; decide
  taskDone_unscoped := by show (SemLoc.reg sc_taskDone : SemLoc sig).isScoped .scScalar = false; decide
  go_unscoped := by show (SemLoc.reg sc_go : SemLoc sig).isScoped .scVector = false; decide
  done_unscoped := by show (SemLoc.reg sc_done : SemLoc sig).isScoped .tc = false; decide
  noTaskShared := by show ∀ (b : DevRef τ sig) (c : Fin τ.nSC), b.owner = .sc c → sig.taskShared b.table b.idx = false; decide
  noSeq := fun _ => rfl

/-- The handshakes' rounds, and beside them the counters of the tile's own transfers. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The tile's memories -/

abbrev m5 : Memref sig .scVector .vmem S5x5008 .f32 := Memref.whole cc0_scratch0
abbrev m6 : Memref sig .scVector .vmem S5008 .i32 := Memref.whole cc0_scratch1
abbrev m7 : Memref sig .scVector .vmem S16 .f32 := Memref.whole cc0_scratch2
abbrev m8 : Memref sig .scVector .vmem S8x304 .f32 := Memref.whole cc0_scratch3
abbrev m9 : Memref sig .scVector .smem S1 .i32 := Memref.whole cc0_scratch4

/-- The thread of the tile at coordinates `i` of device `d`. -/
abbrev Tl (d : Dev nD) (i : grid0.Coords) : Thread nD τ := V d ((i 0).castLE hcore0) ((i 1).castLE hsub0)

variable (d : Dev nD) (i : grid0.Coords)

/-- The table's scratch holding `f`. -/
def b5 (f : Vec F S5x5008 .f32) : sProp 𝕄 := (Tl d i).loc cc0_scratch0 ↦{fullShare} f
/-- The order's scratch holding `f`. -/
def b6 (f : Vec F S5008 .i32) : sProp 𝕄 := (Tl d i).loc cc0_scratch1 ↦{fullShare} f
/-- The marks' scratch holding `f`. -/
def b7 (f : Vec F S16 .f32) : sProp 𝕄 := (Tl d i).loc cc0_scratch2 ↦{fullShare} f
/-- The kept array's scratch holding `f`. -/
def b8 (f : Vec F S8x304 .f32) : sProp 𝕄 := (Tl d i).loc cc0_scratch3 ↦{fullShare} f
/-- The count's word holding `n`. -/
def b9 (n : BitVec 32) : sProp 𝕄 := (Tl d i).loc cc0_scratch4 ↦{fullShare} (fun _ => n : Vec F S1 .i32)

variable [FloatOps F]

/-- An assertion about the launched machine. -/
abbrev Asn : Type := sProp 𝕄

/-- Running a part of the tile's body. -/
abbrev run {α : Type} (p : Prog (TpuEff nD τ sig (Elt F) Λ₀ (Tl d i).2) α) (Q : α → sProp 𝕄) : sProp 𝕄 :=
  wp frame (wpE (defs₀ (F := F)) 𝒱b (Tl d i) none) Set.univ p Q

variable {α : Type}

theorem gather5 {f : Vec F S5x5008 .f32} {idxs : Fin 2 → IVec S16 32} {h : ∀ a x, (idxs a x).toNat < S5x5008.size a} {hl : m5.view.Loads}
    {k : Vec F S16 .f32 → Prog (TpuEff nD τ sig (Elt F) Λ₀ (Tl d i).2) α} {Q : α → sProp 𝕄} :
    b5 d i f ⊢ iprop((b5 d i f -∗ run d i (k (loadIdx f idxs h)) Q) -∗ run d i (SparseCore.vectorLoadIdx m5 idxs h hl >>= k) Q) := by
  have H := SparseCore.wp_vectorLoadIdx (F := F) (defs := defs₀ (F := F)) (c := Tl d i) (U := UU) 𝒱b none Set.univ (base := m5) (idxs := idxs) (h := h) (hl := hl) (k := k) (Q := Q)
    (S := Finset.univ) (q := fullShare) (f := f) (Finset.subset_univ _)
  rw [show (m5.access (.whole S5x5008)).read (Elt F) f = f from Memref.read_access_whole (Elt F) cc0_scratch0 f] at H
  exact H

theorem gather8 {f : Vec F S8x304 .f32} {idxs : Fin 2 → IVec S16 32} {h : ∀ a x, (idxs a x).toNat < S8x304.size a} {hl : m8.view.Loads}
    {k : Vec F S16 .f32 → Prog (TpuEff nD τ sig (Elt F) Λ₀ (Tl d i).2) α} {Q : α → sProp 𝕄} :
    b8 d i f ⊢ iprop((b8 d i f -∗ run d i (k (loadIdx f idxs h)) Q) -∗ run d i (SparseCore.vectorLoadIdx m8 idxs h hl >>= k) Q) := by
  have H := SparseCore.wp_vectorLoadIdx (F := F) (defs := defs₀ (F := F)) (c := Tl d i) (U := UU) 𝒱b none Set.univ (base := m8) (idxs := idxs) (h := h) (hl := hl) (k := k) (Q := Q)
    (S := Finset.univ) (q := fullShare) (f := f) (Finset.subset_univ _)
  rw [show (m8.access (.whole S8x304)).read (Elt F) f = f from Memref.read_access_whole (Elt F) cc0_scratch3 f] at H
  exact H

theorem scatter8 {f : Vec F S8x304 .f32} {idxs : Fin 2 → IVec S16 32} {v : Vec F S16 .f32} {mask : IVec S16 1}
    {h : ∀ a x, (idxs a x).toNat < S8x304.size a} {hs : (m8.access (.whole S8x304)).Stores Finset.univ}
    {k : PUnit → Prog (TpuEff nD τ sig (Elt F) Λ₀ (Tl d i).2) α} {Q : α → sProp 𝕄} :
    b8 d i f ⊢ iprop((b8 d i (storeIdx f idxs v mask false h) -∗ run d i (k ⟨⟩) Q) -∗ run d i (SparseCore.vectorStoreIdx m8 idxs v mask false h hs >>= k) Q) := by
  have H := SparseCore.wp_vectorStoreIdx (F := F) (defs := defs₀ (F := F)) (c := Tl d i) (U := UU) 𝒱b none Set.univ (base := m8) (idxs := idxs) (v := v) (mask := mask)
    (add := false) (h := h) (hs := hs) (k := k) (Q := Q) (f := f)
  rw [show (m8.access (.whole S8x304)).set = Finset.univ from Memref.set_access_whole cc0_scratch3, show (m8.access (.whole S8x304)).read (Elt F) f = f from Memref.read_access_whole (Elt F) cc0_scratch3 f,
    show (m8.access (.whole S8x304)).write (Elt F) f (storeIdx f idxs v mask false h) Finset.univ = storeIdx f idxs v mask false h from
      Memref.write_access_whole_univ (Elt F) cc0_scratch3 f _] at H
  exact H

/-- The rectangle of a whole sixteen-lane vector. -/
abbrev r16 : Rect S16 := Rect.unit (s := S16) ![0] S16.size inb_S16_S16_0
/-- The rectangle of the one word. -/
abbrev r1 : Rect S1 := Rect.unit (s := S1) ![0] S1.size inb_S1_S1_0

theorem r16_idx (j : S16.Idx) : r16.toLoadRect.idx j = j := by
  funext a; apply Fin.ext
  rw [LoadRect.idx_apply, Subsingleton.elim a 0]
  show 0 + 1 * (j 0).val = (j 0).val
  omega

theorem load7 {f : Vec F S16 .f32} {hl : m7.view.LoadsAt r16.toLoadRect} {k : Vec F S16 .f32 → Prog (TpuEff nD τ sig (Elt F) Λ₀ (Tl d i).2) α} {Q : α → sProp 𝕄} :
    b7 d i f ⊢ iprop((b7 d i f -∗ run d i (k f) Q) -∗ run d i (.op (.load m7 r16.toLoadRect hl) k) Q) := by
  have H := wp_load (Γ := .empty) (defs := defs₀ (F := F)) (c := Tl d i) (U := UU) 𝒱b none Set.univ (m := m7) (r := r16.toLoadRect) (hl := hl) (k := k) (Q := Q)
    (S := Finset.univ) (q := fullShare) (f := f) (Finset.subset_univ _)
  rw [show m7.view.readAt (Elt F) r16.toLoadRect f = f from by
    funext j; exact congrArg f (r16_idx j)] at H
  exact H

theorem store7 {f w : Vec F S16 .f32} {hx : (m7.access r16).Stores Finset.univ} {hm : (Finset.univ : Finset S16.Idx) = Finset.univ ∨ ∀ a, r16.stride a = 1}
    {k : PUnit → Prog (TpuEff nD τ sig (Elt F) Λ₀ (Tl d i).2) α} {Q : α → sProp 𝕄} :
    b7 d i f ⊢ iprop((b7 d i w -∗ run d i (k ⟨⟩) Q) -∗ run d i (.op (.store m7 r16 w Finset.univ hx hm) k) Q) := by
  have H := wp_store (Γ := .empty) (defs := defs₀ (F := F)) (c := Tl d i) (U := UU) 𝒱b none Set.univ (m := m7) (r := r16) (w := w) (hx := hx) (hm := hm) (k := k) (Q := Q)
    (S := Finset.univ) (f := f) (Finset.subset_univ _)
  rw [show (m7.access r16).write (Elt F) f w Finset.univ = w from by
    funext j
    have h := View.write_emb_of_mem (v := m7.access r16) (Val := Elt F) f w (M := Finset.univ) (x := j) (Finset.mem_univ _)
    rw [show (m7.access r16).emb j = j from r16_idx j] at h
    exact h] at H
  exact H

theorem load9 {n : BitVec 32} {hl : (m9.access r1).Loads} {x : r1.shape.Idx} {k : BitVec 32 → Prog (TpuEff nD τ sig (Elt F) Λ₀ (Tl d i).2) α} {Q : α → sProp 𝕄} :
    b9 (F := F) d i n ⊢ iprop((b9 (F := F) d i n -∗ run d i (k n) Q) -∗ run d i (smemLoadElt m9 r1 hl x k) Q) :=
  wp_smemLoadElt (defs := defs₀ (F := F)) (c := Tl d i) (U := UU) 𝒱b none Set.univ (m := m9) (r := r1) (hw := hl) (x := x) (k := k) (Q := Q)
    (S := Finset.univ) (q := fullShare) (f := fun _ => n) (Finset.subset_univ _)

theorem store9 {n w : BitVec 32} {hx : (m9.access r1).Stores Finset.univ} {hm : (Finset.univ : Finset S1.Idx) = Finset.univ ∨ ∀ a, r1.stride a = 1}
    {k : PUnit → Prog (TpuEff nD τ sig (Elt F) Λ₀ (Tl d i).2) α} {Q : α → sProp 𝕄} :
    b9 (F := F) d i n ⊢ iprop((b9 (F := F) d i w -∗ run d i (k ⟨⟩) Q) -∗ run d i (.op (.store m9 r1 (fun _ => w) Finset.univ hx hm) k) Q) := by
  have H := wp_store (Γ := .empty) (defs := defs₀ (F := F)) (c := Tl d i) (U := UU) 𝒱b none Set.univ (m := m9) (r := r1) (w := fun _ => w) (hx := hx) (hm := hm) (k := k) (Q := Q)
    (S := Finset.univ) (f := fun _ => n) (Finset.subset_univ _)
  rw [show (m9.access r1).write (Elt F) (fun _ => n) (fun _ => w) Finset.univ = fun _ => w from by
    funext j
    have h := View.write_emb_of_mem (v := m9.access r1) (Val := Elt F) (fun _ => n) (fun _ => w) (M := Finset.univ) (x := j) (Finset.mem_univ _)
    rw [show (m9.access r1).emb j = j from by
      have e : ∀ x y : S1.Idx, x = y := fun x y => by
        funext a; apply Fin.ext; rw [Subsingleton.elim a 0]
        exact (Nat.lt_one_iff.mp (x 0).isLt).trans (Nat.lt_one_iff.mp (y 0).isLt).symm
      exact e _ _] at h
    exact h] at H
  exact H

end Cert.Proof.Nms

end
-- ==== Proof.Lane.lean ====
/-
  One lane of a chunk: what the masked scatters leave in the kept array, what the comparison leaves in the marks, and
  the rule that runs the lane's conditional.
-/
module

public import proofs.«01_k».proof.Proof.Setup

@[expose] public section

noncomputable section

namespace Cert.Proof.Nms

open Cert.KernelIdeal Cert.KernelIdeal.Gen Cert.Proof.Spec
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type}

local notation "𝕄" => MT nD τ sig (HIx 1) (Elt F) ℕ UU ℕ

/-! ## The lane's values -/

/-- The vector of lane numbers. -/
def laneIds : IVec S16 32 := fun x => BitVec.ofNat 32 (x 0).val
/-- The mask that is set at lane `j` alone. -/
def laneMask (j : Fin 16) : IVec S16 1 := cmpi .eq laneIds (broadcast S16 (BitVec.ofNat 32 j.val))

theorem s16_eq (x : S16.Idx) : x = ix1 (n := 16) (x 0) := by
  funext a; rw [Subsingleton.elim a 0]

theorem laneMask_iff (j : Fin 16) (x : S16.Idx) : laneMask j x = 1 ↔ (x 0).val = j.val := by
  have h : ∀ a b : Fin 16, (IntOp.cmpi .eq (BitVec.ofNat 32 a.val) (BitVec.ofNat 32 b.val) = 1) ↔ a.val = b.val := by decide
  exact h (x 0) j

/-- A fold of updates of which one acts is that one's. -/
theorem foldl_one {β γ : Type} (p : β → Prop) [DecidablePred p] (upd : γ → β → γ) (b : β) (hp : ∀ x, p x ↔ x = b) (l : List β) (hl : l.Nodup) (hb : b ∈ l) (g : γ) :
    l.foldl (fun g x => if p x then upd g x else g) g = upd g b := by
  have skip : ∀ (l : List β) (g : γ), b ∉ l → l.foldl (fun g x => if p x then upd g x else g) g = g := by
    intro l
    induction l with
    | nil => intros; rfl
    | cons x l ih =>
      intro g h
      rw [List.foldl_cons, if_neg (fun hx => h (by rw [(hp x).mp hx]; exact List.mem_cons_self)), ih g (fun h' => h (List.mem_cons_of_mem _ h'))]
  induction l generalizing g with
  | nil => cases hb
  | cons x l ih =>
    rw [List.foldl_cons]
    by_cases hx : x = b
    · subst hx
      rw [if_pos ((hp x).mpr rfl), skip l _ (List.nodup_cons.mp hl).1]
    · rw [if_neg (fun h => hx ((hp x).mp h))]
      exact ih (List.nodup_cons.mp hl).2 ((List.mem_cons.mp hb).resolve_left (Ne.symm hx)) g

/-- A scatter under the mask of lane `j`, of row `r` and column `c` at every lane: that one element written. -/
theorem scatter_lane [FloatOps F] (K : Vec F S8x304 .f32) (w c : BitVec 32) (r : ℕ) (hr : w.toNat = r) (v : Vec F S16 .f32) (j : Fin 16)
    (h : ∀ a x, ((![broadcast S16 w, broadcast S16 c] : Fin 2 → IVec S16 32) a x).toNat < S8x304.size a) :
    storeIdx K ![broadcast S16 w, broadcast S16 c] v (laneMask j) false h = putAt K r c (v (ix1 j)) := by
  unfold storeIdx
  simp only [Bool.false_eq_true, if_false]
  refine (foldl_one (fun k : Fin 16 => laneMask j (Shape.ofLane (d := ![16]) k) = 1)
    (fun (g : Vec F S8x304 .f32) k => fun y => if (∀ a, (y a).val = (idxAt ![broadcast S16 w, broadcast S16 c] h (Shape.ofLane (d := ![16]) k) a).val) then v (Shape.ofLane (d := ![16]) k) else g y)
    j (fun k => ?_) _ (List.nodup_finRange _) (List.mem_finRange _) K).trans ?_
  · exact (laneMask_iff j _).trans ⟨fun h => Fin.ext h, fun h => by rw [h]; rfl⟩
  · funext y
    have e : (∀ a, (y a).val = (idxAt ![broadcast S16 w, broadcast S16 c] h (Shape.ofLane (d := ![16]) j) a).val) ↔ ((y 0).val = r ∧ (y 1).val = c.toNat) := by
      constructor
      · intro h'; exact ⟨(h' 0).trans hr, h' 1⟩
      · rintro ⟨h0, h1⟩ a
        match a with
        | ⟨0, _⟩ => exact h0.trans hr.symm
        | ⟨1, _⟩ => exact h1
    unfold putAt
    rw [show (Shape.ofLane (d := ![16]) j : S16.Idx) = ix1 j from s16_eq _]
    rw [show (Shape.ofLane (d := ![16]) j : S16.Idx) = ix1 j from s16_eq _] at e
    exact if_congr e rfl rfl

/-- A lane of a vector, as the kernel extracts it. -/
theorem lane_val {β : Type} (v : S16.Idx → β) (j : Fin 16) (h1 : S16.Slices ![j.val] S1) (h2 : ∀ a, (![0] : Fin 1 → ℕ) a < S1.size a) :
    extractAt ![0] (extractStridedSlice S1 ![j.val] v h1) h2 = v (ix1 j) := by
  show v _ = v _
  congr 1
  funext a; apply Fin.ext; rw [Subsingleton.elim a 0]; rfl

/-- What a lane leaves in the marks, as the kernel computes it: the candidate's own elements extracted first. -/
theorem mark_lane [FloatOps F] (g : Group F) (j : Fin 16) (h1 : S16.Slices ![j.val] S1) (h2 : ∀ a, (![0] : Fin 1 → ℕ) a < S1.size a) (s : Vec F S16 .f32) :
    mark (extractAt ![0] (extractStridedSlice S1 ![j.val] g.x1 h1) h2) (extractAt ![0] (extractStridedSlice S1 ![j.val] g.y1 h1) h2)
      (extractAt ![0] (extractStridedSlice S1 ![j.val] g.x2 h1) h2) (extractAt ![0] (extractStridedSlice S1 ![j.val] g.y2 h1) h2)
      (extractAt ![0] (extractStridedSlice S1 ![j.val] g.ar h1) h2) g s =
    mark (g.x1 (ix1 j)) (g.y1 (ix1 j)) (g.x2 (ix1 j)) (g.y2 (ix1 j)) (g.ar (ix1 j)) g s := by
  simp only [lane_val]

/-- A row and a column below the kept array's extents are in range at every lane. -/
theorem inb_of {w c : BitVec 32} (hw : w.toNat < 8) (hc : c.toNat < 304) :
    ∀ a x, ((![broadcast S16 w, broadcast S16 c] : Fin 2 → IVec S16 32) a x).toNat < S8x304.size a
  | ⟨0, _⟩, _ => hw
  | ⟨1, _⟩, _ => hc

/-- What a lane checks before its scatters: the six rows in range at the count's column. -/
theorem six_inb {A B C : Prop} {c : BitVec 32} (hc : c.toNat < 304) :
    (A → B → C → ∀ a x, ((![broadcast S16 0#32, broadcast S16 c] : Fin 2 → IVec S16 32) a x).toNat < S8x304.size a) ∧
    (A → B → C → ∀ a x, ((![broadcast S16 1#32, broadcast S16 c] : Fin 2 → IVec S16 32) a x).toNat < S8x304.size a) ∧
    (A → B → C → ∀ a x, ((![broadcast S16 2#32, broadcast S16 c] : Fin 2 → IVec S16 32) a x).toNat < S8x304.size a) ∧
    (A → B → C → ∀ a x, ((![broadcast S16 3#32, broadcast S16 c] : Fin 2 → IVec S16 32) a x).toNat < S8x304.size a) ∧
    (A → B → C → ∀ a x, ((![broadcast S16 4#32, broadcast S16 c] : Fin 2 → IVec S16 32) a x).toNat < S8x304.size a) ∧
    (A → B → C → ∀ a x, ((![broadcast S16 5#32, broadcast S16 c] : Fin 2 → IVec S16 32) a x).toNat < S8x304.size a) :=
  ⟨fun _ _ _ => inb_of (by decide) hc, fun _ _ _ => inb_of (by decide) hc, fun _ _ _ => inb_of (by decide) hc,
    fun _ _ _ => inb_of (by decide) hc, fun _ _ _ => inb_of (by decide) hc, fun _ _ _ => inb_of (by decide) hc⟩

/-- The guard of a lane's conditional is its bit. -/
theorem ne_ext (b : BitVec 1) : Scalar.cmpi .ne (Scalar.extui b : BitVec 32) 0#32 = b := by
  revert b; decide

variable (d : Dev nD) (i : grid0.Coords) [FloatOps F]

/-- A checked proposition that holds. -/
theorem assume_step {α : Type} {P : Prop} {dP : Decidable P} {k : PLift P → Prog (TpuEff nD τ sig (Elt F) Λ₀ (Tl d i).2) α} {Q : α → sProp 𝕄} (h : P) :
    run d i (k ⟨h⟩) Q ⊢ run d i (Prog.lift (TpuEff.assume P dP) >>= k) Q :=
  wp_assume (defs := defs₀ (F := F)) (c := Tl d i) (U := UU) 𝒱b none Set.univ h

theorem load7' {α : Type} {f : Vec F S16 .f32} {hl : m7.view.LoadsAt r16.toLoadRect} {k : Vec F S16 .f32 → Prog (TpuEff nD τ sig (Elt F) Λ₀ (Tl d i).2) α} {Q : α → sProp 𝕄} :
    b7 d i f ⊢ iprop((b7 d i f -∗ run d i (k f) Q) -∗ run d i (Prog.lift (.load m7 r16.toLoadRect hl) >>= k) Q) := load7 d i

theorem store7' {α : Type} {f w : Vec F S16 .f32} {hx : (m7.access r16).Stores Finset.univ} {hm : (Finset.univ : Finset S16.Idx) = Finset.univ ∨ ∀ a, r16.stride a = 1}
    {k : PUnit → Prog (TpuEff nD τ sig (Elt F) Λ₀ (Tl d i).2) α} {Q : α → sProp 𝕄} :
    b7 d i f ⊢ iprop((b7 d i w -∗ run d i (k ⟨⟩) Q) -∗ run d i (Prog.lift (.store m7 r16 w Finset.univ hx hm) >>= k) Q) := store7 d i

theorem load9' {α : Type} {n : BitVec 32} {h1 : r1.shape.numel = 1} {hp : EltTy.i32.packing = 1} {k : BitVec 32 → Prog (TpuEff nD τ sig (Elt F) Λ₀ (Tl d i).2) α} {Q : α → sProp 𝕄} :
    b9 (F := F) d i n ⊢ iprop((b9 (F := F) d i n -∗ run d i (k n) Q) -∗ run d i (smemLoad m9 r1 h1 hp >>= k) Q) :=
  load9 d i (hl := View.loads_smem_one hp h1)

theorem store9' {α : Type} {n w : BitVec 32} (w' : BitVec 32) (e : w' = w) {hx : (m9.access r1).Stores Finset.univ} {hm : (Finset.univ : Finset S1.Idx) = Finset.univ ∨ ∀ a, r1.stride a = 1}
    {k : PUnit → Prog (TpuEff nD τ sig (Elt F) Λ₀ (Tl d i).2) α} {Q : α → sProp 𝕄} :
    b9 (F := F) d i n ⊢ iprop((b9 (F := F) d i w' -∗ run d i (k ⟨⟩) Q) -∗ run d i (Prog.lift (.store m9 r1 (fun _ => w) Finset.univ hx hm) >>= k) Q) := by
  subst e; exact store9 d i

/-- A program that ends with a value. -/
theorem run_pure {α : Type} {a : α} (a' : α) (e : a' = a) {Q : α → sProp 𝕄} : Q a' ⊢ run d i (Pure.pure a) Q := by
  subst e
  show Q a' ⊢ wp _ _ _ (Prog.ret a') Q
  rw [wp_ret]; exact fupd_intro

/-- A lane's conditional: its six scatters and its comparison when the candidate is kept, nothing otherwise. -/
theorem wp_lane {α : Type} (g : Group F) (j : Fin 16) (st : St F) {c : BitVec 1} (hc : c = Scalar.cmpi .ne (Scalar.extui (keepBit j st) : BitVec 32) 0#32)
    {nk : BitVec 32} (hnk : nk = st.n) {mask : IVec S16 1} (hmask : mask = laneMask j)
    {pay : Vec F S16 .f32 → Vec F S16 .f32} (hpay : ∀ s, pay s = mark (g.x1 (ix1 j)) (g.y1 (ix1 j)) (g.x2 (ix1 j)) (g.y2 (ix1 j)) (g.ar (ix1 j)) g s)
    {P : Prop} {dP : Decidable P} (hP : P) (hroom : nk.toNat < 304)
    {hs : (m8.access (.whole S8x304)).Stores Finset.univ} {hl hl' : m7.view.LoadsAt r16.toLoadRect}
    {hx : (m7.access r16).Stores Finset.univ} {hm : (Finset.univ : Finset S16.Idx) = Finset.univ ∨ ∀ a, r16.stride a = 1}
    {kk : Prog (TpuEff nD τ sig (Elt F) Λ₀ (Tl d i).2) α} {Q : α → sProp 𝕄} :
    iprop(b7 d i st.s ∗ b8 d i st.K) ⊢ iprop((iprop(b7 d i (lane g j st).s ∗ b8 d i (lane g j st).K) -∗ run d i kk Q) -∗
      run d i (if _h : c = 1#1 then (do
          let _hw ← Prog.lift (TpuEff.assume P dP)
          SparseCore.vectorStoreIdx m8 ![broadcast S16 0#32, broadcast S16 nk] g.x1 mask false (inb_of (by decide) hroom) hs
          SparseCore.vectorStoreIdx m8 ![broadcast S16 1#32, broadcast S16 nk] g.y1 mask false (inb_of (by decide) hroom) hs
          SparseCore.vectorStoreIdx m8 ![broadcast S16 2#32, broadcast S16 nk] g.x2 mask false (inb_of (by decide) hroom) hs
          SparseCore.vectorStoreIdx m8 ![broadcast S16 3#32, broadcast S16 nk] g.y2 mask false (inb_of (by decide) hroom) hs
          SparseCore.vectorStoreIdx m8 ![broadcast S16 4#32, broadcast S16 nk] g.sc mask false (inb_of (by decide) hroom) hs
          SparseCore.vectorStoreIdx m8 ![broadcast S16 5#32, broadcast S16 nk] g.ar mask false (inb_of (by decide) hroom) hs
          let v266 : Vec F S16 .f32 ← Prog.lift (.load m7 r16.toLoadRect hl)
          let _v269 : Vec F S16 .f32 ← Prog.lift (.load m7 r16.toLoadRect hl')
          Prog.lift (.store m7 r16 (pay v266) Finset.univ hx hm)
          kk) else kk) Q) := by
  subst hnk hmask
  rw [ne_ext] at hc
  iintro ⟨H7, H8⟩ HK
  by_cases h : c = 1#1
  · rw [dif_pos h]
    have hb : keepBit j st = 1#1 := hc.symm.trans h
    have eK : (lane g j st).K = putCol st.K g j st.n := if_pos hb
    have eS : (lane g j st).s = mark (g.x1 (ix1 j)) (g.y1 (ix1 j)) (g.x2 (ix1 j)) (g.y2 (ix1 j)) (g.ar (ix1 j)) g st.s := if_pos hb
    rw [eK, eS, putCol]
    iapply (assume_step d i hP)
    iapply (scatter8 d i) $$ H8; iintro H8
    iapply (scatter8 d i) $$ H8; iintro H8
    iapply (scatter8 d i) $$ H8; iintro H8
    iapply (scatter8 d i) $$ H8; iintro H8
    iapply (scatter8 d i) $$ H8; iintro H8
    iapply (scatter8 d i) $$ H8; iintro H8
    rw [scatter_lane st.K 0#32 _ 0 rfl, scatter_lane _ 1#32 _ 1 rfl, scatter_lane _ 2#32 _ 2 rfl, scatter_lane _ 3#32 _ 3 rfl, scatter_lane _ 4#32 _ 4 rfl, scatter_lane _ 5#32 _ 5 rfl]
    iapply (load7' d i) $$ H7; iintro H7
    iapply (load7' d i) $$ H7; iintro H7
    iapply (store7' d i) $$ H7; iintro H7
    rw [hpay]
    iapply HK
    isplitl [H7] <;> iassumption
  · rw [dif_neg h]
    have hb : ¬ keepBit j st = 1#1 := fun e => h (hc.trans e)
    rw [show (lane g j st).K = st.K from if_neg hb, show (lane g j st).s = st.s from if_neg hb]
    iapply HK
    isplitl [H7] <;> iassumption

end Cert.Proof.Nms

end
-- ==== Proof.Parts.lean ====
/-
  The sixteen lanes of a chunk, part by part of the kernel's text.
-/
module

public import proofs.«01_k».proof.Proof.Lane

@[expose] public section

noncomputable section

namespace Cert.Proof.Nms

open Cert.KernelIdeal Cert.KernelIdeal.Gen Cert.Proof.Spec
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type}

local notation "𝕄" => MT nD τ sig (HIx 1) (Elt F) ℕ UU ℕ

variable (d : Dev nD) (i : grid0.Coords) [FloatOps F]

/-- The states of the lanes of one group, each the lane's of the one before, with room in the kept array. -/
structure Run (g : Group F) (L : ℕ → St F) : Prop where
  step : ∀ (j : ℕ) (h : j < 16), L (j + 1) = lane g ⟨j, h⟩ (L j)
  room : ∀ j, (L j).n.toNat < 304

/-- Whether lane `j`'s candidate is unmarked when its turn comes. -/
def bit (L : ℕ → St F) (j : ℕ) : BitVec 1 := if h : j < 16 then Scalar.cmpf .oeq (laneOf ⟨j, h⟩ (L j).s) zero else 0#1

/-- The count after a lane, from its bit. -/
def nk (b : BitVec 1) (n : BitVec 32) : BitVec 32 := Scalar.select (Scalar.andi b (Scalar.cmpi .slt n 300#32)) (Scalar.addi n 1#32) n

/-- The count before lane `j`, from the bits of the lanes before it. -/
def nkTo (b : ℕ → BitVec 1) (n : BitVec 32) : ℕ → BitVec 32
  | 0 => n
  | j + 1 => nk (b j) (nkTo b n j)

theorem bit_eq (L : ℕ → St F) (j : Fin 16) : bit L j.val = Scalar.cmpf .oeq (laneOf j (L j.val).s) zero := dif_pos j.isLt

theorem Run.n {g : Group F} {L : ℕ → St F} (H : Run g L) (j : ℕ) (h : j < 16) : (L (j + 1)).n = nk (bit L j) (L j).n := by
  rw [H.step j h, bit_eq L ⟨j, h⟩]; rfl

theorem Run.nTo {g : Group F} {L : ℕ → St F} (H : Run g L) (a j : ℕ) (h : a + j ≤ 16) : nkTo (fun k => bit L (a + k)) (L a).n j = (L (a + j)).n := by
  induction j with
  | zero => rfl
  | succ j ih => rw [nkTo, ih (by omega)]; exact (H.n (a + j) (by omega)).symm

/-- A lane's guard, from the bits alone. -/
theorem Run.cond {g : Group F} {L : ℕ → St F} (H : Run g L) (j : Fin 16) :
    Scalar.cmpi .ne (Scalar.extui (Scalar.andi (bit L j.val) (Scalar.cmpi .slt (nkTo (fun k => bit L (0 + k)) (L 0).n j.val) 300#32)) : BitVec 32) 0#32 =
      Scalar.cmpi .ne (Scalar.extui (keepBit j (L j.val)) : BitVec 32) 0#32 := by
  rw [H.nTo 0 j.val (by have := j.isLt; omega), bit_eq, Nat.zero_add]; rfl

/-- Lane `j` of a group, its count computed from the bits of the `k` lanes since lane `a`. -/
theorem lane_at {α : Type} {g : Group F} {L : ℕ → St F} (H : Run g L) (j : Fin 16) (p p' a k : ℕ) (hp : p = j.val) (hp' : p' = p + 1) (hj : a + k = p) {c : BitVec 1}
    (hc : c = Scalar.cmpi .ne (Scalar.extui (keepBit j (L j.val)) : BitVec 32) 0#32)
    {mask : IVec S16 1} (hmask : mask = laneMask j)
    {pay : Vec F S16 .f32 → Vec F S16 .f32} (hpay : ∀ s, pay s = mark (g.x1 (ix1 j)) (g.y1 (ix1 j)) (g.x2 (ix1 j)) (g.y2 (ix1 j)) (g.ar (ix1 j)) g s)
    {P : Prop} {dP : Decidable P} (hP : (nkTo (fun q => bit L (a + q)) (L a).n k).toNat < 304 → P) (hroom : (nkTo (fun q => bit L (a + q)) (L a).n k).toNat < 304)
    {hs : (m8.access (.whole S8x304)).Stores Finset.univ} {hl hl' : m7.view.LoadsAt r16.toLoadRect}
    {hx : (m7.access r16).Stores Finset.univ} {hm : (Finset.univ : Finset S16.Idx) = Finset.univ ∨ ∀ a, r16.stride a = 1}
    {kk : Prog (TpuEff nD τ sig (Elt F) Λ₀ (Tl d i).2) α} {Q : α → sProp 𝕄} :
    iprop(b7 d i (L p).s ∗ b8 d i (L p).K) ⊢ iprop((iprop(b7 d i (L p').s ∗ b8 d i (L p').K) -∗ run d i kk Q) -∗
      run d i (if _h : c = 1#1 then (do
          let _hw ← Prog.lift (TpuEff.assume P dP)
          SparseCore.vectorStoreIdx m8 ![broadcast S16 0#32, broadcast S16 (nkTo (fun q => bit L (a + q)) (L a).n k)] g.x1 mask false (inb_of (by decide) hroom) hs
          SparseCore.vectorStoreIdx m8 ![broadcast S16 1#32, broadcast S16 (nkTo (fun q => bit L (a + q)) (L a).n k)] g.y1 mask false (inb_of (by decide) hroom) hs
          SparseCore.vectorStoreIdx m8 ![broadcast S16 2#32, broadcast S16 (nkTo (fun q => bit L (a + q)) (L a).n k)] g.x2 mask false (inb_of (by decide) hroom) hs
          SparseCore.vectorStoreIdx m8 ![broadcast S16 3#32, broadcast S16 (nkTo (fun q => bit L (a + q)) (L a).n k)] g.y2 mask false (inb_of (by decide) hroom) hs
          SparseCore.vectorStoreIdx m8 ![broadcast S16 4#32, broadcast S16 (nkTo (fun q => bit L (a + q)) (L a).n k)] g.sc mask false (inb_of (by decide) hroom) hs
          SparseCore.vectorStoreIdx m8 ![broadcast S16 5#32, broadcast S16 (nkTo (fun q => bit L (a + q)) (L a).n k)] g.ar mask false (inb_of (by decide) hroom) hs
          let v266 : Vec F S16 .f32 ← Prog.lift (.load m7 r16.toLoadRect hl)
          let _v269 : Vec F S16 .f32 ← Prog.lift (.load m7 r16.toLoadRect hl')
          Prog.lift (.store m7 r16 (pay v266) Finset.univ hx hm)
          kk) else kk) Q) := by
  subst hp' hp
  rw [H.step j.val j.isLt]
  exact wp_lane d i g j (L j.val) hc (by rw [H.nTo a k (by have := j.isLt; omega), hj]) hmask hpay (hP hroom) hroom

theorem Run.roomTo {g : Group F} {L : ℕ → St F} (H : Run g L) (a k : ℕ) (h : a + k ≤ 16) : (nkTo (fun q => bit L (a + q)) (L a).n k).toNat < 304 := by
  rw [H.nTo a k h]; exact H.room _

variable (h1 : k0_cond1 i = 1#1) (w : BitVec 32) (h2 : k0_cond2 w = 1#1)

/-- Lanes one to four. -/
theorem part2_run (g : Group F) (L : ℕ → St F) (H : Run g L) {Q : _ → sProp 𝕄} :
    iprop(b7 d i (L 1).s ∗ b8 d i (L 1).K) ⊢ iprop((iprop(b7 d i (L 5).s ∗ b8 d i (L 5).K) -∗ Q ⟨bit L 1, bit L 2, bit L 3, bit L 4, (L 5).n⟩) -∗
      run d i (k0_part2 i (Memref.whole main_v5_scv) (Memref.isWhole_whole _) (Memref.whole main_v6_scv) (Memref.isWhole_whole _) (Memref.whole main_v7_scv) (Memref.isWhole_whole _)
        m5 (Memref.isWhole_whole _) m6 (Memref.isWhole_whole _) m7 (Memref.isWhole_whole _) m8 (Memref.isWhole_whole _) m9 (Memref.isWhole_whole _) cc0_scoped0 cc0_scoped1 cc0_scoped2
        h1 laneIds (broadcast S16 0#32) (broadcast S16 1#32) (broadcast S16 2#32) (broadcast S16 3#32) (broadcast S16 4#32) (broadcast S16 5#32) w h2
        (L 0).n g.x1 g.y1 g.x2 g.y2 g.sc g.ar (bit L 0) (L 1).n (laneOf 1 (L 1).s) zero) Q) := by
  rw [k0_part2_eq_skeleton]
  iintro ⟨H7, H8⟩ HQ
  delta k0_part2_skel
  iapply (lane_at d i H 1 1 2 1 0 rfl rfl rfl (c := k0_cond4 (L 0).n (bit L 0) (bit L 1)) (H.cond 1) (mask := k0_pay16 laneIds) rfl (pay := k0_pay17 g.x1 g.y1 g.x2 g.y2 g.ar) (fun s => mark_lane g 1 _ _ s) six_inb (H.roomTo 1 0 (by decide))) $$ [H7 H8]
  · isplitl [H7] <;> iassumption
  iintro ⟨H7, H8⟩
  iapply (load7' d i) $$ H7; iintro H7
  iapply (lane_at d i H 2 2 3 1 1 rfl rfl rfl (c := k0_cond5 (L 0).n (bit L 0) (bit L 1) (bit L 2)) (H.cond 2) (mask := k0_pay19 laneIds) rfl (pay := k0_pay20 g.x1 g.y1 g.x2 g.y2 g.ar) (fun s => mark_lane g 2 _ _ s) six_inb (H.roomTo 1 1 (by decide))) $$ [H7 H8]
  · isplitl [H7] <;> iassumption
  iintro ⟨H7, H8⟩
  iapply (load7' d i) $$ H7; iintro H7
  iapply (lane_at d i H 3 3 4 1 2 rfl rfl rfl (c := k0_cond6 (L 0).n (bit L 0) (bit L 1) (bit L 2) (bit L 3)) (H.cond 3) (mask := k0_pay22 laneIds) rfl (pay := k0_pay23 g.x1 g.y1 g.x2 g.y2 g.ar) (fun s => mark_lane g 3 _ _ s) six_inb (H.roomTo 1 2 (by decide))) $$ [H7 H8]
  · isplitl [H7] <;> iassumption
  iintro ⟨H7, H8⟩
  iapply (load7' d i) $$ H7; iintro H7
  iapply (lane_at d i H 4 4 5 1 3 rfl rfl rfl (c := k0_cond7 (L 0).n (bit L 0) (bit L 1) (bit L 2) (bit L 3) (bit L 4)) (H.cond 4) (mask := k0_pay25 laneIds) rfl (pay := k0_pay26 g.x1 g.y1 g.x2 g.y2 g.ar) (fun s => mark_lane g 4 _ _ s) six_inb (H.roomTo 1 3 (by decide))) $$ [H7 H8]
  · isplitl [H7] <;> iassumption
  iintro ⟨H7, H8⟩
  iapply (run_pure d i (Q := Q) ⟨bit L 1, bit L 2, bit L 3, bit L 4, (nkTo (fun q => bit L (1 + q)) (L 1).n 4)⟩ rfl)
  rw [show nkTo (fun q => bit L (1 + q)) (L 1).n 4 = (L 5).n from H.nTo 1 4 (by decide)]
  iapply HQ
  isplitl [H7] <;> iassumption

/-- Lanes five to eight. -/
theorem part3_run (g : Group F) (L : ℕ → St F) (H : Run g L) {Q : _ → sProp 𝕄} :
    iprop(b7 d i (L 5).s ∗ b8 d i (L 5).K) ⊢ iprop((iprop(b7 d i (L 9).s ∗ b8 d i (L 9).K) -∗ Q ⟨bit L 5, bit L 6, bit L 7, (L 8).n, bit L 8, Scalar.andi (bit L 8) (Scalar.cmpi .slt (L 8).n 300#32)⟩) -∗
      run d i (k0_part3 i (Memref.whole main_v5_scv) (Memref.isWhole_whole _) (Memref.whole main_v6_scv) (Memref.isWhole_whole _) (Memref.whole main_v7_scv) (Memref.isWhole_whole _)
        m5 (Memref.isWhole_whole _) m6 (Memref.isWhole_whole _) m7 (Memref.isWhole_whole _) m8 (Memref.isWhole_whole _) m9 (Memref.isWhole_whole _) cc0_scoped0 cc0_scoped1 cc0_scoped2
        h1 laneIds (broadcast S16 0#32) (broadcast S16 1#32) (broadcast S16 2#32) (broadcast S16 3#32) (broadcast S16 4#32) (broadcast S16 5#32) w h2
        (L 0).n g.x1 g.y1 g.x2 g.y2 g.sc g.ar (bit L 0) (bit L 1) (bit L 2) (bit L 3) (bit L 4) (L 5).n) Q) := by
  rw [k0_part3_eq_skeleton]
  iintro ⟨H7, H8⟩ HQ
  delta k0_part3_skel
  iapply (load7' d i) $$ H7; iintro H7
  iapply (lane_at d i H 5 5 6 5 0 rfl rfl rfl (c := k0_cond8 (L 0).n (bit L 0) (bit L 1) (bit L 2) (bit L 3) (bit L 4) (bit L 5)) (H.cond 5) (mask := k0_pay28 laneIds) rfl (pay := k0_pay29 g.x1 g.y1 g.x2 g.y2 g.ar) (fun s => mark_lane g 5 _ _ s) six_inb (H.roomTo 5 0 (by decide))) $$ [H7 H8]
  · isplitl [H7] <;> iassumption
  iintro ⟨H7, H8⟩
  iapply (load7' d i) $$ H7; iintro H7
  iapply (lane_at d i H 6 6 7 5 1 rfl rfl rfl (c := k0_cond9 (L 0).n (bit L 0) (bit L 1) (bit L 2) (bit L 3) (bit L 4) (bit L 5) (bit L 6)) (H.cond 6) (mask := k0_pay31 laneIds) rfl (pay := k0_pay32 g.x1 g.y1 g.x2 g.y2 g.ar) (fun s => mark_lane g 6 _ _ s) six_inb (H.roomTo 5 1 (by decide))) $$ [H7 H8]
  · isplitl [H7] <;> iassumption
  iintro ⟨H7, H8⟩
  iapply (load7' d i) $$ H7; iintro H7
  iapply (lane_at d i H 7 7 8 5 2 rfl rfl rfl (c := k0_cond10 (L 0).n (bit L 0) (bit L 1) (bit L 2) (bit L 3) (bit L 4) (bit L 5) (bit L 6) (bit L 7)) (H.cond 7) (mask := k0_pay34 laneIds) rfl (pay := k0_pay35 g.x1 g.y1 g.x2 g.y2 g.ar) (fun s => mark_lane g 7 _ _ s) six_inb (H.roomTo 5 2 (by decide))) $$ [H7 H8]
  · isplitl [H7] <;> iassumption
  iintro ⟨H7, H8⟩
  iapply (load7' d i) $$ H7; iintro H7
  iapply (lane_at d i H 8 8 9 5 3 rfl rfl rfl (c := k0_cond11 (L 0).n (bit L 0) (bit L 1) (bit L 2) (bit L 3) (bit L 4) (bit L 5) (bit L 6) (bit L 7) (bit L 8)) (H.cond 8) (mask := k0_pay37 laneIds) rfl (pay := k0_pay38 g.x1 g.y1 g.x2 g.y2 g.ar) (fun s => mark_lane g 8 _ _ s) six_inb (H.roomTo 5 3 (by decide))) $$ [H7 H8]
  · isplitl [H7] <;> iassumption
  iintro ⟨H7, H8⟩
  iapply (run_pure d i (Q := Q) ⟨bit L 5, bit L 6, bit L 7, (nkTo (fun q => bit L (5 + q)) (L 5).n 3), bit L 8, Scalar.andi (bit L 8) (Scalar.cmpi .slt (nkTo (fun q => bit L (5 + q)) (L 5).n 3) 300#32)⟩ rfl)
  rw [show nkTo (fun q => bit L (5 + q)) (L 5).n 3 = (L 8).n from H.nTo 5 3 (by decide)]
  iapply HQ
  isplitl [H7] <;> iassumption

/-- Lanes nine to eleven, and lane twelve's bit. -/
theorem part4_run (g : Group F) (L : ℕ → St F) (H : Run g L) {Q : _ → sProp 𝕄} :
    iprop(b7 d i (L 9).s ∗ b8 d i (L 9).K) ⊢ iprop((iprop(b7 d i (L 12).s ∗ b8 d i (L 12).K) -∗ Q ⟨bit L 9, bit L 10, bit L 11, (L 12).n, bit L 12, Scalar.andi (bit L 12) (Scalar.cmpi .slt (L 12).n 300#32)⟩) -∗
      run d i (k0_part4 i (Memref.whole main_v5_scv) (Memref.isWhole_whole _) (Memref.whole main_v6_scv) (Memref.isWhole_whole _) (Memref.whole main_v7_scv) (Memref.isWhole_whole _)
        m5 (Memref.isWhole_whole _) m6 (Memref.isWhole_whole _) m7 (Memref.isWhole_whole _) m8 (Memref.isWhole_whole _) m9 (Memref.isWhole_whole _) cc0_scoped0 cc0_scoped1 cc0_scoped2
        h1 laneIds (broadcast S16 0#32) (broadcast S16 1#32) (broadcast S16 2#32) (broadcast S16 3#32) (broadcast S16 4#32) (broadcast S16 5#32) w h2
        (L 0).n g.x1 g.y1 g.x2 g.y2 g.sc g.ar (bit L 0) (bit L 1) (bit L 2) (bit L 3) (bit L 4) (bit L 5) (bit L 6) (bit L 7) (L 8).n (bit L 8) (Scalar.andi (bit L 8) (Scalar.cmpi .slt (L 8).n 300#32))) Q) := by
  rw [k0_part4_eq_skeleton]
  iintro ⟨H7, H8⟩ HQ
  delta k0_part4_skel
  iapply (load7' d i) $$ H7; iintro H7
  iapply (lane_at d i H 9 9 10 8 1 rfl rfl rfl (c := k0_cond12 (L 0).n (bit L 0) (bit L 1) (bit L 2) (bit L 3) (bit L 4) (bit L 5) (bit L 6) (bit L 7) (bit L 8) (bit L 9)) (H.cond 9) (mask := k0_pay40 laneIds) rfl (pay := k0_pay41 g.x1 g.y1 g.x2 g.y2 g.ar) (fun s => mark_lane g 9 _ _ s) six_inb (H.roomTo 8 1 (by decide))) $$ [H7 H8]
  · isplitl [H7] <;> iassumption
  iintro ⟨H7, H8⟩
  iapply (load7' d i) $$ H7; iintro H7
  iapply (lane_at d i H 10 10 11 8 2 rfl rfl rfl (c := k0_cond13 (L 0).n (bit L 0) (bit L 1) (bit L 2) (bit L 3) (bit L 4) (bit L 5) (bit L 6) (bit L 7) (bit L 8) (bit L 9) (bit L 10)) (H.cond 10) (mask := k0_pay43 laneIds) rfl (pay := k0_pay44 g.x1 g.y1 g.x2 g.y2 g.ar) (fun s => mark_lane g 10 _ _ s) six_inb (H.roomTo 8 2 (by decide))) $$ [H7 H8]
  · isplitl [H7] <;> iassumption
  iintro ⟨H7, H8⟩
  iapply (load7' d i) $$ H7; iintro H7
  iapply (lane_at d i H 11 11 12 8 3 rfl rfl rfl (c := k0_cond14 (L 0).n (bit L 0) (bit L 1) (bit L 2) (bit L 3) (bit L 4) (bit L 5) (bit L 6) (bit L 7) (bit L 8) (bit L 9) (bit L 10) (bit L 11)) (H.cond 11) (mask := k0_pay46 laneIds) rfl (pay := k0_pay47 g.x1 g.y1 g.x2 g.y2 g.ar) (fun s => mark_lane g 11 _ _ s) six_inb (H.roomTo 8 3 (by decide))) $$ [H7 H8]
  · isplitl [H7] <;> iassumption
  iintro ⟨H7, H8⟩
  iapply (load7' d i) $$ H7; iintro H7
  iapply (run_pure d i (Q := Q) ⟨bit L 9, bit L 10, bit L 11, (nkTo (fun q => bit L (8 + q)) (L 8).n 4), bit L 12, Scalar.andi (bit L 12) (Scalar.cmpi .slt (nkTo (fun q => bit L (8 + q)) (L 8).n 4) 300#32)⟩ rfl)
  rw [show nkTo (fun q => bit L (8 + q)) (L 8).n 4 = (L 12).n from H.nTo 8 4 (by decide)]
  iapply HQ
  isplitl [H7] <;> iassumption

/-- Lanes twelve to fifteen, and the count stored. -/
theorem part5_run (g : Group F) (L : ℕ → St F) (H : Run g L) (n₀ : BitVec 32) {Q : _ → sProp 𝕄} :
    iprop(b7 d i (L 12).s ∗ b8 d i (L 12).K ∗ b9 (F := F) d i n₀) ⊢ iprop((iprop(b7 d i (L 16).s ∗ b8 d i (L 16).K ∗ b9 (F := F) d i (L 16).n) -∗ Q (k0_pay60 g.sc)) -∗
      run d i (k0_part5 i (Memref.whole main_v5_scv) (Memref.isWhole_whole _) (Memref.whole main_v6_scv) (Memref.isWhole_whole _) (Memref.whole main_v7_scv) (Memref.isWhole_whole _)
        m5 (Memref.isWhole_whole _) m6 (Memref.isWhole_whole _) m7 (Memref.isWhole_whole _) m8 (Memref.isWhole_whole _) m9 (Memref.isWhole_whole _) cc0_scoped0 cc0_scoped1 cc0_scoped2
        h1 laneIds (broadcast S16 0#32) (broadcast S16 1#32) (broadcast S16 2#32) (broadcast S16 3#32) (broadcast S16 4#32) (broadcast S16 5#32) w h2
        (L 0).n g.x1 g.y1 g.x2 g.y2 g.sc g.ar (bit L 0) (bit L 1) (bit L 2) (bit L 3) (bit L 4) (bit L 5) (bit L 6) (bit L 7) (bit L 8) (bit L 9) (bit L 10) (bit L 11) (L 12).n (bit L 12) (Scalar.andi (bit L 12) (Scalar.cmpi .slt (L 12).n 300#32))) Q) := by
  rw [k0_part5_eq_skeleton]
  iintro ⟨H7, H8, H9⟩ HQ
  delta k0_part5_skel
  iapply (lane_at d i H 12 12 13 12 0 rfl rfl rfl (c := k0_cond15 (L 0).n (bit L 0) (bit L 1) (bit L 2) (bit L 3) (bit L 4) (bit L 5) (bit L 6) (bit L 7) (bit L 8) (bit L 9) (bit L 10) (bit L 11) (bit L 12)) (H.cond 12) (mask := k0_pay49 laneIds) rfl (pay := k0_pay50 g.x1 g.y1 g.x2 g.y2 g.ar) (fun s => mark_lane g 12 _ _ s) six_inb (H.roomTo 12 0 (by decide))) $$ [H7 H8]
  · isplitl [H7] <;> iassumption
  iintro ⟨H7, H8⟩
  iapply (load7' d i) $$ H7; iintro H7
  iapply (lane_at d i H 13 13 14 12 1 rfl rfl rfl (c := k0_cond16 (L 0).n (bit L 0) (bit L 1) (bit L 2) (bit L 3) (bit L 4) (bit L 5) (bit L 6) (bit L 7) (bit L 8) (bit L 9) (bit L 10) (bit L 11) (bit L 12) (bit L 13)) (H.cond 13) (mask := k0_pay52 laneIds) rfl (pay := k0_pay53 g.x1 g.y1 g.x2 g.y2 g.ar) (fun s => mark_lane g 13 _ _ s) six_inb (H.roomTo 12 1 (by decide))) $$ [H7 H8]
  · isplitl [H7] <;> iassumption
  iintro ⟨H7, H8⟩
  iapply (load7' d i) $$ H7; iintro H7
  iapply (lane_at d i H 14 14 15 12 2 rfl rfl rfl (c := k0_cond17 (L 0).n (bit L 0) (bit L 1) (bit L 2) (bit L 3) (bit L 4) (bit L 5) (bit L 6) (bit L 7) (bit L 8) (bit L 9) (bit L 10) (bit L 11) (bit L 12) (bit L 13) (bit L 14)) (H.cond 14) (mask := k0_pay55 laneIds) rfl (pay := k0_pay56 g.x1 g.y1 g.x2 g.y2 g.ar) (fun s => mark_lane g 14 _ _ s) six_inb (H.roomTo 12 2 (by decide))) $$ [H7 H8]
  · isplitl [H7] <;> iassumption
  iintro ⟨H7, H8⟩
  iapply (load7' d i) $$ H7; iintro H7
  iapply (lane_at d i H 15 15 16 12 3 rfl rfl rfl (c := k0_cond18 (L 0).n (bit L 0) (bit L 1) (bit L 2) (bit L 3) (bit L 4) (bit L 5) (bit L 6) (bit L 7) (bit L 8) (bit L 9) (bit L 10) (bit L 11) (bit L 12) (bit L 13) (bit L 14) (bit L 15)) (H.cond 15) (mask := k0_pay58 laneIds) rfl (pay := k0_pay59 g.x1 g.y1 g.x2 g.y2 g.ar) (fun s => mark_lane g 15 _ _ s) six_inb (H.roomTo 12 3 (by decide))) $$ [H7 H8]
  · isplitl [H7] <;> iassumption
  iintro ⟨H7, H8⟩
  iapply (load9' d i) $$ H9; iintro H9
  iapply (store9' d i (nkTo (fun q => bit L (12 + q)) (L 12).n 4) rfl) $$ H9; iintro H9
  iapply (run_pure d i (Q := Q) (k0_pay60 g.sc) rfl)
  rw [show nkTo (fun q => bit L (12 + q)) (L 12).n 4 = (L 16).n from H.nTo 12 4 (by decide)]
  iapply HQ
  iframe

end Cert.Proof.Nms

end
-- ==== Proof.Chunk.lean ====
/-
  One chunk of sixteen candidates: its gathers, the comparison with the kept boxes, its lanes and the count.
-/
module

public import proofs.«01_k».proof.Proof.Parts

@[expose] public section

noncomputable section

namespace Cert.Proof.Nms

open Cert.KernelIdeal Cert.KernelIdeal.Gen Cert.Proof.Spec
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type}

local notation "𝕄" => MT nD τ sig (HIx 1) (Elt F) ℕ UU ℕ

variable (d : Dev nD) (i : grid0.Coords) [FloatOps F]

/-- The order's words a chunk reads. -/
def ordV (ord : Vec F S5008 .i32) (t : ℕ) : IVec S16 32 := fun j => ordAt (F := F) ord (16 * t + (j 0).val)

/-- The rectangle of a chunk's words in the order. -/
abbrev r9 (t : Fin k0_t9_loop.trips) (h : ∀ a, (k0_off9 t) a + S16.size a ≤ S5008.size a) : Rect S5008 := Rect.unit (s := S5008) (k0_off9 t) S16.size h

theorem load6' {α : Type} {f : Vec F S5008 .i32} {t : Fin k0_t9_loop.trips} {h : ∀ a, (k0_off9 t) a + S16.size a ≤ S5008.size a} {hl : m6.view.LoadsAt (r9 t h).toLoadRect}
    {k : Vec F S16 .i32 → Prog (TpuEff nD τ sig (Elt F) Λ₀ (Tl d i).2) α} {Q : α → sProp 𝕄} :
    b6 d i f ⊢ iprop((b6 d i f -∗ run d i (k (ordV (F := F) f t.val)) Q) -∗ run d i (Prog.lift (.load m6 (r9 t h).toLoadRect hl) >>= k) Q) := by
  have H := wp_load (Γ := .empty) (defs := defs₀ (F := F)) (c := Tl d i) (U := UU) 𝒱b none Set.univ (m := m6) (r := (r9 t h).toLoadRect) (hl := hl) (k := k) (Q := Q)
    (S := Finset.univ) (q := fullShare) (f := f) (Finset.subset_univ _)
  rw [show m6.view.readAt (Elt F) (r9 t h).toLoadRect f = ordV (F := F) f t.val from by
    funext j
    have ht : t.val < 313 := Nat.lt_of_lt_of_le t.isLt k0_t9_abs.2.1
    have hj : (j 0).val < 16 := (j 0).isLt
    have hlt : 16 * t.val + (j 0).val < 5008 := by omega
    unfold ordV ordAt
    rw [dif_pos hlt]
    refine congrArg f ?_
    funext a; apply Fin.ext
    obtain rfl : a = (0 : Fin 1) := Subsingleton.elim (α := Fin 1) _ _
    show (k0_off9 t) 0 + 1 * (j 0).val = 16 * t.val + (j 0).val
    rw [k0_off9_eq]
    show 16 * t.val + 1 * (j 0).val = _
    omega] at H
  exact H

/-- A row of the table and words below its width are in range at every lane. -/
theorem inb5_of {w : BitVec 32} {v : IVec S16 32} (hw : w.toNat < 5) (hv : ∀ x, (v x).toNat < 5008) :
    ∀ a x, ((![broadcast S16 w, v] : Fin 2 → IVec S16 32) a x).toNat < S5x5008.size a
  | ⟨0, _⟩, _ => hw
  | ⟨1, _⟩, x => hv x

/-- What a chunk checks before its gathers. -/
theorem five_inb {A B : Prop} {v : IVec S16 32} (hv : ∀ x, (v x).toNat < 5008) :
    (A → B → ∀ a x, ((![broadcast S16 0#32, v] : Fin 2 → IVec S16 32) a x).toNat < S5x5008.size a) ∧
    (A → B → ∀ a x, ((![broadcast S16 1#32, v] : Fin 2 → IVec S16 32) a x).toNat < S5x5008.size a) ∧
    (A → B → ∀ a x, ((![broadcast S16 2#32, v] : Fin 2 → IVec S16 32) a x).toNat < S5x5008.size a) ∧
    (A → B → ∀ a x, ((![broadcast S16 3#32, v] : Fin 2 → IVec S16 32) a x).toNat < S5x5008.size a) ∧
    (A → B → ∀ a x, ((![broadcast S16 4#32, v] : Fin 2 → IVec S16 32) a x).toNat < S5x5008.size a) :=
  ⟨fun _ _ => inb5_of (by decide) hv, fun _ _ => inb5_of (by decide) hv, fun _ _ => inb5_of (by decide) hv, fun _ _ => inb5_of (by decide) hv, fun _ _ => inb5_of (by decide) hv⟩

/-- What the comparison with a kept column checks. -/
theorem four_inb {A B : Prop} {c : BitVec 32} (hc : c.toNat < 304) :
    (A → B → ∀ a x, ((![broadcast S16 0#32, broadcast S16 c] : Fin 2 → IVec S16 32) a x).toNat < S8x304.size a) ∧
    (A → B → ∀ a x, ((![broadcast S16 1#32, broadcast S16 c] : Fin 2 → IVec S16 32) a x).toNat < S8x304.size a) ∧
    (A → B → ∀ a x, ((![broadcast S16 2#32, broadcast S16 c] : Fin 2 → IVec S16 32) a x).toNat < S8x304.size a) ∧
    (A → B → ∀ a x, ((![broadcast S16 3#32, broadcast S16 c] : Fin 2 → IVec S16 32) a x).toNat < S8x304.size a) :=
  ⟨fun _ _ => inb_of (by decide) hc, fun _ _ => inb_of (by decide) hc, fun _ _ => inb_of (by decide) hc, fun _ _ => inb_of (by decide) hc⟩

/-- A gather of the table's row at a chunk's words is the chunk's row of candidates. -/
theorem gath_eq (tab : Vec F S5x5008 .f32) (ord : Vec F S5008 .i32) (t : ℕ) (w : BitVec 32) (r : Fin 5) (hr : w.toNat = r.val)
    (h : ∀ a x, ((![broadcast S16 w, ordV (F := F) ord t] : Fin 2 → IVec S16 32) a x).toNat < S5x5008.size a) :
    (loadIdx tab ![broadcast S16 w, ordV (F := F) ord t] h : Vec F S16 .f32) = gath tab ord t r := by
  funext x
  have hx : (ordAt (F := F) ord (16 * t + (x 0).val)).toNat < 5008 := h 1 x
  unfold gath tabAt
  rw [dif_pos hx]
  show tab _ = tab _
  congr 1
  funext a
  match a with
  | ⟨0, _⟩ => exact Fin.ext hr
  | ⟨1, _⟩ => exact Fin.ext rfl

/-- A gather of the kept array's row at one column is that element at every lane. -/
theorem kept_eq (K : Vec F S8x304 .f32) (w : BitVec 32) (r : Fin 8) (hr : w.toNat = r.val) (c : BitVec 32) (k : ℕ) (hk : c.toNat = k)
    (h : ∀ a x, ((![broadcast S16 w, broadcast S16 c] : Fin 2 → IVec S16 32) a x).toNat < S8x304.size a) :
    (loadIdx K ![broadcast S16 w, broadcast S16 c] h : Vec F S16 .f32) = broadcast S16 (keptAt K r k) := by
  funext x
  have hx : k < 304 := hk ▸ h 1 x
  unfold keptAt
  rw [dif_pos hx]
  show K _ = K _
  congr 1
  funext a
  match a with
  | ⟨0, _⟩ => exact Fin.ext hr
  | ⟨1, _⟩ => exact Fin.ext hk

theorem gather5' {α : Type} {f : Vec F S5x5008 .f32} {idxs : Fin 2 → IVec S16 32} (v : Vec F S16 .f32) {h : ∀ a x, (idxs a x).toNat < S5x5008.size a} (e : loadIdx f idxs h = v) {hl : m5.view.Loads}
    {k : Vec F S16 .f32 → Prog (TpuEff nD τ sig (Elt F) Λ₀ (Tl d i).2) α} {Q : α → sProp 𝕄} :
    b5 d i f ⊢ iprop((b5 d i f -∗ run d i (k v) Q) -∗ run d i (SparseCore.vectorLoadIdx m5 idxs h hl >>= k) Q) := e ▸ gather5 d i

theorem gather8' {α : Type} {f : Vec F S8x304 .f32} {idxs : Fin 2 → IVec S16 32} (v : Vec F S16 .f32) {h : ∀ a x, (idxs a x).toNat < S8x304.size a} (e : loadIdx f idxs h = v) {hl : m8.view.Loads}
    {k : Vec F S16 .f32 → Prog (TpuEff nD τ sig (Elt F) Λ₀ (Tl d i).2) α} {Q : α → sProp 𝕄} :
    b8 d i f ⊢ iprop((b8 d i f -∗ run d i (k v) Q) -∗ run d i (SparseCore.vectorLoadIdx m8 idxs h hl >>= k) Q) := e ▸ gather8 d i

/-- The comparison loop makes as many trips as boxes are kept. -/
theorem trips10 (n : BitVec 32) (h : n.toNat ≤ 300) : (k0_t10_loop n).trips = n.toNat := by
  have H : ∀ k : Fin 301, (k0_t10_loop (BitVec.ofNat 32 k.val)).trips = k.val := by decide +kernel
  have := H ⟨n.toNat, by omega⟩
  rwa [BitVec.ofNat_toNat, BitVec.setWidth_eq] at this

theorem iv_toNat (k : ℕ) (h : k < 2 ^ 32) : (Scf.iv 0#32 1#32 k).toNat = k := by
  unfold Scf.iv
  rw [BitVec.zero_add, BitVec.mul_one, BitVec.toNat_ofNat, Nat.mod_eq_of_lt h]

variable (h1 : k0_cond1 i = 1#1) (w : BitVec 32) (h2 : k0_cond2 w = 1#1)

/-- The states of chunk `t`'s lanes, from the kept array and the count it finds. -/
def chunkL (tab : Vec F S5x5008 .f32) (ord : Vec F S5008 .i32) (t : ℕ) (K : Vec F S8x304 .f32) (n : BitVec 32) : ℕ → St F :=
  lanes (group tab ord t) ⟨marksKept K (group tab ord t) n.toNat, K, n⟩

theorem lane_n_le (g : Group F) (j : Fin 16) (st : St F) (h : st.n.toNat ≤ 300) : (lane g j st).n.toNat ≤ 300 := by
  have H : ∀ (b : BitVec 1) (k : Fin 301), (Scalar.select (Scalar.andi b (Scalar.cmpi .slt (BitVec.ofNat 32 k.val) 300#32)) (Scalar.addi (BitVec.ofNat 32 k.val) 1#32) (BitVec.ofNat 32 k.val)).toNat ≤ 300 := by
    decide +kernel
  have := H (Scalar.cmpf .oeq (laneOf j st.s) zero) ⟨st.n.toNat, by omega⟩
  rw [BitVec.ofNat_toNat, BitVec.setWidth_eq] at this
  exact this

theorem lanes_n_le (g : Group F) (st : St F) (h : st.n.toNat ≤ 300) (j : ℕ) : (lanes g st j).n.toNat ≤ 300 := by
  induction j with
  | zero => exact h
  | succ j ih =>
    unfold lanes
    split
    · exact lane_n_le g _ _ ih
    · exact ih

theorem chunkRun (tab : Vec F S5x5008 .f32) (ord : Vec F S5008 .i32) (t : ℕ) (K : Vec F S8x304 .f32) (n : BitVec 32) (h : n.toNat ≤ 300) :
    Run (group tab ord t) (chunkL tab ord t K n) where
  step j hj := by unfold chunkL; rw [lanes, dif_pos hj]
  room j := Nat.lt_of_le_of_lt (lanes_n_le _ _ h j) (by decide)

/-- The comparison's payload at a kept column. -/
theorem pay10_eq (g : Group F) (hg : g.ar = k0_pay8 g.x1 g.y1 g.x2 g.y2) (K : Vec F S8x304 .f32) (k : ℕ) (s : Vec F S16 .f32) :
    k0_pay10 g.x1 g.y1 g.x2 g.y2 s (broadcast S16 (keptAt K 0 k)) (broadcast S16 (keptAt K 1 k)) (broadcast S16 (keptAt K 2 k)) (broadcast S16 (keptAt K 3 k)) = markKept K g k s := by
  delta k0_pay10
  rw [← hg]
  rfl

/-- One trip of the comparison with the kept boxes. -/
theorem kept_trip (g : Group F) (hg : g.ar = k0_pay8 g.x1 g.y1 g.x2 g.y2) (K : Vec F S8x304 .f32) (t : Fin k0_t9_loop.trips) (v : BitVec 32) (n : BitVec 32) (hn : n.toNat ≤ 300) (hw : k0_chk2 i w n)
    (k : Fin (k0_t10_loop n).trips) (s : Vec F S16 .f32) {Q : _ → sProp 𝕄} :
    b8 d i K ⊢ iprop((b8 d i K -∗ Q (markKept K g k.val s)) -∗
      run d i (k0_t10_body i (Memref.whole main_v5_scv) (Memref.isWhole_whole _) (Memref.whole main_v6_scv) (Memref.isWhole_whole _) (Memref.whole main_v7_scv) (Memref.isWhole_whole _)
        m5 (Memref.isWhole_whole _) m6 (Memref.isWhole_whole _) m7 (Memref.isWhole_whole _) m8 (Memref.isWhole_whole _) m9 (Memref.isWhole_whole _) cc0_scoped0 cc0_scoped1 cc0_scoped2
        h1 laneIds (broadcast S16 0#32) (broadcast S16 1#32) (broadcast S16 2#32) (broadcast S16 3#32) (broadcast S16 4#32) (broadcast S16 5#32) t v w h2 n hw g.x1 g.y1 g.x2 g.y2 k s) Q) := by
  have hk : (Scf.iv 0#32 1#32 k.val).toNat = k.val := by
    have := lt_of_lt_of_eq k.isLt (trips10 n hn)
    exact iv_toNat _ (by omega)
  have hr : (Scf.iv 0#32 1#32 k.val).toNat < 304 := by
    have := lt_of_lt_of_eq k.isLt (trips10 n hn)
    omega
  iintro H8 HQ
  delta k0_t10_body
  iapply (assume_step d i (four_inb hr))
  iapply (gather8' d i _ (kept_eq K 0#32 0 rfl (Scf.iv 0#32 1#32 k.val) k.val hk _)) $$ H8; iintro H8
  iapply (gather8' d i _ (kept_eq K 1#32 1 rfl (Scf.iv 0#32 1#32 k.val) k.val hk _)) $$ H8; iintro H8
  iapply (gather8' d i _ (kept_eq K 2#32 2 rfl (Scf.iv 0#32 1#32 k.val) k.val hk _)) $$ H8; iintro H8
  iapply (gather8' d i _ (kept_eq K 3#32 3 rfl (Scf.iv 0#32 1#32 k.val) k.val hk _)) $$ H8; iintro H8
  iapply (run_pure d i (Q := Q) (markKept K g k.val s) (pay10_eq g hg K k.val s).symm)
  iapply HQ
  iassumption

/-- A chunk's words, its candidates, the comparison with the kept boxes, and lane zero. -/
theorem part1_run (tab : Vec F S5x5008 .f32) (ord : Vec F S5008 .i32) (hord : ∀ k, (ordAt (F := F) ord k).toNat < 5008) (t : Fin k0_t9_loop.trips) (s : Vec F S16 .f32) (K : Vec F S8x304 .f32)
    (n : BitVec 32) (hn : n.toNat ≤ 300) (v : BitVec 32) {Q : _ → sProp 𝕄} :
    iprop(b5 d i tab ∗ b6 d i ord ∗ b7 d i s ∗ b8 d i K ∗ b9 (F := F) d i n) ⊢
      iprop((iprop(b5 d i tab ∗ b6 d i ord ∗ b7 d i (chunkL tab ord t.val K n 1).s ∗ b8 d i (chunkL tab ord t.val K n 1).K ∗ b9 (F := F) d i n) -∗
        Q ⟨n, (group tab ord t.val).x1, (group tab ord t.val).y1, (group tab ord t.val).x2, (group tab ord t.val).y2, (group tab ord t.val).sc, (group tab ord t.val).ar,
          bit (chunkL tab ord t.val K n) 0, (chunkL tab ord t.val K n 1).n, laneOf 1 (chunkL tab ord t.val K n 1).s, zero⟩) -∗
      run d i (k0_part1 i (Memref.whole main_v5_scv) (Memref.isWhole_whole _) (Memref.whole main_v6_scv) (Memref.isWhole_whole _) (Memref.whole main_v7_scv) (Memref.isWhole_whole _)
        m5 (Memref.isWhole_whole _) m6 (Memref.isWhole_whole _) m7 (Memref.isWhole_whole _) m8 (Memref.isWhole_whole _) m9 (Memref.isWhole_whole _) cc0_scoped0 cc0_scoped1 cc0_scoped2
        h1 laneIds (broadcast S16 0#32) (broadcast S16 1#32) (broadcast S16 2#32) (broadcast S16 3#32) (broadcast S16 4#32) (broadcast S16 5#32) t v w h2) Q) := by
  have H := chunkRun tab ord t.val K n hn
  rw [k0_part1_eq_skeleton]
  iintro ⟨H5, H6, H7, H8, H9⟩ HQ
  delta k0_part1_skel
  iapply (load9' d i) $$ H9; iintro H9
  iapply (assume_step d i (k0_chk2_all i w n))
  iapply (load6' d i) $$ H6; iintro H6
  iapply (assume_step d i (five_inb (v := ordV (F := F) ord t.val) (fun x => hord _)))
  iapply (gather5' d i _ (gath_eq tab ord t.val 0#32 0 rfl _)) $$ H5; iintro H5
  iapply (gather5' d i _ (gath_eq tab ord t.val 1#32 1 rfl _)) $$ H5; iintro H5
  iapply (gather5' d i _ (gath_eq tab ord t.val 2#32 2 rfl _)) $$ H5; iintro H5
  iapply (gather5' d i _ (gath_eq tab ord t.val 3#32 3 rfl _)) $$ H5; iintro H5
  iapply (gather5' d i _ (gath_eq tab ord t.val 4#32 4 rfl _)) $$ H5; iintro H5
  iapply (Scf.wp_for_bind _ _ _ _ _ _ _ _ _ (fun k s => iprop(⌜s = marksKept K (group tab ord t.val) k⌝ ∗ b8 d i K)) (fun k s => ?_)) $$ [H8]
  · iintro ⟨%hs, H8⟩
    subst hs
    iapply (kept_trip d i h1 w h2 (group tab ord t.val) rfl K t v n hn _ k _) $$ H8
    iintro H8
    isplitr
    · ipureintro; rfl
    · iassumption
  · isplitr
    · ipureintro; rfl
    · iassumption
  iintro %s0 ⟨%hs0, H8⟩
  rw [show Scf.trips (k0_t10_loop n).lb (k0_t10_loop n).ub (k0_t10_loop n).st = n.toNat from trips10 n hn] at hs0
  subst hs0
  iapply (Scf.wp_for0_bind' _ _ _ _ _ _ _ _ _ (Nat.le_zero.mp (k0_t11_abs n).2.1) _ _ _ (BIBase.Entails.rfl))
  iapply (load7' d i) $$ H7; iintro H7
  iapply (store7' d i) $$ H7; iintro H7
  iapply (load7' d i) $$ H7; iintro H7
  iapply (lane_at d i H 0 0 1 0 0 rfl rfl rfl (c := k0_cond3 n (bit (chunkL tab ord t.val K n) 0)) (H.cond 0) (mask := k0_pay13 laneIds) rfl (pay := k0_pay14 (group tab ord t.val).x1 (group tab ord t.val).y1 (group tab ord t.val).x2 (group tab ord t.val).y2) (fun s => mark_lane (group tab ord t.val) 0 _ _ s) six_inb (H.roomTo 0 0 (by decide))) $$ [H7 H8]
  · rw [show (chunkL tab ord t.val K n 0).s = marksKept K (group tab ord t.val) n.toNat from rfl, show (chunkL tab ord t.val K n 0).K = K from rfl]
    isplitl [H7] <;> iassumption
  iintro ⟨H7, H8⟩
  iapply (load7' d i) $$ H7; iintro H7
  iapply (run_pure d i (Q := Q) ⟨n, (group tab ord t.val).x1, (group tab ord t.val).y1, (group tab ord t.val).x2, (group tab ord t.val).y2, (group tab ord t.val).sc, (group tab ord t.val).ar,
          bit (chunkL tab ord t.val K n) 0, (nkTo (fun q => bit (chunkL tab ord t.val K n) (0 + q)) (chunkL tab ord t.val K n 0).n 1), laneOf 1 (chunkL tab ord t.val K n 1).s, zero⟩ rfl)
  rw [show nkTo (fun q => bit (chunkL tab ord t.val K n) (0 + q)) (chunkL tab ord t.val K n 0).n 1 = (chunkL tab ord t.val K n 1).n from H.nTo 0 1 (by decide)]
  iapply HQ
  isplitl [H5]; · iassumption
  isplitl [H6]; · iassumption
  isplitl [H7]; · iassumption
  isplitl [H8] <;> iassumption

/-- The kernel's low-score test of a chunk's first candidate. -/
theorem low_iff (b : BitVec 1) : Scalar.cmpi .ne (Scalar.extui b : BitVec 32) 0#32 = 1#1 ↔ b = 1#1 := by revert b; decide

theorem cond2_iff (n : BitVec 32) : k0_cond2 n = 1#1 ↔ Scalar.cmpi .slt n 300#32 = 1#1 := low_iff _

theorem chunk_pos (tab : Vec F S5x5008 .f32) (ord : Vec F S5008 .i32) (t : ℕ) (st : St F) (hs : Scalar.cmpi .slt st.n 300#32 = 1#1) :
    chunk tab ord t st = { s := (chunkL tab ord t st.K st.n 16).s, K := (chunkL tab ord t st.K st.n 16).K, n := if Scalar.cmpf .ole (laneOf 0 (group tab ord t).sc) quarter = 1#1 then 300#32 else (chunkL tab ord t st.K st.n 16).n } :=
  if_pos hs

theorem chunk_n_le (tab : Vec F S5x5008 .f32) (ord : Vec F S5008 .i32) (t : ℕ) (st : St F) (h : st.n.toNat ≤ 300) : (chunk tab ord t st).n.toNat ≤ 300 := by
  by_cases hs : Scalar.cmpi .slt st.n 300#32 = 1#1
  · rw [chunk_pos tab ord t st hs]
    dsimp only
    split
    · exact Nat.le_refl 300
    · exact lanes_n_le (group tab ord t) ⟨marksKept st.K (group tab ord t) st.n.toNat, st.K, st.n⟩ h 16
  · rw [show chunk tab ord t st = st from if_neg hs]
    exact h

theorem chunks_n_le (tab : Vec F S5x5008 .f32) (ord : Vec F S5008 .i32) (t : ℕ) : (chunks tab ord t).n.toNat ≤ 300 := by
  induction t with
  | zero => exact Nat.zero_le _
  | succ t ih => exact chunk_n_le tab ord t _ ih

theorem run_bind {α β : Type} {p : Prog (TpuEff nD τ sig (Elt F) Λ₀ (Tl d i).2) α} {k : α → Prog (TpuEff nD τ sig (Elt F) Λ₀ (Tl d i).2) β} {Q : β → sProp 𝕄} :
    run d i p (fun a => run d i (k a) Q) ⊢ run d i (p >>= k) Q := by
  unfold run
  rw [wp_bind]

theorem low_pos {β : Type} {b : BitVec 1} (h : b = 1#1) {p q : Prog (TpuEff nD τ sig (Elt F) Λ₀ (Tl d i).2) β} {Q : β → sProp 𝕄} :
    run d i p Q ⊢ run d i (if Scalar.cmpi .ne (Scalar.extui b : BitVec 32) 0#32 = 1#1 then p else q) Q := by
  rw [if_pos ((low_iff b).2 h)]

theorem low_neg {β : Type} {b : BitVec 1} (h : ¬ b = 1#1) {p q : Prog (TpuEff nD τ sig (Elt F) Λ₀ (Tl d i).2) β} {Q : β → sProp 𝕄} :
    run d i q Q ⊢ run d i (if Scalar.cmpi .ne (Scalar.extui b : BitVec 32) 0#32 = 1#1 then p else q) Q := by
  rw [if_neg fun e => h ((low_iff b).1 e)]

/-- One chunk of the kernel's loop. -/
theorem chunk_run (tab : Vec F S5x5008 .f32) (ord : Vec F S5008 .i32) (hord : ∀ k, (ordAt (F := F) ord k).toNat < 5008) (t : Fin k0_t9_loop.trips) (s : Vec F S16 .f32) (st : St F)
    (hn : st.n.toNat ≤ 300) {Q : _ → sProp 𝕄} :
    iprop(b5 d i tab ∗ b6 d i ord ∗ b7 d i s ∗ b8 d i st.K ∗ b9 (F := F) d i st.n) ⊢
      iprop((∀ s', iprop(b5 d i tab ∗ b6 d i ord ∗ b7 d i s' ∗ b8 d i (chunk tab ord t.val st).K ∗ b9 (F := F) d i (chunk tab ord t.val st).n) -∗ Q ⟨⟩) -∗
      run d i (k0_t9_body i (Memref.whole main_v5_scv) (Memref.isWhole_whole _) (Memref.whole main_v6_scv) (Memref.isWhole_whole _) (Memref.whole main_v7_scv) (Memref.isWhole_whole _)
        m5 (Memref.isWhole_whole _) m6 (Memref.isWhole_whole _) m7 (Memref.isWhole_whole _) m8 (Memref.isWhole_whole _) m9 (Memref.isWhole_whole _) cc0_scoped0 cc0_scoped1 cc0_scoped2
        h1 laneIds 0#32 t ⟨⟩) Q) := by
  iintro ⟨H5, H6, H7, H8, H9⟩ HQ
  delta k0_t9_body
  iapply (load9' d i) $$ H9; iintro H9
  by_cases h2 : k0_cond2 st.n = 1#1
  · have hs : Scalar.cmpi .slt st.n 300#32 = 1#1 := (cond2_iff _).1 h2
    have H := chunkRun tab ord t.val st.K st.n hn
    rw [dif_pos h2, chunk_pos tab ord t.val st hs]
    iapply (run_bind d i)
    iapply (part1_run d i h1 st.n h2 tab ord hord t s st.K st.n hn (Scf.iv 0#32 1#32 t.val)) $$ [H5 H6 H7 H8 H9]
    · isplitl [H5]; · iassumption
      isplitl [H6]; · iassumption
      isplitl [H7]; · iassumption
      isplitl [H8] <;> iassumption
    iintro ⟨H5, H6, H7, H8, H9⟩
    iapply (run_bind d i)
    iapply (part2_run d i h1 st.n h2 (group tab ord t.val) (chunkL tab ord t.val st.K st.n) H) $$ [H7 H8]
    · isplitl [H7] <;> iassumption
    iintro ⟨H7, H8⟩
    iapply (run_bind d i)
    iapply (part3_run d i h1 st.n h2 (group tab ord t.val) (chunkL tab ord t.val st.K st.n) H) $$ [H7 H8]
    · isplitl [H7] <;> iassumption
    iintro ⟨H7, H8⟩
    iapply (run_bind d i)
    iapply (part4_run d i h1 st.n h2 (group tab ord t.val) (chunkL tab ord t.val st.K st.n) H) $$ [H7 H8]
    · isplitl [H7] <;> iassumption
    iintro ⟨H7, H8⟩
    iapply (run_bind d i)
    iapply (part5_run d i h1 st.n h2 (group tab ord t.val) (chunkL tab ord t.val st.K st.n) H st.n) $$ [H7 H8 H9]
    · isplitl [H7]; · iassumption
      isplitl [H8] <;> iassumption
    iintro ⟨H7, H8, H9⟩
    by_cases hq : Scalar.cmpf .ole (laneOf 0 (group tab ord t.val).sc) quarter = 1#1
    · rw [if_pos hq]
      iapply (low_pos d i (b := Scalar.cmpf .ole (laneOf 0 (group tab ord t.val).sc) quarter) hq)
      iapply (load9' d i) $$ H9; iintro H9
      iapply (store9' d i 300#32 rfl) $$ H9; iintro H9
      iapply (run_pure d i (Q := Q) ⟨⟩ rfl)
      iapply HQ
      isplitl [H5]; · iassumption
      isplitl [H6]; · iassumption
      isplitl [H7]; · iassumption
      isplitl [H8] <;> iassumption
    · rw [if_neg hq]
      iapply (low_neg d i (b := Scalar.cmpf .ole (laneOf 0 (group tab ord t.val).sc) quarter) hq)
      iapply (run_pure d i (Q := Q) ⟨⟩ rfl)
      iapply HQ
      isplitl [H5]; · iassumption
      isplitl [H6]; · iassumption
      isplitl [H7]; · iassumption
      isplitl [H8] <;> iassumption
  · have hs : ¬ Scalar.cmpi .slt st.n 300#32 = 1#1 := fun e => h2 ((cond2_iff _).2 e)
    rw [dif_neg h2, show chunk tab ord t.val st = st from if_neg hs]
    iapply (run_pure d i (Q := Q) ⟨⟩ rfl)
    iapply HQ
    isplitl [H5]; · iassumption
    isplitl [H6]; · iassumption
    isplitl [H7]; · iassumption
    isplitl [H8] <;> iassumption

end Cert.Proof.Nms

end
-- ==== Proof.Tile.lean ====
/-
  The kernel's text on its tile: the kept array zeroed, the two copies in, the chunks, the copy out.
-/
module

public import proofs.«01_k».proof.Proof.Chunk

@[expose] public section

noncomputable section

namespace Cert.Proof.Nms

open Cert.KernelIdeal Cert.KernelIdeal.Gen Cert.Proof.Spec
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type}

local notation "𝕄" => MT nD τ sig (HIx 1) (Elt F) ℕ UU ℕ

variable (d : Dev nD) (i : grid0.Coords) [FloatOps F]

/-- The kept array is zero on its first `r` rows, and on the first `16 t` columns of row `r`. -/
def ZeroOn (r t : ℕ) (K : Vec F S8x304 .f32) : Prop := ∀ j, (j 0).val < r ∨ ((j 0).val = r ∧ (j 1).val < 16 * t) → K j = zero

/-- One store of sixteen zeros in row `r`. -/
theorem zero_trip {off : Fin 2 → ℕ} {h : ∀ a, off a + S1x16.size a ≤ S8x304.size a} {r t : ℕ} (hoff : off = ![r, 16 * t]) {K : Vec F S8x304 .f32} (hK : ZeroOn r t K)
    {hl : m8.view.LoadsAt (Rect.unit (s := S8x304) off S1x16.size h).toLoadRect} {hx : (m8.access (Rect.unit (s := S8x304) off S1x16.size h)).Stores Finset.univ}
    {hm : (Finset.univ : Finset S1x16.Idx) = Finset.univ ∨ ∀ a, (Rect.unit (s := S8x304) off S1x16.size h).stride a = 1}
    {Q : BitVec 32 → sProp 𝕄} :
    b8 d i K ⊢ iprop((∀ K', iprop(⌜ZeroOn r (t + 1) K'⌝ ∗ b8 d i K') -∗ Q 0#32) -∗
      run d i (do
        let _v : Vec F S1x16 .f32 ← Prog.lift (.load m8 (Rect.unit (s := S8x304) off S1x16.size h).toLoadRect hl)
        Prog.lift (.store m8 (Rect.unit (s := S8x304) off S1x16.size h) (shapeCast S1x16 (k0_pay61 (F := F)) shapeCasts_S16_S1x16) Finset.univ hx hm)
        pure 0#32) Q) := by
  unfold b8
  iintro H8 HQ
  iapply (wp_load (Γ := .empty) (defs := defs₀ (F := F)) (c := Tl d i) (U := UU) 𝒱b none Set.univ (m := m8) (r := (Rect.unit (s := S8x304) off S1x16.size h).toLoadRect) (hl := hl)
    (S := Finset.univ) (q := fullShare) (f := K) (Finset.subset_univ _)) $$ H8
  iintro H8
  iapply (wp_store (Γ := .empty) (defs := defs₀ (F := F)) (c := Tl d i) (U := UU) 𝒱b none Set.univ (m := m8) (r := Rect.unit (s := S8x304) off S1x16.size h) (hx := hx) (hm := hm)
    (S := Finset.univ) (f := K) (Finset.subset_univ _)) $$ H8
  iintro H8
  iapply (run_pure d i (Q := Q) 0#32 rfl)
  iapply HQ
  isplitr
  rotate_left
  · iexact H8
  · ipureintro
    subst hoff
    intro j hj
    by_cases hm' : ∃ x : S1x16.Idx, (m8.access (Rect.unit (s := S8x304) ![r, 16 * t] S1x16.size h)).emb x = j
    · obtain ⟨x, rfl⟩ := hm'
      exact View.write_emb_of_mem (v := m8.access (Rect.unit (s := S8x304) ![r, 16 * t] S1x16.size h)) (Val := Elt F) K _ (M := Finset.univ) (x := x) (Finset.mem_univ _)
    · rw [View.write_of_not_mem (v := m8.access (Rect.unit (s := S8x304) ![r, 16 * t] S1x16.size h)) K _ Finset.univ (fun hc => hm' (by
        obtain ⟨x, -, hx⟩ := Finset.mem_map.mp hc
        exact ⟨x, hx⟩))]
      refine hK j ?_
      rcases hj with hj | ⟨hj0, hj1⟩
      · exact .inl hj
      · refine .inr ⟨hj0, Nat.lt_of_not_le fun hge => hm' ⟨ix2 0 ⟨(j 1).val - 16 * t, by omega⟩, ?_⟩⟩
        funext a
        match a with
        | ⟨0, _⟩ => exact Fin.ext (show r + 1 * 0 = (j 0).val by omega)
        | ⟨1, _⟩ => exact Fin.ext (show 16 * t + 1 * ((j 1).val - 16 * t) = (j 1).val by omega)

/-- A row of the kept array zeroed. -/
theorem zero_row {lb ub st : BitVec 32} {hok : Scf.OK lb ub st} (htr : Scf.trips lb ub st = 19) (r : ℕ)
    {body : Fin (Scf.trips lb ub st) → BitVec 32 → Prog (TpuEff nD τ sig (Elt F) Λ₀ (Tl d i).2) (BitVec 32)}
    (hbody : ∀ (k : Fin (Scf.trips lb ub st)) (a : BitVec 32) (K : Vec F S8x304 .f32) (Q : BitVec 32 → sProp 𝕄), ZeroOn r k.val K →
      (b8 d i K ⊢ iprop((∀ K', iprop(⌜ZeroOn r (k.val + 1) K'⌝ ∗ b8 d i K') -∗ Q 0#32) -∗ run d i (body k a) Q)))
    {α : Type} {kk : BitVec 32 → Prog (TpuEff nD τ sig (Elt F) Λ₀ (Tl d i).2) α} {Q : α → sProp 𝕄} {K : Vec F S8x304 .f32} (hK : ZeroOn r 0 K) :
    b8 d i K ⊢ iprop((∀ K' a, iprop(⌜ZeroOn (r + 1) 0 K'⌝ ∗ b8 d i K') -∗ run d i (kk a) Q) -∗ run d i (Scf.for lb ub st hok 0#32 body >>= kk) Q) := by
  iintro H8 HQ
  iapply (Scf.wp_for_bind _ _ _ _ _ _ _ _ _ (fun k (_ : BitVec 32) => iprop(∃ K, ⌜ZeroOn r k K⌝ ∗ b8 d i K)) (fun k s => ?_)) $$ [H8]
  · iintro ⟨%K₁, %hK₁, H8⟩
    iapply (hbody k s K₁ _ hK₁) $$ H8
    iintro %K₂ ⟨%hK₂, H8⟩
    iexists K₂
    isplitr
    · ipureintro; exact hK₂
    · iexact H8
  · iexists K
    isplitr
    · ipureintro; exact hK
    · iexact H8
  iintro %a ⟨%K₁, %hK₁, H8⟩
  iapply HQ
  isplitr
  rotate_left
  · iexact H8
  · ipureintro
    intro j hj
    rw [htr] at hK₁
    refine hK₁ j ?_
    have h0 : (j 0).val < 8 := (j 0).isLt
    have h1 : (j 1).val < 304 := (j 1).isLt
    rcases hj with hj | ⟨_, hj⟩
    · rcases Nat.lt_succ_iff_lt_or_eq.mp hj with h | h
      · exact .inl h
      · exact .inr ⟨h, by omega⟩
    · omega

theorem off1 : ∀ t, k0_off1 t = ![0, 16 * t.val] := by decide
theorem off2 : ∀ t, k0_off2 t = ![1, 16 * t.val] := by decide
theorem off3 : ∀ t, k0_off3 t = ![2, 16 * t.val] := by decide
theorem off4 : ∀ t, k0_off4 t = ![3, 16 * t.val] := by decide
theorem off5 : ∀ t, k0_off5 t = ![4, 16 * t.val] := by decide
theorem off6 : ∀ t, k0_off6 t = ![5, 16 * t.val] := by decide
theorem off7 : ∀ t, k0_off7 t = ![6, 16 * t.val] := by decide
theorem off8 : ∀ t, k0_off8 t = ![7, 16 * t.val] := by decide

theorem laneIds_eq : laneIds = iota Kind.scVector S16 32 [0] iota_S16_d0_w32_scVector := by
  funext x
  show BitVec.ofNat 32 (x 0).val = BitVec.ofNat 32 (0 * 16 + (x 0).val)
  rw [Nat.zero_mul, Nat.zero_add]

variable (h1 : k0_cond1 i = 1#1)

/-- The kept array zeroed. -/
theorem part6_run (K : Vec F S8x304 .f32) {Q : _ → sProp 𝕄} :
    b8 d i K ⊢ iprop((b8 d i (fun _ => zero) -∗ Q ⟨laneIds, 0#32⟩) -∗
      run d i (k0_part6 i (Memref.whole main_v5_scv) (Memref.isWhole_whole _) (Memref.whole main_v6_scv) (Memref.isWhole_whole _) (Memref.whole main_v7_scv) (Memref.isWhole_whole _)
        m5 (Memref.isWhole_whole _) m6 (Memref.isWhole_whole _) m7 (Memref.isWhole_whole _) m8 (Memref.isWhole_whole _) m9 (Memref.isWhole_whole _) cc0_scoped0 cc0_scoped1 cc0_scoped2 h1) Q) := by
  rw [k0_part6_eq_skeleton]
  iintro H8 HQ
  delta k0_part6_skel
  iapply (zero_row d i (by decide) 0 (fun k a K Q hK => zero_trip d i (off1 k) hK) (fun j hj => by omega)) $$ H8
  iintro %K1 %a1 ⟨%hK1, H8⟩
  iapply (zero_row d i (by decide) 1 (fun k a K Q hK => zero_trip d i (off2 k) hK) hK1) $$ H8
  iintro %K2 %a2 ⟨%hK2, H8⟩
  iapply (zero_row d i (by decide) 2 (fun k a K Q hK => zero_trip d i (off3 k) hK) hK2) $$ H8
  iintro %K3 %a3 ⟨%hK3, H8⟩
  iapply (zero_row d i (by decide) 3 (fun k a K Q hK => zero_trip d i (off4 k) hK) hK3) $$ H8
  iintro %K4 %a4 ⟨%hK4, H8⟩
  iapply (zero_row d i (by decide) 4 (fun k a K Q hK => zero_trip d i (off5 k) hK) hK4) $$ H8
  iintro %K5 %a5 ⟨%hK5, H8⟩
  iapply (zero_row d i (by decide) 5 (fun k a K Q hK => zero_trip d i (off6 k) hK) hK5) $$ H8
  iintro %K6 %a6 ⟨%hK6, H8⟩
  iapply (zero_row d i (by decide) 6 (fun k a K Q hK => zero_trip d i (off7 k) hK) hK6) $$ H8
  iintro %K7 %a7 ⟨%hK7, H8⟩
  iapply (zero_row d i (by decide) 7 (fun k a K Q hK => zero_trip d i (off8 k) hK) hK7) $$ H8
  iintro %K8 %a8 ⟨%hK8, H8⟩
  have hz : K8 = fun _ => zero := funext fun j => hK8 j (.inl (j 0).isLt)
  subst hz
  dsimp only
  iapply (run_pure d i (Q := Q) ⟨laneIds, 0#32⟩ (congrArg (fun v => (⟨v, 0#32⟩ : Σ' (_ : IVec S16 32), BitVec 32)) laneIds_eq))
  iapply HQ
  iexact H8

/-! ## The tile's own semaphores and buffers -/

abbrev cA : GSem nD τ sig := (Tl d i, .dma cc0_scoped0.sem)
abbrev cB : GSem nD τ sig := (Tl d i, .dma cc0_scoped1.sem)
abbrev cC : GSem nD τ sig := (Tl d i, .dma cc0_scoped2.sem)

omit [FloatOps F] in
theorem ownSems0_tile :
    (ownSems0 (Tl d i) : sProp 𝕄)
      = iprop(semVal (cA d i) 0 ∗ semVal (cB d i) 0 ∗ semVal (cC d i) 0 ∗ bigSep ((((ownCells (Tl d i)).erase (cA d i)).erase (cB d i)).erase (cC d i)) fun g => semVal g 0) := by
  unfold SparseCore.Cfg.ownSems0
  rw [SparseCore.bigSep_erase' ((mem_ownCells (g := cA d i)).mpr ⟨rfl, by
      show (SemLoc.dma cc0_scoped0.sem : SemLoc sig).isScoped .scVector = true; decide⟩),
    SparseCore.bigSep_erase' (Finset.mem_erase.mpr ⟨by simp [cA, cB]; decide, (mem_ownCells (g := cB d i)).mpr ⟨rfl, by
      show (SemLoc.dma cc0_scoped1.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d i)).mpr ⟨rfl, by show (SemLoc.dma cc0_scoped2.sem : SemLoc sig).isScoped .scVector = true; decide⟩⟩⟩)]

/-- The tile's buffers other than its five scratches. -/
def restBufs : sProp 𝕄 :=
  bigSep ((((((ownRefs (τ := τ) (Tl d i).2).erase ((Tl d i).2.devRef cc0_scratch0)).erase ((Tl d i).2.devRef cc0_scratch1)).erase ((Tl d i).2.devRef cc0_scratch2)).erase
    ((Tl d i).2.devRef cc0_scratch3)).erase ((Tl d i).2.devRef cc0_scratch4)) fun b => iprop(∃ f, ((d, b) : Loc nD τ sig) ↦{fullShare} f)

omit [FloatOps F] in
theorem erase_mem (b b' : Ref sig .scVector) (h : b ≠ b') {s : Finset (DevRef τ sig)} (hm : (Tl d i).2.devRef b ∈ s) : (Tl d i).2.devRef b ∈ s.erase ((Tl d i).2.devRef b') :=
  Finset.mem_erase.mpr ⟨fun e => h (Proc.devRef_injective _ e), hm⟩

omit [FloatOps F] in
theorem own_mem (b : Ref sig .scVector) (hb : ((Tl d i).2.devRef b).owner = .proc (Tl d i).2) : (Tl d i).2.devRef b ∈ ownRefs (τ := τ) (Tl d i).2 :=
  SparseCore.Cfg.mem_ownRefs_of_owner (p := (Tl d i).2) (b := (Tl d i).2.devRef b) hb

omit [FloatOps F] in
theorem ownBufs_tile :
    (ownBufs (Tl d i) : sProp 𝕄)
      = iprop((∃ f, (Tl d i).loc cc0_scratch0 ↦{fullShare} f) ∗ (∃ f, (Tl d i).loc cc0_scratch1 ↦{fullShare} f) ∗ (∃ f, (Tl d i).loc cc0_scratch2 ↦{fullShare} f)
          ∗ (∃ f, (Tl d i).loc cc0_scratch3 ↦{fullShare} f) ∗ (∃ f, (Tl d i).loc cc0_scratch4 ↦{fullShare} f) ∗ restBufs (F := F) d i) := by
  unfold SparseCore.Cfg.ownBufs
  refine (SparseCore.bigSep_erase' (own_mem d i cc0_scratch0 rfl)).trans ?_
  rw [SparseCore.bigSep_erase' (erase_mem d i cc0_scratch1 cc0_scratch0 (by decide) (own_mem d i cc0_scratch1 rfl)),
    SparseCore.bigSep_erase' (erase_mem d i cc0_scratch2 cc0_scratch1 (by decide) (erase_mem d i cc0_scratch2 cc0_scratch0 (by decide) (own_mem d i cc0_scratch2 rfl))),
    SparseCore.bigSep_erase' (erase_mem d i cc0_scratch3 cc0_scratch2 (by decide) (erase_mem d i cc0_scratch3 cc0_scratch1 (by decide) (erase_mem d i cc0_scratch3 cc0_scratch0 (by decide) (own_mem d i cc0_scratch3 rfl)))),
    SparseCore.bigSep_erase' (erase_mem d i cc0_scratch4 cc0_scratch3 (by decide) (erase_mem d i cc0_scratch4 cc0_scratch2 (by decide) (erase_mem d i cc0_scratch4 cc0_scratch1 (by decide) (erase_mem d i cc0_scratch4 cc0_scratch0 (by decide) (own_mem d i cc0_scratch4 rfl)))))]
  rfl

/-! ## The tile's run -/

local notation "w5" => (Memref.whole Cert.KernelIdeal.main_v5_scv : Memref Cert.KernelIdeal.sig Kind.scVector Space.hbm Cert.KernelIdeal.S5x5008 EltTy.f32)
local notation "w6" => (Memref.whole Cert.KernelIdeal.main_v6_scv : Memref Cert.KernelIdeal.sig Kind.scVector Space.hbm Cert.KernelIdeal.S5008 EltTy.i32)
local notation "w7" => (Memref.whole Cert.KernelIdeal.main_v7_scv : Memref Cert.KernelIdeal.sig Kind.scVector Space.hbm Cert.KernelIdeal.S8x304 EltTy.f32)

/-- The table, the order and the result, as the TensorCore names them. -/
abbrev tabLoc : Loc nD τ sig := (SparseCore.T d).loc main_v5
abbrev ordLoc : Loc nD τ sig := (SparseCore.T d).loc main_v6
abbrev outLoc : Loc nD τ sig := (SparseCore.T d).loc main_v7

/-- The chunk loop's invariant. -/
def chunkInv (tab : Vec F S5x5008 .f32) (ord : Vec F S5008 .i32) (t : ℕ) (_ : Unit) : sProp 𝕄 :=
  iprop(b5 d i tab ∗ b6 d i ord ∗ (∃ s, b7 d i s) ∗ b8 d i (chunks tab ord t).K ∗ b9 (F := F) d i (chunks tab ord t).n)

/-- What the tile computes, from the table and the order. -/
theorem tile_run (h1 : k0_cond1 i = 1#1) (tab : Vec F S5x5008 .f32) (ord : Vec F S5008 .i32) (hord : ∀ k, (ordAt (F := F) ord k).toNat < 5008) (f₀ : Vec F S8x304 .f32)
    (O : CellTallies nD τ sig (HIx 1)) (W : Waits sig (HIx 1)) (hO : ∀ g, O g none = 0) :
    (iprop(levAts (Kc (F := F)).L (Kc (F := F)).lev ∗ emp ∗ ((tabLoc d ↦{fullShare} tab) ∗ (ordLoc d ↦{fullShare} ord) ∗ outLoc d ↦{fullShare} f₀)
        ∗ scopedBufs (Tl d i) ∗ scopedSems0 (Tl d i) ∗ owes (Tl d i) O W) : sProp 𝕄)
      ⊢ wp frame (wpE (defs₀ (F := F)) 𝒱b (Tl d i) none) Set.univ
          (cc0__nms_sc i w5 (Memref.isWhole_whole _) w6 (Memref.isWhole_whole _) w7 (Memref.isWhole_whole _)
        m5 (Memref.isWhole_whole _) m6 (Memref.isWhole_whole _) m7 (Memref.isWhole_whole _) m8 (Memref.isWhole_whole _) m9 (Memref.isWhole_whole _) cc0_scoped0 cc0_scoped1 cc0_scoped2)
          fun _ => iprop(((tabLoc d ↦{fullShare} tab) ∗ (ordLoc d ↦{fullShare} ord) ∗ outLoc d ↦{fullShare} (out tab ord)) ∗ scopedBufs (Tl d i) ∗ scopedSems0 (Tl d i)
            ∗ ∃ W', ⌜∀ p ∈ W', p ∈ W ∨ p.2 = none⌝ ∗ owes (Tl d i) O W') := by
  simp only [cc0__nms_sc_eq_skeleton]
  delta cc0__nms_sc_skel
  dsimp only
  rw [dif_pos h1, (Kc (F := F)).scopedBufs_V callFacts d ((i 0).castLE hcore0) ((i 1).castLE hsub0), SparseCore.Cfg.scopedSems0_V (Val := Elt F) d ((i 0).castLE hcore0) ((i 1).castLE hsub0), ownSems0_tile, ownBufs_tile]
  iintro ⟨#Hlv, -, ⟨Ht, Ho, Hr⟩, ⟨⟨%f5, H5⟩, ⟨%f6, H6⟩, ⟨%f7, H7⟩, ⟨%f8, H8⟩, ⟨%f9, H9⟩, Hrest⟩, ⟨HA, HB, HC, Hsems⟩, HO⟩
  ihave Hmw := ((Kc (F := F)).mayWaits_none (thr := Tl d i) hO) $$ Hlv
  iapply (run_bind d i)
  iapply (part6_run d i h1 f8) $$ [H8]
  · unfold b8; iexact H8
  iintro H8
  dsimp only
  obtain ⟨n9, rfl⟩ : ∃ n : BitVec 32, f9 = (fun _ => n : Vec F S1 .i32) := ⟨(f9 : Vec F S1 .i32) (ix1 0), funext fun x => congrArg (f9 : Vec F S1 .i32) (funext fun a => match a with | ⟨0, _⟩ => Subsingleton.elim (α := Fin 1) _ _)⟩
  ihave H9' := (show ((Tl d i).loc cc0_scratch4 ↦{fullShare} (fun _ => n9 : Vec F S1 .i32)) ⊢ b9 (F := F) d i n9 from BIBase.Entails.rfl) $$ H9
  iapply (load9' d i) $$ H9'; iintro H9
  iapply (store9' d i 0#32 rfl) $$ H9; iintro H9
  ihave Ht' := (show (tabLoc d ↦{fullShare} tab : sProp 𝕄) ⊢ ((w5).view.loc (Tl d i) ↦{fullShare} tab) from BIBase.Entails.rfl) $$ Ht
  ihave Ho' := (show (ordLoc d ↦{fullShare} ord : sProp 𝕄) ⊢ ((w6).view.loc (Tl d i) ↦{fullShare} ord) from BIBase.Entails.rfl) $$ Ho
  ihave Hr' := (show (outLoc d ↦{fullShare} f₀ : sProp 𝕄) ⊢ ((w7).view.loc (Tl d i) ↦{fullShare} f₀) from BIBase.Entails.rfl) $$ Hr
  ihave H5' := (show ((Tl d i).loc cc0_scratch0 ↦{fullShare} f5 : sProp 𝕄) ⊢ (m5.view.loc (Tl d i) ↦{fullShare} f5) from BIBase.Entails.rfl) $$ H5
  ihave H6' := (show ((Tl d i).loc cc0_scratch1 ↦{fullShare} f6 : sProp 𝕄) ⊢ (m6.view.loc (Tl d i) ↦{fullShare} f6) from BIBase.Entails.rfl) $$ H6
  unfold run
  sl_exec
  iapply (Scf.wp_for_bind _ _ _ _ _ _ _ _ _ (chunkInv d i tab ord) (fun k s => ?_)) $$ [H5' H6' H7 H8 H9]
  · unfold chunkInv
    iintro ⟨H5, H6, ⟨%s, H7⟩, H8, H9⟩
    iapply (chunk_run d i h1 tab ord hord k s (chunks tab ord k.val) (chunks_n_le tab ord k.val)) $$ [H5 H6 H7 H8 H9]
    · isplitl [H5]; · iassumption
      isplitl [H6]; · iassumption
      isplitl [H7]; · iassumption
      isplitl [H8] <;> iassumption
    iintro %s' ⟨H5, H6, H7, H8, H9⟩
    rw [show chunks tab ord (k.val + 1) = chunk tab ord k.val (chunks tab ord k.val) from rfl]
    isplitl [H5]; · iassumption
    isplitl [H6]; · iassumption
    isplitl [H7]; · iexists s'; iassumption
    isplitl [H8] <;> iassumption
  · unfold chunkInv
    rw [show View.write (Elt F) m5.view f5 (tile_run.sl.dma0 tab) Finset.univ = tab from View.write_whole_univ _ _ _,
      show View.write (Elt F) m6.view f6 (tile_run.sl.dma0_1 ord) Finset.univ = ord from View.write_whole_univ _ _ _]
    isplitl [H5']; · unfold b5; iexact H5'
    isplitl [H6']; · unfold b6; iexact H6'
    isplitl [H7]; · iexists f7; unfold b7; iexact H7
    isplitl [H8]; · iexact H8
    iexact H9
  iintro %_ HI
  rw [show Scf.trips k0_t9_loop.lb k0_t9_loop.ub k0_t9_loop.st = 313 from by decide]
  unfold chunkInv
  icases HI with ⟨H5, H6, ⟨%s, H7⟩, H8, H9⟩
  ihave H8' := (show b8 d i (chunks tab ord 313).K ⊢ (m8.view.loc (Tl d i) ↦{fullShare} (chunks tab ord 313).K) from BIBase.Entails.rfl) $$ H8
  sl_exec
  sl_step
  rw [show View.write (Elt F) (w7).view f₀ (tile_run.sl.dma0_2 tab ord) Finset.univ = out tab ord from by
    delta tile_run.sl.dma0_2 out
    generalize chunks tab ord 313 = x
    exact View.write_whole_univ _ _ _]
  unfold b5 b6 b7 b9
  isplitl [Ht' Ho' Hr']
  · isplitl [Ht']; · iexact Ht'
    isplitl [Ho']; · iexact Ho'
    iexact Hr'
  isplitl [H5 H6 H7 H8' H9 Hrest]
  · isplitl [H5]; · iexists tab; iexact H5
    isplitl [H6]; · iexists ord; iexact H6
    isplitl [H7]; · iexists s; iexact H7
    isplitl [H8']; · iexists (chunks tab ord 313).K; iexact H8'
    isplitl [H9]; · iexists (fun _ => (chunks tab ord 313).n : Vec F S1 .i32); iexact H9
    iexact Hrest
  isplitl [HA HB HC Hsems]
  · isplitl [HA]; · iexact HA
    isplitl [HB]; · iexact HB
    isplitl [HC]; · iexact HC
    iexact Hsems
  iexists _
  isplitr
  rotate_left
  · iexact HO
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    exact .inl hp

/-- A tile other than the first does nothing. -/
theorem idle_run (h1 : ¬ k0_cond1 i = 1#1) (O : CellTallies nD τ sig (HIx 1)) (W : Waits sig (HIx 1)) :
    (iprop(levAts (Kc (F := F)).L (Kc (F := F)).lev ∗ emp ∗ emp ∗ scopedBufs (Tl d i) ∗ scopedSems0 (Tl d i) ∗ owes (Tl d i) O W) : sProp 𝕄)
      ⊢ wp frame (wpE (defs₀ (F := F)) 𝒱b (Tl d i) none) Set.univ
          (cc0__nms_sc i w5 (Memref.isWhole_whole _) w6 (Memref.isWhole_whole _) w7 (Memref.isWhole_whole _)
        m5 (Memref.isWhole_whole _) m6 (Memref.isWhole_whole _) m7 (Memref.isWhole_whole _) m8 (Memref.isWhole_whole _) m9 (Memref.isWhole_whole _) cc0_scoped0 cc0_scoped1 cc0_scoped2)
          fun _ => iprop(emp ∗ scopedBufs (Tl d i) ∗ scopedSems0 (Tl d i)
            ∗ ∃ W', ⌜∀ p ∈ W', p ∈ W ∨ p.2 = none⌝ ∗ owes (Tl d i) O W') := by
  simp only [cc0__nms_sc_eq_skeleton]
  delta cc0__nms_sc_skel
  dsimp only
  rw [dif_neg h1]
  iintro ⟨-, -, -, Hb, Hs, HO⟩
  iapply (run_pure d i ⟨⟩ rfl)
  isplitr; · iempintro
  isplitl [Hb]; · iexact Hb
  isplitl [Hs]; · iexact Hs
  iexists W
  isplitr
  · ipureintro; exact fun p hp => .inl hp
  · iexact HO

end Cert.Proof.Nms

end
-- ==== Proof.Host.lean ====
/-
  The host's operations round the call, as two lines of operations, and what the call is given: the table of the boxes
  with their scores, padded, and the positions in descending order of score, padded.
-/
module

public import proofs.«01_k».proof.Proof.Tile
public import Idealize.ShloMosaic.Lib.StableHlo.RunRead
public import Idealize.ShloMosaic.Lib.Pipeline.Frame
public import Idealize.ShloMosaic.Lib.KernelVsHost

@[expose] public section

noncomputable section

namespace Cert.Proof.Nms

open Cert.KernelIdeal Cert.KernelIdeal.Gen Cert.Proof.Spec
open Idealize.ShloMosaic
open Idealize.SL Idealize.SL.RA Idealize.SL.BI Idealize.SL.Sem
open Idealize.ShloMosaic.ValueIdx (ix1 ix2)

variable {F : FTy → Type} [FloatOps F]

/-- The host's operations before the call. -/
abbrev pre : List (HloOp τ sig (Elt F)) :=
  [StableHlo.unary main_arg1 main_v0 (Host.negf : (⟨S5000, .f32⟩ : BufTy).Contents (Elt F) → (⟨S5000, .f32⟩ : BufTy).Contents (Elt F)),
   StableHlo.TRef.nullary main_call0.v0 (iotaInDim S5000 32 0),
   StableHlo.TRef.binary (.of main_v0 : StableHlo.TRef sig ⟨S5000, .f32⟩) main_call0.v0 main_call0.v1_0 (fun x y => (Host.sort2 S5000 0 comparator_f32_i32_d0 x y).1),
   StableHlo.TRef.binary (.of main_v0 : StableHlo.TRef sig ⟨S5000, .f32⟩) main_call0.v0 main_call0.v1_1 (fun x y => (Host.sort2 S5000 0 comparator_f32_i32_d0 x y).2),
   StableHlo.unary main_arg1 main_v2 (broadcastInDim S5000x1 ![0] bcast_S5000_S5000x1_0 : (⟨S5000, .f32⟩ : BufTy).Contents (Elt F) → (⟨S5000x1, .f32⟩ : BufTy).Contents (Elt F)),
   StableHlo.binary main_arg0 main_v2 main_v3 ((fun a b => concatenate S5000x5 1 [⟨S5000x4, a⟩, ⟨S5000x1, b⟩] concatenates_S5000x4_S5000x1_S5000x5_d1) : (⟨S5000x4, .f32⟩ : BufTy).Contents (Elt F) → (⟨S5000x1, .f32⟩ : BufTy).Contents (Elt F) → (⟨S5000x5, .f32⟩ : BufTy).Contents (Elt F)),
   StableHlo.nullary main_c (constantI S_ 32 0#32),
   StableHlo.TRef.unary (.of main_c : StableHlo.TRef sig ⟨S_, .i32⟩) main_call1.v0 (sitofp .f32),
   StableHlo.TRef.binary (.of main_v3 : StableHlo.TRef sig ⟨S5000x5, .f32⟩) main_call1.v0 main_call1.v1 (fun x v => pad S5008x5 ![0, 0] ![8, 0] ![0, 0] x v pads_S5000x5_S5008x5_080_000 h_S_),
   StableHlo.unary main_v4 main_v5 ((transpose S5x5008 [1, 0] · transposes_S5008x5_S5x5008_1_0) : (⟨S5008x5, .f32⟩ : BufTy).Contents (Elt F) → (⟨S5x5008, .f32⟩ : BufTy).Contents (Elt F)),
   StableHlo.nullary main_c_0 (constantI S_ 32 5000#32),
   StableHlo.TRef.unary (.of main_c_0 : StableHlo.TRef sig ⟨S_, .i32⟩) main_call2.v0 id,
   StableHlo.TRef.binary (.of main_v1 : StableHlo.TRef sig ⟨S5000, .i32⟩) main_call2.v0 main_call2.v1 (fun x v => pad S5008 ![0] ![8] ![0] x v pads_S5000_S5008_080 h_S_)]

/-- The host's operations after the call. -/
abbrev post : List (HloOp τ sig (Elt F)) :=
  [StableHlo.unary main_v7 main_v8 ((extractStridedSlice S5x300 ![0, 0] · slices_S8x304_S5x300_0_0) : (⟨S8x304, .f32⟩ : BufTy).Contents (Elt F) → (⟨S5x300, .f32⟩ : BufTy).Contents (Elt F)),
   StableHlo.unary main_v8 main_v9 ((transpose S300x5 [1, 0] · transposes_S5x300_S300x5_1_0) : (⟨S5x300, .f32⟩ : BufTy).Contents (Elt F) → (⟨S300x5, .f32⟩ : BufTy).Contents (Elt F))]

/-- The program is the first line, the call, and the second line. -/
theorem main_eq (d : Dev nD) : main (F := F) d = StableHlo.seq pre >>= fun _ => (Kc (F := F)).run d 0 >>= fun _ => StableHlo.seq post := by
  unfold main fn_argsort.body fn_pad.body fn_pad_0.body
  simp only [StableHlo.seq, bind_assoc, pure_bind]

/-- The positions in descending order of score. -/
def sorted (sc : Vec F S5000 .f32) : Vec F S5000 .i32 :=
  (Host.sort2 S5000 0 comparator_f32_i32_d0 (Host.negf sc) (iotaInDim S5000 32 0)).2

/-- The order the call is given. -/
def ordOf (sc : Vec F S5000 .f32) : Vec F S5008 .i32 :=
  pad S5008 ![0] ![8] ![0] (sorted sc) (id (constantI S_ 32 5000#32)) pads_S5000_S5008_080 h_S_

/-- The table the call is given. -/
def tabOf (bx : Vec F S5000x4 .f32) (sc : Vec F S5000 .f32) : Vec F S5x5008 .f32 :=
  transpose S5x5008 [1, 0] (pad S5008x5 ![0, 0] ![8, 0] ![0, 0]
    (concatenate S5000x5 1 [⟨S5000x4, bx⟩, ⟨S5000x1, broadcastInDim S5000x1 ![0] bcast_S5000_S5000x1_0 sc⟩] concatenates_S5000x4_S5000x1_S5000x5_d1)
    (sitofp .f32 (constantI S_ 32 0#32)) pads_S5000x5_S5008x5_080_000 h_S_) transposes_S5008x5_S5x5008_1_0

/-- The program's result from the kept array. -/
def finish (K : Vec F S8x304 .f32) : Vec F S300x5 .f32 :=
  transpose S300x5 [1, 0] (extractStridedSlice S5x300 ![0, 0] K slices_S8x304_S5x300_0_0) transposes_S5x300_S300x5_1_0

open StableHlo in
theorem pre_ord (V0 : Valuation τ sig (Elt F)) :
    after pre V0 (Proc.devRef .tc main_v6) = ordOf (V0 (Proc.devRef .tc main_arg1)) := by
  unfold ordOf sorted
  after_reads_simp
  rfl

open StableHlo in
theorem pre_tab (V0 : Valuation τ sig (Elt F)) :
    after pre V0 (Proc.devRef .tc main_v5) = tabOf (V0 (Proc.devRef .tc main_arg0)) (V0 (Proc.devRef .tc main_arg1)) := by
  unfold tabOf
  after_reads_simp
  rfl

open StableHlo in
theorem pre_arg0 (V0 : Valuation τ sig (Elt F)) :
    after pre V0 (Proc.devRef .tc main_arg0) = V0 (Proc.devRef .tc main_arg0) := by after_reads_simp

open StableHlo in
theorem pre_arg1 (V0 : Valuation τ sig (Elt F)) :
    after pre V0 (Proc.devRef .tc main_arg1) = V0 (Proc.devRef .tc main_arg1) := by after_reads_simp

open StableHlo in
theorem post_out (V0 : Valuation τ sig (Elt F)) :
    after post V0 (Proc.devRef .tc main_v9) = finish (V0 (Proc.devRef .tc main_v7)) := by
  unfold finish
  after_reads_simp

open StableHlo in
theorem post_arg0 (V0 : Valuation τ sig (Elt F)) :
    after post V0 (Proc.devRef .tc main_arg0) = V0 (Proc.devRef .tc main_arg0) := by after_reads_simp

open StableHlo in
theorem post_arg1 (V0 : Valuation τ sig (Elt F)) :
    after post V0 (Proc.devRef .tc main_arg1) = V0 (Proc.devRef .tc main_arg1) := by after_reads_simp

/-- Every position the sort returns is one of the 5000. -/
theorem sorted_lt (sc : Vec F S5000 .f32) (j : S5000.Idx) : (sorted sc j).toNat < 5000 := by
  unfold sorted Host.sort2
  rw [dif_pos (show 0 < S5000.rank by decide)]
  dsimp only [iotaInDim]
  rw [BitVec.toNat_ofNat]
  exact lt_of_le_of_lt (Nat.mod_le _ _) (Fin.isLt _)

/-- Every word of the order names a column of the table. -/
theorem ordOf_lt (sc : Vec F S5000 .f32) (k : ℕ) : (ordAt (F := F) (ordOf sc) k).toNat < 5008 := by
  unfold ordAt
  split
  · unfold ordOf pad
    split
    · exact (sorted_lt sc _).trans (by decide)
    · show (5000#32 : BitVec 32).toNat < 5008
      decide
  · decide

end Cert.Proof.Nms

end
-- ==== Proof.Launch.lean ====
/-
  The launched program: what the call passes between the processors, the host's lines round it, and the run's end, told
  as values of the arguments.
-/
module

public import proofs.«01_k».proof.Proof.Host
public import proofs.«01_k».proof.Proof.Gen.Kernel

@[expose] public section

noncomputable section

namespace Cert.Proof.Nms

open Cert.KernelIdeal Cert.KernelIdeal.Gen Cert.Proof.Spec
open Idealize.ShloMosaic
open Idealize.ShloMosaic.SparseCore (S V T)
open Idealize.ShloMosaic.SparseCore.Cfg (HIx)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)
open StableHlo (held after)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The contents along the host's lines -/

/-- The device's buffers at launch. -/
def V0 (d : Dev nD) : Valuation τ sig (Elt F) := fun b => m (d, b)
/-- The boxes. -/
abbrev boxesOf (d : Dev nD) : Vec F S5000x4 .f32 := V0 m d (Proc.devRef .tc main_arg0)
/-- The scores. -/
abbrev scoresOf (d : Dev nD) : Vec F S5000 .f32 := V0 m d (Proc.devRef .tc main_arg1)
/-- The device's buffers at the call. -/
def V1 (d : Dev nD) : Valuation τ sig (Elt F) := after pre (V0 m d)
/-- The table the call is given. -/
abbrev tabM (d : Dev nD) : Vec F S5x5008 .f32 := tabOf (boxesOf m d) (scoresOf m d)
/-- The order the call is given. -/
abbrev ordM (d : Dev nD) : Vec F S5008 .i32 := ordOf (scoresOf m d)
/-- What the result's array holds at the call. -/
abbrev oldM (d : Dev nD) : Vec F S8x304 .f32 := V1 m d (Proc.devRef .tc main_v7)
/-- What the call leaves there. -/
abbrev outM (d : Dev nD) : Vec F S8x304 .f32 := out (tabM m d) (ordM m d)
/-- The device's buffers after the call. -/
def V2 (d : Dev nD) : Valuation τ sig (Elt F) := Function.update (V1 m d) (Proc.devRef .tc main_v7) (outM m d)
/-- The device's buffers at the end. -/
def V3 (d : Dev nD) : Valuation τ sig (Elt F) := after post (V2 m d)

theorem V1_tab (d : Dev nD) : V1 m d (Proc.devRef .tc main_v5) = tabM m d := pre_tab _
theorem V1_ord (d : Dev nD) : V1 m d (Proc.devRef .tc main_v6) = ordM m d := pre_ord _

/-! ## What the call passes -/

/-- The three arrays of the call, the result's holding `f`. -/
def three (d : Dev nD) (f : Vec F S8x304 .f32) : sProp 𝕄 :=
  iprop((tabLoc d ↦{fullShare} tabM m d) ∗ (ordLoc d ↦{fullShare} ordM m d) ∗ outLoc d ↦{fullShare} f)

instance three_storable (d : Dev nD) (f : Vec F S8x304 .f32) : BI.Storable (upEmb : UEmb _ 𝕄) (three m d f) := by
  unfold three; infer_instance

/-- The three arrays when `p` holds, nothing otherwise. -/
def given (p : Prop) [Decidable p] (d : Dev nD) (f : Vec F S8x304 .f32) : sProp 𝕄 := if p then three m d f else iprop(emp)

instance given_storable (p : Prop) [Decidable p] (d : Dev nD) (f : Vec F S8x304 .f32) : BI.Storable (upEmb : UEmb _ 𝕄) (given m p d f) := by
  unfold given; split <;> infer_instance

/-- The call's payloads: core 0's first tile is given the three arrays and hands them back. -/
def P : (Kc (F := F)).Pay (nD := nD) (Val := Elt F) (Name := ℕ) (U := UU) where
  st := fun _ d c => given m (c.val = 0) d (oldM m d)
  dn := fun _ d c => given m (c.val = 0) d (outM m d)
  go := fun _ d c i => given m (c.val = 0 ∧ i.val = 0) d (oldM m d)
  td := fun _ d c i => given m (c.val = 0 ∧ i.val = 0) d (outM m d)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The tiles -/

/-- The coordinates of tile `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__nms_sc (coordsV c s)
          (Memref.whole main_v5_scv) (Memref.isWhole_whole _) (Memref.whole main_v6_scv) (Memref.isWhole_whole _) (Memref.whole main_v7_scv) (Memref.isWhole_whole _)
          m5 (Memref.isWhole_whole _) m6 (Memref.isWhole_whole _) m7 (Memref.isWhole_whole _) m8 (Memref.isWhole_whole _) m9 (Memref.isWhole_whole _)
          cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The kernel's guard holds at the first tile of core 0 only. -/
theorem guard_iff : ∀ (c : Fin (grid0.bound 0)) (s : Fin (grid0.bound 1)), k0_cond1 (coordsV c s) = 1#1 ↔ (c.val = 0 ∧ s.val = 0) := by
  decide

/-- Each tile's part of the call. -/
theorem tileObl : (Kc (F := F)).TileObl (Db (F := F)) 𝒱l (P m) vL 0 := by
  intro d c i O W hO _ _
  simp only [show (P m).ox = fun _ _ => 0 from rfl, add_zero]
  change _ ⊢ wp _ _ _ (Pipeline.liftProg (defs₀ (F := F) (.scVector ((Kc (F := F)).core 0 c) ((Kc (F := F)).sub 0 i)) 0 ())) _
  refine BI.Entails.trans ?_ (Pipeline.wp_liftProg (Db (F := F)) (Pipeline.defs_kernel pcfgs defs₀) 𝒱b _ Set.univ none _ _)
  have hc : ((Kc (F := F)).core 0 c).val < grid0.bound 0 ∧ ((Kc (F := F)).sub 0 i).val < grid0.bound 1 := ⟨c.isLt, i.isLt⟩
  rw [defs₀_vector]; simp only [SparseCore.onTile, hc, and_self, ↓reduceDIte]
  show iprop(_ ∗ _ ∗ given m (c.val = 0 ∧ i.val = 0) d (oldM m d) ∗ _) ⊢ wp _ _ _ _ (fun _ => iprop(given m (c.val = 0 ∧ i.val = 0) d (outM m d) ∗ _))
  have hg := guard_iff ⟨_, hc.1⟩ ⟨_, hc.2⟩
  by_cases h : c.val = 0 ∧ i.val = 0
  · unfold given; rw [if_pos h, if_pos h]
    exact (tile_run d (coordsV ⟨_, hc.1⟩ ⟨_, hc.2⟩) (hg.2 h) (tabM m d) (ordM m d) (ordOf_lt _) (oldM m d) O W hO).trans (wp_mono frame _ _ fun _ => obl_post)
  · unfold given; rw [if_neg h, if_neg h]
    exact (idle_run d (coordsV ⟨_, hc.1⟩ ⟨_, hc.2⟩) (fun e => h (hg.1 e)) O W).trans (wp_mono frame _ _ fun _ => obl_post)

theorem first_insert : (Finset.univ : Finset (Fin 16)) = insert 0 (Finset.univ.erase 0) := by decide

/-- The tiles' payloads of core `c` are the core's. -/
theorem given_tiles (c : ℕ) (d : Dev nD) (f : Vec F S8x304 .f32) :
    (bigSep Finset.univ fun i : Fin 16 => given m (c = 0 ∧ i.val = 0) d f) = (given m (c = 0) d f : sProp 𝕄) := by
  have he : (bigSep (Finset.univ.erase 0) fun i : Fin 16 => given m (c = 0 ∧ i.val = 0) d f) = (iprop(emp) : sProp 𝕄) :=
    (bigSep_congr (Ψ := fun _ => (iprop(emp) : sProp 𝕄)) fun i hi => if_neg fun h => (Finset.mem_erase.1 hi).1 (Fin.ext h.2)).trans (bigSep_emp_const _)
  rw [first_insert, SparseCore.bigSep_insert' (by decide), he]
  rw [show given m (c = 0 ∧ (0 : Fin 16).val = 0) d f = given m (c = 0) d f from by unfold given; simp]
  exact equiv_iff.mp BI.sep_emp

/-- A core's sequencer hands its payload to the tiles and takes theirs back. -/
theorem vecSplit : (Kc (F := F)).VecSplit' (P m) 0 := by
  intro d c
  show given m (c.val = 0) d (oldM m d) ⊢ |={Set.univ}=> iprop(
      (bigSep (Finset.univ : Finset (Fin 16)) fun i => given m (c.val = 0 ∧ i.val = 0) d (oldM m d))
      ∗ ((bigSep (Finset.univ : Finset (Fin 16)) fun i => given m (c.val = 0 ∧ i.val = 0) d (outM m d)) -∗ given m (c.val = 0) d (outM m d)))
  rw [given_tiles, given_tiles]
  iintro H; imodintro
  isplitl [H]; · iexact H
  iintro H; iexact H

/-! ## The launch element -/

def u₀ : UU := (initOf (Kc (F := F)).hsCells (Kc (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (Kc (F := F)).hsCells (Kc (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The program on the TensorCore -/

/-- The call's arrays among the device's buffers. -/
abbrev callRefs : Finset (DevRef τ sig) := {Proc.devRef .tc main_v5, Proc.devRef .tc main_v6, Proc.devRef .tc main_v7}

theorem callRefs_sub : callRefs ⊆ ucRefs τ sig := by decide

omit [FloatOps F] in
theorem held_call (d : Dev nD) (W : Valuation τ sig (Elt F)) :
    (held (T d) callRefs W : sProp 𝕄) = iprop((tabLoc d ↦{fullShare} W (Proc.devRef .tc main_v5)) ∗ (ordLoc d ↦{fullShare} W (Proc.devRef .tc main_v6))
      ∗ outLoc d ↦{fullShare} W (Proc.devRef .tc main_v7)) := by
  unfold held callRefs
  rw [SparseCore.bigSep_insert' (by decide), SparseCore.bigSep_insert' (by decide), bigSep_singleton]

theorem held_V1 (d : Dev nD) : (held (T d) (ucRefs τ sig) (V1 m d) : sProp 𝕄) = iprop(three m d (oldM m d) ∗ held (T d) (ucRefs τ sig \ callRefs) (V1 m d)) := by
  rw [StableHlo.held_sub_split (T d) callRefs_sub, held_call, V1_tab, V1_ord]; rfl

theorem held_V2 (d : Dev nD) : (held (T d) (ucRefs τ sig) (V2 m d) : sProp 𝕄) = iprop(three m d (outM m d) ∗ held (T d) (ucRefs τ sig \ callRefs) (V1 m d)) := by
  have h5 : V2 m d (Proc.devRef .tc main_v5) = tabM m d := (Function.update_of_ne (by decide) _ _).trans (V1_tab m d)
  have h6 : V2 m d (Proc.devRef .tc main_v6) = ordM m d := (Function.update_of_ne (by decide) _ _).trans (V1_ord m d)
  have h7 : V2 m d (Proc.devRef .tc main_v7) = outM m d := Function.update_self _ _ _
  have hr : (held (T d) (ucRefs τ sig \ callRefs) (V2 m d) : sProp 𝕄) = held (T d) (ucRefs τ sig \ callRefs) (V1 m d) :=
    StableHlo.held_congr (T d) fun b hb => Function.update_of_ne (fun e => (Finset.mem_sdiff.1 hb).2 (by rw [e]; decide)) _ _
  rw [StableHlo.held_sub_split (T d) callRefs_sub, held_call, h5, h6, h7, hr]; rfl

/-- What the call takes for the two cores. -/
theorem st0_eq (d : Dev nD) : (bigSep Finset.univ fun c : Fin ((Kc (F := F)).nCore 0) => (P m).st 0 d c) = iprop(three m d (oldM m d) ∗ emp) := by
  show (bigSep (Finset.univ : Finset (Fin 2)) fun c => given m (c.val = 0) d (oldM m d)) = _
  rw [show (Finset.univ : Finset (Fin 2)) = {0, 1} by decide, SparseCore.bigSep_insert' (by decide), bigSep_singleton]
  unfold given; simp
/-- What the call hands back. -/
theorem dn0_eq (d : Dev nD) : (bigSep Finset.univ fun c : Fin ((Kc (F := F)).nCore 0) => (P m).dn 0 d c) = iprop(three m d (outM m d) ∗ emp) := by
  show (bigSep (Finset.univ : Finset (Fin 2)) fun c => given m (c.val = 0) d (outM m d)) = _
  rw [show (Finset.univ : Finset (Fin 2)) = {0, 1} by decide, SparseCore.bigSep_insert' (by decide), bigSep_singleton]
  unfold given; simp

/-- What the program leaves: every buffer of the TensorCore at its last contents. -/
abbrev FIN (d : Dev nD) : sProp 𝕄 := held (T d) (ucRefs τ sig) (V3 m d)

theorem pre_sub : ∀ op ∈ (pre : List (HloOp τ sig (Elt F))), op.bufs ⊆ ucRefs τ sig := fun op hop =>
  Pipeline.sub_ucRefs op (List.forall_iff_forall_mem.1 (show (pre : List (HloOp τ sig (Elt F))).Forall fun op => op.bufs ⊆ StableHlo.tcRefs τ sig by
    simp [pre, StableHlo.TRef.nullary, StableHlo.TRef.unary, StableHlo.TRef.binary]) op hop)

theorem post_sub : ∀ op ∈ (post : List (HloOp τ sig (Elt F))), op.bufs ⊆ ucRefs τ sig := fun op hop =>
  Pipeline.sub_ucRefs op (List.forall_iff_forall_mem.1 (show (post : List (HloOp τ sig (Elt F))).Forall fun op => op.bufs ⊆ StableHlo.tcRefs τ sig by
    simp [post]) op hop)

theorem pre_fresh : ∀ op ∈ (pre : List (HloOp τ sig (Elt F))), op.fresh = ∅ := by
  intro _ h; (repeat (cases h with | head => rfl | tail _ h => ?_)); exact nomatch h

theorem post_fresh : ∀ op ∈ (post : List (HloOp τ sig (Elt F))), op.fresh = ∅ := by
  intro _ h; (repeat (cases h with | head => rfl | tail _ h => ?_)); exact nomatch h

/-- The program on device `d`'s TensorCore. -/
theorem hmain (κ : GSem nD τ sig → ℕ) (d : Dev nD) :
    iprop((Kc (F := F)).ctx EH (P m) κ ∗ (Kc (F := F)).tcSt EH d 0 ∗ (Kc (F := F)).tcRes m ρ d ∗ emp)
      ⊢ wp frame (wpE ((Kc (F := F)).defs (Db (F := F))) 𝒱l (SparseCore.T d) none) Set.univ (main d)
          fun _ => iprop((Kc (F := F)).tcSt EH d 1 ∗ FIN m d ∗ (Kc (F := F)).tcEnd d) := by
  unfold SparseCore.Cfg.tcRes SparseCore.Cfg.tcEnd
  rw [show (unscopedBufs d (fun b => m ((SparseCore.T d).loc b)) : sProp 𝕄) = held (T d) (ucRefs τ sig) (V0 m d) from Pipeline.unscopedBufs_held d (V0 m d), main_eq]
  iintro ⟨#Hctx, Hst, ⟨Hb, Hheld, Hts, -⟩, -⟩
  iapply (StableHlo.wp_seq (defs := (Kc (F := F)).defs (Db (F := F))) 𝒱l none Set.univ d (ucRefs τ sig) _ pre pre_sub pre_fresh (V0 m d)) $$ [Hb Hheld]
  · isplitl [Hb]; · iexact Hb
    iexact Hheld
  iintro ⟨Hb, Hheld⟩
  ihave Hh := (show (held (d.tc : Thread nD τ) (ucRefs τ sig) (after pre (V0 m d)) : sProp 𝕄) ⊢ _ from Entails.of_eq (held_V1 (F := F) m d)) $$ Hheld
  icases Hh with ⟨H3, Hrest⟩
  rw [wp_bind]
  iapply ((Kc (F := F)).wp_run (Db (F := F)) 𝒱l (EH := EH) (P := P m) κ d 0) $$ [Hst H3 Hb Hrest Hts]
  isplitr; · iexact Hctx
  isplitl [Hst]; · iexact Hst
  isplitl [H3]
  · rw [st0_eq]
    isplitl [H3]
    · iexact H3
    · iempintro
  iintro ⟨Hst, Hdn⟩
  ihave Hdn' := (Entails.of_eq (dn0_eq m d)) $$ Hdn
  icases Hdn' with ⟨H3, -⟩
  rw [show (StableHlo.seq post : Prog (TpuEff nD τ sig (Elt F) (SparseCore.Sig (LP (F := F)) 1) .tc) PUnit) = (StableHlo.seq post >>= fun u => Pure.pure u) from (bind_pure _).symm]
  iapply (StableHlo.wp_seq (defs := (Kc (F := F)).defs (Db (F := F))) 𝒱l none Set.univ d (ucRefs τ sig) _ post post_sub post_fresh (V2 m d)) $$ [Hb H3 Hrest]
  · isplitl [Hb]; · iexact Hb
    rw [show (held (d.tc : Thread nD τ) (ucRefs τ sig) (V2 m d) : sProp 𝕄) = _ from held_V2 m d]
    isplitl [H3]; · iexact H3
    iexact Hrest
  iintro ⟨Hb, Hheld⟩
  rw [wp_pure]; imodintro
  isplitl [Hst]; · iexact Hst
  isplitr [Hb Hts]
  · iexact Hheld
  isplitl [Hb] <;> iassumption

/-- What the end's memory is to hold. -/
def fq (d : Dev nD) (s' : Phys nD τ sig (Elt F)) : Prop := ∀ b ∈ ucRefs τ sig, s'.mem.mem (d, b) = V3 m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (ucRefs τ sig)) $$ [HSI H]
  · isplitl [HSI]; · iexact HSI
    iexact H
  ipureintro; exact h

/-- The end: every buffer of the TensorCore at its last contents, every counter at zero. -/
def QC : PUnit × MemSt nD τ sig (Elt F) → Prop := fun r => (∀ d : Dev nD, ∀ b ∈ ucRefs τ sig, r.2.mem (d, b) = V3 m d b) ∧ r.2.sem = fun _ => 0

/-- The program's run from any memory. -/
theorem run_all [∀ e, Nonempty (Elt F e)] : θ_run (Cert.KernelIdeal.defs (F := F)) (Cert.KernelIdeal.threads (F := F)) ⟨m, fun _ => 0, ρ⟩ (QC m) :=
  SparseCore.Cfg.θ_run_sc_quiescent (K := Kc (F := F)) (D := Db (F := F)) (𝒱 := 𝒱l) (EH := EH) (P := P m) (A := ∅) callFacts vL
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

theorem V3_arg0 (d : Dev nD) : V3 m d (Proc.devRef .tc main_arg0) = boxesOf m d :=
  ((post_arg0 _).trans (Function.update_of_ne (by decide) _ _)).trans (pre_arg0 _)
theorem V3_arg1 (d : Dev nD) : V3 m d (Proc.devRef .tc main_arg1) = scoresOf m d :=
  ((post_arg1 _).trans (Function.update_of_ne (by decide) _ _)).trans (pre_arg1 _)
theorem V3_out (d : Dev nD) : V3 m d (Proc.devRef .tc main_v9) = finish (outM m d) := by
  rw [V3, post_out]; exact congrArg finish (Function.update_self _ _ _)

theorem mem_uc (b : Ref sig .tc) (h : (Proc.devRef .tc b : DevRef τ sig).isScoped = false) : (Proc.devRef .tc b : DevRef τ sig) ∈ ucRefs τ sig :=
  Finset.mem_filter.2 ⟨StableHlo.devRef_mem_tcRefs b, by rw [h]; exact Bool.false_ne_true⟩

/-- The program's run: the result is the kept array's rows, the arguments stay, every counter ends at zero. -/
theorem run_main [∀ e, Nonempty (Elt F e)] : θ_run (Cert.KernelIdeal.defs (F := F)) (Cert.KernelIdeal.threads (F := F)) ⟨m, fun _ => 0, ρ⟩ fun r =>
    ((∀ c : Dev nD, r.2.mem (c.tc.loc main_v9) = finish (outM m c) ∧ r.2.mem (c.tc.loc main_arg0) = m (c.tc.loc main_arg0)
      ∧ r.2.mem (c.tc.loc main_arg1) = m (c.tc.loc main_arg1)) ∧ r.2.sem = fun _ => 0) :=
  (θ_run _ _ _).mono (fun _ h => ⟨fun c => ⟨(h.1 c _ (mem_uc main_v9 rfl)).trans (V3_out m c), (h.1 c _ (mem_uc main_arg0 rfl)).trans (V3_arg0 m c),
    (h.1 c _ (mem_uc main_arg1 rfl)).trans (V3_arg1 m c)⟩, h.2⟩) (run_all m ρ)

/-- The kernel over any float values ends with its arguments unchanged and every counter at zero. -/
theorem frame_kernel : Cert.quiescent_Kernel := fun m ρ _ =>
  (θ_run Cert.KernelIdeal.defs _ _).mono (fun _ h => ⟨fun c => (h.1 c).2, h.2⟩) (run_main (F := Bits) m ρ)

theorem frame_kernelIdeal : Cert.quiescent_KernelIdeal := fun m ρ _ =>
  (θ_run Cert.KernelIdeal.defs _ _).mono (fun _ h => ⟨fun c => (h.1 c).2, h.2⟩) (run_main (F := Ideal) m ρ)

end Cert.Proof.Nms

end
-- ==== Proof.RefRun.lean ====
/-
  The reference's run: its lines of operations before, inside and after the loop, and the 300 trips counted.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 1384

noncomputable section

namespace Cert.Proof.Ref

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- Operations of @main, in order. -/
abbrev lead0 : List (HloOp τ sig (Elt F)) :=
  [ StableHlo.unary main_arg1 main_v0 (Host.negf : (⟨S5000, .f32⟩ : BufTy).Contents (Elt F) → (⟨S5000, .f32⟩ : BufTy).Contents (Elt F)) ]
theorem lead0_sub : (lead0 : List (HloOp τ sig (Elt F))).Forall fun op => op.bufs ⊆ StableHlo.tcRefs τ sig :=
  StableHlo.unary_bufs_sub ..
/-- Operations of @argsort (main_call0), in order. -/
abbrev lead1 : List (HloOp τ sig (Elt F)) :=
  [ StableHlo.TRef.nullary (.of main_call0_v0 : StableHlo.TRef sig ⟨S5000, .i32⟩) (iotaInDim S5000 32 0),
    StableHlo.TRef.binary (.of main_v0 : StableHlo.TRef sig ⟨S5000, .f32⟩) (.of main_call0_v0 : StableHlo.TRef sig ⟨S5000, .i32⟩) (.of main_call0_v1_0 : StableHlo.TRef sig ⟨S5000, .f32⟩) (fun x y => (Host.sort2 S5000 0 comparator_f32_i32_d0 x y).1),
    StableHlo.TRef.binary (.of main_v0 : StableHlo.TRef sig ⟨S5000, .f32⟩) (.of main_call0_v0 : StableHlo.TRef sig ⟨S5000, .i32⟩) (.of main_v1 : StableHlo.TRef sig ⟨S5000, .i32⟩) (fun x y => (Host.sort2 S5000 0 comparator_f32_i32_d0 x y).2) ]
theorem lead1_sub : (lead1 : List (HloOp τ sig (Elt F))).Forall fun op => op.bufs ⊆ StableHlo.tcRefs τ sig :=
  ⟨StableHlo.nullary_bufs_sub .., StableHlo.binary_bufs_sub .., StableHlo.binary_bufs_sub ..⟩
/-- Operations of @_take (main_call1), in order. -/
abbrev lead2 : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S5000, .i32⟩) (broadcastInDim S5000 ![] bcast_S_S5000),
    StableHlo.TRef.binary (.of main_v1 : StableHlo.TRef sig ⟨S5000, .i32⟩) (.of main_call1_v0 : StableHlo.TRef sig ⟨S5000, .i32⟩) (.of main_call1_v1 : StableHlo.TRef sig ⟨S5000, .i1⟩) (cmpi .slt),
    StableHlo.TRef.nullary (.of main_call1_c_0 : StableHlo.TRef sig ⟨S_, .i32⟩) (constantI S_ 32 5000#32),
    StableHlo.TRef.unary (.of main_call1_c_0 : StableHlo.TRef sig ⟨S_, .i32⟩) (.of main_call1_v2 : StableHlo.TRef sig ⟨S5000, .i32⟩) (broadcastInDim S5000 ![] bcast_S_S5000),
    StableHlo.TRef.binary (.of main_v1 : StableHlo.TRef sig ⟨S5000, .i32⟩) (.of main_call1_v2 : StableHlo.TRef sig ⟨S5000, .i32⟩) (.of main_call1_v3 : StableHlo.TRef sig ⟨S5000, .i32⟩) addi,
    StableHlo.TRef.ternary (.of main_call1_v1 : StableHlo.TRef sig ⟨S5000, .i1⟩) (.of main_call1_v3 : StableHlo.TRef sig ⟨S5000, .i32⟩) (.of main_v1 : StableHlo.TRef sig ⟨S5000, .i32⟩) (.of main_call1_v4 : StableHlo.TRef sig ⟨S5000, .i32⟩) select,
    StableHlo.TRef.unary main_call1_call0.v0 (.of main_call1_v5 : StableHlo.TRef sig ⟨S5000x1, .i32⟩) (broadcastInDim S5000x1 ![0] bcast_S5000_S5000x1_0),
    StableHlo.TRef.nullary (.of main_call1_c_1 : StableHlo.TRef sig ⟨S1, .i32⟩) (constantI S1 32 4999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S5000x1, .i32⟩) (broadcastInDim S5000x1 ![] bcast_S_S5000x1),
    StableHlo.TRef.binary (.of main_call1_v5 : StableHlo.TRef sig ⟨S5000x1, .i32⟩) (.of main_call1_v6 : StableHlo.TRef sig ⟨S5000x1, .i32⟩) (.of main_call1_v7 : StableHlo.TRef sig ⟨S5000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S5000x1, .i32⟩) (broadcastInDim S5000x1 ![0, 1] bcast_S1x1_S5000x1_0_1),
    StableHlo.TRef.binary (.of main_call1_v5 : StableHlo.TRef sig ⟨S5000x1, .i32⟩) (.of main_call1_v9 : StableHlo.TRef sig ⟨S5000x1, .i32⟩) (.of main_call1_v10 : StableHlo.TRef sig ⟨S5000x1, .i1⟩) (cmpi .sle),
    StableHlo.TRef.binary (.of main_call1_v7 : StableHlo.TRef sig ⟨S5000x1, .i1⟩) (.of main_call1_v10 : StableHlo.TRef sig ⟨S5000x1, .i1⟩) (.of main_call1_v11 : StableHlo.TRef sig ⟨S5000x1, .i1⟩) andi,
    StableHlo.TRef.nullary (.of main_call1_c_3 : StableHlo.TRef sig ⟨S_, .i1⟩) (constantI S_ 1 1#1),
    StableHlo.TRef.binary (.of main_call1_v11 : StableHlo.TRef sig ⟨S5000x1, .i1⟩) (.of main_call1_c_3 : StableHlo.TRef sig ⟨S_, .i1⟩) (.of main_call1_v12 : StableHlo.TRef sig ⟨S5000, .i1⟩) (fun x v => Host.reduce IntOp.andi x v reducesTo_S5000x1_S5000_d1 h_S_),
    StableHlo.TRef.binary (.of main_arg0 : StableHlo.TRef sig ⟨S5000x4, .f32⟩) (.of main_call1_v5 : StableHlo.TRef sig ⟨S5000x1, .i32⟩) (.of main_call1_v13 : StableHlo.TRef sig ⟨S5000x4, .f32⟩) (fun x i => Host.gather gather_S5000x4_S5000x1_S5000x4_1_0_n_n_0_1_14 x i),
    StableHlo.TRef.unary (.of main_call1_v12 : StableHlo.TRef sig ⟨S5000, .i1⟩) (.of main_call1_v14 : StableHlo.TRef sig ⟨S5000x4, .i1⟩) (broadcastInDim S5000x4 ![0] bcast_S5000_S5000x4_0),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S5000x4, .f32⟩) (broadcastInDim S5000x4 ![] bcast_S_S5000x4),
    StableHlo.TRef.ternary (.of main_call1_v14 : StableHlo.TRef sig ⟨S5000x4, .i1⟩) (.of main_call1_v13 : StableHlo.TRef sig ⟨S5000x4, .f32⟩) (.of main_call1_v15 : StableHlo.TRef sig ⟨S5000x4, .f32⟩) (.of main_v2 : StableHlo.TRef sig ⟨S5000x4, .f32⟩) select ]
theorem lead2_sub : (lead2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- Operations of @_take_0 (main_call2), in order. -/
abbrev lead3 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S5000, .i32⟩) (broadcastInDim S5000 ![] bcast_S_S5000),
    StableHlo.TRef.binary (.of main_v1 : StableHlo.TRef sig ⟨S5000, .i32⟩) (.of main_call2_v0 : StableHlo.TRef sig ⟨S5000, .i32⟩) (.of main_call2_v1 : StableHlo.TRef sig ⟨S5000, .i1⟩) (cmpi .slt),
    StableHlo.TRef.nullary (.of main_call2_c_0 : StableHlo.TRef sig ⟨S_, .i32⟩) (constantI S_ 32 5000#32),
    StableHlo.TRef.unary (.of main_call2_c_0 : StableHlo.TRef sig ⟨S_, .i32⟩) (.of main_call2_v2 : StableHlo.TRef sig ⟨S5000, .i32⟩) (broadcastInDim S5000 ![] bcast_S_S5000),
    StableHlo.TRef.binary (.of main_v1 : StableHlo.TRef sig ⟨S5000, .i32⟩) (.of main_call2_v2 : StableHlo.TRef sig ⟨S5000, .i32⟩) (.of main_call2_v3 : StableHlo.TRef sig ⟨S5000, .i32⟩) addi,
    StableHlo.TRef.ternary (.of main_call2_v1 : StableHlo.TRef sig ⟨S5000, .i1⟩) (.of main_call2_v3 : StableHlo.TRef sig ⟨S5000, .i32⟩) (.of main_v1 : StableHlo.TRef sig ⟨S5000, .i32⟩) (.of main_call2_v4 : StableHlo.TRef sig ⟨S5000, .i32⟩) select,
    StableHlo.TRef.unary main_call2_call0.v0 (.of main_call2_v5 : StableHlo.TRef sig ⟨S5000x1, .i32⟩) (broadcastInDim S5000x1 ![0] bcast_S5000_S5000x1_0),
    StableHlo.TRef.nullary (.of main_call2_c_1 : StableHlo.TRef sig ⟨S1, .i32⟩) (constantI S1 32 4999#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S5000x1, .i32⟩) (broadcastInDim S5000x1 ![] bcast_S_S5000x1),
    StableHlo.TRef.binary (.of main_call2_v5 : StableHlo.TRef sig ⟨S5000x1, .i32⟩) (.of main_call2_v6 : StableHlo.TRef sig ⟨S5000x1, .i32⟩) (.of main_call2_v7 : StableHlo.TRef sig ⟨S5000x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S5000x1, .i32⟩) (broadcastInDim S5000x1 ![0, 1] bcast_S1x1_S5000x1_0_1),
    StableHlo.TRef.binary (.of main_call2_v5 : StableHlo.TRef sig ⟨S5000x1, .i32⟩) (.of main_call2_v9 : StableHlo.TRef sig ⟨S5000x1, .i32⟩) (.of main_call2_v10 : StableHlo.TRef sig ⟨S5000x1, .i1⟩) (cmpi .sle),
    StableHlo.TRef.binary (.of main_call2_v7 : StableHlo.TRef sig ⟨S5000x1, .i1⟩) (.of main_call2_v10 : StableHlo.TRef sig ⟨S5000x1, .i1⟩) (.of main_call2_v11 : StableHlo.TRef sig ⟨S5000x1, .i1⟩) andi,
    StableHlo.TRef.nullary (.of main_call2_c_3 : StableHlo.TRef sig ⟨S_, .i1⟩) (constantI S_ 1 1#1),
    StableHlo.TRef.binary (.of main_call2_v11 : StableHlo.TRef sig ⟨S5000x1, .i1⟩) (.of main_call2_c_3 : StableHlo.TRef sig ⟨S_, .i1⟩) (.of main_call2_v12 : StableHlo.TRef sig ⟨S5000, .i1⟩) (fun x v => Host.reduce IntOp.andi x v reducesTo_S5000x1_S5000_d1 h_S_),
    StableHlo.TRef.binary (.of main_arg1 : StableHlo.TRef sig ⟨S5000, .f32⟩) (.of main_call2_v5 : StableHlo.TRef sig ⟨S5000x1, .i32⟩) (.of main_call2_v13 : StableHlo.TRef sig ⟨S5000, .f32⟩) (fun x i => Host.gather gather_S5000_S5000x1_S5000_n_0_n_n_0_1_1 x i),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v14 : StableHlo.TRef sig ⟨S5000, .f32⟩) (broadcastInDim S5000 ![] bcast_S_S5000),
    StableHlo.TRef.ternary (.of main_call2_v12 : StableHlo.TRef sig ⟨S5000, .i1⟩) (.of main_call2_v13 : StableHlo.TRef sig ⟨S5000, .f32⟩) (.of main_call2_v14 : StableHlo.TRef sig ⟨S5000, .f32⟩) (.of main_v3 : StableHlo.TRef sig ⟨S5000, .f32⟩) select ]
theorem lead3_sub : (lead3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- Operations of @main, in order. -/
abbrev lead4 : List (HloOp τ sig (Elt F)) :=
  [ StableHlo.nullary main_cst (constant S_ .f32 0x3E800000#32),
    StableHlo.unary main_cst main_v4 (broadcastInDim S5000 ![] bcast_S_S5000 : (⟨S_, .f32⟩ : BufTy).Contents (Elt F) → (⟨S5000, .f32⟩ : BufTy).Contents (Elt F)),
    StableHlo.binary main_v3 main_v4 main_v5 (cmpf .ole : (⟨S5000, .f32⟩ : BufTy).Contents (Elt F) → (⟨S5000, .f32⟩ : BufTy).Contents (Elt F) → (⟨S5000, .i1⟩ : BufTy).Contents (Elt F)),
    StableHlo.nullary main_v6 (sitofp .f32 (iotaInDim S5000 32 0)),
    StableHlo.nullary main_c (constantI S_ 32 0#32),
    StableHlo.unary main_c main_v7 (broadcastInDim S300 ![] bcast_S_S300 : (⟨S_, .i32⟩ : BufTy).Contents (Elt F) → (⟨S300, .i32⟩ : BufTy).Contents (Elt F)),
    StableHlo.nullary main_c_0 (constantI S_ 1 0#1),
    StableHlo.unary main_c_0 main_v8 (broadcastInDim S300 ![] bcast_S_S300 : (⟨S_, .i1⟩ : BufTy).Contents (Elt F) → (⟨S300, .i1⟩ : BufTy).Contents (Elt F)),
    StableHlo.nullary main_c_1 (constantI S_ 32 0#32),
    StableHlo.unary main_v6 main_v9_0 id,
    StableHlo.unary main_v2 main_v9_1 id,
    StableHlo.unary main_c_1 main_v9_2 id,
    StableHlo.unary main_v5 main_v9_3 id,
    StableHlo.unary main_v7 main_v9_4 id,
    StableHlo.unary main_v8 main_v9_5 id ]
theorem lead4_sub : (lead4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- Operations of @main, in order. -/
abbrev rest0 : List (HloOp τ sig (Elt F)) :=
  [ StableHlo.unary main_v9_5 main_v10 (uitofp .f32 : (⟨S300, .i1⟩ : BufTy).Contents (Elt F) → (⟨S300, .f32⟩ : BufTy).Contents (Elt F)) ]
theorem rest0_sub : (rest0 : List (HloOp τ sig (Elt F))).Forall fun op => op.bufs ⊆ StableHlo.tcRefs τ sig :=
  StableHlo.unary_bufs_sub ..
/-- Operations of @_take_3 (main_call8), in order. -/
abbrev rest1 : List (HloOp τ sig (Elt F)) :=
  [ StableHlo.TRef.nullary (.of main_call8_c : StableHlo.TRef sig ⟨S_, .i32⟩) (constantI S_ 32 0#32),
    StableHlo.TRef.unary (.of main_call8_c : StableHlo.TRef sig ⟨S_, .i32⟩) (.of main_call8_v0 : StableHlo.TRef sig ⟨S300, .i32⟩) (broadcastInDim S300 ![] bcast_S_S300),
    StableHlo.TRef.binary (.of main_v9_4 : StableHlo.TRef sig ⟨S300, .i32⟩) (.of main_call8_v0 : StableHlo.TRef sig ⟨S300, .i32⟩) (.of main_call8_v1 : StableHlo.TRef sig ⟨S300, .i1⟩) (cmpi .slt),
    StableHlo.TRef.nullary (.of main_call8_c_0 : StableHlo.TRef sig ⟨S_, .i32⟩) (constantI S_ 32 5000#32),
    StableHlo.TRef.unary (.of main_call8_c_0 : StableHlo.TRef sig ⟨S_, .i32⟩) (.of main_call8_v2 : StableHlo.TRef sig ⟨S300, .i32⟩) (broadcastInDim S300 ![] bcast_S_S300),
    StableHlo.TRef.binary (.of main_v9_4 : StableHlo.TRef sig ⟨S300, .i32⟩) (.of main_call8_v2 : StableHlo.TRef sig ⟨S300, .i32⟩) (.of main_call8_v3 : StableHlo.TRef sig ⟨S300, .i32⟩) addi,
    StableHlo.TRef.ternary (.of main_call8_v1 : StableHlo.TRef sig ⟨S300, .i1⟩) (.of main_call8_v3 : StableHlo.TRef sig ⟨S300, .i32⟩) (.of main_v9_4 : StableHlo.TRef sig ⟨S300, .i32⟩) (.of main_call8_v4 : StableHlo.TRef sig ⟨S300, .i32⟩) select,
    StableHlo.TRef.unary main_call8_call0.v0 (.of main_call8_v5 : StableHlo.TRef sig ⟨S300x1, .i32⟩) (broadcastInDim S300x1 ![0] bcast_S300_S300x1_0),
    StableHlo.TRef.nullary (.of main_call8_c_1 : StableHlo.TRef sig ⟨S1, .i32⟩) (constantI S1 32 4999#32),
    StableHlo.TRef.nullary (.of main_call8_c_2 : StableHlo.TRef sig ⟨S_, .i32⟩) (constantI S_ 32 0#32),
    StableHlo.TRef.unary (.of main_call8_c_2 : StableHlo.TRef sig ⟨S_, .i32⟩) (.of main_call8_v6 : StableHlo.TRef sig ⟨S300x1, .i32⟩) (broadcastInDim S300x1 ![] bcast_S_S300x1),
    StableHlo.TRef.binary (.of main_call8_v5 : StableHlo.TRef sig ⟨S300x1, .i32⟩) (.of main_call8_v6 : StableHlo.TRef sig ⟨S300x1, .i32⟩) (.of main_call8_v7 : StableHlo.TRef sig ⟨S300x1, .i1⟩) (cmpi .sge),
    StableHlo.TRef.unary (.of main_call8_c_1 : StableHlo.TRef sig ⟨S1, .i32⟩) (.of main_call8_v8 : StableHlo.TRef sig ⟨S1x1, .i32⟩) (broadcastInDim S1x1 ![1] bcast_S1_S1x1_1),
    StableHlo.TRef.unary (.of main_call8_v8 : StableHlo.TRef sig ⟨S1x1, .i32⟩) (.of main_call8_v9 : StableHlo.TRef sig ⟨S300x1, .i32⟩) (broadcastInDim S300x1 ![0, 1] bcast_S1x1_S300x1_0_1),
    StableHlo.TRef.binary (.of main_call8_v5 : StableHlo.TRef sig ⟨S300x1, .i32⟩) (.of main_call8_v9 : StableHlo.TRef sig ⟨S300x1, .i32⟩) (.of main_call8_v10 : StableHlo.TRef sig ⟨S300x1, .i1⟩) (cmpi .sle),
    StableHlo.TRef.binary (.of main_call8_v7 : StableHlo.TRef sig ⟨S300x1, .i1⟩) (.of main_call8_v10 : StableHlo.TRef sig ⟨S300x1, .i1⟩) (.of main_call8_v11 : StableHlo.TRef sig ⟨S300x1, .i1⟩) andi,
    StableHlo.TRef.nullary (.of main_call8_c_3 : StableHlo.TRef sig ⟨S_, .i1⟩) (constantI S_ 1 1#1),
    StableHlo.TRef.binary (.of main_call8_v11 : StableHlo.TRef sig ⟨S300x1, .i1⟩) (.of main_call8_c_3 : StableHlo.TRef sig ⟨S_, .i1⟩) (.of main_call8_v12 : StableHlo.TRef sig ⟨S300, .i1⟩) (fun x v => Host.reduce IntOp.andi x v reducesTo_S300x1_S300_d1 h_S_),
    StableHlo.TRef.binary (.of main_v2 : StableHlo.TRef sig ⟨S5000x4, .f32⟩) (.of main_call8_v5 : StableHlo.TRef sig ⟨S300x1, .i32⟩) (.of main_call8_v13 : StableHlo.TRef sig ⟨S300x4, .f32⟩) (fun x i => Host.gather gather_S5000x4_S300x1_S300x4_1_0_n_n_0_1_14 x i),
    StableHlo.TRef.unary (.of main_call8_v12 : StableHlo.TRef sig ⟨S300, .i1⟩) (.of main_call8_v14 : StableHlo.TRef sig ⟨S300x4, .i1⟩) (broadcastInDim S300x4 ![0] bcast_S300_S300x4_0),
    StableHlo.TRef.nullary (.of main_call8_cst : StableHlo.TRef sig ⟨S_, .f32⟩) (constant S_ .f32 0x7FC00000#32),
    StableHlo.TRef.unary (.of main_call8_cst : StableHlo.TRef sig ⟨S_, .f32⟩) (.of main_call8_v15 : StableHlo.TRef sig ⟨S300x4, .f32⟩) (broadcastInDim S300x4 ![] bcast_S_S300x4),
    StableHlo.TRef.ternary (.of main_call8_v14 : StableHlo.TRef sig ⟨S300x4, .i1⟩) (.of main_call8_v13 : StableHlo.TRef sig ⟨S300x4, .f32⟩) (.of main_call8_v15 : StableHlo.TRef sig ⟨S300x4, .f32⟩) (.of main_v11 : StableHlo.TRef sig ⟨S300x4, .f32⟩) select ]
theorem rest1_sub : (rest1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- Operations of @main, in order. -/
abbrev rest2 : List (HloOp τ sig (Elt F)) :=
  [ StableHlo.unary main_v10 main_v12 (broadcastInDim S300x1 ![0] bcast_S300_S300x1_0 : (⟨S300, .f32⟩ : BufTy).Contents (Elt F) → (⟨S300x1, .f32⟩ : BufTy).Contents (Elt F)),
    StableHlo.unary main_v12 main_v13 (broadcastInDim S300x4 ![0, 1] bcast_S300x1_S300x4_0_1 : (⟨S300x1, .f32⟩ : BufTy).Contents (Elt F) → (⟨S300x4, .f32⟩ : BufTy).Contents (Elt F)),
    StableHlo.binary main_v11 main_v13 main_v14 (mulf : (⟨S300x4, .f32⟩ : BufTy).Contents (Elt F) → (⟨S300x4, .f32⟩ : BufTy).Contents (Elt F) → (⟨S300x4, .f32⟩ : BufTy).Contents (Elt F)) ]
theorem rest2_sub : (rest2 : List (HloOp τ sig (Elt F))).Forall fun op => op.bufs ⊆ StableHlo.tcRefs τ sig :=
  ⟨StableHlo.unary_bufs_sub .., StableHlo.unary_bufs_sub .., StableHlo.binary_bufs_sub ..⟩
/-- Operations of @_take_5 (main_call9), in order. -/
abbrev rest3 : List (HloOp τ sig (Elt F)) :=
  [ StableHlo.TRef.nullary (.of main_call9_c : StableHlo.TRef sig ⟨S_, .i32⟩) (constantI S_ 32 0#32),
    StableHlo.TRef.unary (.of main_call9_c : StableHlo.TRef sig ⟨S_, .i32⟩) (.of main_call9_v0 : StableHlo.TRef sig ⟨S300, .i32⟩) (broadcastInDim S300 ![] bcast_S_S300),
    StableHlo.TRef.binary (.of main_v9_4 : StableHlo.TRef sig ⟨S300, .i32⟩) (.of main_call9_v0 : StableHlo.TRef sig ⟨S300, .i32⟩) (.of main_call9_v1 : StableHlo.TRef sig ⟨S300, .i1⟩) (cmpi .slt),
    StableHlo.TRef.nullary (.of main_call9_c_0 : StableHlo.TRef sig ⟨S_, .i32⟩) (constantI S_ 32 5000#32),
    StableHlo.TRef.unary (.of main_call9_c_0 : StableHlo.TRef sig ⟨S_, .i32⟩) (.of main_call9_v2 : StableHlo.TRef sig ⟨S300, .i32⟩) (broadcastInDim S300 ![] bcast_S_S300),
    StableHlo.TRef.binary (.of main_v9_4 : StableHlo.TRef sig ⟨S300, .i32⟩) (.of main_call9_v2 : StableHlo.TRef sig ⟨S300, .i32⟩) (.of main_call9_v3 : StableHlo.TRef sig ⟨S300, .i32⟩) addi,
    StableHlo.TRef.ternary (.of main_call9_v1 : StableHlo.TRef sig ⟨S300, .i1⟩) (.of main_call9_v3 : StableHlo.TRef sig ⟨S300, .i32⟩) (.of main_v9_4 : StableHlo.TRef sig ⟨S300, .i32⟩) (.of main_call9_v4 : StableHlo.TRef sig ⟨S300, .i32⟩) select,
    StableHlo.TRef.unary main_call9_call0.v0 (.of main_call9_v5 : StableHlo.TRef sig ⟨S300x1, .i32⟩) (broadcastInDim S300x1 ![0] bcast_S300_S300x1_0),
    StableHlo.TRef.nullary (.of main_call9_c_1 : StableHlo.TRef sig ⟨S1, .i32⟩) (constantI S1 32 4999#32),
    StableHlo.TRef.nullary (.of main_call9_c_2 : StableHlo.TRef sig ⟨S_, .i32⟩) (constantI S_ 32 0#32),
    StableHlo.TRef.unary (.of main_call9_c_2 : StableHlo.TRef sig ⟨S_, .i32⟩) (.of main_call9_v6 : StableHlo.TRef sig ⟨S300x1, .i32⟩) (broadcastInDim S300x1 ![] bcast_S_S300x1),
    StableHlo.TRef.binary (.of main_call9_v5 : StableHlo.TRef sig ⟨S300x1, .i32⟩) (.of main_call9_v6 : StableHlo.TRef sig ⟨S300x1, .i32⟩) (.of main_call9_v7 : StableHlo.TRef sig ⟨S300x1, .i1⟩) (cmpi .sge),
    StableHlo.TRef.unary (.of main_call9_c_1 : StableHlo.TRef sig ⟨S1, .i32⟩) (.of main_call9_v8 : StableHlo.TRef sig ⟨S1x1, .i32⟩) (broadcastInDim S1x1 ![1] bcast_S1_S1x1_1),
    StableHlo.TRef.unary (.of main_call9_v8 : StableHlo.TRef sig ⟨S1x1, .i32⟩) (.of main_call9_v9 : StableHlo.TRef sig ⟨S300x1, .i32⟩) (broadcastInDim S300x1 ![0, 1] bcast_S1x1_S300x1_0_1),
    StableHlo.TRef.binary (.of main_call9_v5 : StableHlo.TRef sig ⟨S300x1, .i32⟩) (.of main_call9_v9 : StableHlo.TRef sig ⟨S300x1, .i32⟩) (.of main_call9_v10 : StableHlo.TRef sig ⟨S300x1, .i1⟩) (cmpi .sle),
    StableHlo.TRef.binary (.of main_call9_v7 : StableHlo.TRef sig ⟨S300x1, .i1⟩) (.of main_call9_v10 : StableHlo.TRef sig ⟨S300x1, .i1⟩) (.of main_call9_v11 : StableHlo.TRef sig ⟨S300x1, .i1⟩) andi,
    StableHlo.TRef.nullary (.of main_call9_c_3 : StableHlo.TRef sig ⟨S_, .i1⟩) (constantI S_ 1 1#1),
    StableHlo.TRef.binary (.of main_call9_v11 : StableHlo.TRef sig ⟨S300x1, .i1⟩) (.of main_call9_c_3 : StableHlo.TRef sig ⟨S_, .i1⟩) (.of main_call9_v12 : StableHlo.TRef sig ⟨S300, .i1⟩) (fun x v => Host.reduce IntOp.andi x v reducesTo_S300x1_S300_d1 h_S_),
    StableHlo.TRef.binary (.of main_v3 : StableHlo.TRef sig ⟨S5000, .f32⟩) (.of main_call9_v5 : StableHlo.TRef sig ⟨S300x1, .i32⟩) (.of main_call9_v13 : StableHlo.TRef sig ⟨S300, .f32⟩) (fun x i => Host.gather gather_S5000_S300x1_S300_n_0_n_n_0_1_1 x i),
    StableHlo.TRef.nullary (.of main_call9_cst : StableHlo.TRef sig ⟨S_, .f32⟩) (constant S_ .f32 0x7FC00000#32),
    StableHlo.TRef.unary (.of main_call9_cst : StableHlo.TRef sig ⟨S_, .f32⟩) (.of main_call9_v14 : StableHlo.TRef sig ⟨S300, .f32⟩) (broadcastInDim S300 ![] bcast_S_S300),
    StableHlo.TRef.ternary (.of main_call9_v12 : StableHlo.TRef sig ⟨S300, .i1⟩) (.of main_call9_v13 : StableHlo.TRef sig ⟨S300, .f32⟩) (.of main_call9_v14 : StableHlo.TRef sig ⟨S300, .f32⟩) (.of main_v15 : StableHlo.TRef sig ⟨S300, .f32⟩) select ]
theorem rest3_sub : (rest3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- Operations of @main, in order. -/
abbrev rest4 : List (HloOp τ sig (Elt F)) :=
  [ StableHlo.binary main_v15 main_v10 main_v16 (mulf : (⟨S300, .f32⟩ : BufTy).Contents (Elt F) → (⟨S300, .f32⟩ : BufTy).Contents (Elt F) → (⟨S300, .f32⟩ : BufTy).Contents (Elt F)),
    StableHlo.unary main_v16 main_v17 (broadcastInDim S300x1 ![0] bcast_S300_S300x1_0 : (⟨S300, .f32⟩ : BufTy).Contents (Elt F) → (⟨S300x1, .f32⟩ : BufTy).Contents (Elt F)),
    StableHlo.binary main_v14 main_v17 main_v18 ((fun a b => concatenate S300x5 1 [⟨S300x4, a⟩, ⟨S300x1, b⟩] concatenates_S300x4_S300x1_S300x5_d1) : (⟨S300x4, .f32⟩ : BufTy).Contents (Elt F) → (⟨S300x1, .f32⟩ : BufTy).Contents (Elt F) → (⟨S300x5, .f32⟩ : BufTy).Contents (Elt F)) ]
theorem rest4_sub : (rest4 : List (HloOp τ sig (Elt F))).Forall fun op => op.bufs ⊆ StableHlo.tcRefs τ sig :=
  ⟨StableHlo.binary_bufs_sub .., StableHlo.unary_bufs_sub .., StableHlo.binary_bufs_sub ..⟩
/-- The reference is its lines of operations with the loop between. -/
theorem main_chain (c : Dev nD) : main (F := F) c = (Pipeline.chain
  [ StableHlo.seq lead0,
    StableHlo.seq lead1,
    StableHlo.seq lead2,
    StableHlo.seq lead3,
    StableHlo.seq lead4,
    HostLoop.enter 0,
    StableHlo.seq rest0,
    StableHlo.seq rest1,
    StableHlo.seq rest2,
    StableHlo.seq rest3,
    StableHlo.seq rest4 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, Pipeline.chain_cons, Pipeline.chain_cons, StableHlo.chain_seq_cons, Pipeline.chain_cons, StableHlo.chain_seq_cons, Pipeline.chain_cons, StableHlo.chain_seq_cons, Pipeline.chain_cons, StableHlo.chain_seq_cons]
  chain_rfl

/-- Operations of one trip, in order. -/
abbrev trip0 : List (HloOp τ sig (Elt F)) :=
  [ StableHlo.nullary main_while0b_cst_7 (constant S_ .f32 0x459C4000#32) ]
theorem trip0_sub : (trip0 : List (HloOp τ sig (Elt F))).Forall fun op => op.bufs ⊆ StableHlo.tcRefs τ sig :=
  StableHlo.nullary_bufs_sub ..
/-- Operations of @_where_1 (main_while0b_call3), in order. -/
abbrev trip1 : List (HloOp τ sig (Elt F)) :=
  [ StableHlo.TRef.unary (.of main_while0b_cst_7 : StableHlo.TRef sig ⟨S_, .f32⟩) (.of main_while0b_call3_v0 : StableHlo.TRef sig ⟨S5000, .f32⟩) (broadcastInDim S5000 ![] bcast_S_S5000),
    StableHlo.TRef.ternary (.of main_v9_3 : StableHlo.TRef sig ⟨S5000, .i1⟩) (.of main_while0b_call3_v0 : StableHlo.TRef sig ⟨S5000, .f32⟩) (.of main_v9_0 : StableHlo.TRef sig ⟨S5000, .f32⟩) (.of main_while0b_v19 : StableHlo.TRef sig ⟨S5000, .f32⟩) select ]
theorem trip1_sub : (trip1 : List (HloOp τ sig (Elt F))).Forall fun op => op.bufs ⊆ StableHlo.tcRefs τ sig :=
  ⟨StableHlo.unary_bufs_sub .., StableHlo.ternary_bufs_sub ..⟩
/-- Operations of @argmin (main_while0b_call4), in order. -/
abbrev trip2 : List (HloOp τ sig (Elt F)) :=
  [ StableHlo.TRef.nullary (.of main_while0b_call4_v0 : StableHlo.TRef sig ⟨S5000, .i32⟩) (iotaInDim S5000 32 0),
    StableHlo.TRef.nullary (.of main_while0b_call4_cst : StableHlo.TRef sig ⟨S_, .f32⟩) (constant S_ .f32 0x7F800000#32),
    StableHlo.TRef.nullary (.of main_while0b_call4_c : StableHlo.TRef sig ⟨S_, .i32⟩) (constantI S_ 32 0#32),
    StableHlo.TRef.quaternary (.of main_while0b_v19 : StableHlo.TRef sig ⟨S5000, .f32⟩) (.of main_while0b_call4_v0 : StableHlo.TRef sig ⟨S5000, .i32⟩) (.of main_while0b_call4_cst : StableHlo.TRef sig ⟨S_, .f32⟩) (.of main_while0b_call4_c : StableHlo.TRef sig ⟨S_, .i32⟩) (.of main_while0b_call4_v1_0 : StableHlo.TRef sig ⟨S_, .f32⟩) (fun x y u v j => (Host.argReduce reducer_argmin_f32_i32 x y u v reducesTo_S5000_S_d0 h_S_ j).1),
    StableHlo.TRef.quaternary (.of main_while0b_v19 : StableHlo.TRef sig ⟨S5000, .f32⟩) (.of main_while0b_call4_v0 : StableHlo.TRef sig ⟨S5000, .i32⟩) (.of main_while0b_call4_cst : StableHlo.TRef sig ⟨S_, .f32⟩) (.of main_while0b_call4_c : StableHlo.TRef sig ⟨S_, .i32⟩) (.of main_while0b_v20 : StableHlo.TRef sig ⟨S_, .i32⟩) (fun x y u v j => (Host.argReduce reducer_argmin_f32_i32 x y u v reducesTo_S5000_S_d0 h_S_ j).2) ]
theorem trip2_sub : (trip2 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- Operations of one trip, in order. -/
abbrev trip3 : List (HloOp τ sig (Elt F)) :=
  ( StableHlo.nullary main_while0b_c_8 (constantI S_ 32 0#32)
  :: StableHlo.binary main_while0b_v20 main_while0b_c_8 main_while0b_v21 (cmpi .slt : (⟨S_, .i32⟩ : BufTy).Contents (Elt F) → (⟨S_, .i32⟩ : BufTy).Contents (Elt F) → (⟨S_, .i1⟩ : BufTy).Contents (Elt F))
  :: StableHlo.nullary main_while0b_c_9 (constantI S_ 32 5000#32)
  :: StableHlo.binary main_while0b_v20 main_while0b_c_9 main_while0b_v22 (addi : (⟨S_, .i32⟩ : BufTy).Contents (Elt F) → (⟨S_, .i32⟩ : BufTy).Contents (Elt F) → (⟨S_, .i32⟩ : BufTy).Contents (Elt F))
  :: StableHlo.ternary main_while0b_v21 main_while0b_v22 main_while0b_v20 main_while0b_v23 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v9_3 ![main_while0b_v23] ⟨S_, .i32⟩ main_while0b_v24 ((fun x i => Host.dynamicSlice S1 x (fun k => (i k (Shape.Idx.first h_S_)).toInt) sliceFits_S5000_S1) : (⟨S5000, .i1⟩ : BufTy).Contents (Elt F) → (Fin 1 → (⟨S_, .i32⟩ : BufTy).Contents (Elt F)) → (⟨S1, .i1⟩ : BufTy).Contents (Elt F))
  :: StableHlo.reshape main_while0b_v24 main_while0b_v25 (rfl : (.i1 : EltTy) = .i1) shapeCasts_S1_S_
  :: StableHlo.unary main_while0b_v25 main_while0b_v26 (noti : (⟨S_, .i1⟩ : BufTy).Contents (Elt F) → (⟨S_, .i1⟩ : BufTy).Contents (Elt F))
  :: StableHlo.nullary main_while0b_c_10 (constantI S_ 32 0#32)
  :: StableHlo.binary main_while0b_v20 main_while0b_c_10 main_while0b_v27 (cmpi .slt : (⟨S_, .i32⟩ : BufTy).Contents (Elt F) → (⟨S_, .i32⟩ : BufTy).Contents (Elt F) → (⟨S_, .i1⟩ : BufTy).Contents (Elt F))
  :: StableHlo.nullary main_while0b_c_11 (constantI S_ 32 5000#32)
  :: StableHlo.binary main_while0b_v20 main_while0b_c_11 main_while0b_v28 (addi : (⟨S_, .i32⟩ : BufTy).Contents (Elt F) → (⟨S_, .i32⟩ : BufTy).Contents (Elt F) → (⟨S_, .i32⟩ : BufTy).Contents (Elt F))
  :: StableHlo.ternary main_while0b_v27 main_while0b_v28 main_while0b_v20 main_while0b_v29 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_12 (constantI S_ 32 0#32)
  :: StableHlo.nullary main_while0b_c_13 (constantI S_ 32 0#32)
  :: StableHlo.binary main_while0b_c_12 main_while0b_c_13 main_while0b_v30 (cmpi .slt : (⟨S_, .i32⟩ : BufTy).Contents (Elt F) → (⟨S_, .i32⟩ : BufTy).Contents (Elt F) → (⟨S_, .i1⟩ : BufTy).Contents (Elt F))
  :: StableHlo.nullary main_while0b_c_14 (constantI S_ 32 0#32)
  :: StableHlo.nullary main_while0b_c_15 (constantI S_ 32 4#32)
  :: StableHlo.binary main_while0b_c_14 main_while0b_c_15 main_while0b_v31 (addi : (⟨S_, .i32⟩ : BufTy).Contents (Elt F) → (⟨S_, .i32⟩ : BufTy).Contents (Elt F) → (⟨S_, .i32⟩ : BufTy).Contents (Elt F))
  :: StableHlo.nullary main_while0b_c_16 (constantI S_ 32 0#32)
  :: StableHlo.ternary main_while0b_v30 main_while0b_v31 main_while0b_c_16 main_while0b_v32 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v9_1 ![main_while0b_v29, main_while0b_v32] ⟨S_, .i32⟩ main_while0b_v33 ((fun x i => Host.dynamicSlice S1x4 x (fun k => (i k (Shape.Idx.first h_S_)).toInt) sliceFits_S5000x4_S1x4) : (⟨S5000x4, .f32⟩ : BufTy).Contents (Elt F) → (Fin 2 → (⟨S_, .i32⟩ : BufTy).Contents (Elt F)) → (⟨S1x4, .f32⟩ : BufTy).Contents (Elt F))
  :: StableHlo.reshape main_while0b_v33 main_while0b_v34 (rfl : (.f32 : EltTy) = .f32) shapeCasts_S1x4_S4
  :: StableHlo.unary main_while0b_v34 main_while0b_v35 ((extractStridedSlice S2 ![0] · slices_S4_S2_0) : (⟨S4, .f32⟩ : BufTy).Contents (Elt F) → (⟨S2, .f32⟩ : BufTy).Contents (Elt F))
  :: StableHlo.unary main_v9_1 main_while0b_v36 ((extractStridedSlice S5000x2 ![0, 0] · slices_S5000x4_S5000x2_0_0) : (⟨S5000x4, .f32⟩ : BufTy).Contents (Elt F) → (⟨S5000x2, .f32⟩ : BufTy).Contents (Elt F))
  :: StableHlo.unary main_while0b_v35 main_while0b_v37 (broadcastInDim S1x2 ![1] bcast_S2_S1x2_1 : (⟨S2, .f32⟩ : BufTy).Contents (Elt F) → (⟨S1x2, .f32⟩ : BufTy).Contents (Elt F))
  :: StableHlo.unary main_while0b_v37 main_while0b_v38 (broadcastInDim S5000x2 ![0, 1] bcast_S1x2_S5000x2_0_1 : (⟨S1x2, .f32⟩ : BufTy).Contents (Elt F) → (⟨S5000x2, .f32⟩ : BufTy).Contents (Elt F))
  :: StableHlo.binary main_while0b_v38 main_while0b_v36 main_while0b_v39 (maximumf : (⟨S5000x2, .f32⟩ : BufTy).Contents (Elt F) → (⟨S5000x2, .f32⟩ : BufTy).Contents (Elt F) → (⟨S5000x2, .f32⟩ : BufTy).Contents (Elt F))
  :: StableHlo.unary main_while0b_v34 main_while0b_v40 ((extractStridedSlice S2 ![2] · slices_S4_S2_2) : (⟨S4, .f32⟩ : BufTy).Contents (Elt F) → (⟨S2, .f32⟩ : BufTy).Contents (Elt F))
  :: StableHlo.unary main_v9_1 main_while0b_v41 ((extractStridedSlice S5000x2 ![0, 2] · slices_S5000x4_S5000x2_0_2) : (⟨S5000x4, .f32⟩ : BufTy).Contents (Elt F) → (⟨S5000x2, .f32⟩ : BufTy).Contents (Elt F))
  :: StableHlo.unary main_while0b_v40 main_while0b_v42 (broadcastInDim S1x2 ![1] bcast_S2_S1x2_1 : (⟨S2, .f32⟩ : BufTy).Contents (Elt F) → (⟨S1x2, .f32⟩ : BufTy).Contents (Elt F))
  :: StableHlo.unary main_while0b_v42 main_while0b_v43 (broadcastInDim S5000x2 ![0, 1] bcast_S1x2_S5000x2_0_1 : (⟨S1x2, .f32⟩ : BufTy).Contents (Elt F) → (⟨S5000x2, .f32⟩ : BufTy).Contents (Elt F))
  :: StableHlo.binary main_while0b_v43 main_while0b_v41 main_while0b_v44 (minimumf : (⟨S5000x2, .f32⟩ : BufTy).Contents (Elt F) → (⟨S5000x2, .f32⟩ : BufTy).Contents (Elt F) → (⟨S5000x2, .f32⟩ : BufTy).Contents (Elt F))
  :: StableHlo.binary main_while0b_v44 main_while0b_v39 main_while0b_v45 (subf : (⟨S5000x2, .f32⟩ : BufTy).Contents (Elt F) → (⟨S5000x2, .f32⟩ : BufTy).Contents (Elt F) → (⟨S5000x2, .f32⟩ : BufTy).Contents (Elt F))
  :: StableHlo.nullary main_while0b_cst_17 (constant S_ .f32 0x00000000#32)
  :: [] )
theorem trip3_sub : (trip3 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.unaryIndexed_bufs_sub .., StableHlo.reshape_bufs_sub .., StableHlo.unary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub ..⟩
/-- Operations of @clip (main_while0b_call5), in order. -/
abbrev trip4 : List (HloOp τ sig (Elt F)) :=
  [ StableHlo.TRef.unary (.of main_while0b_cst_17 : StableHlo.TRef sig ⟨S_, .f32⟩) (.of main_while0b_call5_v0 : StableHlo.TRef sig ⟨S_, .f32⟩) id,
    StableHlo.TRef.unary (.of main_while0b_call5_v0 : StableHlo.TRef sig ⟨S_, .f32⟩) (.of main_while0b_call5_v1 : StableHlo.TRef sig ⟨S5000x2, .f32⟩) (broadcastInDim S5000x2 ![] bcast_S_S5000x2),
    StableHlo.TRef.binary (.of main_while0b_call5_v1 : StableHlo.TRef sig ⟨S5000x2, .f32⟩) (.of main_while0b_v45 : StableHlo.TRef sig ⟨S5000x2, .f32⟩) (.of main_while0b_v46 : StableHlo.TRef sig ⟨S5000x2, .f32⟩) maximumf ]
theorem trip4_sub : (trip4 : List (HloOp τ sig (Elt F))).Forall fun op => op.bufs ⊆ StableHlo.tcRefs τ sig :=
  ⟨StableHlo.unary_bufs_sub .., StableHlo.unary_bufs_sub .., StableHlo.binary_bufs_sub ..⟩
/-- Operations of one trip, in order. -/
abbrev trip5 : List (HloOp τ sig (Elt F)) :=
  ( StableHlo.unary main_while0b_v46 main_while0b_v47 ((extractStridedSlice S5000x1 ![0, 0] · slices_S5000x2_S5000x1_0_0) : (⟨S5000x2, .f32⟩ : BufTy).Contents (Elt F) → (⟨S5000x1, .f32⟩ : BufTy).Contents (Elt F))
  :: StableHlo.reshape main_while0b_v47 main_while0b_v48 (rfl : (.f32 : EltTy) = .f32) shapeCasts_S5000x1_S5000
  :: StableHlo.unary main_while0b_v46 main_while0b_v49 ((extractStridedSlice S5000x1 ![0, 1] · slices_S5000x2_S5000x1_0_1) : (⟨S5000x2, .f32⟩ : BufTy).Contents (Elt F) → (⟨S5000x1, .f32⟩ : BufTy).Contents (Elt F))
  :: StableHlo.reshape main_while0b_v49 main_while0b_v50 (rfl : (.f32 : EltTy) = .f32) shapeCasts_S5000x1_S5000
  :: StableHlo.binary main_while0b_v48 main_while0b_v50 main_while0b_v51 (mulf : (⟨S5000, .f32⟩ : BufTy).Contents (Elt F) → (⟨S5000, .f32⟩ : BufTy).Contents (Elt F) → (⟨S5000, .f32⟩ : BufTy).Contents (Elt F))
  :: StableHlo.unary main_while0b_v34 main_while0b_v52 ((extractStridedSlice S1 ![2] · slices_S4_S1_2) : (⟨S4, .f32⟩ : BufTy).Contents (Elt F) → (⟨S1, .f32⟩ : BufTy).Contents (Elt F))
  :: StableHlo.reshape main_while0b_v52 main_while0b_v53 (rfl : (.f32 : EltTy) = .f32) shapeCasts_S1_S_
  :: StableHlo.unary main_while0b_v34 main_while0b_v54 ((extractStridedSlice S1 ![0] · slices_S4_S1_0) : (⟨S4, .f32⟩ : BufTy).Contents (Elt F) → (⟨S1, .f32⟩ : BufTy).Contents (Elt F))
  :: StableHlo.reshape main_while0b_v54 main_while0b_v55 (rfl : (.f32 : EltTy) = .f32) shapeCasts_S1_S_
  :: StableHlo.binary main_while0b_v53 main_while0b_v55 main_while0b_v56 (subf : (⟨S_, .f32⟩ : BufTy).Contents (Elt F) → (⟨S_, .f32⟩ : BufTy).Contents (Elt F) → (⟨S_, .f32⟩ : BufTy).Contents (Elt F))
  :: StableHlo.unary main_while0b_v34 main_while0b_v57 ((extractStridedSlice S1 ![3] · slices_S4_S1_3) : (⟨S4, .f32⟩ : BufTy).Contents (Elt F) → (⟨S1, .f32⟩ : BufTy).Contents (Elt F))
  :: StableHlo.reshape main_while0b_v57 main_while0b_v58 (rfl : (.f32 : EltTy) = .f32) shapeCasts_S1_S_
  :: StableHlo.unary main_while0b_v34 main_while0b_v59 ((extractStridedSlice S1 ![1] · slices_S4_S1_1) : (⟨S4, .f32⟩ : BufTy).Contents (Elt F) → (⟨S1, .f32⟩ : BufTy).Contents (Elt F))
  :: StableHlo.reshape main_while0b_v59 main_while0b_v60 (rfl : (.f32 : EltTy) = .f32) shapeCasts_S1_S_
  :: StableHlo.binary main_while0b_v58 main_while0b_v60 main_while0b_v61 (subf : (⟨S_, .f32⟩ : BufTy).Contents (Elt F) → (⟨S_, .f32⟩ : BufTy).Contents (Elt F) → (⟨S_, .f32⟩ : BufTy).Contents (Elt F))
  :: StableHlo.binary main_while0b_v56 main_while0b_v61 main_while0b_v62 (mulf : (⟨S_, .f32⟩ : BufTy).Contents (Elt F) → (⟨S_, .f32⟩ : BufTy).Contents (Elt F) → (⟨S_, .f32⟩ : BufTy).Contents (Elt F))
  :: StableHlo.unary main_v9_1 main_while0b_v63 ((extractStridedSlice S5000x1 ![0, 2] · slices_S5000x4_S5000x1_0_2) : (⟨S5000x4, .f32⟩ : BufTy).Contents (Elt F) → (⟨S5000x1, .f32⟩ : BufTy).Contents (Elt F))
  :: StableHlo.reshape main_while0b_v63 main_while0b_v64 (rfl : (.f32 : EltTy) = .f32) shapeCasts_S5000x1_S5000
  :: StableHlo.unary main_v9_1 main_while0b_v65 ((extractStridedSlice S5000x1 ![0, 0] · slices_S5000x4_S5000x1_0_0) : (⟨S5000x4, .f32⟩ : BufTy).Contents (Elt F) → (⟨S5000x1, .f32⟩ : BufTy).Contents (Elt F))
  :: StableHlo.reshape main_while0b_v65 main_while0b_v66 (rfl : (.f32 : EltTy) = .f32) shapeCasts_S5000x1_S5000
  :: StableHlo.binary main_while0b_v64 main_while0b_v66 main_while0b_v67 (subf : (⟨S5000, .f32⟩ : BufTy).Contents (Elt F) → (⟨S5000, .f32⟩ : BufTy).Contents (Elt F) → (⟨S5000, .f32⟩ : BufTy).Contents (Elt F))
  :: StableHlo.unary main_v9_1 main_while0b_v68 ((extractStridedSlice S5000x1 ![0, 3] · slices_S5000x4_S5000x1_0_3) : (⟨S5000x4, .f32⟩ : BufTy).Contents (Elt F) → (⟨S5000x1, .f32⟩ : BufTy).Contents (Elt F))
  :: StableHlo.reshape main_while0b_v68 main_while0b_v69 (rfl : (.f32 : EltTy) = .f32) shapeCasts_S5000x1_S5000
  :: StableHlo.unary main_v9_1 main_while0b_v70 ((extractStridedSlice S5000x1 ![0, 1] · slices_S5000x4_S5000x1_0_1) : (⟨S5000x4, .f32⟩ : BufTy).Contents (Elt F) → (⟨S5000x1, .f32⟩ : BufTy).Contents (Elt F))
  :: StableHlo.reshape main_while0b_v70 main_while0b_v71 (rfl : (.f32 : EltTy) = .f32) shapeCasts_S5000x1_S5000
  :: StableHlo.binary main_while0b_v69 main_while0b_v71 main_while0b_v72 (subf : (⟨S5000, .f32⟩ : BufTy).Contents (Elt F) → (⟨S5000, .f32⟩ : BufTy).Contents (Elt F) → (⟨S5000, .f32⟩ : BufTy).Contents (Elt F))
  :: StableHlo.binary main_while0b_v67 main_while0b_v72 main_while0b_v73 (mulf : (⟨S5000, .f32⟩ : BufTy).Contents (Elt F) → (⟨S5000, .f32⟩ : BufTy).Contents (Elt F) → (⟨S5000, .f32⟩ : BufTy).Contents (Elt F))
  :: StableHlo.unary main_while0b_v62 main_while0b_v74 (broadcastInDim S5000 ![] bcast_S_S5000 : (⟨S_, .f32⟩ : BufTy).Contents (Elt F) → (⟨S5000, .f32⟩ : BufTy).Contents (Elt F))
  :: StableHlo.binary main_while0b_v74 main_while0b_v73 main_while0b_v75 (addf : (⟨S5000, .f32⟩ : BufTy).Contents (Elt F) → (⟨S5000, .f32⟩ : BufTy).Contents (Elt F) → (⟨S5000, .f32⟩ : BufTy).Contents (Elt F))
  :: StableHlo.binary main_while0b_v75 main_while0b_v51 main_while0b_v76 (subf : (⟨S5000, .f32⟩ : BufTy).Contents (Elt F) → (⟨S5000, .f32⟩ : BufTy).Contents (Elt F) → (⟨S5000, .f32⟩ : BufTy).Contents (Elt F))
  :: StableHlo.nullary main_while0b_cst_18 (constant S_ .f32 0x33D6BF95#32)
  :: StableHlo.unary main_while0b_cst_18 main_while0b_v77 (broadcastInDim S5000 ![] bcast_S_S5000 : (⟨S_, .f32⟩ : BufTy).Contents (Elt F) → (⟨S5000, .f32⟩ : BufTy).Contents (Elt F))
  :: StableHlo.binary main_while0b_v76 main_while0b_v77 main_while0b_v78 (addf : (⟨S5000, .f32⟩ : BufTy).Contents (Elt F) → (⟨S5000, .f32⟩ : BufTy).Contents (Elt F) → (⟨S5000, .f32⟩ : BufTy).Contents (Elt F))
  :: StableHlo.binary main_while0b_v51 main_while0b_v78 main_while0b_v79 (Host.divf : (⟨S5000, .f32⟩ : BufTy).Contents (Elt F) → (⟨S5000, .f32⟩ : BufTy).Contents (Elt F) → (⟨S5000, .f32⟩ : BufTy).Contents (Elt F))
  :: StableHlo.nullary main_while0b_cst_19 (constant S_ .f32 0x3EE66666#32)
  :: StableHlo.unary main_while0b_cst_19 main_while0b_v80 (broadcastInDim S5000 ![] bcast_S_S5000 : (⟨S_, .f32⟩ : BufTy).Contents (Elt F) → (⟨S5000, .f32⟩ : BufTy).Contents (Elt F))
  :: StableHlo.binary main_while0b_v79 main_while0b_v80 main_while0b_v81 (cmpf .ogt : (⟨S5000, .f32⟩ : BufTy).Contents (Elt F) → (⟨S5000, .f32⟩ : BufTy).Contents (Elt F) → (⟨S5000, .i1⟩ : BufTy).Contents (Elt F))
  :: StableHlo.binary main_v9_3 main_while0b_v81 main_while0b_v82 (ori : (⟨S5000, .i1⟩ : BufTy).Contents (Elt F) → (⟨S5000, .i1⟩ : BufTy).Contents (Elt F) → (⟨S5000, .i1⟩ : BufTy).Contents (Elt F))
  :: StableHlo.nullary main_while0b_c_20 (constantI S_ 32 0#32)
  :: StableHlo.binary main_while0b_v20 main_while0b_c_20 main_while0b_v83 (cmpi .slt : (⟨S_, .i32⟩ : BufTy).Contents (Elt F) → (⟨S_, .i32⟩ : BufTy).Contents (Elt F) → (⟨S_, .i1⟩ : BufTy).Contents (Elt F))
  :: StableHlo.nullary main_while0b_c_21 (constantI S_ 32 5000#32)
  :: StableHlo.binary main_while0b_v20 main_while0b_c_21 main_while0b_v84 (addi : (⟨S_, .i32⟩ : BufTy).Contents (Elt F) → (⟨S_, .i32⟩ : BufTy).Contents (Elt F) → (⟨S_, .i32⟩ : BufTy).Contents (Elt F))
  :: StableHlo.ternary main_while0b_v83 main_while0b_v84 main_while0b_v20 main_while0b_v85 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unary main_while0b_v85 main_while0b_v86 (broadcastInDim S1 ![] bcast_S_S1 : (⟨S_, .i32⟩ : BufTy).Contents (Elt F) → (⟨S1, .i32⟩ : BufTy).Contents (Elt F))
  :: StableHlo.nullary main_while0b_c_22 (constantI S_ 1 1#1)
  :: StableHlo.ternary main_while0b_v82 main_while0b_v86 main_while0b_c_22 main_while0b_v87 ((fun x i u => Host.scatter scatter_S5000_S1_S__n_0_0_0 (fun _ b => b) x i u) : (⟨S5000, .i1⟩ : BufTy).Contents (Elt F) → (⟨S1, .i32⟩ : BufTy).Contents (Elt F) → (⟨S_, .i1⟩ : BufTy).Contents (Elt F) → (⟨S5000, .i1⟩ : BufTy).Contents (Elt F))
  :: [] )
theorem trip5_sub : (trip5 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.ternary_bufs_sub .., StableHlo.unary_bufs_sub .., StableHlo.nullary_bufs_sub .., StableHlo.ternary_bufs_sub ..⟩
/-- Operations of @dynamic_update_index_in_dim (main_while0b_call6), in order. -/
abbrev trip6 : List (HloOp τ sig (Elt F)) :=
  [ StableHlo.TRef.unary (.of main_while0b_v20 : StableHlo.TRef sig ⟨S_, .i32⟩) (.of main_while0b_call6_v0 : StableHlo.TRef sig ⟨S1, .i32⟩) (broadcastInDim S1 ![] bcast_S_S1),
    StableHlo.TRef.binaryIndexed (.of main_v9_4 : StableHlo.TRef sig ⟨S300, .i32⟩) (.of main_while0b_call6_v0 : StableHlo.TRef sig ⟨S1, .i32⟩) ![(.of main_v9_2 : StableHlo.TRef sig ⟨S_, .i32⟩)] (.of main_while0b_v88 : StableHlo.TRef sig ⟨S300, .i32⟩) (fun x u i => Host.dynamicUpdateSlice x u (fun k => (i k (Shape.Idx.first h_S_)).toInt) updateFits_S300_S1) ]
theorem trip6_sub : (trip6 : List (HloOp τ sig (Elt F))).Forall fun op => op.bufs ⊆ StableHlo.tcRefs τ sig :=
  ⟨StableHlo.unary_bufs_sub .., StableHlo.binaryIndexed_bufs_sub ..⟩
/-- Operations of @dynamic_update_index_in_dim_2 (main_while0b_call7), in order. -/
abbrev trip7 : List (HloOp τ sig (Elt F)) :=
  [ StableHlo.TRef.unary (.of main_while0b_v26 : StableHlo.TRef sig ⟨S_, .i1⟩) (.of main_while0b_call7_v0 : StableHlo.TRef sig ⟨S1, .i1⟩) (broadcastInDim S1 ![] bcast_S_S1),
    StableHlo.TRef.binaryIndexed (.of main_v9_5 : StableHlo.TRef sig ⟨S300, .i1⟩) (.of main_while0b_call7_v0 : StableHlo.TRef sig ⟨S1, .i1⟩) ![(.of main_v9_2 : StableHlo.TRef sig ⟨S_, .i32⟩)] (.of main_while0b_v89 : StableHlo.TRef sig ⟨S300, .i1⟩) (fun x u i => Host.dynamicUpdateSlice x u (fun k => (i k (Shape.Idx.first h_S_)).toInt) updateFits_S300_S1) ]
theorem trip7_sub : (trip7 : List (HloOp τ sig (Elt F))).Forall fun op => op.bufs ⊆ StableHlo.tcRefs τ sig :=
  ⟨StableHlo.unary_bufs_sub .., StableHlo.binaryIndexed_bufs_sub ..⟩
/-- Operations of one trip, in order. -/
abbrev trip8 : List (HloOp τ sig (Elt F)) :=
  [ StableHlo.nullary main_while0b_c_23 (constantI S_ 32 1#32),
    StableHlo.binary main_v9_2 main_while0b_c_23 main_while0b_v90 (addi : (⟨S_, .i32⟩ : BufTy).Contents (Elt F) → (⟨S_, .i32⟩ : BufTy).Contents (Elt F) → (⟨S_, .i32⟩ : BufTy).Contents (Elt F)),
    StableHlo.unary main_while0b_v90 main_v9_2 id,
    StableHlo.unary main_while0b_v87 main_v9_3 id,
    StableHlo.unary main_while0b_v88 main_v9_4 id,
    StableHlo.unary main_while0b_v89 main_v9_5 id ]
theorem trip8_sub : (trip8 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- One trip is its lines of operations. -/
theorem while0_body_chain : main_while0_body (F := F) = (Pipeline.chain
  [ StableHlo.seq trip0,
    StableHlo.seq trip1,
    StableHlo.seq trip2,
    StableHlo.seq trip3,
    StableHlo.seq trip4,
    StableHlo.seq trip5,
    StableHlo.seq trip6,
    StableHlo.seq trip7,
    StableHlo.seq trip8 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, Pipeline.chain_cons, StableHlo.chain_seq_cons, Pipeline.chain_cons, StableHlo.chain_seq_cons, Pipeline.chain_cons, Pipeline.chain_cons, StableHlo.chain_seq_cons]
  chain_rfl

/-! ## What each line of operations writes -/

theorem lead0_fresh : (lead0 : List (HloOp τ sig (Elt F))).Forall fun op => op.fresh = ∅ :=
  StableHlo.forall_fresh_of_map rfl
abbrev lead0_W : List (Ref sig .tc) := [main_v0]
theorem lead0_writes : (lead0 : List (HloOp τ sig (Elt F))).Forall fun op => op.writes ⊆ (lead0_W.map (Proc.devRef (τ := τ) .tc)).toFinset :=
  StableHlo.forall_writes_sub_of_map rfl
theorem lead1_fresh : (lead1 : List (HloOp τ sig (Elt F))).Forall fun op => op.fresh = ∅ :=
  StableHlo.forall_fresh_of_map rfl
abbrev lead1_W : List (Ref sig .tc) := [main_call0_v0, main_call0_v1_0, main_v1]
theorem lead1_writes : (lead1 : List (HloOp τ sig (Elt F))).Forall fun op => op.writes ⊆ (lead1_W.map (Proc.devRef (τ := τ) .tc)).toFinset :=
  StableHlo.forall_writes_sub_of_map rfl
theorem lead2_fresh : (lead2 : List (HloOp τ sig (Elt F))).Forall fun op => op.fresh = ∅ :=
  StableHlo.forall_fresh_of_map rfl
abbrev lead2_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v2]
theorem lead2_writes : (lead2 : List (HloOp τ sig (Elt F))).Forall fun op => op.writes ⊆ (lead2_W.map (Proc.devRef (τ := τ) .tc)).toFinset :=
  StableHlo.forall_writes_sub_of_map rfl
theorem lead3_fresh : (lead3 : List (HloOp τ sig (Elt F))).Forall fun op => op.fresh = ∅ :=
  StableHlo.forall_fresh_of_map rfl
abbrev lead3_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v3]
theorem lead3_writes : (lead3 : List (HloOp τ sig (Elt F))).Forall fun op => op.writes ⊆ (lead3_W.map (Proc.devRef (τ := τ) .tc)).toFinset :=
  StableHlo.forall_writes_sub_of_map rfl
theorem lead4_fresh : (lead4 : List (HloOp τ sig (Elt F))).Forall fun op => op.fresh = ∅ :=
  StableHlo.forall_fresh_of_map rfl
abbrev lead4_W : List (Ref sig .tc) := [main_cst, main_v4, main_v5, main_v6, main_c, main_v7, main_c_0, main_v8, main_c_1, main_v9_0, main_v9_1, main_v9_2, main_v9_3, main_v9_4, main_v9_5]
theorem lead4_writes : (lead4 : List (HloOp τ sig (Elt F))).Forall fun op => op.writes ⊆ (lead4_W.map (Proc.devRef (τ := τ) .tc)).toFinset :=
  StableHlo.forall_writes_sub_of_map rfl
theorem trip0_fresh : (trip0 : List (HloOp τ sig (Elt F))).Forall fun op => op.fresh = ∅ :=
  StableHlo.forall_fresh_of_map rfl
abbrev trip0_W : List (Ref sig .tc) := [main_while0b_cst_7]
theorem trip0_writes : (trip0 : List (HloOp τ sig (Elt F))).Forall fun op => op.writes ⊆ (trip0_W.map (Proc.devRef (τ := τ) .tc)).toFinset :=
  StableHlo.forall_writes_sub_of_map rfl
theorem trip1_fresh : (trip1 : List (HloOp τ sig (Elt F))).Forall fun op => op.fresh = ∅ :=
  StableHlo.forall_fresh_of_map rfl
abbrev trip1_W : List (Ref sig .tc) := [main_while0b_call3_v0, main_while0b_v19]
theorem trip1_writes : (trip1 : List (HloOp τ sig (Elt F))).Forall fun op => op.writes ⊆ (trip1_W.map (Proc.devRef (τ := τ) .tc)).toFinset :=
  StableHlo.forall_writes_sub_of_map rfl
theorem trip2_fresh : (trip2 : List (HloOp τ sig (Elt F))).Forall fun op => op.fresh = ∅ :=
  StableHlo.forall_fresh_of_map rfl
abbrev trip2_W : List (Ref sig .tc) := [main_while0b_call4_v0, main_while0b_call4_cst, main_while0b_call4_c, main_while0b_call4_v1_0, main_while0b_v20]
theorem trip2_writes : (trip2 : List (HloOp τ sig (Elt F))).Forall fun op => op.writes ⊆ (trip2_W.map (Proc.devRef (τ := τ) .tc)).toFinset :=
  StableHlo.forall_writes_sub_of_map rfl
theorem trip3_fresh : (trip3 : List (HloOp τ sig (Elt F))).Forall fun op => op.fresh = ∅ :=
  StableHlo.forall_fresh_of_map rfl
abbrev trip3_W : List (Ref sig .tc) := [main_while0b_c_8, main_while0b_v21, main_while0b_c_9, main_while0b_v22, main_while0b_v23, main_while0b_v24, main_while0b_v25, main_while0b_v26, main_while0b_c_10, main_while0b_v27, main_while0b_c_11, main_while0b_v28, main_while0b_v29, main_while0b_c_12, main_while0b_c_13, main_while0b_v30, main_while0b_c_14, main_while0b_c_15, main_while0b_v31, main_while0b_c_16, main_while0b_v32, main_while0b_v33, main_while0b_v34, main_while0b_v35, main_while0b_v36, main_while0b_v37, main_while0b_v38, main_while0b_v39, main_while0b_v40, main_while0b_v41, main_while0b_v42, main_while0b_v43, main_while0b_v44, main_while0b_v45, main_while0b_cst_17]
theorem trip3_writes : (trip3 : List (HloOp τ sig (Elt F))).Forall fun op => op.writes ⊆ (trip3_W.map (Proc.devRef (τ := τ) .tc)).toFinset :=
  StableHlo.forall_writes_sub_of_map rfl
theorem trip4_fresh : (trip4 : List (HloOp τ sig (Elt F))).Forall fun op => op.fresh = ∅ :=
  StableHlo.forall_fresh_of_map rfl
abbrev trip4_W : List (Ref sig .tc) := [main_while0b_call5_v0, main_while0b_call5_v1, main_while0b_v46]
theorem trip4_writes : (trip4 : List (HloOp τ sig (Elt F))).Forall fun op => op.writes ⊆ (trip4_W.map (Proc.devRef (τ := τ) .tc)).toFinset :=
  StableHlo.forall_writes_sub_of_map rfl
theorem trip5_fresh : (trip5 : List (HloOp τ sig (Elt F))).Forall fun op => op.fresh = ∅ :=
  StableHlo.forall_fresh_of_map rfl
abbrev trip5_W : List (Ref sig .tc) := [main_while0b_v47, main_while0b_v48, main_while0b_v49, main_while0b_v50, main_while0b_v51, main_while0b_v52, main_while0b_v53, main_while0b_v54, main_while0b_v55, main_while0b_v56, main_while0b_v57, main_while0b_v58, main_while0b_v59, main_while0b_v60, main_while0b_v61, main_while0b_v62, main_while0b_v63, main_while0b_v64, main_while0b_v65, main_while0b_v66, main_while0b_v67, main_while0b_v68, main_while0b_v69, main_while0b_v70, main_while0b_v71, main_while0b_v72, main_while0b_v73, main_while0b_v74, main_while0b_v75, main_while0b_v76, main_while0b_cst_18, main_while0b_v77, main_while0b_v78, main_while0b_v79, main_while0b_cst_19, main_while0b_v80, main_while0b_v81, main_while0b_v82, main_while0b_c_20, main_while0b_v83, main_while0b_c_21, main_while0b_v84, main_while0b_v85, main_while0b_v86, main_while0b_c_22, main_while0b_v87]
theorem trip5_writes : (trip5 : List (HloOp τ sig (Elt F))).Forall fun op => op.writes ⊆ (trip5_W.map (Proc.devRef (τ := τ) .tc)).toFinset :=
  StableHlo.forall_writes_sub_of_map rfl
theorem trip6_fresh : (trip6 : List (HloOp τ sig (Elt F))).Forall fun op => op.fresh = ∅ :=
  StableHlo.forall_fresh_of_map rfl
abbrev trip6_W : List (Ref sig .tc) := [main_while0b_call6_v0, main_while0b_v88]
theorem trip6_writes : (trip6 : List (HloOp τ sig (Elt F))).Forall fun op => op.writes ⊆ (trip6_W.map (Proc.devRef (τ := τ) .tc)).toFinset :=
  StableHlo.forall_writes_sub_of_map rfl
theorem trip7_fresh : (trip7 : List (HloOp τ sig (Elt F))).Forall fun op => op.fresh = ∅ :=
  StableHlo.forall_fresh_of_map rfl
abbrev trip7_W : List (Ref sig .tc) := [main_while0b_call7_v0, main_while0b_v89]
theorem trip7_writes : (trip7 : List (HloOp τ sig (Elt F))).Forall fun op => op.writes ⊆ (trip7_W.map (Proc.devRef (τ := τ) .tc)).toFinset :=
  StableHlo.forall_writes_sub_of_map rfl
theorem trip8_fresh : (trip8 : List (HloOp τ sig (Elt F))).Forall fun op => op.fresh = ∅ :=
  StableHlo.forall_fresh_of_map rfl
abbrev trip8_W : List (Ref sig .tc) := [main_while0b_c_23, main_while0b_v90, main_v9_2, main_v9_3, main_v9_4, main_v9_5]
theorem trip8_writes : (trip8 : List (HloOp τ sig (Elt F))).Forall fun op => op.writes ⊆ (trip8_W.map (Proc.devRef (τ := τ) .tc)).toFinset :=
  StableHlo.forall_writes_sub_of_map rfl
theorem rest0_fresh : (rest0 : List (HloOp τ sig (Elt F))).Forall fun op => op.fresh = ∅ :=
  StableHlo.forall_fresh_of_map rfl
theorem rest1_fresh : (rest1 : List (HloOp τ sig (Elt F))).Forall fun op => op.fresh = ∅ :=
  StableHlo.forall_fresh_of_map rfl
theorem rest2_fresh : (rest2 : List (HloOp τ sig (Elt F))).Forall fun op => op.fresh = ∅ :=
  StableHlo.forall_fresh_of_map rfl
theorem rest3_fresh : (rest3 : List (HloOp τ sig (Elt F))).Forall fun op => op.fresh = ∅ :=
  StableHlo.forall_fresh_of_map rfl
theorem rest4_fresh : (rest4 : List (HloOp τ sig (Elt F))).Forall fun op => op.fresh = ∅ :=
  StableHlo.forall_fresh_of_map rfl

/-- The condition region's two operations: the bound, and the trip counter compared with it. -/
abbrev condOps : List (HloOp τ sig (Elt F)) :=
  [ StableHlo.nullary main_while0c_c_7 (constantI S_ 32 300#32),
    StableHlo.binary main_v9_2 main_while0c_c_7 main_while0c_v19 (cmpi .slt) ]

/-- @main's stretches before the loop, the loop body's, and @main's after the loop. -/
abbrev preI : List (List (HloOp τ sig (Elt F))) := [lead0, lead1, lead2, lead3, lead4]
abbrev bodyI : List (List (HloOp τ sig (Elt F))) := [trip0, trip1, trip2, trip3, trip4, trip5, trip6, trip7, trip8]
abbrev postI : List (List (HloOp τ sig (Elt F))) := [rest0, rest1, rest2, rest3, rest4]

theorem hpre : Plain (preI (F := F)) := .cons lead0_sub (hf := List.forall_iff_forall_mem.mp lead0_fresh) (.cons lead1_sub (hf := List.forall_iff_forall_mem.mp lead1_fresh) (.cons lead2_sub (hf := List.forall_iff_forall_mem.mp lead2_fresh) (.cons lead3_sub (hf := List.forall_iff_forall_mem.mp lead3_fresh) (.cons lead4_sub (hf := List.forall_iff_forall_mem.mp lead4_fresh) (.nil)))))
theorem hbodyI : Plain (bodyI (F := F)) := .cons trip0_sub (hf := List.forall_iff_forall_mem.mp trip0_fresh) (.cons trip1_sub (hf := List.forall_iff_forall_mem.mp trip1_fresh) (.cons trip2_sub (hf := List.forall_iff_forall_mem.mp trip2_fresh) (.cons trip3_sub (hf := List.forall_iff_forall_mem.mp trip3_fresh) (.cons trip4_sub (hf := List.forall_iff_forall_mem.mp trip4_fresh) (.cons trip5_sub (hf := List.forall_iff_forall_mem.mp trip5_fresh) (.cons trip6_sub (hf := List.forall_iff_forall_mem.mp trip6_fresh) (.cons trip7_sub (hf := List.forall_iff_forall_mem.mp trip7_fresh) (.cons trip8_sub (hf := List.forall_iff_forall_mem.mp trip8_fresh) (.nil)))))))))
theorem hpost : Plain (postI (F := F)) := .cons rest0_sub (hf := List.forall_iff_forall_mem.mp rest0_fresh) (.cons rest1_sub (hf := List.forall_iff_forall_mem.mp rest1_fresh) (.cons rest2_sub (hf := List.forall_iff_forall_mem.mp rest2_fresh) (.cons rest3_sub (hf := List.forall_iff_forall_mem.mp rest3_fresh) (.cons rest4_sub (hf := List.forall_iff_forall_mem.mp rest4_fresh) (.nil)))))

abbrev condOps_W : List (Ref sig .tc) := [main_while0c_c_7, main_while0c_v19]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The count of trips is written by the last line of the trip only. -/
theorem ctr_cond (V : Valuation τ sig (Elt F)) : after condOps V (Proc.devRef .tc main_v9_2) = V (Proc.devRef .tc main_v9_2) :=
  after_of_writes_sub condOps V condOps_writes (by decide +kernel)
theorem ctr_trip0 (V : Valuation τ sig (Elt F)) : after trip0 V (Proc.devRef .tc main_v9_2) = V (Proc.devRef .tc main_v9_2) :=
  after_of_writes_sub trip0 V trip0_writes (by decide +kernel)
theorem ctr_trip1 (V : Valuation τ sig (Elt F)) : after trip1 V (Proc.devRef .tc main_v9_2) = V (Proc.devRef .tc main_v9_2) :=
  after_of_writes_sub trip1 V trip1_writes (by decide +kernel)
theorem ctr_trip2 (V : Valuation τ sig (Elt F)) : after trip2 V (Proc.devRef .tc main_v9_2) = V (Proc.devRef .tc main_v9_2) :=
  after_of_writes_sub trip2 V trip2_writes (by decide +kernel)
theorem ctr_trip3 (V : Valuation τ sig (Elt F)) : after trip3 V (Proc.devRef .tc main_v9_2) = V (Proc.devRef .tc main_v9_2) :=
  after_of_writes_sub trip3 V trip3_writes (by decide +kernel)
theorem ctr_trip4 (V : Valuation τ sig (Elt F)) : after trip4 V (Proc.devRef .tc main_v9_2) = V (Proc.devRef .tc main_v9_2) :=
  after_of_writes_sub trip4 V trip4_writes (by decide +kernel)
theorem ctr_trip5 (V : Valuation τ sig (Elt F)) : after trip5 V (Proc.devRef .tc main_v9_2) = V (Proc.devRef .tc main_v9_2) :=
  after_of_writes_sub trip5 V trip5_writes (by decide +kernel)
theorem ctr_trip6 (V : Valuation τ sig (Elt F)) : after trip6 V (Proc.devRef .tc main_v9_2) = V (Proc.devRef .tc main_v9_2) :=
  after_of_writes_sub trip6 V trip6_writes (by decide +kernel)
theorem ctr_trip7 (V : Valuation τ sig (Elt F)) : after trip7 V (Proc.devRef .tc main_v9_2) = V (Proc.devRef .tc main_v9_2) :=
  after_of_writes_sub trip7 V trip7_writes (by decide +kernel)

set_option maxRecDepth 100000 in
/-- `trip8` leaves the counter one step on. -/
theorem ctr_step (X : Valuation τ sig (Elt F)) :
    after trip8 X (Proc.devRef .tc main_v9_2) = addi (X (Proc.devRef .tc main_v9_2)) (constantI S_ 32 1#32) := by
  after_results
  rfl

/-- The counter is the loop's lower bound at the loop's entry: its last writer before the loop read back. -/
theorem ctr_entry (c : Dev nD) : entryContents preI m c (Proc.devRef .tc main_v9_2) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v9_2) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_trip7, ctr_trip6, ctr_trip5, ctr_trip4, ctr_trip3, ctr_trip2, ctr_trip1, ctr_trip0, ctr_cond, atK_ctr c k, Scf.iv_succ]
    rfl

set_option backward.isDefEq.respectTransparency.types false in
/-- The condition's specification at the fold. -/
theorem cond_spec : CondSpec (pcfgs (F := F)) defs₀ loops (main_while0_cond (F := F)) condOps bodyI (entryContents preI m) 300 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v9_2 HostLoop.idx0)
        (HloOp.result _ (atK m k c) main_while0c_c_7 HostLoop.idx0) = 1#1) (k < 300)
    rw [nullary_result_ne _ _ _ _ (by decide), nullary_result, hctr]
    exact Scf.cmpi_slt_iv_ub_iff (lb := 0#32) (ub := 300#32) (st := 1#32) (by decide) (show k ≤ Scf.trips 0#32 300#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 300 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 300 m ρ (cond_spec m)

end Cert.Proof.Ref
-- ==== Proof.RefFrame.lean ====
/-
  What the reference's run leaves of its arguments: both as they were.
-/
module

public import proofs.«01_k».proof.Proof.RefRun
public import proofs.«01_k».proof.Defs

@[expose] public section

noncomputable section

namespace Cert.Proof.Ref

open Cert.ReferenceIdeal Cert.ReferenceIdeal.Gen
open Idealize.ShloMosaic Idealize.ShloMosaic.TcCoe
open Idealize.SL Idealize.SL.Sem
open Idealize.ShloMosaic.StableHlo

variable {F : FTy → Type} [FloatOps F]

/-- A buffer none of the lines write keeps its contents over a stretch of lines, the lines given one after another. -/
theorem afterL_keep {b : DevRef τ sig} : ∀ (items : List (List (HloOp τ sig (Elt F)))) (V : Valuation τ sig (Elt F)),
    (∀ ops ∈ items, ∀ W : Valuation τ sig (Elt F), after ops W b = W b) → afterL items V b = V b
  | [], _, _ => rfl
  | ops :: rest, V, h => by
    rw [afterL_cons, afterL_keep rest _ fun o ho => h o (List.mem_cons_of_mem _ ho)]
    exact h ops List.mem_cons_self V

/-- A buffer no operation before the loop writes. -/
theorem pre_keep {r : Ref sig .tc} (h : ∀ W ∈ [lead0_W, lead1_W, lead2_W, lead3_W, lead4_W], r ∉ W) (V : Valuation τ sig (Elt F)) :
    afterL preI V (Proc.devRef .tc r) = V (Proc.devRef .tc r) := by
  simp only [List.forall_mem_cons, List.not_mem_nil, false_implies, implies_true, and_true] at h
  obtain ⟨h0, h1, h2, h3, h4⟩ := h
  refine afterL_keep _ V ?_
  simp only [preI, List.forall_mem_cons, List.not_mem_nil, false_implies, implies_true, and_true]
  exact ⟨fun W => after_of_writes_sub lead0 W lead0_writes h0, fun W => after_of_writes_sub lead1 W lead1_writes h1, fun W => after_of_writes_sub lead2 W lead2_writes h2, fun W => after_of_writes_sub lead3 W lead3_writes h3, fun W => after_of_writes_sub lead4 W lead4_writes h4⟩

/-- A buffer no operation of a trip writes. -/
theorem trip_keep {r : Ref sig .tc} (h : ∀ W ∈ [trip0_W, trip1_W, trip2_W, trip3_W, trip4_W, trip5_W, trip6_W, trip7_W, trip8_W], r ∉ W) (V : Valuation τ sig (Elt F)) :
    afterL bodyI V (Proc.devRef .tc r) = V (Proc.devRef .tc r) := by
  simp only [List.forall_mem_cons, List.not_mem_nil, false_implies, implies_true, and_true] at h
  obtain ⟨h0, h1, h2, h3, h4, h5, h6, h7, h8⟩ := h
  refine afterL_keep _ V ?_
  simp only [bodyI, List.forall_mem_cons, List.not_mem_nil, false_implies, implies_true, and_true]
  exact ⟨fun W => after_of_writes_sub trip0 W trip0_writes h0, fun W => after_of_writes_sub trip1 W trip1_writes h1, fun W => after_of_writes_sub trip2 W trip2_writes h2, fun W => after_of_writes_sub trip3 W trip3_writes h3, fun W => after_of_writes_sub trip4 W trip4_writes h4, fun W => after_of_writes_sub trip5 W trip5_writes h5, fun W => after_of_writes_sub trip6 W trip6_writes h6, fun W => after_of_writes_sub trip7 W trip7_writes h7, fun W => after_of_writes_sub trip8 W trip8_writes h8⟩

/-- The operations after the loop write no argument. -/
theorem post_keep {r : Ref sig .tc} (hr : r = main_arg0 ∨ r = main_arg1) (V : Valuation τ sig (Elt F)) :
    afterL postI V (Proc.devRef .tc r) = V (Proc.devRef .tc r) := by
  simp only [afterL_cons, afterL_nil]
  rcases hr with rfl | rfl <;> after_reads_simp

variable (m : (ℓ : Loc nD τ sig) → Buf (Elt F) ℓ) (ρ : Dev nD → PrngReg)

/-- A buffer neither the condition nor a trip writes is, at any trip, as it was before the loop. -/
theorem atK_keep (c : Dev nD) {r : Ref sig .tc} (hc : r ∉ condOps_W)
    (h : ∀ W ∈ [trip0_W, trip1_W, trip2_W, trip3_W, trip4_W, trip5_W, trip6_W, trip7_W, trip8_W], r ∉ W) :
    ∀ k, atK m k c (Proc.devRef .tc r) = afterL preI (launchContents m c) (Proc.devRef .tc r)
  | 0 => rfl
  | k + 1 => by
    rw [show atK m (k + 1) c = afterL bodyI (after condOps (atK m k c)) from rfl, trip_keep h,
      after_of_writes_sub condOps _ condOps_writes hc, atK_keep c hc h k]

/-- An argument's buffer is never written. -/
theorem final_arg (c : Dev nD) {r : Ref sig .tc} (hr : r = main_arg0 ∨ r = main_arg1) :
    finalContents condOps preI bodyI postI 300 m c (Proc.devRef .tc r) = m ((c.tc : Thread nD τ).loc r) := by
  rw [finalContents, post_keep hr,
    after_of_writes_sub condOps _ condOps_writes (by rcases hr with rfl | rfl <;> decide +kernel),
    show atTrip condOps bodyI (entryContents preI m) 300 c (Proc.devRef .tc r) = _ from atK_keep m c (by rcases hr with rfl | rfl <;> decide +kernel) (by rcases hr with rfl | rfl <;> decide +kernel) 300,
    pre_keep (by rcases hr with rfl | rfl <;> decide +kernel)]

/-- The reference's run: the result is what the fold of its operations leaves, the arguments stay. -/
theorem run_ref [∀ e, Nonempty (Elt F e)] : θ_run (Cert.ReferenceIdeal.defs (F := F)) (onTc (τ := τ) (main (F := F))) ⟨m, fun _ => 0, ρ⟩ fun r => ∀ c : Dev nD,
    r.2.mem ((c.tc : Thread nD τ).loc main_v18) = finalContents condOps preI bodyI postI 300 m c (Proc.devRef .tc main_v18)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run Cert.ReferenceIdeal.defs _ _).mono (fun _ h c => ⟨h c main_v18 rfl, (h c main_arg0 rfl).trans (final_arg m c (.inl rfl)),
    (h c main_arg1 rfl).trans (final_arg m c (.inr rfl))⟩) (run_fold m ρ)

/-- The reference ends with its arguments unchanged and every counter at zero. -/
theorem frame_reference : Cert.quiescent_ReferenceIdeal := fun m ρ _ =>
  (θ_run Cert.ReferenceIdeal.defs _ _).mono (fun r h => ⟨fun c => (h c).2, sem_eq_zero_of_no_sems (by decide) r.2⟩) (run_ref (F := Ideal) m ρ)

end Cert.Proof.Ref

end
-- ==== Proof.Five.lean ====
/-
  Four columns and one more, side by side, read at an index.
-/
module

public import Idealize.ShloMosaic.Lib.Pipeline.Value
public import Idealize.ShloMosaic.Lib.ValueIdxCore

@[expose] public section

namespace Cert.Proof.Five

open Idealize.ShloMosaic
open Idealize.ShloMosaic.ValueIdx (ix1 ix2)

variable {α : Type} {n : ℕ}

/-- One of the four columns. -/
theorem four_at (x : (⟨2, ![n, 4]⟩ : Shape).Idx → α) (y : (⟨2, ![n, 1]⟩ : Shape).Idx → α)
    (h : Shape.Concatenates [⟨2, ![n, 4]⟩, ⟨2, ![n, 1]⟩] ⟨2, ![n, 5]⟩ 1) (k : Fin n) (r : Fin 4) (q : Fin 5) (hq : r.val = q.val) :
    concatenate ⟨2, ![n, 5]⟩ 1 [⟨⟨2, ![n, 4]⟩, x⟩, ⟨⟨2, ![n, 1]⟩, y⟩] h (ix2 k q) = x (ix2 k r) := by
  refine concatenate_pair_apply_left (t := ⟨2, ![n, 5]⟩) (1 : Fin 2) x y h (ix2 k q) rfl (ix2 k r) fun b => ?_
  match b with
  | ⟨0, _⟩ => rfl
  | ⟨1, _⟩ => exact hq

/-- The column added, a vector. -/
theorem fifth_at (x : (⟨2, ![n, 4]⟩ : Shape).Idx → α) (y : (⟨1, ![n]⟩ : Shape).Idx → α) (hb : (⟨1, ![n]⟩ : Shape).BroadcastsInDim ⟨2, ![n, 1]⟩ ![0])
    (h : Shape.Concatenates [⟨2, ![n, 4]⟩, ⟨2, ![n, 1]⟩] ⟨2, ![n, 5]⟩ 1) (k : Fin n) :
    concatenate ⟨2, ![n, 5]⟩ 1 [⟨⟨2, ![n, 4]⟩, x⟩, ⟨⟨2, ![n, 1]⟩, broadcastInDim ⟨2, ![n, 1]⟩ ![0] hb y⟩] h (ix2 k (4 : Fin 5)) = y (ix1 k) := by
  refine (concatenate_pair_apply_right (t := ⟨2, ![n, 5]⟩) (1 : Fin 2) x _ h (ix2 k (4 : Fin 5)) rfl rfl (ix2 k (0 : Fin 1)) (fun b hb => ?_) rfl).trans ?_
  · match b with
    | ⟨0, _⟩ => rfl
    | ⟨1, _⟩ => exact (hb rfl).elim
  · refine broadcastInDim_apply _ _ _ _ (ix1 k) fun a => ?_
    match a with
    | ⟨0, _⟩ =>
      show k.val = if n = 1 then 0 else k.val
      split
      · have := k.isLt
        omega
      · rfl

end Cert.Proof.Five
-- ==== Proof.HostAt.lean ====
/-
  What the call is given and what its result becomes, read at an index.
-/
module

public import proofs.«01_k».proof.Proof.Host
public import proofs.«01_k».proof.Proof.Five
public import Idealize.ShloMosaic.Lib.ValueLayout

@[expose] public section

noncomputable section

namespace Cert.Proof.Nms

open Cert.KernelIdeal Cert.KernelIdeal.Gen Cert.Proof.Spec
open Idealize.ShloMosaic
open Idealize.ShloMosaic.ValueIdx (ix1 ix2 transpose_ix2_apply)

variable {F : FTy → Type} [FloatOps F]

/-- The order at a place of the input. -/
theorem ordAt_in (sc : Vec F S5000 .f32) (p : Fin 5000) : ordAt (F := F) (ordOf sc) p.val = sorted sc (ix1 p) := by
  unfold ordAt
  rw [dif_pos (lt_trans p.isLt (by decide))]
  unfold ordOf
  refine pad_apply_of_inside _ _ _ _ _ _ _ _ _ fun a => ?_
  match a with
  | ⟨0, _⟩ =>
    show p.val = 0 + p.val * (0 + 1)
    omega

/-- The order at a place of the padding. -/
theorem ordAt_pad (sc : Vec F S5000 .f32) {p : ℕ} (h : 5000 ≤ p) (h' : p < 5008) : ordAt (F := F) (ordOf sc) p = 5000#32 := by
  unfold ordAt
  rw [dif_pos h']
  unfold ordOf
  refine (pad_apply_of_not_inside _ _ _ _ _ _ _ _ 0 ?_).trans rfl
  rintro ⟨-, -, q⟩
  change (p - 0) / (0 + 1) < 5000 at q
  rw [Nat.sub_zero, Nat.zero_add, Nat.div_one] at q
  omega

/-- The table at a box's corner. -/
theorem tabAt_box (bx : Vec F S5000x4 .f32) (sc : Vec F S5000 .f32) (r : Fin 4) (k : Fin 5000) :
    tabAt (tabOf bx sc) (r.castLE (by decide)) k.val = bx (ix2 k r) := by
  unfold tabAt
  rw [dif_pos (lt_trans k.isLt (by decide))]
  unfold tabOf
  rw [transpose_ix2_apply, pad_apply_of_inside _ _ _ _ _ _ _ _ (ix2 k (r.castLE (by decide) : Fin 5)) fun a => by
    match a with
    | ⟨0, _⟩ =>
      show k.val = 0 + k.val * (0 + 1)
      omega
    | ⟨1, _⟩ =>
      show r.val = 0 + r.val * (0 + 1)
      omega]
  exact Five.four_at bx _ _ k r _ rfl

/-- The table at a score. -/
theorem tabAt_score (bx : Vec F S5000x4 .f32) (sc : Vec F S5000 .f32) (k : Fin 5000) : tabAt (tabOf bx sc) 4 k.val = sc (ix1 k) := by
  unfold tabAt
  rw [dif_pos (lt_trans k.isLt (by decide))]
  unfold tabOf
  rw [transpose_ix2_apply, pad_apply_of_inside _ _ _ _ _ _ _ _ (ix2 k (4 : Fin 5)) fun a => by
    match a with
    | ⟨0, _⟩ =>
      show k.val = 0 + k.val * (0 + 1)
      omega
    | ⟨1, _⟩ => rfl]
  exact Five.fifth_at bx sc _ _ k

/-- The table in its padding. -/
theorem tabAt_pad (bx : Vec F S5000x4 .f32) (sc : Vec F S5000 .f32) (r : Fin 5) {k : ℕ} (h : 5000 ≤ k) (h' : k < 5008) :
    tabAt (tabOf bx sc) r k = FloatOps.sitofp .f32 0#32 := by
  unfold tabAt
  rw [dif_pos h']
  unfold tabOf
  rw [transpose_ix2_apply]
  refine (pad_apply_of_not_inside _ _ _ _ _ _ _ _ 0 ?_).trans rfl
  rintro ⟨-, -, q⟩
  change (k - 0) / (0 + 1) < 5000 at q
  rw [Nat.sub_zero, Nat.zero_add, Nat.div_one] at q
  omega

/-- The program's result is the kept array's first five rows, transposed. -/
theorem finish_at (K : Vec F S8x304 .f32) (p : Fin 300) (r : Fin 5) :
    finish K (ix2 p r) = K (ix2 (r.castLE (by decide) : Fin 8) (p.castLE (by decide) : Fin 304)) := by
  unfold finish
  rw [transpose_ix2_apply]
  refine extractStridedSlice_apply _ _ _ _ _ fun a => ?_
  match a with
  | ⟨0, _⟩ => exact (Nat.zero_add _).symm
  | ⟨1, _⟩ => exact (Nat.zero_add _).symm

end Cert.Proof.Nms

end
-- ==== Proof.Sim.lean ====
/-
  The kernel's scan against a selection stated by positions: `sup n j` says position `j` is suppressed once `n` boxes
  are taken, `idx n` is the position taken next. The kept array holds exactly the positions taken.
-/
module

public import proofs.«01_k».proof.Proof.Lane
public import Idealize.ShloMosaic.PureOps.Ideal.Laws
public import Idealize.ShloMosaic.Lib.IdealHost

@[expose] public section

noncomputable section

namespace Cert.Proof.Sim

open Cert.KernelIdeal Cert.KernelIdeal.Gen
open Idealize.ShloMosaic
open Idealize.ShloMosaic.ValueIdx (ix1 ix2)
open Cert.Proof.Spec
open scoped Classical

/-- A candidate's score is low. -/
def Low (T : Fin 5 → ℕ → EReal) (j : ℕ) : Prop := FloatOps.cmpf (F := Ideal) (φ := .f32) .ole (T 4 j) quarter = 1#1

/-- The box at `k` overlaps the one at `j`. -/
def Ov (T : Fin 5 → ℕ → EReal) (k j : ℕ) : Prop :=
  overBit (F := Ideal) (T 0 k) (T 1 k) (T 2 k) (T 3 k) (area (F := Ideal) (T 0 k) (T 1 k) (T 2 k) (T 3 k))
    (T 0 j) (T 1 j) (T 2 j) (T 3 j) (area (F := Ideal) (T 0 j) (T 1 j) (T 2 j) (T 3 j)) = 1#1

/-- A greedy selection: the low ones suppressed at first, then at each step the first one left is taken, and it and
    what it overlaps are suppressed. -/
structure Greedy (T : Fin 5 → ℕ → EReal) (sup : ℕ → ℕ → Prop) (idx : ℕ → ℕ) : Prop where
  start : ∀ j < 5000, sup 0 j ↔ Low T j
  step : ∀ t, ∀ j < 5000, sup (t + 1) j ↔ sup t j ∨ Ov T (idx t) j ∨ j = idx t
  lt : ∀ t, idx t < 5000
  free : ∀ t, (∃ j < 5000, ¬ sup t j) → ¬ sup t (idx t) ∧ ∀ j < idx t, sup t j

variable {T : Fin 5 → ℕ → EReal} {sup : ℕ → ℕ → Prop} {idx : ℕ → ℕ}

/-- What is suppressed once `n` boxes are taken. -/
theorem Greedy.sup_iff (G : Greedy T sup idx) {j : ℕ} (hj : j < 5000) : ∀ n, sup n j ↔ Low T j ∨ ∃ c < n, Ov T (idx c) j ∨ j = idx c
  | 0 => by simp [G.start j hj]
  | n + 1 => by
    rw [G.step n j hj, G.sup_iff hj n]
    constructor
    · rintro ((h | ⟨c, hc, h⟩) | h)
      · exact .inl h
      · exact .inr ⟨c, by omega, h⟩
      · exact .inr ⟨n, by omega, h⟩
    · rintro (h | ⟨c, hc, h⟩)
      · exact .inl (.inl h)
      · rcases Nat.lt_succ_iff_lt_or_eq.1 hc with hc | rfl
        · exact .inl (.inr ⟨c, hc, h⟩)
        · exact .inr h

/-- A suppressed position stays so. -/
theorem Greedy.sup_mono (G : Greedy T sup idx) {j n n' : ℕ} (hj : j < 5000) (h : n ≤ n') (hs : sup n j) : sup n' j := by
  rw [G.sup_iff hj] at hs ⊢
  exact hs.imp_right fun ⟨c, hc, h'⟩ => ⟨c, by omega, h'⟩

/-- The first position not suppressed is the one taken. -/
theorem Greedy.idx_eq (G : Greedy T sup idx) {n p : ℕ} (hp : p < 5000) (h : ¬ sup n p) (hl : ∀ j < p, sup n j) : idx n = p := by
  obtain ⟨h1, h2⟩ := G.free n ⟨p, hp, h⟩
  rcases Nat.lt_trichotomy (idx n) p with h' | h' | h'
  · exact (h1 (hl _ h')).elim
  · exact h'
  · exact (h (h2 _ h')).elim

/-- A candidate the kernel has marked once `n` boxes are kept. -/
def Marked (T : Fin 5 → ℕ → EReal) (idx : ℕ → ℕ) (n q : ℕ) : Prop := Low T q ∨ ∃ c < n, Ov T (idx c) q

/-- The mark's value. -/
def markOf (P : Prop) : EReal := if P then one (F := Ideal) else zero (F := Ideal)

theorem Marked_succ {n q : ℕ} : Marked T idx (n + 1) q ↔ Ov T (idx n) q ∨ Marked T idx n q := by
  unfold Marked
  constructor
  · rintro (h | ⟨c, hc, h⟩)
    · exact .inr (.inl h)
    · rcases Nat.lt_succ_iff_lt_or_eq.1 hc with hc | rfl
      · exact .inr (.inr ⟨c, hc, h⟩)
      · exact .inl h
  · rintro (h | h | ⟨c, hc, h⟩)
    · exact .inr ⟨n, by omega, h⟩
    · exact .inl h
    · exact .inr ⟨c, by omega, h⟩

theorem zero_eq : zero (F := Ideal) = (0 : EReal) := Idealize.ShloMosaic.Ideal.ofBits_zero_f32
theorem one_eq : one (F := Ideal) = (1 : EReal) := Idealize.ShloMosaic.Ideal.ofBits_one_f32

/-- Only an unmarked candidate's mark is zero. -/
theorem markOf_eq_zero (P : Prop) : markOf P = zero (F := Ideal) ↔ ¬ P := by
  unfold markOf
  split
  · rw [zero_eq, one_eq]; simp [*]
  · simp [*]

theorem select_markOf {b : BitVec 1} {P : Prop} : Scalar.select b (one (F := Ideal)) (markOf P) = markOf (b = 1#1 ∨ P) := by
  unfold Scalar.select markOf
  by_cases hb : b = 1
  · rw [if_pos hb, if_pos (.inl hb)]
  · rw [if_neg hb]
    by_cases hP : P
    · rw [if_pos hP, if_pos (.inr hP)]
    · rw [if_neg hP]; exact (if_neg (not_or.2 ⟨hb, hP⟩)).symm

/-! ## The kept array -/

/-- What the kept array holds once the positions `idx 0 … idx (n-1)`, all before `p`, are kept. -/
structure Kept (T : Fin 5 → ℕ → EReal) (sup : ℕ → ℕ → Prop) (idx : ℕ → ℕ) (p n : ℕ) (K : Vec Ideal S8x304 .f32) : Prop where
  le : n ≤ 300
  valid : ∀ c < n, ¬ sup c (idx c) ∧ idx c < p
  cols : ∀ (r : Fin 5) c, keptAt K (r.castLE (by decide)) c = if c < n then T r (idx c) else zero (F := Ideal)

theorem Kept.mono {p p' n : ℕ} {K : Vec Ideal S8x304 .f32} (h : Kept T sup idx p n K) (hp : p ≤ p') : Kept T sup idx p' n K :=
  ⟨h.le, fun c hc => ⟨(h.valid c hc).1, (h.valid c hc).2.trans_le hp⟩, h.cols⟩

/-- A row written at a column, read at a row and a column. -/
theorem keptAt_putAt (K : Vec Ideal S8x304 .f32) (r : ℕ) (w : BitVec 32) (v : EReal) (r' : Fin 8) (c : ℕ) (hw : w.toNat < 304) :
    keptAt (putAt K r w v) r' c = if r'.val = r ∧ c = w.toNat then v else keptAt K r' c := by
  unfold keptAt
  by_cases hc : c < 304
  · rw [dif_pos hc, dif_pos hc]; rfl
  · rw [dif_neg hc, dif_neg hc, if_neg (by omega)]

variable (tab : Vec Ideal S5x5008 .f32) (ord : Vec Ideal S5008 .i32)

/-- Row `r` of the candidate at place `p`. -/
def tabT (r : Fin 5) (p : ℕ) : EReal := tabAt tab r (ordAt (F := Ideal) ord p).toNat

/-- A column written, read at one of its first five rows. -/
theorem keptAt_putCol (K : Vec Ideal S8x304 .f32) (t : ℕ) (i : Fin 16) (w : BitVec 32) (r : Fin 5) (c : ℕ) (hw : w.toNat < 304) :
    keptAt (putCol K (group tab ord t) i w) (r.castLE (by decide)) c
      = if c = w.toNat then tabT tab ord r (16 * t + i.val) else keptAt K (r.castLE (by decide)) c := by
  unfold putCol
  simp only [keptAt_putAt _ _ _ _ _ _ hw]
  by_cases hc : c = w.toNat
  · simp only [hc, and_true, if_true]
    fin_cases r <;> simp <;> rfl
  · simp only [hc, and_false, if_false]

/-! ## The marks -/

theorem marks0_eq (t : ℕ) (j : S16.Idx) : marks0 (group tab ord t) j = markOf (Marked (tabT tab ord) idx 0 (16 * t + (j 0).val)) := by
  show Scalar.select _ _ _ = _
  unfold Scalar.select markOf Marked
  simp only [Nat.not_lt_zero, false_and, exists_false, or_false]
  exact if_congr Iff.rfl rfl rfl

theorem marksKept_eq {p n : ℕ} {K : Vec Ideal S8x304 .f32} (h : Kept (tabT tab ord) sup idx p n K) (t : ℕ) (j : S16.Idx) :
    ∀ k ≤ n, marksKept K (group tab ord t) k j = markOf (Marked (tabT tab ord) idx k (16 * t + (j 0).val))
  | 0, _ => marks0_eq tab ord t j
  | k + 1, hk => by
    have hc : ∀ r : Fin 5, keptAt K (r.castLE (by decide)) k = tabT tab ord r (idx k) := fun r => by
      rw [h.cols r k, if_pos (by omega)]
    have h0 : keptAt K 0 k = tabT tab ord 0 (idx k) := hc 0
    have h1 : keptAt K 1 k = tabT tab ord 1 (idx k) := hc 1
    have h2 : keptAt K 2 k = tabT tab ord 2 (idx k) := hc 2
    have h3 : keptAt K 3 k = tabT tab ord 3 (idx k) := hc 3
    rw [Marked_succ]
    show Scalar.select _ _ (marksKept K (group tab ord t) k j) = _
    rw [marksKept_eq h t j k (by omega), h0, h1, h2, h3, select_markOf]
    rfl

/-! ## A lane -/

/-- The state inside chunk `t` before place `p` is looked at. -/
structure Mid (T : Fin 5 → ℕ → EReal) (sup : ℕ → ℕ → Prop) (idx : ℕ → ℕ) (t p : ℕ) (st : St Ideal) : Prop where
  kept : Kept T sup idx p st.n.toNat st.K
  done : st.n.toNat < 300 → ∀ j < p, j < 5000 → sup st.n.toNat j
  marks : ∀ j, st.s j = markOf (Marked T idx st.n.toNat (16 * t + (j 0).val))

theorem keep_iff (b : BitVec 1) (n : BitVec 32) (hn : n.toNat ≤ 300) :
    Scalar.andi b (Scalar.cmpi .slt n 300#32) = 1#1 ↔ b = 1#1 ∧ n.toNat < 300 := by
  have H : ∀ (b : BitVec 1) (v : Fin 301), Scalar.andi b (Scalar.cmpi .slt (BitVec.ofNat 32 v.val) 300#32) = 1#1 ↔ b = 1#1 ∧ v.val < 300 := by decide +kernel
  have := H b ⟨n.toNat, by omega⟩
  simpa only [BitVec.ofNat_toNat, BitVec.setWidth_eq] using this

theorem eqZero_iff (x : EReal) : Scalar.cmpf (F := Ideal) (φ := .f32) .oeq x zero = 1#1 ↔ x = zero (F := Ideal) := by
  show BitVec.ofBool (decide (x = zero (F := Ideal))) = 1#1 ↔ _
  generalize zero (F := Ideal) = z
  by_cases h : x = z <;> simp [h]

theorem succ_toNat (n : BitVec 32) (hn : n.toNat < 300) : (Scalar.addi n 1#32).toNat = n.toNat + 1 := by
  show (n + 1#32).toNat = _
  rw [BitVec.toNat_add]
  show (n.toNat + 1) % 2 ^ 32 = _
  omega

theorem lane_mid (G : Greedy (tabT tab ord) sup idx) (pad : ∀ p, 5000 ≤ p → p < 5008 → Low (tabT tab ord) p) {t : ℕ} (ht : t < 313) (i : Fin 16) {st : St Ideal}
    (h : Mid (tabT tab ord) sup idx t (16 * t + i.val) st) : Mid (tabT tab ord) sup idx t (16 * t + i.val + 1) (lane (group tab ord t) i st) := by
  have hi := i.isLt
  have hl : laneOf i st.s = markOf (Marked (tabT tab ord) idx st.n.toNat (16 * t + i.val)) := by
    rw [show laneOf i st.s = st.s (ix1 i) from Nms.lane_val st.s i _ _, h.marks]
  have hk : keepBit i st = 1#1 ↔ ¬ Marked (tabT tab ord) idx st.n.toNat (16 * t + i.val) ∧ st.n.toNat < 300 := by
    unfold keepBit
    rw [keep_iff _ _ h.kept.le, eqZero_iff, hl, markOf_eq_zero]
  have hsup : 16 * t + i.val < 5000 → (sup st.n.toNat (16 * t + i.val) ↔ Marked (tabT tab ord) idx st.n.toNat (16 * t + i.val)) := fun hp => by
    rw [G.sup_iff hp]
    unfold Marked
    refine or_congr Iff.rfl (exists_congr fun c => and_congr_right fun hc => ?_)
    have := (h.kept.valid c hc).2
    exact or_iff_left (by omega)
  by_cases hkb : keepBit i st = 1#1
  · obtain ⟨hm, hn⟩ := hk.1 hkb
    have hp : 16 * t + i.val < 5000 := by
      by_contra hp
      exact hm (.inl (pad _ (by omega) (by omega)))
    have hns := fun q => hm ((hsup hp).1 q)
    have hix : idx st.n.toNat = 16 * t + i.val := G.idx_eq hp hns fun j hj => h.done hn j hj (by omega)
    have hn' : (lane (group tab ord t) i st).n.toNat = st.n.toNat + 1 := by
      show (Scalar.select (keepBit i st) (Scalar.addi st.n 1#32) st.n).toNat = _
      rw [hkb]; exact succ_toNat _ hn
    have hK : (lane (group tab ord t) i st).K = putCol st.K (group tab ord t) i st.n := if_pos hkb
    have hs : (lane (group tab ord t) i st).s = mark ((group tab ord t).x1 (ix1 i)) ((group tab ord t).y1 (ix1 i)) ((group tab ord t).x2 (ix1 i)) ((group tab ord t).y2 (ix1 i)) ((group tab ord t).ar (ix1 i)) (group tab ord t) st.s := if_pos hkb
    refine ⟨⟨by rw [hn']; omega, fun c hc => ?_, fun r c => ?_⟩, fun _ j hj hj' => ?_, fun j => ?_⟩
    · rw [hn'] at hc
      rcases Nat.lt_succ_iff_lt_or_eq.1 hc with hc | rfl
      · exact ⟨(h.kept.valid c hc).1, (h.kept.valid c hc).2.trans (Nat.lt_succ_self _)⟩
      · rw [hix]; exact ⟨hns, Nat.lt_succ_self _⟩
    · rw [hn', hK, keptAt_putCol tab ord _ _ _ _ _ _ (by omega), h.kept.cols]
      by_cases hc : c = st.n.toNat
      · rw [if_pos hc, if_pos (by omega), hc, hix]
      · rw [if_neg hc]
        by_cases hc' : c < st.n.toNat
        · rw [if_pos hc', if_pos (by omega)]
        · rw [if_neg hc', if_neg (by omega)]
    · rw [hn', G.step _ _ hj']
      rcases Nat.lt_succ_iff_lt_or_eq.1 hj with hj | rfl
      · exact .inl (h.done hn j hj hj')
      · exact .inr (.inr hix.symm)
    · rw [hn', hs, Marked_succ, hix]
      show Scalar.select _ _ (st.s j) = _
      rw [h.marks, select_markOf]
      rfl
  · have hn' : (lane (group tab ord t) i st).n = st.n := by
      show Scalar.select (keepBit i st) _ _ = _
      exact if_neg hkb
    have hK : (lane (group tab ord t) i st).K = st.K := if_neg hkb
    have hs : (lane (group tab ord t) i st).s = st.s := if_neg hkb
    refine ⟨by rw [hn', hK]; exact h.kept.mono (Nat.le_succ _), ?_, by rw [hn', hs]; exact h.marks⟩
    rw [hn']
    intro hn j hj hj'
    rcases Nat.lt_succ_iff_lt_or_eq.1 hj with hj | rfl
    · exact h.done hn j hj hj'
    · rw [hsup hj']
      by_contra hm
      exact hkb (hk.2 ⟨hm, hn⟩)

/-! ## A chunk -/

/-- The state between chunks, `p` places looked at: the count may have been closed at 300 with nothing left to take. -/
def Between (T : Fin 5 → ℕ → EReal) (sup : ℕ → ℕ → Prop) (idx : ℕ → ℕ) (p : ℕ) (st : St Ideal) : Prop :=
  ∃ n, Kept T sup idx p n st.K ∧ ((st.n.toNat = n ∧ (n < 300 → ∀ j < p, j < 5000 → sup n j)) ∨ (st.n.toNat = 300 ∧ ∀ j < 5000, sup n j))

theorem slt_iff (n : BitVec 32) (hn : n.toNat ≤ 300) : Scalar.cmpi .slt n 300#32 = 1#1 ↔ n.toNat < 300 := by
  have := keep_iff 1#1 n hn
  rw [show Scalar.andi 1#1 (Scalar.cmpi .slt n 300#32) = Scalar.cmpi .slt n 300#32 from by
    generalize Scalar.cmpi .slt n 300#32 = b; revert b; decide] at this
  simpa using this

theorem lanes_mid (G : Greedy (tabT tab ord) sup idx) (pad : ∀ p, 5000 ≤ p → p < 5008 → Low (tabT tab ord) p) {t : ℕ} (ht : t < 313) {st : St Ideal}
    (h : Mid (tabT tab ord) sup idx t (16 * t) st) : ∀ j ≤ 16, Mid (tabT tab ord) sup idx t (16 * t + j) (lanes (group tab ord t) st j)
  | 0, _ => h
  | j + 1, hj => by
    rw [show lanes (group tab ord t) st (j + 1) = lane (group tab ord t) ⟨j, hj⟩ (lanes (group tab ord t) st j) from dif_pos hj]
    exact lane_mid tab ord G pad ht ⟨j, hj⟩ (lanes_mid G pad ht h j (by omega))

theorem chunk_between (G : Greedy (tabT tab ord) sup idx) (pad : ∀ p, 5000 ≤ p → p < 5008 → Low (tabT tab ord) p)
    (desc : ∀ p j, p ≤ j → j < 5000 → Low (tabT tab ord) p → Low (tabT tab ord) j) {t : ℕ} (ht : t < 313) {st : St Ideal}
    (h : Between (tabT tab ord) sup idx (16 * t) st) : Between (tabT tab ord) sup idx (16 * (t + 1)) (chunk tab ord t st) := by
  obtain ⟨n, hK, h⟩ := h
  have hle : st.n.toNat ≤ 300 := by rcases h with ⟨h, -⟩ | ⟨h, -⟩ <;> have := hK.le <;> omega
  unfold chunk
  by_cases hlt : st.n.toNat < 300
  · rw [if_pos ((slt_iff _ hle).2 hlt)]
    have hd : st.n.toNat = n ∧ (n < 300 → ∀ j < 16 * t, j < 5000 → sup n j) := h.resolve_right fun q => by omega
    obtain ⟨rfl, hd⟩ := hd
    have hm := lanes_mid tab ord G pad ht (st := ⟨marksKept st.K (group tab ord t) st.n.toNat, st.K, st.n⟩)
      ⟨hK, hd, fun j => marksKept_eq tab ord hK t j _ le_rfl⟩ 16 le_rfl
    change Mid (tabT tab ord) sup idx t (16 * t + 16) (inner tab ord t st) at hm
    generalize inner tab ord t st = s' at hm
    refine ⟨s'.n.toNat, hm.kept, ?_⟩
    by_cases hq : Scalar.cmpf .ole (laneOf 0 (group tab ord t).sc) (quarter (F := Ideal)) = 1#1
    · have hlow : Low (tabT tab ord) (16 * t) := by
        rw [show laneOf 0 (group tab ord t).sc = (group tab ord t).sc (ix1 0) from Nms.lane_val _ 0 _ _] at hq
        exact hq
      by_cases hn : s'.n.toNat < 300
      · refine .inr ⟨?_, fun j hj => ?_⟩
        · dsimp only
          rw [if_pos hq]; rfl
        · by_cases hjt : j < 16 * t
          · exact hm.done hn j (by omega) hj
          · exact (G.sup_iff hj _).2 (.inl (desc _ _ (by omega) hj hlow))
      · have := hm.kept.le
        refine .inl ⟨?_, fun q => (hn q).elim⟩
        dsimp only
        rw [if_pos hq]
        show 300 = _
        omega
    · refine .inl ⟨?_, hm.done⟩
      dsimp only
      rw [if_neg hq]
  · rw [if_neg fun q => hlt ((slt_iff _ hle).1 q)]
    refine ⟨n, hK.mono (by omega), ?_⟩
    rcases h with ⟨h1, -⟩ | h
    · exact .inl ⟨h1, fun q => by omega⟩
    · exact .inr h

/-- Nothing is kept at first. -/
theorem chunks_between (G : Greedy (tabT tab ord) sup idx) (pad : ∀ p, 5000 ≤ p → p < 5008 → Low (tabT tab ord) p)
    (desc : ∀ p j, p ≤ j → j < 5000 → Low (tabT tab ord) p → Low (tabT tab ord) j) :
    ∀ t ≤ 313, Between (tabT tab ord) sup idx (16 * t) (chunks tab ord t)
  | 0, _ => ⟨0, ⟨by omega, fun c hc => (Nat.not_lt_zero _ hc).elim, fun r c => by
      rw [if_neg (Nat.not_lt_zero _)]
      unfold keptAt
      split <;> rfl⟩, .inl ⟨rfl, fun _ j hj => by omega⟩⟩
  | t + 1, ht => chunk_between tab ord G pad desc (by omega) (chunks_between G pad desc t (by omega))

/-- The kept array at the end: the positions taken while one was left, and zeros. -/
theorem out_cols (G : Greedy (tabT tab ord) sup idx) (pad : ∀ p, 5000 ≤ p → p < 5008 → Low (tabT tab ord) p)
    (desc : ∀ p j, p ≤ j → j < 5000 → Low (tabT tab ord) p → Low (tabT tab ord) j) (r : Fin 5) {c : ℕ} (hc : c < 300) :
    out tab ord (ix2 (r.castLE (by decide)) ⟨c, by omega⟩) = if ¬ sup c (idx c) then tabT tab ord r (idx c) else (0 : EReal) := by
  have key := chunks_between tab ord G pad desc 313 le_rfl
  unfold out
  generalize chunks tab ord 313 = S at key ⊢
  obtain ⟨n, hK, h⟩ := key
  have hcol := hK.cols r c
  unfold keptAt at hcol
  rw [dif_pos (show c < 304 by omega)] at hcol
  refine hcol.trans ?_
  by_cases hcn : c < n
  · rw [if_pos hcn, if_pos (hK.valid c hcn).1]
  · rw [if_neg hcn, if_neg, zero_eq]
    have hall : ∀ j < 5000, sup n j := by
      rcases h with ⟨-, h⟩ | ⟨-, h⟩
      · exact fun j hj => h (by omega) j (by omega) hj
      · exact h
    exact not_not_intro (G.sup_mono (G.lt c) (by omega) (hall _ (G.lt c)))

end Cert.Proof.Sim

end
-- ==== Proof.RefValue.lean ====
/-
  The reference's run read as values: its positions in order of score, what one trip of the scan does to what it carries,
  and its result from what the scan leaves.
-/
module

public import proofs.«01_k».proof.Proof.RefFrame

@[expose] public section

set_option maxRecDepth 100000

noncomputable section

namespace Cert.Proof.Ref

open Cert.ReferenceIdeal Cert.ReferenceIdeal.Gen
open Idealize.ShloMosaic Idealize.ShloMosaic.TcCoe
open Idealize.SL Idealize.SL.Sem
open Idealize.ShloMosaic.StableHlo

variable {F : FTy → Type} [FloatOps F]

/-! ## The values -/

/-- The positions in descending order of score. -/
def order (sc : Vec F S5000 .f32) : Vec F S5000 .i32 :=
  (Host.sort2 S5000 0 comparator_f32_i32_d0 (Host.negf sc) (iotaInDim S5000 32 0)).2

/-- 5000 positions, a negative one counted from the end, as a column. -/
def col5000 (i : Vec F S5000 .i32) : Vec F S5000x1 .i32 :=
  broadcastInDim S5000x1 ![0] bcast_S5000_S5000x1_0
    (select (cmpi .slt i (broadcastInDim S5000 ![] bcast_S_S5000 (constantI S_ 32 0#32)))
      (addi i (broadcastInDim S5000 ![] bcast_S_S5000 (constantI S_ 32 5000#32))) i)

/-- Which of 5000 positions lie in the array. -/
def in5000 (i : Vec F S5000 .i32) : Vec F S5000 .i1 :=
  Host.reduce IntOp.andi
    (andi (cmpi .sge (col5000 (F := F) i) (broadcastInDim S5000x1 ![] bcast_S_S5000x1 (constantI S_ 32 0#32)))
      (cmpi .sle (col5000 (F := F) i) (broadcastInDim S5000x1 ![0, 1] bcast_S1x1_S5000x1_0_1 (broadcastInDim S1x1 ![1] bcast_S1_S1x1_1 (constantI S1 32 4999#32)))))
    (constantI S_ 1 1#1) reducesTo_S5000x1_S5000_d1 h_S_

/-- The boxes at 5000 positions. -/
def boxesAt (bx : Vec F S5000x4 .f32) (i : Vec F S5000 .i32) : Vec F S5000x4 .f32 :=
  select (broadcastInDim S5000x4 ![0] bcast_S5000_S5000x4_0 (in5000 (F := F) i))
    (Host.gather gather_S5000x4_S5000x1_S5000x4_1_0_n_n_0_1_14 bx (col5000 (F := F) i))
    (broadcastInDim S5000x4 ![] bcast_S_S5000x4 (constant S_ .f32 0x7FC00000#32))

/-- The scores at 5000 positions. -/
def scoresAt (sc : Vec F S5000 .f32) (i : Vec F S5000 .i32) : Vec F S5000 .f32 :=
  select (in5000 (F := F) i) (Host.gather gather_S5000_S5000x1_S5000_n_0_n_n_0_1_1 sc (col5000 (F := F) i))
    (broadcastInDim S5000 ![] bcast_S_S5000 (constant S_ .f32 0x7FC00000#32))

/-- Which scores are low. -/
def lowOf (s : Vec F S5000 .f32) : Vec F S5000 .i1 :=
  cmpf .ole s (broadcastInDim S5000 ![] bcast_S_S5000 (constant S_ .f32 0x3E800000#32))

/-- The positions as floats. -/
def places : Vec F S5000 .f32 := sitofp .f32 (iotaInDim S5000 32 0)

/-- The position of the least candidate, suppressed ones counting as 5000. -/
def firstOf (p : Vec F S5000 .f32) (sup : Vec F S5000 .i1) : Vec F S_ .i32 := fun j =>
  (Host.argReduce reducer_argmin_f32_i32
    (select sup (broadcastInDim S5000 ![] bcast_S_S5000 (constant S_ .f32 0x459C4000#32)) p)
    (iotaInDim S5000 32 0) (constant S_ .f32 0x7F800000#32) (constantI S_ 32 0#32) reducesTo_S5000_S_d0 h_S_ j).2

/-- A position, a negative one counted from the end. -/
def fromEnd (i : Vec F S_ .i32) : Vec F S_ .i32 := select (cmpi .slt i (constantI S_ 32 0#32)) (addi i (constantI S_ 32 5000#32)) i

/-- Whether a position is not suppressed. -/
def freeAt (sup : Vec F S5000 .i1) (i : Vec F S_ .i32) : Vec F S_ .i1 :=
  noti (shapeCast S_ (Host.dynamicSlice S1 sup (fun _ => (fromEnd (F := F) i (Shape.Idx.first h_S_)).toInt) sliceFits_S5000_S1) shapeCasts_S1_S_)

/-- The box at a position. -/
def boxAt (bs : Vec F S5000x4 .f32) (i : Vec F S_ .i32) : Vec F S4 .f32 :=
  shapeCast S4 (Host.dynamicSlice S1x4 bs (fun k => ((![fromEnd (F := F) i, select (cmpi .slt (constantI S_ 32 0#32) (constantI S_ 32 0#32)) (addi (constantI S_ 32 0#32) (constantI S_ 32 4#32)) (constantI S_ 32 0#32)] : Fin 2 → Vec F S_ .i32) k (Shape.Idx.first h_S_)).toInt) sliceFits_S5000x4_S1x4) shapeCasts_S1x4_S4

/-- The sides of a box's intersection with every box. -/
def sides (b : Vec F S4 .f32) (bs : Vec F S5000x4 .f32) : Vec F S5000x2 .f32 :=
  maximumf (broadcastInDim S5000x2 ![] bcast_S_S5000x2 (constant S_ .f32 0x00000000#32))
    (subf (minimumf (broadcastInDim S5000x2 ![0, 1] bcast_S1x2_S5000x2_0_1 (broadcastInDim S1x2 ![1] bcast_S2_S1x2_1 (extractStridedSlice S2 ![2] b slices_S4_S2_2)))
        (extractStridedSlice S5000x2 ![0, 2] bs slices_S5000x4_S5000x2_0_2))
      (maximumf (broadcastInDim S5000x2 ![0, 1] bcast_S1x2_S5000x2_0_1 (broadcastInDim S1x2 ![1] bcast_S2_S1x2_1 (extractStridedSlice S2 ![0] b slices_S4_S2_0)))
        (extractStridedSlice S5000x2 ![0, 0] bs slices_S5000x4_S5000x2_0_0)))

/-- The areas of the intersections from their sides. -/
def interOf (sd : Vec F S5000x2 .f32) : Vec F S5000 .f32 :=
  mulf (shapeCast S5000 (extractStridedSlice S5000x1 ![0, 0] sd slices_S5000x2_S5000x1_0_0) shapeCasts_S5000x1_S5000)
    (shapeCast S5000 (extractStridedSlice S5000x1 ![0, 1] sd slices_S5000x2_S5000x1_0_1) shapeCasts_S5000x1_S5000)

/-- One box's area. -/
def area1 (b : Vec F S4 .f32) : Vec F S_ .f32 :=
  mulf (subf (shapeCast S_ (extractStridedSlice S1 ![2] b slices_S4_S1_2) shapeCasts_S1_S_) (shapeCast S_ (extractStridedSlice S1 ![0] b slices_S4_S1_0) shapeCasts_S1_S_))
    (subf (shapeCast S_ (extractStridedSlice S1 ![3] b slices_S4_S1_3) shapeCasts_S1_S_) (shapeCast S_ (extractStridedSlice S1 ![1] b slices_S4_S1_1) shapeCasts_S1_S_))

/-- Every box's area. -/
def areas (bs : Vec F S5000x4 .f32) : Vec F S5000 .f32 :=
  mulf (subf (shapeCast S5000 (extractStridedSlice S5000x1 ![0, 2] bs slices_S5000x4_S5000x1_0_2) shapeCasts_S5000x1_S5000)
      (shapeCast S5000 (extractStridedSlice S5000x1 ![0, 0] bs slices_S5000x4_S5000x1_0_0) shapeCasts_S5000x1_S5000))
    (subf (shapeCast S5000 (extractStridedSlice S5000x1 ![0, 3] bs slices_S5000x4_S5000x1_0_3) shapeCasts_S5000x1_S5000)
      (shapeCast S5000 (extractStridedSlice S5000x1 ![0, 1] bs slices_S5000x4_S5000x1_0_1) shapeCasts_S5000x1_S5000))

/-- Which boxes overlap a box by more than the threshold, from the sides of the intersections. -/
def oversBy (sd : Vec F S5000x2 .f32) (b : Vec F S4 .f32) (bs : Vec F S5000x4 .f32) : Vec F S5000 .i1 :=
  cmpf .ogt (Host.divf (interOf sd)
      (addf (subf (addf (broadcastInDim S5000 ![] bcast_S_S5000 (area1 b)) (areas bs)) (interOf sd))
        (broadcastInDim S5000 ![] bcast_S_S5000 (constant S_ .f32 0x33D6BF95#32))))
    (broadcastInDim S5000 ![] bcast_S_S5000 (constant S_ .f32 0x3EE66666#32))

/-- The suppressed positions after a trip that took position `i`, from the box there and the sides of its intersections. -/
def supTaken (sd : Vec F S5000x2 .f32) (b : Vec F S4 .f32) (bs : Vec F S5000x4 .f32) (sup : Vec F S5000 .i1) (i : Vec F S_ .i32) : Vec F S5000 .i1 :=
  Host.scatter scatter_S5000_S1_S__n_0_0_0 (fun _ b => b) (ori sup (oversBy sd b bs))
    (broadcastInDim S1 ![] bcast_S_S1 (fromEnd (F := F) i)) (constantI S_ 1 1#1)

/-- The suppressed positions after a trip that took position `i`. -/
def supNext (bs : Vec F S5000x4 .f32) (sup : Vec F S5000 .i1) (i : Vec F S_ .i32) : Vec F S5000 .i1 :=
  supTaken (sides (boxAt bs i) bs) (boxAt bs i) bs sup i

/-- An array of 300 with its place `n` written. -/
def writeAt {e : EltTy} (x : Vec F S300 e) (n : Vec F S_ .i32) (v : Vec F S_ e) : Vec F S300 e :=
  Host.dynamicUpdateSlice x (broadcastInDim S1 ![] bcast_S_S1 v) (fun _ => (n (Shape.Idx.first h_S_)).toInt) updateFits_S300_S1

/-- 300 positions, a negative one counted from the end, as a column. -/
def col300 (i : Vec F S300 .i32) : Vec F S300x1 .i32 :=
  broadcastInDim S300x1 ![0] bcast_S300_S300x1_0
    (select (cmpi .slt i (broadcastInDim S300 ![] bcast_S_S300 (constantI S_ 32 0#32)))
      (addi i (broadcastInDim S300 ![] bcast_S_S300 (constantI S_ 32 5000#32))) i)

/-- Which of 300 positions lie in the array. -/
def in300 (i : Vec F S300 .i32) : Vec F S300 .i1 :=
  Host.reduce IntOp.andi
    (andi (cmpi .sge (col300 (F := F) i) (broadcastInDim S300x1 ![] bcast_S_S300x1 (constantI S_ 32 0#32)))
      (cmpi .sle (col300 (F := F) i) (broadcastInDim S300x1 ![0, 1] bcast_S1x1_S300x1_0_1 (broadcastInDim S1x1 ![1] bcast_S1_S1x1_1 (constantI S1 32 4999#32)))))
    (constantI S_ 1 1#1) reducesTo_S300x1_S300_d1 h_S_

/-- The boxes taken, those of no position zero. -/
def boxesSel (bs : Vec F S5000x4 .f32) (ix : Vec F S300 .i32) (ok : Vec F S300 .i1) : Vec F S300x4 .f32 :=
  mulf (select (broadcastInDim S300x4 ![0] bcast_S300_S300x4_0 (in300 (F := F) ix))
      (Host.gather gather_S5000x4_S300x1_S300x4_1_0_n_n_0_1_14 bs (col300 (F := F) ix))
      (broadcastInDim S300x4 ![] bcast_S_S300x4 (constant S_ .f32 0x7FC00000#32)))
    (broadcastInDim S300x4 ![0, 1] bcast_S300x1_S300x4_0_1 (broadcastInDim S300x1 ![0] bcast_S300_S300x1_0 (uitofp .f32 ok)))

/-- The scores taken, those of no position zero. -/
def scoresSel (ss : Vec F S5000 .f32) (ix : Vec F S300 .i32) (ok : Vec F S300 .i1) : Vec F S300 .f32 :=
  mulf (select (in300 (F := F) ix) (Host.gather gather_S5000_S300x1_S300_n_0_n_n_0_1_1 ss (col300 (F := F) ix))
      (broadcastInDim S300 ![] bcast_S_S300 (constant S_ .f32 0x7FC00000#32))) (uitofp .f32 ok)

/-- The result from what the scan leaves. -/
def result (bs : Vec F S5000x4 .f32) (ss : Vec F S5000 .f32) (ix : Vec F S300 .i32) (ok : Vec F S300 .i1) : Vec F S300x5 .f32 :=
  concatenate S300x5 1 [⟨S300x4, boxesSel bs ix ok⟩, ⟨S300x1, broadcastInDim S300x1 ![0] bcast_S300_S300x1_0 (scoresSel ss ix ok)⟩]
    concatenates_S300x4_S300x1_S300x5_d1

/-! ## The run read -/

/-- What the loop finds. -/
theorem lead_places (V : Valuation τ sig (Elt F)) : afterL preI V (Proc.devRef .tc main_v9_0) = places (F := F) := by
  simp only [afterL_cons, afterL_nil]
  after_reads_simp
  unfold places
  rfl

theorem lead_boxes (V : Valuation τ sig (Elt F)) :
    afterL preI V (Proc.devRef .tc main_v9_1) = boxesAt (V (Proc.devRef .tc main_arg0)) (order (V (Proc.devRef .tc main_arg1))) := by
  simp only [afterL_cons, afterL_nil]
  after_reads_simp
  simp -implicitDefEqProofs only [TRef.toBuf, TRef.ofBuf, cast_cast, cast_eq]
  unfold boxesAt in5000 col5000 order
  rfl

theorem lead_boxes' (V : Valuation τ sig (Elt F)) :
    afterL preI V (Proc.devRef .tc main_v2) = boxesAt (V (Proc.devRef .tc main_arg0)) (order (V (Proc.devRef .tc main_arg1))) := by
  simp only [afterL_cons, afterL_nil]
  after_reads_simp
  simp -implicitDefEqProofs only [TRef.toBuf, TRef.ofBuf, cast_cast, cast_eq]
  unfold boxesAt in5000 col5000 order
  rfl

theorem lead_scores (V : Valuation τ sig (Elt F)) :
    afterL preI V (Proc.devRef .tc main_v3) = scoresAt (V (Proc.devRef .tc main_arg1)) (order (V (Proc.devRef .tc main_arg1))) := by
  simp only [afterL_cons, afterL_nil]
  after_reads_simp
  simp -implicitDefEqProofs only [TRef.toBuf, TRef.ofBuf, cast_cast, cast_eq]
  unfold scoresAt in5000 col5000 order
  rfl

theorem lead_low (V : Valuation τ sig (Elt F)) :
    afterL preI V (Proc.devRef .tc main_v9_3) = lowOf (scoresAt (V (Proc.devRef .tc main_arg1)) (order (V (Proc.devRef .tc main_arg1)))) := by
  simp only [afterL_cons, afterL_nil]
  after_reads_simp
  simp -implicitDefEqProofs only [TRef.toBuf, TRef.ofBuf, cast_cast, cast_eq]
  unfold lowOf scoresAt in5000 col5000 order
  rfl

/-- The line up to the read of the first position's mark. -/
abbrev trip3a : List (HloOp τ sig (Elt F)) :=
  [StableHlo.nullary main_while0b_c_8 (constantI S_ 32 0#32),
    StableHlo.binary main_while0b_v20 main_while0b_c_8 main_while0b_v21 (cmpi .slt : (⟨S_, .i32⟩ : BufTy).Contents (Elt F) → (⟨S_, .i32⟩ : BufTy).Contents (Elt F) → (⟨S_, .i1⟩ : BufTy).Contents (Elt F)),
    StableHlo.nullary main_while0b_c_9 (constantI S_ 32 5000#32),
    StableHlo.binary main_while0b_v20 main_while0b_c_9 main_while0b_v22 (addi : (⟨S_, .i32⟩ : BufTy).Contents (Elt F) → (⟨S_, .i32⟩ : BufTy).Contents (Elt F) → (⟨S_, .i32⟩ : BufTy).Contents (Elt F)),
    StableHlo.ternary main_while0b_v21 main_while0b_v22 main_while0b_v20 main_while0b_v23 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v9_3 ![main_while0b_v23] ⟨S_, .i32⟩ main_while0b_v24 ((fun x i => Host.dynamicSlice S1 x (fun k => (i k (Shape.Idx.first h_S_)).toInt) sliceFits_S5000_S1) : (⟨S5000, .i1⟩ : BufTy).Contents (Elt F) → (Fin 1 → (⟨S_, .i32⟩ : BufTy).Contents (Elt F)) → (⟨S1, .i1⟩ : BufTy).Contents (Elt F))]

/-- The line up to the read of the box taken. -/
abbrev trip3b : List (HloOp τ sig (Elt F)) :=
  [StableHlo.reshape main_while0b_v24 main_while0b_v25 (rfl : (.i1 : EltTy) = .i1) shapeCasts_S1_S_,
    StableHlo.unary main_while0b_v25 main_while0b_v26 (noti : (⟨S_, .i1⟩ : BufTy).Contents (Elt F) → (⟨S_, .i1⟩ : BufTy).Contents (Elt F)),
    StableHlo.nullary main_while0b_c_10 (constantI S_ 32 0#32),
    StableHlo.binary main_while0b_v20 main_while0b_c_10 main_while0b_v27 (cmpi .slt : (⟨S_, .i32⟩ : BufTy).Contents (Elt F) → (⟨S_, .i32⟩ : BufTy).Contents (Elt F) → (⟨S_, .i1⟩ : BufTy).Contents (Elt F)),
    StableHlo.nullary main_while0b_c_11 (constantI S_ 32 5000#32),
    StableHlo.binary main_while0b_v20 main_while0b_c_11 main_while0b_v28 (addi : (⟨S_, .i32⟩ : BufTy).Contents (Elt F) → (⟨S_, .i32⟩ : BufTy).Contents (Elt F) → (⟨S_, .i32⟩ : BufTy).Contents (Elt F)),
    StableHlo.ternary main_while0b_v27 main_while0b_v28 main_while0b_v20 main_while0b_v29 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_12 (constantI S_ 32 0#32),
    StableHlo.nullary main_while0b_c_13 (constantI S_ 32 0#32),
    StableHlo.binary main_while0b_c_12 main_while0b_c_13 main_while0b_v30 (cmpi .slt : (⟨S_, .i32⟩ : BufTy).Contents (Elt F) → (⟨S_, .i32⟩ : BufTy).Contents (Elt F) → (⟨S_, .i1⟩ : BufTy).Contents (Elt F)),
    StableHlo.nullary main_while0b_c_14 (constantI S_ 32 0#32),
    StableHlo.nullary main_while0b_c_15 (constantI S_ 32 4#32),
    StableHlo.binary main_while0b_c_14 main_while0b_c_15 main_while0b_v31 (addi : (⟨S_, .i32⟩ : BufTy).Contents (Elt F) → (⟨S_, .i32⟩ : BufTy).Contents (Elt F) → (⟨S_, .i32⟩ : BufTy).Contents (Elt F)),
    StableHlo.nullary main_while0b_c_16 (constantI S_ 32 0#32),
    StableHlo.ternary main_while0b_v30 main_while0b_v31 main_while0b_c_16 main_while0b_v32 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v9_1 ![main_while0b_v29, main_while0b_v32] ⟨S_, .i32⟩ main_while0b_v33 ((fun x i => Host.dynamicSlice S1x4 x (fun k => (i k (Shape.Idx.first h_S_)).toInt) sliceFits_S5000x4_S1x4) : (⟨S5000x4, .f32⟩ : BufTy).Contents (Elt F) → (Fin 2 → (⟨S_, .i32⟩ : BufTy).Contents (Elt F)) → (⟨S1x4, .f32⟩ : BufTy).Contents (Elt F))]

/-- The rest of the line. -/
abbrev trip3c : List (HloOp τ sig (Elt F)) :=
  [StableHlo.reshape main_while0b_v33 main_while0b_v34 (rfl : (.f32 : EltTy) = .f32) shapeCasts_S1x4_S4,
    StableHlo.unary main_while0b_v34 main_while0b_v35 ((extractStridedSlice S2 ![0] · slices_S4_S2_0) : (⟨S4, .f32⟩ : BufTy).Contents (Elt F) → (⟨S2, .f32⟩ : BufTy).Contents (Elt F)),
    StableHlo.unary main_v9_1 main_while0b_v36 ((extractStridedSlice S5000x2 ![0, 0] · slices_S5000x4_S5000x2_0_0) : (⟨S5000x4, .f32⟩ : BufTy).Contents (Elt F) → (⟨S5000x2, .f32⟩ : BufTy).Contents (Elt F)),
    StableHlo.unary main_while0b_v35 main_while0b_v37 (broadcastInDim S1x2 ![1] bcast_S2_S1x2_1 : (⟨S2, .f32⟩ : BufTy).Contents (Elt F) → (⟨S1x2, .f32⟩ : BufTy).Contents (Elt F)),
    StableHlo.unary main_while0b_v37 main_while0b_v38 (broadcastInDim S5000x2 ![0, 1] bcast_S1x2_S5000x2_0_1 : (⟨S1x2, .f32⟩ : BufTy).Contents (Elt F) → (⟨S5000x2, .f32⟩ : BufTy).Contents (Elt F)),
    StableHlo.binary main_while0b_v38 main_while0b_v36 main_while0b_v39 (maximumf : (⟨S5000x2, .f32⟩ : BufTy).Contents (Elt F) → (⟨S5000x2, .f32⟩ : BufTy).Contents (Elt F) → (⟨S5000x2, .f32⟩ : BufTy).Contents (Elt F)),
    StableHlo.unary main_while0b_v34 main_while0b_v40 ((extractStridedSlice S2 ![2] · slices_S4_S2_2) : (⟨S4, .f32⟩ : BufTy).Contents (Elt F) → (⟨S2, .f32⟩ : BufTy).Contents (Elt F)),
    StableHlo.unary main_v9_1 main_while0b_v41 ((extractStridedSlice S5000x2 ![0, 2] · slices_S5000x4_S5000x2_0_2) : (⟨S5000x4, .f32⟩ : BufTy).Contents (Elt F) → (⟨S5000x2, .f32⟩ : BufTy).Contents (Elt F)),
    StableHlo.unary main_while0b_v40 main_while0b_v42 (broadcastInDim S1x2 ![1] bcast_S2_S1x2_1 : (⟨S2, .f32⟩ : BufTy).Contents (Elt F) → (⟨S1x2, .f32⟩ : BufTy).Contents (Elt F)),
    StableHlo.unary main_while0b_v42 main_while0b_v43 (broadcastInDim S5000x2 ![0, 1] bcast_S1x2_S5000x2_0_1 : (⟨S1x2, .f32⟩ : BufTy).Contents (Elt F) → (⟨S5000x2, .f32⟩ : BufTy).Contents (Elt F)),
    StableHlo.binary main_while0b_v43 main_while0b_v41 main_while0b_v44 (minimumf : (⟨S5000x2, .f32⟩ : BufTy).Contents (Elt F) → (⟨S5000x2, .f32⟩ : BufTy).Contents (Elt F) → (⟨S5000x2, .f32⟩ : BufTy).Contents (Elt F)),
    StableHlo.binary main_while0b_v44 main_while0b_v39 main_while0b_v45 (subf : (⟨S5000x2, .f32⟩ : BufTy).Contents (Elt F) → (⟨S5000x2, .f32⟩ : BufTy).Contents (Elt F) → (⟨S5000x2, .f32⟩ : BufTy).Contents (Elt F)),
    StableHlo.nullary main_while0b_cst_17 (constant S_ .f32 0x00000000#32),
    ]

theorem trip3_cut : (trip3 : List (HloOp τ sig (Elt F))) = trip3a ++ (trip3b ++ trip3c) := rfl

/-- A read at a position the operations hand over. -/
theorem slice_at {α : Type} {s t : Shape} {x : s.Idx → α} {f g : Fin s.rank → Int} {h : s.Slices (fun _ => 0) t} (e : ∀ k, f k = g k) :
    Host.dynamicSlice t x f h = Host.dynamicSlice t x g h := by rw [funext e]

/-- A write at a position the operations hand over. -/
theorem write_at {α : Type} {s u : Shape} {x x' : s.Idx → α} {v v' : u.Idx → α} {f g : Fin s.rank → Int} {h : s.Slices (fun _ => 0) u} (ex : x = x') (ev : v = v') (e : ∀ k, f k = g k) :
    Host.dynamicUpdateSlice x v f h = Host.dynamicUpdateSlice x' v' g h := by rw [funext e, ex, ev]

theorem first_read (V : Valuation τ sig (Elt F)) : after trip2 (after trip1 (after trip0 V)) (Proc.devRef .tc main_while0b_v20) = firstOf (V (Proc.devRef .tc main_v9_0)) (V (Proc.devRef .tc main_v9_3)) := by
  after_reads_simp
  try simp -implicitDefEqProofs only [TRef.toBuf, TRef.ofBuf, cast_cast, cast_eq]
  unfold firstOf
  rfl

theorem mark_read (V : Valuation τ sig (Elt F)) : after trip3a V (Proc.devRef .tc main_while0b_v24) = Host.dynamicSlice S1 (V (Proc.devRef .tc main_v9_3)) (fun _ => (fromEnd (F := F) (V (Proc.devRef .tc main_while0b_v20)) (Shape.Idx.first h_S_)).toInt) sliceFits_S5000_S1 := by
  after_reads_simp
  try simp -implicitDefEqProofs only [TRef.toBuf, TRef.ofBuf, cast_cast, cast_eq]
  unfold fromEnd
  refine slice_at fun k => ?_
  obtain rfl : k = 0 := Subsingleton.elim (α := Fin 1) k 0
  dsimp only [Matrix.cons_val_zero]
  after_reads_simp
  rfl

theorem free_read (V : Valuation τ sig (Elt F)) : after trip3b V (Proc.devRef .tc main_while0b_v26) = noti (shapeCast S_ (V (Proc.devRef .tc main_while0b_v24)) shapeCasts_S1_S_) := by
  after_reads_simp
  try simp -implicitDefEqProofs only [TRef.toBuf, TRef.ofBuf, cast_cast, cast_eq]
  try rfl

theorem box_read (V : Valuation τ sig (Elt F)) : after trip3b V (Proc.devRef .tc main_while0b_v33) = Host.dynamicSlice S1x4 (V (Proc.devRef .tc main_v9_1)) (fun k => ((![fromEnd (F := F) (V (Proc.devRef .tc main_while0b_v20)), select (cmpi .slt (constantI S_ 32 0#32) (constantI S_ 32 0#32)) (addi (constantI S_ 32 0#32) (constantI S_ 32 4#32)) (constantI S_ 32 0#32)] : Fin 2 → Vec F S_ .i32) k (Shape.Idx.first h_S_)).toInt) sliceFits_S5000x4_S1x4 := by
  after_reads_simp
  try simp -implicitDefEqProofs only [TRef.toBuf, TRef.ofBuf, cast_cast, cast_eq]
  unfold fromEnd
  refine slice_at fun (k : Fin 2) => ?_
  match k with
  | 0 => dsimp only [Matrix.cons_val_zero]; after_reads_simp; rfl
  | 1 => dsimp only [Matrix.cons_val_one, Matrix.cons_val_zero]; after_reads_simp; rfl

theorem box_shape (V : Valuation τ sig (Elt F)) : after trip4 (after trip3c V) (Proc.devRef .tc main_while0b_v34) = shapeCast S4 (V (Proc.devRef .tc main_while0b_v33)) shapeCasts_S1x4_S4 := by
  after_reads_simp
  try simp -implicitDefEqProofs only [TRef.toBuf, TRef.ofBuf, cast_cast, cast_eq]
  try rfl

theorem sides_read (V : Valuation τ sig (Elt F)) : after trip4 (after trip3c V) (Proc.devRef .tc main_while0b_v46) = sides (shapeCast S4 (V (Proc.devRef .tc main_while0b_v33)) shapeCasts_S1x4_S4) (V (Proc.devRef .tc main_v9_1)) := by
  after_reads_simp
  try simp -implicitDefEqProofs only [TRef.toBuf, TRef.ofBuf, cast_cast, cast_eq]
  unfold sides
  rfl

theorem sup_read (V : Valuation τ sig (Elt F)) : after trip5 V (Proc.devRef .tc main_while0b_v87) = supTaken (V (Proc.devRef .tc main_while0b_v46)) (V (Proc.devRef .tc main_while0b_v34)) (V (Proc.devRef .tc main_v9_1)) (V (Proc.devRef .tc main_v9_3)) (V (Proc.devRef .tc main_while0b_v20)) := by
  after_reads_simp
  try simp -implicitDefEqProofs only [TRef.toBuf, TRef.ofBuf, cast_cast, cast_eq]
  unfold supTaken oversBy interOf area1 areas fromEnd
  rfl

theorem ix_read (V : Valuation τ sig (Elt F)) : after trip6 V (Proc.devRef .tc main_while0b_v88) = writeAt (V (Proc.devRef .tc main_v9_4)) (V (Proc.devRef .tc main_v9_2)) (V (Proc.devRef .tc main_while0b_v20)) := by
  after_reads_simp
  try simp -implicitDefEqProofs only [TRef.toBuf, TRef.ofBuf, cast_cast, cast_eq]
  unfold writeAt
  refine write_at rfl rfl fun k => ?_
  obtain rfl : k = 0 := Subsingleton.elim (α := Fin 1) k 0
  dsimp only [Matrix.cons_val_zero]
  after_reads_simp
  try rfl

theorem ok_read (V : Valuation τ sig (Elt F)) : after trip7 V (Proc.devRef .tc main_while0b_v89) = writeAt (V (Proc.devRef .tc main_v9_5)) (V (Proc.devRef .tc main_v9_2)) (V (Proc.devRef .tc main_while0b_v26)) := by
  after_reads_simp
  try simp -implicitDefEqProofs only [TRef.toBuf, TRef.ofBuf, cast_cast, cast_eq]
  unfold writeAt
  refine write_at rfl rfl fun k => ?_
  obtain rfl : k = 0 := Subsingleton.elim (α := Fin 1) k 0
  dsimp only [Matrix.cons_val_zero]
  after_reads_simp
  try rfl

theorem last_sup (V : Valuation τ sig (Elt F)) : after trip8 V (Proc.devRef .tc main_v9_3) = V (Proc.devRef .tc main_while0b_v87) := by
  after_reads_simp
  try simp -implicitDefEqProofs only [TRef.toBuf, TRef.ofBuf, cast_cast, cast_eq]
  try rfl

theorem last_ix (V : Valuation τ sig (Elt F)) : after trip8 V (Proc.devRef .tc main_v9_4) = V (Proc.devRef .tc main_while0b_v88) := by
  after_reads_simp
  try simp -implicitDefEqProofs only [TRef.toBuf, TRef.ofBuf, cast_cast, cast_eq]
  try rfl

theorem last_ok (V : Valuation τ sig (Elt F)) : after trip8 V (Proc.devRef .tc main_v9_5) = V (Proc.devRef .tc main_while0b_v89) := by
  after_reads_simp
  try simp -implicitDefEqProofs only [TRef.toBuf, TRef.ofBuf, cast_cast, cast_eq]
  try rfl

theorem lead_ix (V : Valuation τ sig (Elt F)) :
    afterL preI V (Proc.devRef .tc main_v9_4) = broadcastInDim S300 ![] bcast_S_S300 (constantI S_ 32 0#32) := by
  simp only [afterL_cons, afterL_nil]
  after_reads_simp
  rfl

theorem lead_ok (V : Valuation τ sig (Elt F)) :
    afterL preI V (Proc.devRef .tc main_v9_5) = broadcastInDim S300 ![] bcast_S_S300 (constantI S_ 1 0#1) := by
  simp only [afterL_cons, afterL_nil]
  after_reads_simp
  rfl

set_option maxHeartbeats 2000000 in
theorem rest_result (V : Valuation τ sig (Elt F)) : afterL postI V (Proc.devRef .tc main_v18)
    = result (V (Proc.devRef .tc main_v2)) (V (Proc.devRef .tc main_v3)) (V (Proc.devRef .tc main_v9_4)) (V (Proc.devRef .tc main_v9_5)) := by
  simp only [afterL_cons, afterL_nil]
  after_reads_simp
  unfold result boxesSel scoresSel in300 col300
  rfl

end Cert.Proof.Ref

end
-- ==== Proof.RefLoop.lean ====
/-
  The reference's scan as three sequences, and its result from what they reach.
-/
module

public import proofs.«01_k».proof.Proof.RefValue

@[expose] public section

noncomputable section

namespace Cert.Proof.Ref

open Cert.ReferenceIdeal Cert.ReferenceIdeal.Gen
open Idealize.ShloMosaic Idealize.ShloMosaic.TcCoe
open Idealize.SL Idealize.SL.Sem
open Idealize.ShloMosaic.StableHlo

variable {F : FTy → Type} [FloatOps F]

/-! ## One trip -/

theorem keep0 {r : Ref sig .tc} (h : r ∉ trip0_W) (V : Valuation τ sig (Elt F)) : after trip0 V (Proc.devRef .tc r) = V (Proc.devRef .tc r) :=
  after_of_writes_sub trip0 V trip0_writes h
theorem keep1 {r : Ref sig .tc} (h : r ∉ trip1_W) (V : Valuation τ sig (Elt F)) : after trip1 V (Proc.devRef .tc r) = V (Proc.devRef .tc r) :=
  after_of_writes_sub trip1 V trip1_writes h
theorem keep2 {r : Ref sig .tc} (h : r ∉ trip2_W) (V : Valuation τ sig (Elt F)) : after trip2 V (Proc.devRef .tc r) = V (Proc.devRef .tc r) :=
  after_of_writes_sub trip2 V trip2_writes h
theorem keep3 {r : Ref sig .tc} (h : r ∉ trip3_W) (V : Valuation τ sig (Elt F)) : after trip3 V (Proc.devRef .tc r) = V (Proc.devRef .tc r) :=
  after_of_writes_sub trip3 V trip3_writes h
theorem keep4 {r : Ref sig .tc} (h : r ∉ trip4_W) (V : Valuation τ sig (Elt F)) : after trip4 V (Proc.devRef .tc r) = V (Proc.devRef .tc r) :=
  after_of_writes_sub trip4 V trip4_writes h
theorem keep5 {r : Ref sig .tc} (h : r ∉ trip5_W) (V : Valuation τ sig (Elt F)) : after trip5 V (Proc.devRef .tc r) = V (Proc.devRef .tc r) :=
  after_of_writes_sub trip5 V trip5_writes h
theorem keep6 {r : Ref sig .tc} (h : r ∉ trip6_W) (V : Valuation τ sig (Elt F)) : after trip6 V (Proc.devRef .tc r) = V (Proc.devRef .tc r) :=
  after_of_writes_sub trip6 V trip6_writes h
theorem keep7 {r : Ref sig .tc} (h : r ∉ trip7_W) (V : Valuation τ sig (Elt F)) : after trip7 V (Proc.devRef .tc r) = V (Proc.devRef .tc r) :=
  after_of_writes_sub trip7 V trip7_writes h

/-- A buffer the first three lines do not write. -/
theorem keep02 {r : Ref sig .tc} (h : ∀ W ∈ [trip0_W, trip1_W, trip2_W], r ∉ W) (V : Valuation τ sig (Elt F)) :
    after trip2 (after trip1 (after trip0 V)) (Proc.devRef .tc r) = V (Proc.devRef .tc r) := by
  rw [keep2 (h _ (by simp)), keep1 (h _ (by simp)), keep0 (h _ (by simp))]

theorem trip3_split (V : Valuation τ sig (Elt F)) : after trip3 V = after trip3c (after trip3b (after trip3a V)) := by
  rw [trip3_cut, after_append, after_append]

theorem keep3a {r : Ref sig .tc} (hr : r = main_v9_1 ∨ r = main_v9_3 ∨ r = main_while0b_v20) (V : Valuation τ sig (Elt F)) :
    after trip3a V (Proc.devRef .tc r) = V (Proc.devRef .tc r) := by
  rcases hr with rfl | rfl | rfl <;> after_reads_simp

theorem keep3b (V : Valuation τ sig (Elt F)) : after trip3b V (Proc.devRef .tc main_v9_1) = V (Proc.devRef .tc main_v9_1) := by
  after_reads_simp

theorem keep3c (V : Valuation τ sig (Elt F)) : after trip3c V (Proc.devRef .tc main_while0b_v26) = V (Proc.devRef .tc main_while0b_v26) := by
  after_reads_simp

theorem free_line (V : Valuation τ sig (Elt F)) : after trip3 V (Proc.devRef .tc main_while0b_v26)
    = freeAt (V (Proc.devRef .tc main_v9_3)) (V (Proc.devRef .tc main_while0b_v20)) := by
  rw [trip3_split, keep3c, free_read, mark_read]
  rfl

theorem box_line (V : Valuation τ sig (Elt F)) : after trip4 (after trip3 V) (Proc.devRef .tc main_while0b_v34)
    = boxAt (V (Proc.devRef .tc main_v9_1)) (V (Proc.devRef .tc main_while0b_v20)) := by
  rw [trip3_split, box_shape, box_read, keep3a (.inl rfl), keep3a (.inr (.inr rfl))]
  rfl

theorem sides_line (V : Valuation τ sig (Elt F)) : after trip4 (after trip3 V) (Proc.devRef .tc main_while0b_v46)
    = sides (boxAt (V (Proc.devRef .tc main_v9_1)) (V (Proc.devRef .tc main_while0b_v20))) (V (Proc.devRef .tc main_v9_1)) := by
  rw [trip3_split, sides_read, box_read, keep3b, keep3a (.inl rfl), keep3a (.inr (.inr rfl))]
  rfl

theorem body_lines (V : Valuation τ sig (Elt F)) :
    afterL bodyI V = after trip8 (after trip7 (after trip6 (after trip5 (after trip4 (after trip3 (after trip2 (after trip1 (after trip0 V)))))))) := by
  simp only [afterL_cons, afterL_nil]

/-- A trip's suppressed positions. -/
theorem trip_sup (V : Valuation τ sig (Elt F)) : afterL bodyI V (Proc.devRef .tc main_v9_3)
    = supNext (V (Proc.devRef .tc main_v9_1)) (V (Proc.devRef .tc main_v9_3)) (firstOf (V (Proc.devRef .tc main_v9_0)) (V (Proc.devRef .tc main_v9_3))) := by
  rw [body_lines, last_sup, keep7 (by decide +kernel), keep6 (by decide +kernel), sup_read, sides_line, box_line,
    keep4 (r := main_v9_1) (by decide +kernel), keep3 (r := main_v9_1) (by decide +kernel),
    keep4 (r := main_v9_3) (by decide +kernel), keep3 (r := main_v9_3) (by decide +kernel),
    keep4 (r := main_while0b_v20) (by decide +kernel), keep3 (r := main_while0b_v20) (by decide +kernel),
    keep02 (r := main_v9_1) (by decide +kernel), keep02 (r := main_v9_3) (by decide +kernel), first_read]
  rfl

/-- A trip's list of positions. -/
theorem trip_ix (V : Valuation τ sig (Elt F)) : afterL bodyI V (Proc.devRef .tc main_v9_4)
    = writeAt (V (Proc.devRef .tc main_v9_4)) (V (Proc.devRef .tc main_v9_2)) (firstOf (V (Proc.devRef .tc main_v9_0)) (V (Proc.devRef .tc main_v9_3))) := by
  rw [body_lines, last_ix, keep7 (by decide +kernel), ix_read,
    keep5 (r := main_v9_4) (by decide +kernel), keep4 (r := main_v9_4) (by decide +kernel), keep3 (r := main_v9_4) (by decide +kernel), keep02 (r := main_v9_4) (by decide +kernel),
    keep5 (r := main_v9_2) (by decide +kernel), keep4 (r := main_v9_2) (by decide +kernel), keep3 (r := main_v9_2) (by decide +kernel), keep02 (r := main_v9_2) (by decide +kernel),
    keep5 (r := main_while0b_v20) (by decide +kernel), keep4 (r := main_while0b_v20) (by decide +kernel), keep3 (r := main_while0b_v20) (by decide +kernel), first_read]

/-- A trip's list of whether a position was found. -/
theorem trip_ok (V : Valuation τ sig (Elt F)) : afterL bodyI V (Proc.devRef .tc main_v9_5)
    = writeAt (V (Proc.devRef .tc main_v9_5)) (V (Proc.devRef .tc main_v9_2)) (freeAt (V (Proc.devRef .tc main_v9_3)) (firstOf (V (Proc.devRef .tc main_v9_0)) (V (Proc.devRef .tc main_v9_3)))) := by
  rw [body_lines, last_ok, ok_read,
    keep6 (r := main_v9_5) (by decide +kernel), keep5 (r := main_v9_5) (by decide +kernel), keep4 (r := main_v9_5) (by decide +kernel), keep3 (r := main_v9_5) (by decide +kernel), keep02 (r := main_v9_5) (by decide +kernel),
    keep6 (r := main_v9_2) (by decide +kernel), keep5 (r := main_v9_2) (by decide +kernel), keep4 (r := main_v9_2) (by decide +kernel), keep3 (r := main_v9_2) (by decide +kernel), keep02 (r := main_v9_2) (by decide +kernel),
    keep6 (r := main_while0b_v26) (by decide +kernel), keep5 (r := main_while0b_v26) (by decide +kernel), keep4 (r := main_while0b_v26) (by decide +kernel), free_line,
    keep02 (r := main_v9_3) (by decide +kernel), first_read]

/-! ## The scan -/

/-- The suppressed positions after `k` trips. -/
def supSeq (bs : Vec F S5000x4 .f32) (ss : Vec F S5000 .f32) : ℕ → Vec F S5000 .i1
  | 0 => lowOf ss
  | k + 1 => supNext bs (supSeq bs ss k) (firstOf places (supSeq bs ss k))

/-- The position trip `k` takes. -/
def ixAt (bs : Vec F S5000x4 .f32) (ss : Vec F S5000 .f32) (k : ℕ) : Vec F S_ .i32 := firstOf places (supSeq bs ss k)

/-- The positions taken by `k` trips. -/
def ixSeq (bs : Vec F S5000x4 .f32) (ss : Vec F S5000 .f32) : ℕ → Vec F S300 .i32
  | 0 => broadcastInDim S300 ![] bcast_S_S300 (constantI S_ 32 0#32)
  | k + 1 => writeAt (ixSeq bs ss k) (fun _ => Scf.iv 0#32 1#32 k) (ixAt bs ss k)

/-- Whether each was a position not suppressed. -/
def okSeq (bs : Vec F S5000x4 .f32) (ss : Vec F S5000 .f32) : ℕ → Vec F S300 .i1
  | 0 => broadcastInDim S300 ![] bcast_S_S300 (constantI S_ 1 0#1)
  | k + 1 => writeAt (okSeq bs ss k) (fun _ => Scf.iv 0#32 1#32 k) (freeAt (supSeq bs ss k) (ixAt bs ss k))

/-- The reference's result. -/
def refOut (bx : Vec F S5000x4 .f32) (sc : Vec F S5000 .f32) : Vec F S300x5 .f32 :=
  result (boxesAt bx (order sc)) (scoresAt sc (order sc))
    (ixSeq (boxesAt bx (order sc)) (scoresAt sc (order sc)) 300) (okSeq (boxesAt bx (order sc)) (scoresAt sc (order sc)) 300)

variable (m : (ℓ : Loc nD τ sig) → Buf (Elt F) ℓ) (ρ : Dev nD → PrngReg)

/-- The boxes and scores the reference is given. -/
def boxesOf (c : Dev nD) : Vec F S5000x4 .f32 := launchContents m c (Proc.devRef .tc main_arg0)
def scoresOf (c : Dev nD) : Vec F S5000 .f32 := launchContents m c (Proc.devRef .tc main_arg1)

/-- What the carried buffers hold after `k` trips. -/
theorem atK_seq (c : Dev nD) : ∀ k,
    atK m k c (Proc.devRef .tc main_v9_3) = supSeq (boxesAt (boxesOf m c) (order (scoresOf m c))) (scoresAt (scoresOf m c) (order (scoresOf m c))) k
    ∧ atK m k c (Proc.devRef .tc main_v9_4) = ixSeq (boxesAt (boxesOf m c) (order (scoresOf m c))) (scoresAt (scoresOf m c) (order (scoresOf m c))) k
    ∧ atK m k c (Proc.devRef .tc main_v9_5) = okSeq (boxesAt (boxesOf m c) (order (scoresOf m c))) (scoresAt (scoresOf m c) (order (scoresOf m c))) k
  | 0 => ⟨lead_low _, lead_ix _, lead_ok _⟩
  | k + 1 => by
    obtain ⟨h3, h4, h5⟩ := atK_seq c k
    have hb : after condOps (atK m k c) (Proc.devRef .tc main_v9_1) = boxesAt (boxesOf m c) (order (scoresOf m c)) := by
      rw [after_of_writes_sub condOps _ condOps_writes (by decide +kernel), atK_keep m c (by decide +kernel) (by decide +kernel), lead_boxes]
      rfl
    have hp : after condOps (atK m k c) (Proc.devRef .tc main_v9_0) = places (F := F) := by
      rw [after_of_writes_sub condOps _ condOps_writes (by decide +kernel), atK_keep m c (by decide +kernel) (by decide +kernel), lead_places]
    have hn : after condOps (atK m k c) (Proc.devRef .tc main_v9_2) = fun _ => Scf.iv 0#32 1#32 k := by
      rw [after_of_writes_sub condOps _ condOps_writes (by decide +kernel), atK_ctr]
    rw [show atK m (k + 1) c = afterL bodyI (after condOps (atK m k c)) from rfl, trip_sup, trip_ix, trip_ok, hb, hp, hn,
      after_of_writes_sub condOps (r := main_v9_3) _ condOps_writes (by decide +kernel), h3,
      after_of_writes_sub condOps (r := main_v9_4) _ condOps_writes (by decide +kernel), h4,
      after_of_writes_sub condOps (r := main_v9_5) _ condOps_writes (by decide +kernel), h5]
    exact ⟨rfl, rfl, rfl⟩

/-- The reference's result buffer at the end. -/
theorem final_out (c : Dev nD) : finalContents condOps preI bodyI postI 300 m c (Proc.devRef .tc main_v18) = refOut (boxesOf m c) (scoresOf m c) := by
  obtain ⟨-, h4, h5⟩ := atK_seq m c 300
  rw [finalContents, rest_result,
    after_of_writes_sub condOps (r := main_v9_4) _ condOps_writes (by decide +kernel),
    after_of_writes_sub condOps (r := main_v9_5) _ condOps_writes (by decide +kernel),
    after_of_writes_sub condOps (r := main_v2) _ condOps_writes (by decide +kernel),
    after_of_writes_sub condOps (r := main_v3) _ condOps_writes (by decide +kernel),
    show atTrip condOps bodyI (entryContents preI m) 300 c (Proc.devRef .tc main_v2) = _ from atK_keep m c (by decide +kernel) (by decide +kernel) 300,
    show atTrip condOps bodyI (entryContents preI m) 300 c (Proc.devRef .tc main_v3) = _ from atK_keep m c (by decide +kernel) (by decide +kernel) 300,
    show atTrip condOps bodyI (entryContents preI m) 300 c (Proc.devRef .tc main_v9_4) = _ from h4,
    show atTrip condOps bodyI (entryContents preI m) 300 c (Proc.devRef .tc main_v9_5) = _ from h5, lead_boxes', lead_scores]
  rfl

end Cert.Proof.Ref

end
-- ==== Proof.RefArr.lean ====
/-
  The reference's arrays read at an index, over the extended reals.
-/
module

public import proofs.«01_k».proof.Proof.RefLoop
public import Idealize.ShloMosaic.PureOps.Ideal.Laws
public import Idealize.ShloMosaic.Lib.IdealHost
public import Idealize.ShloMosaic.Lib.ReduceAll
public import Idealize.ShloMosaic.Lib.ValueLayout
public import Idealize.ShloMosaic.Lib.ValueLayoutCasts
public import Idealize.ShloMosaic.Lib.Pointwise
public import Idealize.ShloMosaic.Lib.Routing.OpsOne
public import Idealize.ShloMosaic.Lib.Routing.OpsSet
public import Idealize.ShloMosaic.Lib.Routing.Ops

@[expose] public section

noncomputable section

namespace Cert.Proof.Ref

open Cert.ReferenceIdeal Cert.ReferenceIdeal.Gen
open Idealize.ShloMosaic hiding ix0 ix1 ix2
open Idealize.ShloMosaic.ValueIdx (ix0 ix1 ix2 eq_ix0 eq_ix1 eq_ix2)
open Idealize.ShloMosaic.Routing (gather_row gather_take1 lands_one scatter_set_hit scatter_set_miss)
open Idealize.ShloMosaic.ValueIdx (shapeCast_1a_a_apply)
open Idealize.ShloMosaic.WordCmp (toInt_ofNat_of_lt)

variable {F : FTy → Type} [FloatOps F]

/-! ## Words -/

/-- A small word is not negative. -/
theorem slt_zero {k : ℕ} (hk : k < 5000) : IntOp.cmpi .slt (BitVec.ofNat 32 k) 0#32 = 0#1 := by
  have H : ∀ v : Fin 5000, IntOp.cmpi .slt (BitVec.ofNat 32 v.val) 0#32 = 0#1 := by decide +kernel
  exact H ⟨k, hk⟩

/-- A small word is in range. -/
theorem sge_zero {k : ℕ} (hk : k < 5000) : IntOp.andi (IntOp.cmpi .sge (BitVec.ofNat 32 k) 0#32) (IntOp.cmpi .sle (BitVec.ofNat 32 k) 4999#32) = 1#1 := by
  have H : ∀ v : Fin 5000, IntOp.andi (IntOp.cmpi .sge (BitVec.ofNat 32 v.val) 0#32) (IntOp.cmpi .sle (BitVec.ofNat 32 v.val) 4999#32) = 1#1 := by decide +kernel
  exact H ⟨k, hk⟩

theorem toInt_small {k : ℕ} (hk : k < 5000) : (BitVec.ofNat 32 k).toInt = (k : Int) := toInt_ofNat_of_lt (w := 32) (by omega)

/-! ## Rows at positions -/

/-- A position counted from the end only when negative, as a column: itself. -/
theorem col5000_at {i : Vec F S5000 .i32} {p : Fin 5000} {k : ℕ} (hk : k < 5000) (h : i (ix1 p) = BitVec.ofNat 32 k) :
    col5000 (F := F) i (ix2 p (0 : Fin 1)) = BitVec.ofNat 32 k := by
  unfold col5000
  rw [broadcastInDim_apply _ _ _ _ (ix1 p) (fun a => match a with | ⟨0, _⟩ => rfl)]
  show Scalar.select (IntOp.cmpi .slt (i (ix1 p)) 0#32) (IntOp.addi (i (ix1 p)) 5000#32) (i (ix1 p)) = _
  rw [h, slt_zero hk]
  rfl

theorem col300_at {i : Vec F S300 .i32} {p : Fin 300} {k : ℕ} (hk : k < 5000) (h : i (ix1 p) = BitVec.ofNat 32 k) :
    col300 (F := F) i (ix2 p (0 : Fin 1)) = BitVec.ofNat 32 k := by
  unfold col300
  rw [broadcastInDim_apply _ _ _ _ (ix1 p) (fun a => match a with | ⟨0, _⟩ => rfl)]
  show Scalar.select (IntOp.cmpi .slt (i (ix1 p)) 0#32) (IntOp.addi (i (ix1 p)) 5000#32) (i (ix1 p)) = _
  rw [h, slt_zero hk]
  rfl

/-- Positions all in range pass the range check. -/
theorem in5000_at {i : Vec F S5000 .i32} (h : ∀ p : Fin 5000, ∃ k < 5000, i (ix1 p) = BitVec.ofNat 32 k) (j : S5000.Idx) : in5000 (F := F) i j = 1#1 := by
  unfold in5000
  refine Host.reduce_andi_one _ _ _ _ _ rfl fun q => ?_
  obtain ⟨p, rfl⟩ : ∃ p : Fin 5000, q = ix2 p (0 : Fin 1) :=
    ⟨q 0, (ValueIdx.eq_ix2 q).trans (congrArg (ix2 (q 0)) (Subsingleton.elim (α := Fin 1) _ _))⟩
  obtain ⟨k, hk, e⟩ := h p
  show IntOp.andi (IntOp.cmpi .sge (col5000 (F := F) i (ix2 p (0 : Fin 1))) 0#32) (IntOp.cmpi .sle (col5000 (F := F) i (ix2 p (0 : Fin 1))) 4999#32) = 1#1
  rw [col5000_at hk e, sge_zero hk]

theorem in300_at {i : Vec F S300 .i32} (h : ∀ p : Fin 300, ∃ k < 5000, i (ix1 p) = BitVec.ofNat 32 k) (j : S300.Idx) : in300 (F := F) i j = 1#1 := by
  unfold in300
  refine Host.reduce_andi_one _ _ _ _ _ rfl fun q => ?_
  obtain ⟨p, rfl⟩ : ∃ p : Fin 300, q = ix2 p (0 : Fin 1) :=
    ⟨q 0, (ValueIdx.eq_ix2 q).trans (congrArg (ix2 (q 0)) (Subsingleton.elim (α := Fin 1) _ _))⟩
  obtain ⟨k, hk, e⟩ := h p
  show IntOp.andi (IntOp.cmpi .sge (col300 (F := F) i (ix2 p (0 : Fin 1))) 0#32) (IntOp.cmpi .sle (col300 (F := F) i (ix2 p (0 : Fin 1))) 4999#32) = 1#1
  rw [col300_at hk e, sge_zero hk]

/-- The boxes at positions in range. -/
theorem boxesAt_at (bx : Vec F S5000x4 .f32) {i : Vec F S5000 .i32} (h : ∀ p : Fin 5000, ∃ k < 5000, i (ix1 p) = BitVec.ofNat 32 k)
    (p : Fin 5000) (k : Fin 5000) (e : i (ix1 p) = BitVec.ofNat 32 k.val) (r : Fin 4) : boxesAt bx i (ix2 p r) = bx (ix2 k r) := by
  unfold boxesAt
  show Scalar.select (broadcastInDim S5000x4 ![0] bcast_S5000_S5000x4_0 (in5000 (F := F) i) (ix2 p r)) _ _ = _
  rw [show broadcastInDim S5000x4 ![0] bcast_S5000_S5000x4_0 (in5000 (F := F) i) (ix2 p r) = 1#1 from in5000_at h _]
  exact gather_row _ rfl rfl rfl rfl rfl bx _ p r k (col5000_at k.isLt e) (by decide)

/-- The scores at positions in range. -/
theorem scoresAt_at (sc : Vec F S5000 .f32) {i : Vec F S5000 .i32} (h : ∀ p : Fin 5000, ∃ k < 5000, i (ix1 p) = BitVec.ofNat 32 k)
    (p : Fin 5000) (k : Fin 5000) (e : i (ix1 p) = BitVec.ofNat 32 k.val) : scoresAt sc i (ix1 p) = sc (ix1 k) := by
  unfold scoresAt
  show Scalar.select (in5000 (F := F) i (ix1 p)) _ _ = _
  rw [in5000_at h]
  exact gather_take1 _ rfl rfl rfl rfl sc _ p k (col5000_at k.isLt e) (by decide)

/-- The boxes taken. -/
theorem boxesSel_at (bs : Vec F S5000x4 .f32) {ix : Vec F S300 .i32} (ok : Vec F S300 .i1) (h : ∀ p : Fin 300, ∃ k < 5000, ix (ix1 p) = BitVec.ofNat 32 k)
    (p : Fin 300) (k : Fin 5000) (e : ix (ix1 p) = BitVec.ofNat 32 k.val) (r : Fin 4) :
    boxesSel bs ix ok (ix2 p r) = FloatOps.mulf (bs (ix2 k r)) (FloatOps.uitofp .f32 (ok (ix1 p))) := by
  unfold boxesSel
  show FloatOps.mulf (Scalar.select (broadcastInDim S300x4 ![0] bcast_S300_S300x4_0 (in300 (F := F) ix) (ix2 p r)) _ _) _ = _
  rw [show broadcastInDim S300x4 ![0] bcast_S300_S300x4_0 (in300 (F := F) ix) (ix2 p r) = 1#1 from in300_at h _]
  refine congrArg₂ _ (gather_row _ rfl rfl rfl rfl rfl bs _ p r k (col300_at k.isLt e) (by decide)) ?_
  rw [broadcastInDim_apply _ _ _ _ (ix2 p (0 : Fin 1)) (fun a => match a with | ⟨0, _⟩ => rfl | ⟨1, _⟩ => rfl),
    broadcastInDim_apply _ _ _ _ (ix1 p) (fun a => match a with | ⟨0, _⟩ => rfl)]
  rfl

/-- The scores taken. -/
theorem scoresSel_at (ss : Vec F S5000 .f32) {ix : Vec F S300 .i32} (ok : Vec F S300 .i1) (h : ∀ p : Fin 300, ∃ k < 5000, ix (ix1 p) = BitVec.ofNat 32 k)
    (p : Fin 300) (k : Fin 5000) (e : ix (ix1 p) = BitVec.ofNat 32 k.val) :
    scoresSel ss ix ok (ix1 p) = FloatOps.mulf (ss (ix1 k)) (FloatOps.uitofp .f32 (ok (ix1 p))) := by
  unfold scoresSel
  show FloatOps.mulf (Scalar.select (in300 (F := F) ix (ix1 p)) _ _) _ = _
  rw [in300_at h]
  exact congrArg₂ _ (gather_take1 _ rfl rfl rfl rfl ss _ p k (col300_at k.isLt e) (by decide)) rfl

/-! ## One position -/

theorem fromEnd_at {i : Vec F S_ .i32} {k : ℕ} (hk : k < 5000) (h : i ix0 = BitVec.ofNat 32 k) (j : S_.Idx) : fromEnd (F := F) i j = BitVec.ofNat 32 k := by
  rw [eq_ix0 j]
  show Scalar.select (IntOp.cmpi .slt (i ix0) 0#32) (IntOp.addi (i ix0) 5000#32) (i ix0) = _
  rw [h, slt_zero hk]
  rfl

/-- Whether a position is not suppressed. -/
theorem freeAt_at {sup : Vec F S5000 .i1} {i : Vec F S_ .i32} (k : Fin 5000) (h : i ix0 = BitVec.ofNat 32 k.val) (j : S_.Idx) :
    freeAt (F := F) sup i j = ~~~(sup (ix1 k)) := by
  unfold freeAt
  show ~~~(shapeCast S_ _ _ j) = _
  refine congrArg (fun b : BitVec 1 => ~~~b) ?_
  rw [shapeCast_apply _ _ _ (ix1 (0 : Fin 1)) (by decide +revert), Host.dynamicSlice_apply]
  refine congrArg sup ?_
  funext a
  apply Fin.ext
  match a with
  | ⟨0, _⟩ =>
    show Host.clampedStart _ _ _ _ _ + 0 = k.val
    rw [Host.clampedStart_of_le _ _ _ k.val (by rw [fromEnd_at k.isLt h, toInt_small k.isLt]) (by show k.val + 1 ≤ 5000; omega)]
    rfl

/-- The box at a position. -/
theorem boxAt_at {bs : Vec F S5000x4 .f32} {i : Vec F S_ .i32} (k : Fin 5000) (h : i ix0 = BitVec.ofNat 32 k.val) (r : Fin 4) :
    boxAt bs i (ix1 r) = bs (ix2 k r) := by
  unfold boxAt
  rw [shapeCast_1a_a_apply, Host.dynamicSlice_apply]
  refine congrArg bs ?_
  funext a
  apply Fin.ext
  match a with
  | ⟨0, _⟩ =>
    show Host.clampedStart _ _ _ _ _ + 0 = k.val
    rw [Host.clampedStart_of_le _ _ _ k.val (by
      show (fromEnd (F := F) i _).toInt = _
      rw [fromEnd_at k.isLt h, toInt_small k.isLt]) (by show k.val + 1 ≤ 5000; omega)]
    rfl
  | ⟨1, _⟩ =>
    show Host.clampedStart _ _ _ _ _ + r.val = r.val
    rw [Host.clampedStart_of_le _ _ _ 0 (by rfl) (by show 0 + 4 ≤ 4; omega)]
    omega

/-- An array with its place `k` written. -/
theorem writeAt_at {e : EltTy} {x : Vec F S300 e} {n : Vec F S_ .i32} {v : Vec F S_ e} (k : Fin 300) (h : n (Shape.Idx.first h_S_) = BitVec.ofNat 32 k.val) (c : Fin 300) :
    writeAt x n v (ix1 c) = if c = k then v ix0 else x (ix1 c) := by
  unfold writeAt
  rw [Host.dynamicUpdateSlice_apply]
  have hs : Host.clampedStart S300 S1 updateFits_S300_S1.1 (fun _ => (n (Shape.Idx.first h_S_)).toInt) 0 = k.val :=
    Host.clampedStart_of_le _ _ _ k.val (by
      have hk := k.isLt
      rw [h, toInt_small (by omega)]) (by show k.val + 1 ≤ 300; omega)
  by_cases hc : c = k
  · rw [if_pos hc, dif_pos fun a => by
      obtain rfl : a = 0 := Subsingleton.elim (α := Fin 1) a 0
      rw [hs, hc]
      exact ⟨le_rfl, Nat.lt_succ_self _⟩]
    exact congrArg v (eq_ix0 _)
  · rw [if_neg hc, dif_neg fun q => hc (Fin.ext ?_)]
    have := q 0
    rw [hs] at this
    change k.val ≤ c.val ∧ c.val < k.val + 1 at this
    omega

end Cert.Proof.Ref

end
-- ==== Proof.RefPick.lean ====
/-
  Over the extended reals: the order is by descending score, and a trip takes the first position not suppressed.
-/
module

public import proofs.«01_k».proof.Proof.RefArr
public import Idealize.ShloMosaic.Lib.SortFacts
public import Idealize.ShloMosaic.PureOps.Reduce

@[expose] public section

noncomputable section

namespace Cert.Proof.Ref

open Cert.ReferenceIdeal Cert.ReferenceIdeal.Gen
open Idealize.ShloMosaic hiding ix0 ix1 ix2
open Idealize.ShloMosaic.ValueIdx (ix0 ix1 ix2)
open Idealize.ShloMosaic.WordCmp (toInt_ofNat_of_lt)

/-! ## The order -/

/-- The input position at place `p` of the order. -/
def srcOf {F : FTy → Type} [FloatOps F] (sc : Vec F S5000 .f32) (p : Fin 5000) : Fin 5000 :=
  sortedFrom (fun k k' => comparator_f32_i32_d0 (Host.negf sc (ix1 k), iotaInDim S5000 32 0 (ix1 k)) (Host.negf sc (ix1 k'), iotaInDim S5000 32 0 (ix1 k')) == 1#1) p

theorem along_ix1 (p k : Fin 5000) : Shape.Idx.along (s := S5000) (ix1 p) 0 k = ix1 k := by
  funext a
  obtain rfl : a = 0 := Subsingleton.elim (α := Fin 1) a 0
  exact Function.update_self _ _ _

theorem iota_ix1 (k : Fin 5000) : iotaInDim S5000 32 0 (ix1 k) = BitVec.ofNat 32 k.val := rfl

theorem order_at {F : FTy → Type} [FloatOps F] (sc : Vec F S5000 .f32) (p : Fin 5000) : order sc (ix1 p) = BitVec.ofNat 32 (srcOf sc p).val := by
  unfold order Host.sort2
  rw [dif_pos (show 0 < S5000.rank by decide)]
  have e : (fun k : Fin 5000 => Shape.Idx.along (s := S5000) (ix1 p) 0 k) = fun k => ix1 k := funext (along_ix1 p)
  show (fun A : Fin 5000 → S5000.Idx => iotaInDim S5000 32 0 (A (sortedFrom (fun k k' =>
    comparator_f32_i32_d0 (Host.negf sc (A k), iotaInDim S5000 32 0 (A k)) (Host.negf sc (A k'), iotaInDim S5000 32 0 (A k')) == 1#1) p)))
      (fun k : Fin 5000 => Shape.Idx.along (s := S5000) (ix1 p) 0 k) = _
  rw [e]
  exact iota_ix1 (srcOf sc p)

theorem select_self (z x : EReal) : Scalar.select (Ideal.cmp .oeq x z) z x = x := by
  by_cases h : x = z <;> simp [Scalar.select, Ideal.cmp, h]

theorem select_ne (z x : EReal) : Scalar.select (Ideal.cmp .une x x) z x = x := by
  simp [Scalar.select, Ideal.cmp]

/-- The comparator is the order of its keys. -/
theorem comparator_eq (l r : EReal × BitVec 32) : comparator_f32_i32_d0 (F := Ideal) l r = BitVec.ofBool (decide (l.1 < r.1)) := by
  show Ideal.cmp .olt (Scalar.select (Ideal.cmp .une l.1 l.1) _ (Scalar.select (Ideal.cmp .oeq l.1 _) _ l.1))
    (Scalar.select (Ideal.cmp .une r.1 r.1) _ (Scalar.select (Ideal.cmp .oeq r.1 _) _ r.1)) = _
  rw [select_self, select_self, select_ne, select_ne]
  rfl

/-- The scores descend along the order. -/
theorem srcOf_desc (sc : Vec Ideal S5000 .f32) {p q : Fin 5000} (h : p ≤ q) : (sc (ix1 (srcOf sc q)) : EReal) ≤ sc (ix1 (srcOf sc p)) := by
  rcases eq_or_lt_of_le h with rfl | h
  · exact le_rfl
  · let R : Fin 5000 → Fin 5000 → Bool := fun k k' => comparator_f32_i32_d0 (F := Ideal) (Host.negf sc (ix1 k), iotaInDim S5000 32 0 (ix1 k)) (Host.negf sc (ix1 k'), iotaInDim S5000 32 0 (ix1 k')) == 1#1
    have hR : ∀ k k', R k k' = decide (-(sc (ix1 k) : EReal) < -(sc (ix1 k') : EReal)) := fun k k' => by
      show (comparator_f32_i32_d0 (F := Ideal) _ _ == 1#1) = _
      rw [comparator_eq]
      show (BitVec.ofBool (decide (-(sc (ix1 k) : EReal) < -(sc (ix1 k') : EReal))) == 1#1) = _
      cases decide (-(sc (ix1 k) : EReal) < -(sc (ix1 k') : EReal)) <;> rfl
    have H := sortedFrom_noInversion R R (fun a b hab => by
        rw [hR] at hab ⊢
        simp only [decide_eq_true_eq, decide_eq_false_iff_not] at hab ⊢
        exact hab.asymm) (fun _ _ h => h) (fun a b c h1 h2 => by
        rw [hR] at h1 h2 ⊢
        simp only [decide_eq_false_iff_not, not_lt] at h1 h2 ⊢
        exact h2.trans h1) p q h
    rw [hR] at H
    simp only [decide_eq_false_iff_not, not_lt, EReal.neg_le_neg_iff] at H
    exact H

/-! ## The first position not suppressed -/

/-- The reducer, its value the lesser and its position that of the lesser, the first of two equal. -/
theorem reducer_eq (a b : EReal × BitVec 32) : reducer_argmin_f32_i32 (F := Ideal) a b
    = if a.1 < b.1 then a else if a.1 = b.1 ∧ a.2.slt b.2 = true then (b.1, a.2) else b := by
  have H : reducer_argmin_f32_i32 (F := Ideal) a b
      = (Scalar.select (IntOp.ori (BitVec.ofBool (decide (a.1 < b.1))) (BitVec.ofBool (decide (a.1 ≠ a.1)))) a.1 b.1,
        Scalar.select (IntOp.ori (IntOp.ori (BitVec.ofBool (decide (a.1 < b.1))) (BitVec.ofBool (decide (a.1 ≠ a.1))))
          (IntOp.andi (BitVec.ofBool (decide (a.1 = b.1))) (IntOp.cmpi .slt a.2 b.2))) a.2 b.2) := rfl
  rw [H]
  have hs : IntOp.cmpi .slt a.2 b.2 = BitVec.ofBool (a.2.slt b.2) := rfl
  rw [hs]
  by_cases h1 : a.1 < b.1
  · have h2 : ¬ a.1 = b.1 := h1.ne
    simp [h1, h2, Scalar.select, IntOp.ori, IntOp.andi]
  · by_cases h2 : a.1 = b.1
    · cases h3 : a.2.slt b.2 <;> simp [h2, h3, Scalar.select, IntOp.ori, IntOp.andi]
    · simp [h1, h2, Scalar.select, IntOp.ori, IntOp.andi]

/-- A candidate: its position, 5000 when suppressed. -/
def cand (P : ℕ → Prop) [DecidablePred P] (k : ℕ) : EReal × BitVec 32 := (if P k then ((5000 : ℝ) : EReal) else ((k : ℝ) : EReal), BitVec.ofNat 32 k)

/-- What the fold holds after `k` candidates. -/
def Acc (P : ℕ → Prop) (k : ℕ) (a : EReal × BitVec 32) : Prop :=
  (∃ f < k, ¬ P f ∧ (∀ j < f, P j) ∧ a = (((f : ℝ) : EReal), BitVec.ofNat 32 f))
  ∨ ((∀ j < k, P j) ∧ a.2 = 0#32 ∧ ((k = 0 ∧ a.1 = ⊤) ∨ (0 < k ∧ a.1 = ((5000 : ℝ) : EReal))))

theorem slt_small {a b : ℕ} (ha : a < 5000) (hb : b < 5000) : (BitVec.ofNat 32 a).slt (BitVec.ofNat 32 b) = decide (a < b) := by
  rw [BitVec.slt, toInt_ofNat_of_lt (by omega), toInt_ofNat_of_lt (by omega)]
  simp

theorem acc_step (P : ℕ → Prop) [DecidablePred P] {k : ℕ} (hk : k < 5000) {a : EReal × BitVec 32} (h : Acc P k a) :
    Acc P (k + 1) (reducer_argmin_f32_i32 (F := Ideal) a (cand P k)) := by
  have hk5 : ((k : ℝ) : EReal) < ((5000 : ℝ) : EReal) := by exact_mod_cast hk
  rw [reducer_eq]
  rcases h with ⟨f, hf, hn, hl, rfl⟩ | ⟨hl, h2, h1⟩
  · refine .inl ⟨f, by omega, hn, hl, if_pos ?_⟩
    have hfk : ((f : ℝ) : EReal) < ((k : ℝ) : EReal) := by exact_mod_cast hf
    unfold cand
    by_cases hP : P k
    · simpa only [hP, if_true] using hfk.trans hk5
    · simpa only [hP, if_false] using hfk
  · by_cases hP : P k
    · have hc : cand P k = (((5000 : ℝ) : EReal), BitVec.ofNat 32 k) := by unfold cand; rw [if_pos hP]
      have hl' : ∀ j < k + 1, P j := fun j hj => by
        rcases Nat.lt_succ_iff_lt_or_eq.1 hj with h | rfl
        · exact hl j h
        · exact hP
      rw [hc]
      refine .inr ⟨hl', ?_⟩
      rcases h1 with ⟨rfl, h1⟩ | ⟨h0, h1⟩
      · have e1 : ¬ a.1 < ((5000 : ℝ) : EReal) := by rw [h1]; exact not_top_lt
        have e2 : ¬ a.1 = ((5000 : ℝ) : EReal) := by rw [h1]; exact (EReal.coe_ne_top _).symm
        dsimp only
        rw [if_neg e1, if_neg fun q => e2 q.1]
        exact ⟨rfl, .inr ⟨Nat.one_pos, rfl⟩⟩
      · have e3 : a.2.slt (BitVec.ofNat 32 k) = true := by
          rw [h2, show (0#32 : BitVec 32) = BitVec.ofNat 32 0 from rfl, slt_small (by omega) hk]
          exact decide_eq_true h0
        dsimp only
        rw [if_neg (by rw [h1]; exact lt_irrefl _), if_pos ⟨h1, e3⟩]
        exact ⟨h2, .inr ⟨Nat.succ_pos _, rfl⟩⟩
    · have hc : cand P k = (((k : ℝ) : EReal), BitVec.ofNat 32 k) := by unfold cand; rw [if_neg hP]
      have hka : ((k : ℝ) : EReal) < a.1 := by
        rcases h1 with ⟨-, h1⟩ | ⟨-, h1⟩
        · rw [h1]; exact EReal.coe_lt_top _
        · rw [h1]; exact hk5
      rw [hc]
      refine .inl ⟨k, Nat.lt_succ_self _, hP, hl, ?_⟩
      dsimp only
      rw [if_neg hka.asymm, if_neg fun q => hka.ne' q.1]

theorem acc_fold (P : ℕ → Prop) [DecidablePred P] : ∀ n ≤ 5000,
    Acc P n (((List.finRange n).map fun k => cand P k.val).foldl (reducer_argmin_f32_i32 (F := Ideal)) (⊤, 0#32))
  | 0, _ => .inr ⟨fun j hj => (Nat.not_lt_zero _ hj).elim, rfl, .inl ⟨rfl, rfl⟩⟩
  | n + 1, h => by
    rw [List.finRange_succ_last, List.map_append, List.foldl_append, List.map_map]
    exact acc_step P h (acc_fold P n (by omega))

theorem five_thousand : Ideal.ofBits .f32 0x459C4000#32 = ((5000 : ℝ) : EReal) := by
  simp [Ideal.ofBits, Ideal.ieee, -EReal.coe_mul]
  norm_num

theorem infinity : Ideal.ofBits .f32 0x7F800000#32 = ⊤ := by
  simp [Ideal.ofBits, Ideal.ieee]

theorem numel5000 : S5000.numel = 5000 := by simp [Shape.numel]

/-- The fold's candidates, in order. -/
theorem fiber_eq (sup : Vec Ideal S5000 .i1) (j : S_.Idx) :
    Host.argReduceFiber (select sup (broadcastInDim S5000 ![] bcast_S_S5000 (constant (F := Ideal) S_ .f32 0x459C4000#32)) (places (F := Ideal)))
      (iotaInDim S5000 32 0) reducesTo_S5000_S_d0 j
    = (List.finRange S5000.numel).map fun k => cand (fun q => ∃ h : q < 5000, sup (ix1 ⟨q, h⟩) = 1#1) k.val := by
  unfold Host.argReduceFiber
  rw [List.filter_eq_self.2 fun _ _ => by
    simp only [decide_eq_true_eq]
    exact (ValueIdx.eq_ix0 _).trans (ValueIdx.eq_ix0 _).symm]
  refine List.map_congr_left fun n _ => ?_
  have hn : n.val < 5000 := n.isLt.trans_eq numel5000
  have e : S5000.rowMajor.symm n = ix1 ⟨n.val, hn⟩ := (Equiv.symm_apply_eq _).2 (Fin.ext (Shape.rowMajor_val_one (d := ![5000]) (ix1 ⟨n.val, hn⟩)).symm)
  rw [e]
  unfold cand
  refine Prod.ext ?_ rfl
  show Scalar.select (sup (ix1 ⟨n.val, hn⟩)) (Ideal.ofBits .f32 0x459C4000#32) (((BitVec.ofNat 32 n.val).toInt : ℝ) : EReal) = _
  rw [five_thousand, toInt_small hn]
  unfold Scalar.select
  simp only [Int.cast_natCast]
  exact if_congr ⟨fun h => ⟨hn, h⟩, fun ⟨_, h⟩ => h⟩ rfl rfl

/-- A trip takes a position of the array, the first not suppressed if there is one. -/
theorem firstOf_at (sup : Vec Ideal S5000 .i1) : ∃ k : Fin 5000, firstOf (places (F := Ideal)) sup ix0 = BitVec.ofNat 32 k.val
    ∧ ((∃ j : Fin 5000, sup (ix1 j) ≠ 1#1) → sup (ix1 k) ≠ 1#1 ∧ ∀ j < k, sup (ix1 j) = 1#1) := by
  have H := acc_fold (fun q => ∃ h : q < 5000, sup (ix1 ⟨q, h⟩) = 1#1) S5000.numel numel5000.le
  have hf : firstOf (places (F := Ideal)) sup ix0
      = (((List.finRange S5000.numel).map fun k => cand (fun q => ∃ h : q < 5000, sup (ix1 ⟨q, h⟩) = 1#1) k.val).foldl (reducer_argmin_f32_i32 (F := Ideal)) (⊤, 0#32)).2 := by
    unfold firstOf
    rw [Ideal.argReduce_eq_reduce2, Host.reduce2_eq_foldl_fiber, fiber_eq]
    show (List.foldl _ (Ideal.ofBits .f32 0x7F800000#32, 0#32) _).2 = _
    rw [infinity]
  rw [hf]
  rcases H with ⟨f, hf, hn, hl, e⟩ | ⟨hl, e, -⟩
  · have hf' : f < 5000 := hf.trans_eq numel5000
    refine ⟨⟨f, hf'⟩, by rw [e], fun _ => ⟨fun q => hn ⟨hf', q⟩, fun j hj => ?_⟩⟩
    obtain ⟨_, h⟩ := hl j.val hj
    exact h
  · refine ⟨⟨0, by decide⟩, e, fun ⟨j, hj⟩ => (hj ?_).elim⟩
    obtain ⟨_, h⟩ := hl j.val (j.isLt.trans_eq numel5000.symm)
    exact h

end Cert.Proof.Ref

end
-- ==== Proof.RefOver.lean ====
/-
  Over the extended reals: which boxes the reference finds to overlap a taken one, and what a trip suppresses.
-/
module

public import proofs.«01_k».proof.Proof.RefPick
public import proofs.«01_k».proof.Proof.Spec

@[expose] public section

noncomputable section

namespace Cert.Proof.Ref

open Cert.ReferenceIdeal Cert.ReferenceIdeal.Gen
open Idealize.ShloMosaic hiding ix0 ix1 ix2
open Idealize.ShloMosaic.ValueIdx (ix0 ix1 ix2 eq_ix0 eq_ix1 eq_ix2)
open Idealize.ShloMosaic.Routing (lands_one scatter_set_hit scatter_set_miss)

variable {F : FTy → Type} [FloatOps F]

/-- One column of a matrix, as a vector. -/
theorem column_at {α : Type} {n m c : ℕ} (x : (⟨2, ![n, m]⟩ : Shape).Idx → α) (h : (⟨2, ![n, m]⟩ : Shape).Slices ![0, c] ⟨2, ![n, 1]⟩)
    (h' : (⟨2, ![n, 1]⟩ : Shape).ShapeCasts ⟨1, ![n]⟩) (j : Fin n) (k : Fin m) (hk : k.val = c) :
    shapeCast ⟨1, ![n]⟩ (extractStridedSlice ⟨2, ![n, 1]⟩ ![0, c] x h) h' (ix1 j) = x (ix2 j k) := by
  rw [shapeCast_apply _ _ _ (ix2 j (0 : Fin 1)) (by
    rw [Shape.rowMajor_val_one, Shape.rowMajor_val_two]
    show j.val * 1 + 0 = j.val
    omega)]
  refine extractStridedSlice_apply _ _ _ _ _ fun a => ?_
  match a with
  | ⟨0, _⟩ => exact (Nat.zero_add _).symm
  | ⟨1, _⟩ => exact hk

/-- One element of a vector, as a scalar. -/
theorem element_at {α : Type} {n c : ℕ} (x : (⟨1, ![n]⟩ : Shape).Idx → α) (h : (⟨1, ![n]⟩ : Shape).Slices ![c] S1)
    (h' : S1.ShapeCasts S_) (j : S_.Idx) (k : Fin n) (hk : k.val = c) :
    shapeCast S_ (extractStridedSlice S1 ![c] x h) h' j = x (ix1 k) := by
  rw [shapeCast_apply _ _ _ (ix1 (0 : Fin 1)) (by decide +revert)]
  refine extractStridedSlice_apply _ _ _ _ _ fun a => ?_
  match a with
  | ⟨0, _⟩ => exact hk

/-- Two elements of a vector of four, copied into every row. -/
theorem rows_at {c : ℕ} (b : Vec F S4 .f32) (h : S4.Slices ![c] S2) (j : Fin 5000) (d : Fin 2) (k : Fin 4) (hk : k.val = c + d.val) :
    broadcastInDim S5000x2 ![0, 1] bcast_S1x2_S5000x2_0_1 (broadcastInDim S1x2 ![1] bcast_S2_S1x2_1 (extractStridedSlice S2 ![c] b h)) (ix2 j d) = b (ix1 k) := by
  rw [broadcastInDim_apply _ _ _ _ (ix2 (0 : Fin 1) d) (fun a => match a with | ⟨0, _⟩ => rfl | ⟨1, _⟩ => rfl),
    broadcastInDim_apply _ _ _ _ (ix1 d) (fun a => match a with | ⟨0, _⟩ => rfl)]
  refine extractStridedSlice_apply _ _ _ _ _ fun a => ?_
  match a with
  | ⟨0, _⟩ => exact hk

/-- Two columns of a matrix of four. -/
theorem cols_at {c : ℕ} (bs : Vec F S5000x4 .f32) (h : S5000x4.Slices ![0, c] S5000x2) (j : Fin 5000) (d : Fin 2) (k : Fin 4) (hk : k.val = c + d.val) :
    extractStridedSlice S5000x2 ![0, c] bs h (ix2 j d) = bs (ix2 j k) := by
  refine extractStridedSlice_apply _ _ _ _ _ fun a => ?_
  match a with
  | ⟨0, _⟩ => exact (Nat.zero_add _).symm
  | ⟨1, _⟩ => exact hk

/-- One side of an intersection. -/
theorem sides_at (b : Vec F S4 .f32) (bs : Vec F S5000x4 .f32) (j : Fin 5000) (d : Fin 2) (k l : Fin 4) (hk : k.val = 2 + d.val) (hl : l.val = 0 + d.val) :
    sides b bs (ix2 j d) = FloatOps.maximumf (Scalar.ofBits .f32 0x00000000#32)
      (FloatOps.subf (FloatOps.minimumf (b (ix1 k)) (bs (ix2 j k))) (FloatOps.maximumf (b (ix1 l)) (bs (ix2 j l)))) := by
  have a1 := rows_at b slices_S4_S2_2 j d k hk
  have a2 := rows_at b slices_S4_S2_0 j d l hl
  have a3 := cols_at bs slices_S5000x4_S5000x2_0_2 j d k hk
  have a4 := cols_at bs slices_S5000x4_S5000x2_0_0 j d l hl
  rw [← a1, ← a2, ← a3, ← a4]
  rfl

/-- The area of an intersection. -/
theorem interOf_at (sd : Vec F S5000x2 .f32) (j : Fin 5000) : interOf sd (ix1 j) = FloatOps.mulf (sd (ix2 j 0)) (sd (ix2 j 1)) := by
  have a1 := column_at sd slices_S5000x2_S5000x1_0_0 shapeCasts_S5000x1_S5000 j 0 rfl
  have a2 := column_at sd slices_S5000x2_S5000x1_0_1 shapeCasts_S5000x1_S5000 j 1 rfl
  rw [← a1, ← a2]
  rfl

/-- The area of a box. -/
theorem area1_at (b : Vec F S4 .f32) (j : S_.Idx) : area1 b j = Spec.area (b (ix1 0)) (b (ix1 1)) (b (ix1 2)) (b (ix1 3)) := by
  have a0 := element_at b slices_S4_S1_0 shapeCasts_S1_S_ j 0 rfl
  have a1 := element_at b slices_S4_S1_1 shapeCasts_S1_S_ j 1 rfl
  have a2 := element_at b slices_S4_S1_2 shapeCasts_S1_S_ j 2 rfl
  have a3 := element_at b slices_S4_S1_3 shapeCasts_S1_S_ j 3 rfl
  rw [← a0, ← a1, ← a2, ← a3]
  rfl

/-- The area of each box. -/
theorem areas_at (bs : Vec F S5000x4 .f32) (j : Fin 5000) : areas bs (ix1 j) = Spec.area (bs (ix2 j 0)) (bs (ix2 j 1)) (bs (ix2 j 2)) (bs (ix2 j 3)) := by
  have a0 := column_at bs slices_S5000x4_S5000x1_0_0 shapeCasts_S5000x1_S5000 j 0 rfl
  have a1 := column_at bs slices_S5000x4_S5000x1_0_1 shapeCasts_S5000x1_S5000 j 1 rfl
  have a2 := column_at bs slices_S5000x4_S5000x1_0_2 shapeCasts_S5000x1_S5000 j 2 rfl
  have a3 := column_at bs slices_S5000x4_S5000x1_0_3 shapeCasts_S5000x1_S5000 j 3 rfl
  rw [← a0, ← a1, ← a2, ← a3]
  rfl

/-- Whether a box overlaps another by more than the threshold, as the kernel decides it. -/
theorem oversBy_at (b : Vec Ideal S4 .f32) (bs : Vec Ideal S5000x4 .f32) (j : Fin 5000) :
    oversBy (sides b bs) b bs (ix1 j) = Spec.overBit (F := Ideal) (b (ix1 0)) (b (ix1 1)) (b (ix1 2)) (b (ix1 3))
      (Spec.area (F := Ideal) (b (ix1 0)) (b (ix1 1)) (b (ix1 2)) (b (ix1 3))) (bs (ix2 j 0)) (bs (ix2 j 1)) (bs (ix2 j 2)) (bs (ix2 j 3))
      (Spec.area (F := Ideal) (bs (ix2 j 0)) (bs (ix2 j 1)) (bs (ix2 j 2)) (bs (ix2 j 3))) := by
  have mc : ∀ x y : Ideal .f32, FloatOps.maximumf x y = FloatOps.maximumf y x := fun x y => max_comm (α := EReal) x y
  have hi := interOf_at (sides b bs) j
  rw [sides_at b bs j 0 2 0 rfl rfl, sides_at b bs j 1 3 1 rfl rfl, mc (Scalar.ofBits .f32 _), mc (Scalar.ofBits .f32 _)] at hi
  have ha := area1_at b ix0
  have hs := areas_at bs j
  unfold Spec.overBit
  rw [← hi, ← ha, ← hs]
  rfl

/-- One scalar set into a vector at a word that, read signed, is `k`. -/
theorem set_at {α : Type} {n : ℕ} (d : ScatterDims (⟨1, ![n]⟩ : Shape) S1 S_) (hi : d.insertedWindowDims = [0]) (hs : d.scatterDimsToOperandDims = [0])
    (x : (⟨1, ![n]⟩ : Shape).Idx → α) (w : Vec F S1 .i32) (v : S_.Idx → α) (k : Fin n) (hw : (w (ix1 (0 : Fin 1))).toInt = (k.val : Int)) (j : Fin n) :
    Host.scatter d (fun _ b => b) x w v (ix1 j) = if j = k then v ix0 else x (ix1 j) := by
  by_cases e : j = k
  · rw [if_pos e]
    exact scatter_set_hit d x w v _ _ (fun q _ => congrArg v (eq_ix0 q)) ix0 ((lands_one d hi hs w k hw j).2 e)
  · rw [if_neg e]
    exact scatter_set_miss d x w v _ fun q hq => e ((lands_one d hi hs w k hw j).1 (by rw [← eq_ix0 q]; exact hq))

/-- What a trip that takes position `k` suppresses. -/
theorem supNext_at (bs : Vec Ideal S5000x4 .f32) (sup : Vec Ideal S5000 .i1) {i : Vec Ideal S_ .i32} (k : Fin 5000) (h : i ix0 = BitVec.ofNat 32 k.val) (j : Fin 5000) :
    supNext bs sup i (ix1 j) = if j = k then 1#1 else IntOp.ori (sup (ix1 j))
      (Spec.overBit (F := Ideal) (bs (ix2 k 0)) (bs (ix2 k 1)) (bs (ix2 k 2)) (bs (ix2 k 3))
        (Spec.area (F := Ideal) (bs (ix2 k 0)) (bs (ix2 k 1)) (bs (ix2 k 2)) (bs (ix2 k 3))) (bs (ix2 j 0)) (bs (ix2 j 1)) (bs (ix2 j 2)) (bs (ix2 j 3))
        (Spec.area (F := Ideal) (bs (ix2 j 0)) (bs (ix2 j 1)) (bs (ix2 j 2)) (bs (ix2 j 3)))) := by
  have ho := oversBy_at (boxAt bs i) bs j
  rw [boxAt_at k h, boxAt_at k h, boxAt_at k h, boxAt_at k h] at ho
  unfold supNext supTaken
  rw [← ho]
  refine (set_at (F := Ideal) scatter_S5000_S1_S__n_0_0_0 rfl rfl _ _ _ k ?_ j).trans rfl
  rw [broadcastInDim_apply _ _ _ _ ix0 (fun a => a.elim0), fromEnd_at k.isLt h, toInt_small k.isLt]

end Cert.Proof.Ref

end
-- ==== Proof.RefTaken.lean ====
/-
  Over the extended reals: the positions the reference takes, and its result from them.
-/
module

public import proofs.«01_k».proof.Proof.RefOver
public import proofs.«01_k».proof.Proof.Five

@[expose] public section

noncomputable section

namespace Cert.Proof.Ref

open Cert.ReferenceIdeal Cert.ReferenceIdeal.Gen
open Idealize.ShloMosaic hiding ix0 ix1 ix2
open Idealize.ShloMosaic.ValueIdx (ix0 ix1 ix2 eq_ix0 eq_ix1 eq_ix2)

variable (bs : Vec Ideal S5000x4 .f32) (ss : Vec Ideal S5000 .f32)

/-- The position trip `t` takes. -/
def taken (t : ℕ) : Fin 5000 := Classical.choose (firstOf_at (supSeq bs ss t))

theorem ixAt_eq (t : ℕ) : ixAt bs ss t ix0 = BitVec.ofNat 32 (taken bs ss t).val :=
  (Classical.choose_spec (firstOf_at (supSeq bs ss t))).1

theorem taken_free (t : ℕ) (h : ∃ j, supSeq bs ss t (ix1 j) ≠ 1#1) :
    supSeq bs ss t (ix1 (taken bs ss t)) ≠ 1#1 ∧ ∀ j < taken bs ss t, supSeq bs ss t (ix1 j) = 1#1 :=
  (Classical.choose_spec (firstOf_at (supSeq bs ss t))).2 h

/-- The loop's counter. -/
theorem counter_eq (k : ℕ) : Scf.iv 0#32 1#32 k = BitVec.ofNat 32 k := by
  simp [Scf.iv]

/-- The positions written by `t` trips. -/
theorem ixSeq_at (c : Fin 300) : ∀ t ≤ 300, ixSeq bs ss t (ix1 c) = if c.val < t then BitVec.ofNat 32 (taken bs ss c.val).val else 0#32
  | 0, _ => rfl
  | t + 1, ht => by
    show writeAt (ixSeq bs ss t) (fun _ => Scf.iv 0#32 1#32 t) (ixAt bs ss t) (ix1 c) = _
    rw [writeAt_at ⟨t, ht⟩ (counter_eq t) c]
    by_cases h : c = ⟨t, ht⟩
    · subst h
      rw [if_pos rfl, if_pos (Nat.lt_succ_self t)]
      exact ixAt_eq bs ss t
    · have h' : c.val ≠ t := fun e => h (Fin.ext e)
      rw [if_neg h, ixSeq_at c t (by omega)]
      exact if_congr (by omega) rfl rfl

/-- Whether each was free. -/
theorem okSeq_at (c : Fin 300) : ∀ t ≤ 300, okSeq bs ss t (ix1 c) = if c.val < t then ~~~(supSeq bs ss c.val (ix1 (taken bs ss c.val))) else 0#1
  | 0, _ => rfl
  | t + 1, ht => by
    show writeAt (okSeq bs ss t) (fun _ => Scf.iv 0#32 1#32 t) (freeAt (supSeq bs ss t) (ixAt bs ss t)) (ix1 c) = _
    rw [writeAt_at ⟨t, ht⟩ (counter_eq t) c]
    by_cases h : c = ⟨t, ht⟩
    · subst h
      rw [if_pos rfl, if_pos (Nat.lt_succ_self t)]
      exact freeAt_at _ (ixAt_eq bs ss t) ix0
    · have h' : c.val ≠ t := fun e => h (Fin.ext e)
      rw [if_neg h, okSeq_at c t (by omega)]
      exact if_congr (by omega) rfl rfl

/-- A value times a bit is the value or zero. -/
theorem times_bit (x : EReal) (b : BitVec 1) : (FloatOps.mulf (F := Ideal) (φ := .f32) x (FloatOps.uitofp .f32 b) : EReal) = if b = 1#1 then x else 0 := by
  show x * (((b.toNat : ℕ) : ℝ) : EReal) = _
  rcases (by decide : ∀ b : BitVec 1, b = 0#1 ∨ b = 1#1) b with rfl | rfl
  · rw [if_neg (by decide)]
    simp
  · rw [if_pos rfl]
    simp

/-- A bit's complement. -/
theorem not_bit (b : BitVec 1) : ~~~b = 1#1 ↔ ¬ b = 1#1 := by
  revert b
  decide

/-- The result at a box's corner. -/
theorem result_box (c : Fin 300) (r : Fin 4) :
    result bs ss (ixSeq bs ss 300) (okSeq bs ss 300) (ix2 c (r.castLE (by decide) : Fin 5))
      = if ¬ supSeq bs ss c.val (ix1 (taken bs ss c.val)) = 1#1 then (bs (ix2 (taken bs ss c.val) r) : EReal) else 0 := by
  have hx : ∀ p : Fin 300, ixSeq bs ss 300 (ix1 p) = BitVec.ofNat 32 (taken bs ss p.val).val := fun p => by
    rw [ixSeq_at bs ss p 300 le_rfl, if_pos p.isLt]
  unfold result
  refine (Five.four_at (boxesSel bs _ _) _ _ c r _ rfl).trans ?_
  rw [boxesSel_at bs _ (fun p => ⟨_, (taken bs ss p.val).isLt, hx p⟩) c _ (hx c) r, okSeq_at bs ss c 300 le_rfl, if_pos c.isLt, times_bit]
  exact if_congr (not_bit _) rfl rfl

/-- The result at a score. -/
theorem result_score (c : Fin 300) :
    result bs ss (ixSeq bs ss 300) (okSeq bs ss 300) (ix2 c (4 : Fin 5))
      = if ¬ supSeq bs ss c.val (ix1 (taken bs ss c.val)) = 1#1 then (ss (ix1 (taken bs ss c.val)) : EReal) else 0 := by
  have hx : ∀ p : Fin 300, ixSeq bs ss 300 (ix1 p) = BitVec.ofNat 32 (taken bs ss p.val).val := fun p => by
    rw [ixSeq_at bs ss p 300 le_rfl, if_pos p.isLt]
  unfold result
  refine (Five.fifth_at (boxesSel bs _ _) (scoresSel ss _ _) _ _ c).trans ?_
  rw [scoresSel_at ss _ (fun p => ⟨_, (taken bs ss p.val).isLt, hx p⟩) c _ (hx c), okSeq_at bs ss c 300 le_rfl, if_pos c.isLt, times_bit]
  exact if_congr (not_bit _) rfl rfl

end Cert.Proof.Ref

end
-- ==== Proof.Equal.lean ====
/-
  Over the extended reals: the kernel's result is the reference's.
-/
module

public import proofs.«01_k».proof.Proof.Launch
public import proofs.«01_k».proof.Proof.HostAt
public import proofs.«01_k».proof.Proof.Sim
public import proofs.«01_k».proof.Proof.RefTaken

@[expose] public section

noncomputable section

namespace Cert.Proof

open Cert.ReferenceIdeal Cert.ReferenceIdeal.Gen
open Idealize.ShloMosaic hiding ix0 ix1 ix2
open Idealize.ShloMosaic.ValueIdx (ix0 ix1 ix2)
open Idealize.SL.Sem
open Cert.Proof.Ref

section Values

variable (bx : Vec Ideal S5000x4 .f32) (sc : Vec Ideal S5000 .f32)

/-- The two programs sort alike. -/
theorem sorted_eq : Nms.sorted (F := Ideal) sc = order (F := Ideal) sc := rfl

/-- The kernel's candidates, by place. -/
abbrev cands : Fin 5 → ℕ → EReal := Sim.tabT (Nms.tabOf (F := Ideal) bx sc) (Nms.ordOf (F := Ideal) sc)

/-- The reference's boxes and scores, by place. -/
abbrev bso : Vec Ideal S5000x4 .f32 := boxesAt bx (order (F := Ideal) sc)
abbrev sso : Vec Ideal S5000 .f32 := scoresAt sc (order (F := Ideal) sc)

theorem order_small (p : Fin 5000) : ∃ k < 5000, order (F := Ideal) sc (ix1 p) = BitVec.ofNat 32 k := ⟨_, (srcOf sc p).isLt, order_at sc p⟩

/-- A place's position, as a word. -/
theorem word_at (p : Fin 5000) : (Spec.ordAt (F := Ideal) (Nms.ordOf (F := Ideal) sc) p.val).toNat = (srcOf sc p).val := by
  rw [Nms.ordAt_in, sorted_eq, order_at, BitVec.toNat_ofNat]
  have := (srcOf sc p).isLt
  exact Nat.mod_eq_of_lt (by omega)

theorem cands_box (r : Fin 4) (p : Fin 5000) : cands bx sc (r.castLE (by decide)) p.val = bso bx sc (ix2 p r) := by
  unfold cands Sim.tabT
  rw [word_at, Nms.tabAt_box]
  exact (boxesAt_at bx (order_small sc) p (srcOf sc p) (order_at sc p) r).symm

theorem cands_score (p : Fin 5000) : cands bx sc 4 p.val = sso sc (ix1 p) := by
  unfold cands Sim.tabT
  rw [word_at, Nms.tabAt_score]
  exact (scoresAt_at sc (order_small sc) p (srcOf sc p) (order_at sc p)).symm

theorem score_src (p : Fin 5000) : sso sc (ix1 p) = sc (ix1 (srcOf sc p)) := scoresAt_at sc (order_small sc) p (srcOf sc p) (order_at sc p)

theorem cands_pad (r : Fin 5) {p : ℕ} (h : 5000 ≤ p) (h' : p < 5008) : cands bx sc r p = 0 := by
  unfold cands Sim.tabT
  rw [Nms.ordAt_pad _ h h', Nms.tabAt_pad _ _ r (by decide) (by decide)]
  show (((0#32 : BitVec 32).toInt : ℝ) : EReal) = 0
  simp

/-- A low score is one at most a quarter. -/
theorem low_iff (T : Fin 5 → ℕ → EReal) (j : ℕ) : Sim.Low T j ↔ T 4 j ≤ (Spec.quarter (F := Ideal) : EReal) := by
  unfold Sim.Low
  show BitVec.ofBool (decide (T 4 j ≤ (Spec.quarter (F := Ideal) : EReal))) = 1#1 ↔ _
  have e : ∀ b : Bool, BitVec.ofBool b = 1#1 ↔ b = true := by decide
  exact (e _).trans decide_eq_true_iff

/-- Zero is a low score. -/
theorem zero_le_quarter : (0 : EReal) ≤ (Spec.quarter (F := Ideal) : EReal) := by
  show (0 : EReal) ≤ Idealize.ShloMosaic.Ideal.ofBits .f32 0x3E800000#32
  rw [show (0 : EReal) = ((0 : ℝ) : EReal) by norm_cast]
  simp [Idealize.ShloMosaic.Ideal.ofBits, Idealize.ShloMosaic.Ideal.ieee, -EReal.coe_mul]

theorem low_pad (p : ℕ) (h : 5000 ≤ p) (h' : p < 5008) : Sim.Low (cands bx sc) p := by
  rw [low_iff, cands_pad bx sc 4 h h']
  exact zero_le_quarter

theorem low_desc (p j : ℕ) (h : p ≤ j) (h' : j < 5000) (hl : Sim.Low (cands bx sc) p) : Sim.Low (cands bx sc) j := by
  rw [low_iff] at hl ⊢
  have e1 := cands_score bx sc ⟨p, by omega⟩
  have e2 := cands_score bx sc ⟨j, h'⟩
  have e := srcOf_desc sc (p := ⟨p, by omega⟩) (q := ⟨j, h'⟩) h
  rw [← score_src sc, ← score_src sc, ← e1, ← e2] at e
  exact e.trans hl

/-- Position `j` is suppressed after `t` trips. -/
def Supp (t j : ℕ) : Prop := ∃ h : j < 5000, supSeq (bso bx sc) (sso sc) t (ix1 ⟨j, h⟩) = 1#1

theorem supp_iff (t : ℕ) (j : Fin 5000) : Supp bx sc t j.val ↔ supSeq (bso bx sc) (sso sc) t (ix1 j) = 1#1 :=
  ⟨fun ⟨_, h⟩ => h, fun h => ⟨j.isLt, h⟩⟩

/-- The reference's scan is a greedy selection among the kernel's candidates. -/
theorem greedy : Sim.Greedy (cands bx sc) (Supp bx sc) (fun t => (taken (bso bx sc) (sso sc) t).val) where
  start j hj := by
    rw [supp_iff bx sc 0 ⟨j, hj⟩]
    unfold Sim.Low
    rw [cands_score bx sc ⟨j, hj⟩]
    rfl
  step t j hj := by
    rw [supp_iff bx sc (t + 1) ⟨j, hj⟩, supp_iff bx sc t ⟨j, hj⟩]
    generalize hk : taken (bso bx sc) (sso sc) t = k
    have hx := ixAt_eq (bso bx sc) (sso sc) t
    rw [hk] at hx
    have hn := supNext_at (bso bx sc) (supSeq (bso bx sc) (sso sc) t) k hx ⟨j, hj⟩
    have hs : supSeq (bso bx sc) (sso sc) (t + 1) = supNext (bso bx sc) (supSeq (bso bx sc) (sso sc) t) (ixAt (bso bx sc) (sso sc) t) := rfl
    rw [hs, hn]
    have k0 : cands bx sc 0 k.val = _ := cands_box bx sc 0 k
    have k1 : cands bx sc 1 k.val = _ := cands_box bx sc 1 k
    have k2 : cands bx sc 2 k.val = _ := cands_box bx sc 2 k
    have k3 : cands bx sc 3 k.val = _ := cands_box bx sc 3 k
    have j0 : cands bx sc 0 j = _ := cands_box bx sc 0 ⟨j, hj⟩
    have j1 : cands bx sc 1 j = _ := cands_box bx sc 1 ⟨j, hj⟩
    have j2 : cands bx sc 2 j = _ := cands_box bx sc 2 ⟨j, hj⟩
    have j3 : cands bx sc 3 j = _ := cands_box bx sc 3 ⟨j, hj⟩
    unfold Sim.Ov
    rw [k0, k1, k2, k3, j0, j1, j2, j3]
    have hor : ∀ a b : BitVec 1, IntOp.ori a b = 1#1 ↔ a = 1#1 ∨ b = 1#1 := by decide
    by_cases e : (⟨j, hj⟩ : Fin 5000) = k
    · rw [if_pos e]
      have e' : j = k.val := congrArg Fin.val e
      simp [e']
    · rw [if_neg e, hor]
      have e' : ¬ j = k.val := fun q => e (Fin.ext q)
      simp only [e', or_false]
  lt t := (taken (bso bx sc) (sso sc) t).isLt
  free t := by
    rintro ⟨j, hj, h⟩
    obtain ⟨h1, h2⟩ := taken_free (bso bx sc) (sso sc) t ⟨⟨j, hj⟩, fun q => h ⟨hj, q⟩⟩
    refine ⟨fun q => h1 ((supp_iff bx sc t _).1 q), fun i hi => ?_⟩
    have hi' : i < 5000 := lt_trans hi (taken (bso bx sc) (sso sc) t).isLt
    exact ⟨hi', h2 ⟨i, hi'⟩ hi⟩

open scoped Classical in
/-- The two programs' results are equal. -/
theorem value_eq : Nms.finish (Spec.out (Nms.tabOf (F := Ideal) bx sc) (Nms.ordOf (F := Ideal) sc)) = refOut bx sc := by
  funext j
  obtain ⟨c, q, rfl⟩ : ∃ (c : Fin 300) (q : Fin 5), j = ix2 c q := ⟨_, _, ValueIdx.eq_ix2 j⟩
  rw [Nms.finish_at]
  have key := Sim.out_cols _ _ (greedy bx sc) (low_pad bx sc) (low_desc bx sc) q c.isLt
  have hs := not_congr (supp_iff bx sc c.val (taken (bso bx sc) (sso sc) c.val))
  rcases Nat.lt_or_ge q.val 4 with h | h
  · exact key.trans ((if_congr hs (cands_box bx sc ⟨q.val, h⟩ _) rfl).trans (result_box (bso bx sc) (sso sc) c ⟨q.val, h⟩).symm)
  · obtain rfl : q = 4 := Fin.ext (by have := q.isLt; omega)
    exact key.trans ((if_congr hs (cands_score bx sc _) rfl).trans (result_score (bso bx sc) (sso sc) c).symm)

end Values

/-- The kernel and the reference agree over the extended reals. -/
theorem algebraic : Cert.algebraic_KernelIdeal_ReferenceIdeal := fun m g m' g' _ hm =>
  ⟨fun c => Nms.finish (Nms.outM (F := Ideal) m c),
    (θ_run Cert.KernelIdeal.defs _ _).mono (fun _ h c => h.1 c) (Nms.run_main (F := Ideal) m g),
    (θ_run Cert.ReferenceIdeal.defs _ _).mono (fun r h c => ⟨(h c).1.trans (by
        rw [final_out]
        have e0 : Ref.boxesOf m' c = Nms.boxesOf (F := Ideal) m c := (hm c).1
        have e1 : Ref.scoresOf m' c = Nms.scoresOf (F := Ideal) m c := (hm c).2
        rw [e0, e1]
        exact (value_eq _ _).symm), (h c).2⟩) (run_ref (F := Ideal) m' g')⟩

end Cert.Proof

end
-- ==== Proof.lean ====
/-
  The certificate: what each claim says is proved in the modules under Proof/.
-/
module

public import proofs.«01_k».proof.Proof.Launch
public import proofs.«01_k».proof.Proof.RefFrame
public import proofs.«01_k».proof.Proof.Gen.Kernel
public import proofs.«01_k».proof.Proof.Gen.KernelIdeal
public import proofs.«01_k».proof.Proof.Gen.ReferenceIdeal
public import proofs.«01_k».proof.Proof.Equal

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Nms.frame_kernel, Nms.frame_kernelIdeal, Ref.frame_reference, trivial, algebraic⟩

end Cert.Proof

end
